-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_but_wg [hPre_finite_but_wg : Cert.Pre_finite_but_wg.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_but_wg.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_but_wg [hPre_finite_but_wg : Cert.Pre_finite_but_wg.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_but_wg.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_qkv [hPre_finite_qkv : Cert.Pre_finite_qkv.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_qkv.fn (F := Ideal) (m ((c.tc : Thread Cert.Kernel3Ideal.nD Cert.Kernel3Ideal.τ).loc Cert.Kernel3Ideal.main_arg0))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_qkv [hPre_finite_qkv : Cert.Pre_finite_qkv.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_qkv.fn (F := Ideal) (m ((c.tc : Thread Cert.Reference3Ideal.nD Cert.Reference3Ideal.τ).loc Cert.Reference3Ideal.main_arg0))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_f [hPre_finite_f : Cert.Pre_finite_f.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_f.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_f [hPre_finite_f : Cert.Pre_finite_f.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_f.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_a [hPre_finite_a : Cert.Pre_finite_a.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_a.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_a [hPre_finite_a : Cert.Pre_finite_a.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_a.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_b [hPre_finite_b : Cert.Pre_finite_b.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_b.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_b [hPre_finite_b : Cert.Pre_finite_b.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_b.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_loss [hPre_finite_loss : Cert.Pre_finite_loss.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_loss.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_loss [hPre_finite_loss : Cert.Pre_finite_loss.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_loss.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_but_wg [hKernel2Ideal : Cert.Kernel2Ideal.Facts] [hPre_finite_but_wg : Cert.Pre_finite_but_wg.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_but_wg m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_but_wg [hReference2Ideal : Cert.Reference2Ideal.Facts] [hPre_finite_but_wg : Cert.Pre_finite_but_wg.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_but_wg m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Kernel3Ideal_pre_finite_qkv [hKernel3Ideal : Cert.Kernel3Ideal.Facts] [hPre_finite_qkv : Cert.Pre_finite_qkv.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_qkv m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Reference3Ideal_pre_finite_qkv [hReference3Ideal : Cert.Reference3Ideal.Facts] [hPre_finite_qkv : Cert.Pre_finite_qkv.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_qkv m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_f [hKernel4Ideal : Cert.Kernel4Ideal.Facts] [hPre_finite_f : Cert.Pre_finite_f.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_f m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_f [hReference4Ideal : Cert.Reference4Ideal.Facts] [hPre_finite_f : Cert.Pre_finite_f.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_f m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_a [hKernel5Ideal : Cert.Kernel5Ideal.Facts] [hPre_finite_a : Cert.Pre_finite_a.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_a m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_a [hReference5Ideal : Cert.Reference5Ideal.Facts] [hPre_finite_a : Cert.Pre_finite_a.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_a m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_b [hKernel6Ideal : Cert.Kernel6Ideal.Facts] [hPre_finite_b : Cert.Pre_finite_b.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_b m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_b [hReference6Ideal : Cert.Reference6Ideal.Facts] [hPre_finite_b : Cert.Pre_finite_b.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_b m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_loss [hKernel7Ideal : Cert.Kernel7Ideal.Facts] [hPre_finite_loss : Cert.Pre_finite_loss.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_loss m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_loss [hReference7Ideal : Cert.Reference7Ideal.Facts] [hPre_finite_loss : Cert.Pre_finite_loss.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_loss m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  IdealRules.named_const.Statement Cert.KernelIdeal.κ "scale_log2e" .f32 0x3E38AA3B#32 ((8⁻¹ * (Real.log 2)⁻¹ : ℝ) : EReal)
  ∧ IdealRules.named_const.Statement Cert.KernelIdeal.κ "inv_ln2" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v40)) (v2 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite_but_wg [hKernel2Ideal : Cert.Kernel2Ideal.Facts] [hReference2Ideal : Cert.Reference2Ideal.Facts] [hPre_finite_but_wg : Cert.Pre_finite_but_wg.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_but_wg m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "scale_log2e" .f32 0x3E38AA3B#32 ((8⁻¹ * (Real.log 2)⁻¹ : ℝ) : EReal)
  ∧ IdealRules.named_const.Statement Cert.Kernel3Ideal.κ "inv_ln2" .f32 0x3FB8AA3B#32 (((Real.log 2)⁻¹ : ℝ) : EReal)

def algebraic_Kernel3Ideal_Reference3Ideal_pre_finite_qkv [hKernel3Ideal : Cert.Kernel3Ideal.Facts] [hReference3Ideal : Cert.Reference3Ideal.Facts] [hPre_finite_qkv : Cert.Pre_finite_qkv.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_qkv m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def preserves_Kernel4_Kernel4Ideal : Prop :=
  True

def algebraic_Kernel4Ideal_Reference4Ideal_pre_finite_f [hKernel4Ideal : Cert.Kernel4Ideal.Facts] [hReference4Ideal : Cert.Reference4Ideal.Facts] [hPre_finite_f : Cert.Pre_finite_f.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_f m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_v43) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite_a [hKernel5Ideal : Cert.Kernel5Ideal.Facts] [hReference5Ideal : Cert.Reference5Ideal.Facts] [hPre_finite_a : Cert.Pre_finite_a.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_a m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_v40) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_b [hKernel6Ideal : Cert.Kernel6Ideal.Facts] [hReference6Ideal : Cert.Reference6Ideal.Facts] [hPre_finite_b : Cert.Pre_finite_b.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_b m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v18_0)) (v1 : (c : Dev Cert.Kernel6Ideal.nD) → Buf (Elt Ideal) ((c.tc : Thread Cert.Kernel6Ideal.nD Cert.Kernel6Ideal.τ).loc Cert.Kernel6Ideal.main_v18_1)) (v2 : (c : Dev Cert.Kernel6Ideal.nD) → Buf (Elt Ideal) ((c.tc : Thread Cert.Kernel6Ideal.nD Cert.Kernel6Ideal.τ).loc Cert.Kernel6Ideal.main_v18_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18_0) = v0 c
          ∧ r.2.mem ((c.tc : Thread Cert.Kernel6Ideal.nD Cert.Kernel6Ideal.τ).loc Cert.Kernel6Ideal.main_v18_1) = v1 c
          ∧ r.2.mem ((c.tc : Thread Cert.Kernel6Ideal.nD Cert.Kernel6Ideal.τ).loc Cert.Kernel6Ideal.main_v18_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_v40) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite_loss [hKernel7Ideal : Cert.Kernel7Ideal.Facts] [hReference7Ideal : Cert.Reference7Ideal.Facts] [hPre_finite_loss : Cert.Pre_finite_loss.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_loss m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)) (v3 : (c : Dev Cert.Kernel7Ideal.nD) → Buf (Elt Ideal) ((c.tc : Thread Cert.Kernel7Ideal.nD Cert.Kernel7Ideal.τ).loc Cert.Kernel7Ideal.main_v3_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_v3_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_v53) = v1 c
          ∧ r.2.mem ((c.tc : Thread Cert.Reference7Ideal.nD Cert.Reference7Ideal.τ).loc Cert.Reference7Ideal.main_v54) = v2 c
          ∧ r.2.mem ((c.tc : Thread Cert.Reference7Ideal.nD Cert.Reference7Ideal.τ).loc Cert.Reference7Ideal.main_v55) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v1) = v1 c
          ∧ r.2.mem ((c.tc : Thread Cert.Reference8Ideal.nD Cert.Reference8Ideal.τ).loc Cert.Reference8Ideal.main_v4) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_v16) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v15) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v10) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite_but_wg : Cert.Pre_finite_but_wg.Facts) (hPre_finite_qkv : Cert.Pre_finite_qkv.Facts) (hPre_finite_f : Cert.Pre_finite_f.Facts) (hPre_finite_a : Cert.Pre_finite_a.Facts) (hPre_finite_b : Cert.Pre_finite_b.Facts) (hPre_finite_loss : Cert.Pre_finite_loss.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_but_wg (hKernel2Ideal := hKernel2Ideal) (hPre_finite_but_wg := hPre_finite_but_wg)
    ∧ quiescent_Reference2Ideal (hReference2Ideal := hReference2Ideal)
    ∧ quiescent_Reference2Ideal_pre_finite_but_wg (hReference2Ideal := hReference2Ideal) (hPre_finite_but_wg := hPre_finite_but_wg)
    ∧ quiescent_Kernel3 (hKernel3 := hKernel3)
    ∧ quiescent_Kernel3Ideal (hKernel3Ideal := hKernel3Ideal)
    ∧ quiescent_Kernel3Ideal_pre_finite_qkv (hKernel3Ideal := hKernel3Ideal) (hPre_finite_qkv := hPre_finite_qkv)
    ∧ quiescent_Reference3Ideal (hReference3Ideal := hReference3Ideal)
    ∧ quiescent_Reference3Ideal_pre_finite_qkv (hReference3Ideal := hReference3Ideal) (hPre_finite_qkv := hPre_finite_qkv)
    ∧ quiescent_Kernel4 (hKernel4 := hKernel4)
    ∧ quiescent_Kernel4Ideal (hKernel4Ideal := hKernel4Ideal)
    ∧ quiescent_Kernel4Ideal_pre_finite_f (hKernel4Ideal := hKernel4Ideal) (hPre_finite_f := hPre_finite_f)
    ∧ quiescent_Reference4Ideal (hReference4Ideal := hReference4Ideal)
    ∧ quiescent_Reference4Ideal_pre_finite_f (hReference4Ideal := hReference4Ideal) (hPre_finite_f := hPre_finite_f)
    ∧ quiescent_Kernel5 (hKernel5 := hKernel5)
    ∧ quiescent_Kernel5Ideal (hKernel5Ideal := hKernel5Ideal)
    ∧ quiescent_Kernel5Ideal_pre_finite_a (hKernel5Ideal := hKernel5Ideal) (hPre_finite_a := hPre_finite_a)
    ∧ quiescent_Reference5Ideal (hReference5Ideal := hReference5Ideal)
    ∧ quiescent_Reference5Ideal_pre_finite_a (hReference5Ideal := hReference5Ideal) (hPre_finite_a := hPre_finite_a)
    ∧ quiescent_Kernel6 (hKernel6 := hKernel6)
    ∧ quiescent_Kernel6Ideal (hKernel6Ideal := hKernel6Ideal)
    ∧ quiescent_Kernel6Ideal_pre_finite_b (hKernel6Ideal := hKernel6Ideal) (hPre_finite_b := hPre_finite_b)
    ∧ quiescent_Reference6Ideal (hReference6Ideal := hReference6Ideal)
    ∧ quiescent_Reference6Ideal_pre_finite_b (hReference6Ideal := hReference6Ideal) (hPre_finite_b := hPre_finite_b)
    ∧ quiescent_Kernel7 (hKernel7 := hKernel7)
    ∧ quiescent_Kernel7Ideal (hKernel7Ideal := hKernel7Ideal)
    ∧ quiescent_Kernel7Ideal_pre_finite_loss (hKernel7Ideal := hKernel7Ideal) (hPre_finite_loss := hPre_finite_loss)
    ∧ quiescent_Reference7Ideal (hReference7Ideal := hReference7Ideal)
    ∧ quiescent_Reference7Ideal_pre_finite_loss (hReference7Ideal := hReference7Ideal) (hPre_finite_loss := hPre_finite_loss)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_but_wg (hKernel2Ideal := hKernel2Ideal) (hReference2Ideal := hReference2Ideal) (hPre_finite_but_wg := hPre_finite_but_wg)
    ∧ preserves_Kernel3_Kernel3Ideal
    ∧ algebraic_Kernel3Ideal_Reference3Ideal_pre_finite_qkv (hKernel3Ideal := hKernel3Ideal) (hReference3Ideal := hReference3Ideal) (hPre_finite_qkv := hPre_finite_qkv)
    ∧ preserves_Kernel4_Kernel4Ideal
    ∧ algebraic_Kernel4Ideal_Reference4Ideal_pre_finite_f (hKernel4Ideal := hKernel4Ideal) (hReference4Ideal := hReference4Ideal) (hPre_finite_f := hPre_finite_f)
    ∧ preserves_Kernel5_Kernel5Ideal
    ∧ algebraic_Kernel5Ideal_Reference5Ideal_pre_finite_a (hKernel5Ideal := hKernel5Ideal) (hReference5Ideal := hReference5Ideal) (hPre_finite_a := hPre_finite_a)
    ∧ preserves_Kernel6_Kernel6Ideal
    ∧ algebraic_Kernel6Ideal_Reference6Ideal_pre_finite_b (hKernel6Ideal := hKernel6Ideal) (hReference6Ideal := hReference6Ideal) (hPre_finite_b := hPre_finite_b)
    ∧ preserves_Kernel7_Kernel7Ideal
    ∧ algebraic_Kernel7Ideal_Reference7Ideal_pre_finite_loss (hKernel7Ideal := hKernel7Ideal) (hReference7Ideal := hReference7Ideal) (hPre_finite_loss := hPre_finite_loss)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S8192x3072 : Shape := ⟨2, ![8192, 3072]⟩
abbrev S8192x1024 : Shape := ⟨2, ![8192, 1024]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x3072 .f32) (main_arg1 : FVec F S8192x1024 .f32) : IVec S_ 1 :=
  let main_cst : FVec F S_ .f32 := constant S_ .f32 0x7F800000#32
  let main_v0 : FVec F S8192x3072 .f32 := broadcastInDim S8192x3072 ![] bcast_S_S8192x3072 main_cst
  let main_v1 : IVec S8192x3072 1 := cmpf .olt main_arg0 main_v0
  let main_cst_0 : FVec F S_ .f32 := constant S_ .f32 0xFF800000#32
  let main_v2 : FVec F S8192x3072 .f32 := broadcastInDim S8192x3072 ![] bcast_S_S8192x3072 main_cst_0
  let main_v3 : IVec S8192x3072 1 := cmpf .ogt main_arg0 main_v2
  let main_v4 : IVec S8192x3072 1 := andi main_v1 main_v3
  let main_c : IVec S_ 1 := constantI S_ 1 1#1
  let main_v5 : IVec S_ 1 := (fun x v => Host.reduce IntOp.andi x v reducesTo_S8192x3072_S_d0_1 h_S_) main_v4 main_c
  let main_cst_1 : FVec F S_ .f32 := constant S_ .f32 0x7F800000#32
  let main_v6 : FVec F S8192x1024 .f32 := broadcastInDim S8192x1024 ![] bcast_S_S8192x1024 main_cst_1
  let main_v7 : IVec S8192x1024 1 := cmpf .olt main_arg1 main_v6
  let main_cst_2 : FVec F S_ .f32 := constant S_ .f32 0xFF800000#32
  let main_v8 : FVec F S8192x1024 .f32 := broadcastInDim S8192x1024 ![] bcast_S_S8192x1024 main_cst_2
  let main_v9 : IVec S8192x1024 1 := cmpf .ogt main_arg1 main_v8
  let main_v10 : IVec S8192x1024 1 := andi main_v7 main_v9
  let main_c_3 : IVec S_ 1 := constantI S_ 1 1#1
  let main_v11 : IVec S_ 1 := (fun x v => Host.reduce IntOp.andi x v reducesTo_S8192x1024_S_d0_1 h_S_) main_v10 main_c_3
  let main_v12 : IVec S_ 1 := andi main_v5 main_v11
  main_v12
-- ==== Pre_finite_a.lean ====
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg2 : FVec F S1024x2048 .f32) (main_arg4 : FVec F S8192x2048 .f32) (main_v12 : IVec S_ 1) (main_v14 : IVec S1024x2048 1) (main_v15 : FVec F S1024x2048 .f32) : IVec S_ 1 :=
  let main_v16 : IVec S1024x2048 1 := cmpf .ogt main_arg2 main_v15
  let main_v17 : IVec S1024x2048 1 := andi main_v14 main_v16
  let main_c_6 : IVec S_ 1 := constantI S_ 1 1#1
  let main_v18 : IVec S_ 1 := (fun x v => Host.reduce IntOp.andi x v reducesTo_S1024x2048_S_d0_1 h_S_) main_v17 main_c_6
  let main_v19 : IVec S_ 1 := andi main_v12 main_v18
  let main_cst_7 : FVec F S_ .f32 := constant S_ .f32 0x7F800000#32
  let main_v20 : FVec F S8192x2048 .f32 := broadcastInDim S8192x2048 ![] bcast_S_S8192x2048 main_cst_7
  let main_v21 : IVec S8192x2048 1 := cmpf .olt main_arg4 main_v20
  let main_cst_8 : FVec F S_ .f32 := constant S_ .f32 0xFF800000#32
  let main_v22 : FVec F S8192x2048 .f32 := broadcastInDim S8192x2048 ![] bcast_S_S8192x2048 main_cst_8
  let main_v23 : IVec S8192x2048 1 := cmpf .ogt main_arg4 main_v22
  let main_v24 : IVec S8192x2048 1 := andi main_v21 main_v23
  let main_c_9 : IVec S_ 1 := constantI S_ 1 1#1
  let main_v25 : IVec S_ 1 := (fun x v => Host.reduce IntOp.andi x v reducesTo_S8192x2048_S_d0_1 h_S_) main_v24 main_c_9
  let main_v26 : IVec S_ 1 := andi main_v19 main_v25
  main_v26

def fn {F : FTy → Type} [FloatOps F] (main_arg0 : FVec F S8192x1024 .f32) (main_arg1 : FVec F S1024 .f32) (main_arg2 : FVec F S1024x2048 .f32) (main_arg3 : FVec F S8192x1024 .f32) (main_arg4 : FVec F S8192x2048 .f32) : IVec S_ 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0x7F800000#32
  let main_v6 : FVec F S1024 .f32 := broadcastInDim S1024 ![] bcast_S_S1024 main_cst_1
  let main_v7 : IVec S1024 1 := cmpf .olt main_arg1 main_v6
  let main_cst_2 : FVec F S_ .f32 := constant S_ .f32 0xFF800000#32
  let main_v8 : FVec F S1024 .f32 := broadcastInDim S1024 ![] bcast_S_S1024 main_cst_2
  let main_v9 : IVec S1024 1 := cmpf .ogt main_arg1 main_v8
  let main_v10 : IVec S1024 1 := andi main_v7 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v5 main_v11
  let main_cst_4 : FVec F S_ .f32 := constant S_ .f32 0x7F800000#32
  let main_v13 : FVec F S1024x2048 .f32 := broadcastInDim S1024x2048 ![] bcast_S_S1024x2048 main_cst_4
  let main_v14 : IVec S1024x2048 1 := cmpf .olt main_arg2 main_v13
  let main_cst_5 : FVec F S_ .f32 := constant S_ .f32 0xFF800000#32
  let main_v15 : FVec F S1024x2048 .f32 := broadcastInDim S1024x2048 ![] bcast_S_S1024x2048 main_cst_5
  fn_part1 (F := F) main_arg2 main_arg4 main_v12 main_v14 main_v15
-- ==== Pre_finite_b.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S8192x3072 : S_.BroadcastsInDim S8192x3072 (![] : Fin 0 → Fin S8192x3072.rank)
  reducesTo_S8192x3072_S_d0_1 : S8192x3072.ReducesTo [0, 1] S_

variable [Facts]

def fn_part1 {F : FTy → Type} [FloatOps F] (main_arg2 : FVec F S1024x3072 .f32) (main_arg4 : FVec F S8192x3072 .f32) (main_v12 : IVec S_ 1) (main_v14 : IVec S1024x3072 1) (main_v15 : FVec F S1024x3072 .f32) : IVec S_ 1 :=
  let main_v16 : IVec S1024x3072 1 := cmpf .ogt main_arg2 main_v15
  let main_v17 : IVec S1024x3072 1 := andi main_v14 main_v16
  let main_c_6 : IVec S_ 1 := constantI S_ 1 1#1
  let main_v18 : IVec S_ 1 := (fun x v => Host.reduce IntOp.andi x v reducesTo_S1024x3072_S_d0_1 h_S_) main_v17 main_c_6
  let main_v19 : IVec S_ 1 := andi main_v12 main_v18
  let main_cst_7 : FVec F S_ .f32 := constant S_ .f32 0x7F800000#32
  let main_v20 : FVec F S8192x3072 .f32 := broadcastInDim S8192x3072 ![] bcast_S_S8192x3072 main_cst_7
  let main_v21 : IVec S8192x3072 1 := cmpf .olt main_arg4 main_v20
  let main_cst_8 : FVec F S_ .f32 := constant S_ .f32 0xFF800000#32
  let main_v22 : FVec F S8192x3072 .f32 := broadcastInDim S8192x3072 ![] bcast_S_S8192x3072 main_cst_8
  let main_v23 : IVec S8192x3072 1 := cmpf .ogt main_arg4 main_v22
  let main_v24 : IVec S8192x3072 1 := andi main_v21 main_v23
  let main_c_9 : IVec S_ 1 := constantI S_ 1 1#1
  let main_v25 : IVec S_ 1 := (fun x v => Host.reduce IntOp.andi x v reducesTo_S8192x3072_S_d0_1 h_S_) main_v24 main_c_9
  let main_v26 : IVec S_ 1 := andi main_v19 main_v25
  main_v26

def fn {F : FTy → Type} [FloatOps F] (main_arg0 : FVec F S8192x1024 .f32) (main_arg1 : FVec F S1024 .f32) (main_arg2 : FVec F S1024x3072 .f32) (main_arg3 : FVec F S8192x1024 .f32) (main_arg4 : FVec F S8192x3072 .f32) : IVec S_ 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0x7F800000#32
  let main_v6 : FVec F S1024 .f32 := broadcastInDim S1024 ![] bcast_S_S1024 main_cst_1
  let main_v7 : IVec S1024 1 := cmpf .olt main_arg1 main_v6
  let main_cst_2 : FVec F S_ .f32 := constant S_ .f32 0xFF800000#32
  let main_v8 : FVec F S1024 .f32 := broadcastInDim S1024 ![] bcast_S_S1024 main_cst_2
  let main_v9 : IVec S1024 1 := cmpf .ogt main_arg1 main_v8
  let main_v10 : IVec S1024 1 := andi main_v7 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v5 main_v11
  let main_cst_4 : FVec F S_ .f32 := constant S_ .f32 0x7F800000#32
  let main_v13 : FVec F S1024x3072 .f32 := broadcastInDim S1024x3072 ![] bcast_S_S1024x3072 main_cst_4
  let main_v14 : IVec S1024x3072 1 := cmpf .olt main_arg2 main_v13
  let main_cst_5 : FVec F S_ .f32 := constant S_ .f32 0xFF800000#32
  let main_v15 : FVec F S1024x3072 .f32 := broadcastInDim S1024x3072 ![] bcast_S_S1024x3072 main_cst_5
  fn_part1 (F := F) main_arg2 main_arg4 main_v12 main_v14 main_v15
-- ==== Pre_finite_but_wg.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg3 : FVec F S2816x1024 .f32) (main_arg4 : FVec F S8192x1024 .f32) (main_v12 : IVec S_ 1) (main_v14 : IVec S2816x1024 1) (main_v15 : FVec F S2816x1024 .f32) : IVec S_ 1 :=
  let main_v16 : IVec S2816x1024 1 := cmpf .ogt main_arg3 main_v15
  let main_v17 : IVec S2816x1024 1 := andi main_v14 main_v16
  let main_c_6 : IVec S_ 1 := constantI S_ 1 1#1
  let main_v18 : IVec S_ 1 := (fun x v => Host.reduce IntOp.andi x v reducesTo_S2816x1024_S_d0_1 h_S_) main_v17 main_c_6
  let main_v19 : IVec S_ 1 := andi main_v12 main_v18
  let main_cst_7 : FVec F S_ .f32 := constant S_ .f32 0x7F800000#32
  let main_v20 : FVec F S8192x1024 .f32 := broadcastInDim S8192x1024 ![] bcast_S_S8192x1024 main_cst_7
  let main_v21 : IVec S8192x1024 1 := cmpf .olt main_arg4 main_v20
  let main_cst_8 : FVec F S_ .f32 := constant S_ .f32 0xFF800000#32
  let main_v22 : FVec F S8192x1024 .f32 := broadcastInDim S8192x1024 ![] bcast_S_S8192x1024 main_cst_8
  let main_v23 : IVec S8192x1024 1 := cmpf .ogt main_arg4 main_v22
  let main_v24 : IVec S8192x1024 1 := andi main_v21 main_v23
  let main_c_9 : IVec S_ 1 := constantI S_ 1 1#1
  let main_v25 : IVec S_ 1 := (fun x v => Host.reduce IntOp.andi x v reducesTo_S8192x1024_S_d0_1 h_S_) main_v24 main_c_9
  let main_v26 : IVec S_ 1 := andi main_v19 main_v25
  main_v26

def fn {F : FTy → Type} [FloatOps F] (main_arg0 : FVec F S8192x1024 .f32) (main_arg1 : FVec F S1024x2816 .f32) (main_arg2 : FVec F S1024x2816 .f32) (main_arg3 : FVec F S2816x1024 .f32) (main_arg4 : FVec F S8192x1024 .f32) : IVec S_ 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0x7F800000#32
  let main_v6 : FVec F S1024x2816 .f32 := broadcastInDim S1024x2816 ![] bcast_S_S1024x2816 main_cst_1
  let main_v7 : IVec S1024x2816 1 := cmpf .olt main_arg2 main_v6
  let main_cst_2 : FVec F S_ .f32 := constant S_ .f32 0xFF800000#32
  let main_v8 : FVec F S1024x2816 .f32 := broadcastInDim S1024x2816 ![] bcast_S_S1024x2816 main_cst_2
  let main_v9 : IVec S1024x2816 1 := cmpf .ogt main_arg2 main_v8
  let main_v10 : IVec S1024x2816 1 := andi main_v7 main_v9
  let main_c_3 : IVec S_ 1 := constantI S_ 1 1#1
  let main_v11 : IVec S_ 1 := (fun x v => Host.reduce IntOp.andi x v reducesTo_S1024x2816_S_d0_1 h_S_) main_v10 main_c_3
  let main_v12 : IVec S_ 1 := andi main_v5 main_v11
  let main_cst_4 : FVec F S_ .f32 := constant S_ .f32 0x7F800000#32
  let main_v13 : FVec F S2816x1024 .f32 := broadcastInDim S2816x1024 ![] bcast_S_S2816x1024 main_cst_4
  let main_v14 : IVec S2816x1024 1 := cmpf .olt main_arg3 main_v13
  let main_cst_5 : FVec F S_ .f32 := constant S_ .f32 0xFF800000#32
  let main_v15 : FVec F S2816x1024 .f32 := broadcastInDim S2816x1024 ![] bcast_S_S2816x1024 main_cst_5
  fn_part1 (F := F) main_arg3 main_arg4 main_v12 main_v14 main_v15
-- ==== Pre_finite_f.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part2 {F : FTy → Type} [FloatOps F] (main_arg6 : FVec F S8192x2816 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S8192x2816 .f32 := broadcastInDim S8192x2816 ![] bcast_S_S8192x2816 main_cst_13
  let main_v35 : IVec S8192x2816 1 := cmpf .olt main_arg6 main_v34
  let main_cst_14 : FVec F S_ .f32 := constant S_ .f32 0xFF800000#32
  let main_v36 : FVec F S8192x2816 .f32 := broadcastInDim S8192x2816 ![] bcast_S_S8192x2816 main_cst_14
  let main_v37 : IVec S8192x2816 1 := cmpf .ogt main_arg6 main_v36
  let main_v38 : IVec S8192x2816 1 := andi main_v35 main_v37
  let main_c_15 : IVec S_ 1 := constantI S_ 1 1#1
  let main_v39 : IVec S_ 1 := (fun x v => Host.reduce IntOp.andi x v reducesTo_S8192x2816_S_d0_1 h_S_) main_v38 main_c_15
  let main_v40 : IVec S_ 1 := andi main_v33 main_v39
  main_v40

def fn_part1 {F : FTy → Type} [FloatOps F] (main_arg2 : FVec F S1024x2816 .f32) (main_arg3 : FVec F S1024x2816 .f32) (main_arg5 : FVec F S8192x2816 .f32) (main_arg6 : FVec F S8192x2816 .f32) (main_v12 : IVec S_ 1) (main_v14 : IVec S1024x2816 1) (main_v15 : FVec F S1024x2816 .f32) : IVec S_ 1 :=
  let main_v16 : IVec S1024x2816 1 := cmpf .ogt main_arg2 main_v15
  let main_v17 : IVec S1024x2816 1 := andi main_v14 main_v16
  let main_c_6 : IVec S_ 1 := constantI S_ 1 1#1
  let main_v18 : IVec S_ 1 := (fun x v => Host.reduce IntOp.andi x v reducesTo_S1024x2816_S_d0_1 h_S_) main_v17 main_c_6
  let main_v19 : IVec S_ 1 := andi main_v12 main_v18
  let main_cst_7 : FVec F S_ .f32 := constant S_ .f32 0x7F800000#32
  let main_v20 : FVec F S1024x2816 .f32 := broadcastInDim S1024x2816 ![] bcast_S_S1024x2816 main_cst_7
  let main_v21 : IVec S1024x2816 1 := cmpf .olt main_arg3 main_v20
  let main_cst_8 : FVec F S_ .f32 := constant S_ .f32 0xFF800000#32
  let main_v22 : FVec F S1024x2816 .f32 := broadcastInDim S1024x2816 ![] bcast_S_S1024x2816 main_cst_8
  let main_v23 : IVec S1024x2816 1 := cmpf .ogt main_arg3 main_v22
  let main_v24 : IVec S1024x2816 1 := andi main_v21 main_v23
  let main_c_9 : IVec S_ 1 := constantI S_ 1 1#1
  let main_v25 : IVec S_ 1 := (fun x v => Host.reduce IntOp.andi x v reducesTo_S1024x2816_S_d0_1 h_S_) main_v24 main_c_9
  let main_v26 : IVec S_ 1 := andi main_v19 main_v25
  let main_cst_10 : FVec F S_ .f32 := constant S_ .f32 0x7F800000#32
  let main_v27 : FVec F S8192x2816 .f32 := broadcastInDim S8192x2816 ![] bcast_S_S8192x2816 main_cst_10
  let main_v28 : IVec S8192x2816 1 := cmpf .olt main_arg5 main_v27
  let main_cst_11 : FVec F S_ .f32 := constant S_ .f32 0xFF800000#32
  let main_v29 : FVec F S8192x2816 .f32 := broadcastInDim S8192x2816 ![] bcast_S_S8192x2816 main_cst_11
  let main_v30 : IVec S8192x2816 1 := cmpf .ogt main_arg5 main_v29
  let main_v31 : IVec S8192x2816 1 := andi main_v28 main_v30
  let main_c_12 : IVec S_ 1 := constantI S_ 1 1#1
  let main_v32 : IVec S_ 1 := (fun x v => Host.reduce IntOp.andi x v reducesTo_S8192x2816_S_d0_1 h_S_) main_v31 main_c_12
  fn_part2 (F := F) main_arg6 main_v26 main_v32

def fn {F : FTy → Type} [FloatOps F] (main_arg0 : FVec F S8192x1024 .f32) (main_arg1 : FVec F S1024 .f32) (main_arg2 : FVec F S1024x2816 .f32) (main_arg3 : FVec F S1024x2816 .f32) (main_arg4 : FVec F S8192x1024 .f32) (main_arg5 : FVec F S8192x2816 .f32) (main_arg6 : FVec F S8192x2816 .f32) : IVec S_ 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0x7F800000#32
  let main_v6 : FVec F S1024 .f32 := broadcastInDim S1024 ![] bcast_S_S1024 main_cst_1
  let main_v7 : IVec S1024 1 := cmpf .olt main_arg1 main_v6
  let main_cst_2 : FVec F S_ .f32 := constant S_ .f32 0xFF800000#32
  let main_v8 : FVec F S1024 .f32 := broadcastInDim S1024 ![] bcast_S_S1024 main_cst_2
  let main_v9 : IVec S1024 1 := cmpf .ogt main_arg1 main_v8
  let main_v10 : IVec S1024 1 := andi main_v7 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v5 main_v11
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_arg2 main_v13
  let main_cst_5 : FVec F S_ .f32 := constant S_ .f32 0xFF800000#32
  let main_v15 : FVec F S1024x2816 .f32 := broadcastInDim S1024x2816 ![] bcast_S_S1024x2816 main_cst_5
  fn_part1 (F := F) main_arg2 main_arg3 main_arg5 main_arg6 main_v12 main_v14 main_v15
-- ==== Pre_finite_loss.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2816 : S_.BroadcastsInDim S8192x2816 (![] : Fin 0 → Fin S8192x2816.rank)
  reducesTo_S8192x2816_S_d0_1 : S8192x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S2816x1024 .f32) (main_arg3 : FVec F S1024 .f32) (main_arg4 : FVec F S8192x1024 .f32) (main_v12 : IVec S_ 1) (main_v14 : IVec S2816x1024 1) (main_v15 : FVec F S2816x1024 .f32) : IVec S_ 1 :=
  let main_v16 : IVec S2816x1024 1 := cmpf .ogt main_arg2 main_v15
  let main_v17 : IVec S2816x1024 1 := andi main_v14 main_v16
  let main_c_6 : IVec S_ 1 := constantI S_ 1 1#1
  let main_v18 : IVec S_ 1 := (fun x v => Host.reduce IntOp.andi x v reducesTo_S2816x1024_S_d0_1 h_S_) main_v17 main_c_6
  let main_v19 : IVec S_ 1 := andi main_v12 main_v18
  let main_cst_7 : FVec F S_ .f32 := constant S_ .f32 0x7F800000#32
  let main_v20 : FVec F S1024 .f32 := broadcastInDim S1024 ![] bcast_S_S1024 main_cst_7
  let main_v21 : IVec S1024 1 := cmpf .olt main_arg3 main_v20
  let main_cst_8 : FVec F S_ .f32 := constant S_ .f32 0xFF800000#32
  let main_v22 : FVec F S1024 .f32 := broadcastInDim S1024 ![] bcast_S_S1024 main_cst_8
  let main_v23 : IVec S1024 1 := cmpf .ogt main_arg3 main_v22
  let main_v24 : IVec S1024 1 := andi main_v21 main_v23
  let main_c_9 : IVec S_ 1 := constantI S_ 1 1#1
  let main_v25 : IVec S_ 1 := (fun x v => Host.reduce IntOp.andi x v reducesTo_S1024_S_d0 h_S_) main_v24 main_c_9
  let main_v26 : IVec S_ 1 := andi main_v19 main_v25
  let main_cst_10 : FVec F S_ .f32 := constant S_ .f32 0x7F800000#32
  let main_v27 : FVec F S8192x1024 .f32 := broadcastInDim S8192x1024 ![] bcast_S_S8192x1024 main_cst_10
  let main_v28 : IVec S8192x1024 1 := cmpf .olt main_arg4 main_v27
  let main_cst_11 : FVec F S_ .f32 := constant S_ .f32 0xFF800000#32
  let main_v29 : FVec F S8192x1024 .f32 := broadcastInDim S8192x1024 ![] bcast_S_S8192x1024 main_cst_11
  let main_v30 : IVec S8192x1024 1 := cmpf .ogt main_arg4 main_v29
  let main_v31 : IVec S8192x1024 1 := andi main_v28 main_v30
  let main_c_12 : IVec S_ 1 := constantI S_ 1 1#1
  let main_v32 : IVec S_ 1 := (fun x v => Host.reduce IntOp.andi x v reducesTo_S8192x1024_S_d0_1 h_S_) main_v31 main_c_12
  fn_part2 (F := F) main_v26 main_v32

def fn {F : FTy → Type} [FloatOps F] (main_arg0 : FVec F S8192x1024 .f32) (main_arg1 : FVec F S8192x2816 .f32) (main_arg2 : FVec F S2816x1024 .f32) (main_arg3 : FVec F S1024 .f32) (main_arg4 : FVec F S8192x1024 .f32) : IVec S_ 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0x7F800000#32
  let main_v6 : FVec F S8192x2816 .f32 := broadcastInDim S8192x2816 ![] bcast_S_S8192x2816 main_cst_1
  let main_v7 : IVec S8192x2816 1 := cmpf .olt main_arg1 main_v6
  let main_cst_2 : FVec F S_ .f32 := constant S_ .f32 0xFF800000#32
  let main_v8 : FVec F S8192x2816 .f32 := broadcastInDim S8192x2816 ![] bcast_S_S8192x2816 main_cst_2
  let main_v9 : IVec S8192x2816 1 := cmpf .ogt main_arg1 main_v8
  let main_v10 : IVec S8192x2816 1 := andi main_v7 main_v9
  let main_c_3 : IVec S_ 1 := constantI S_ 1 1#1
  let main_v11 : IVec S_ 1 := (fun x v => Host.reduce IntOp.andi x v reducesTo_S8192x2816_S_d0_1 h_S_) main_v10 main_c_3
  let main_v12 : IVec S_ 1 := andi main_v5 main_v11
  let main_cst_4 : FVec F S_ .f32 := constant S_ .f32 0x7F800000#32
  let main_v13 : FVec F S2816x1024 .f32 := broadcastInDim S2816x1024 ![] bcast_S_S2816x1024 main_cst_4
  let main_v14 : IVec S2816x1024 1 := cmpf .olt main_arg2 main_v13
  let main_cst_5 : FVec F S_ .f32 := constant S_ .f32 0xFF800000#32
  let main_v15 : FVec F S2816x1024 .f32 := broadcastInDim S2816x1024 ![] bcast_S_S2816x1024 main_cst_5
  fn_part1 (F := F) main_arg2 main_arg3 main_arg4 main_v12 main_v14 main_v15
-- ==== Pre_finite_qkv.lean ====
abbrev S8192x3072 : Shape := ⟨2, ![8192, 3072]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel

variable [Facts]

def fn {F : FTy → Type} [FloatOps F] (main_arg0 : FVec F S8192x3072 .f32) : IVec S_ 1 :=
  let main_cst : FVec F S_ .f32 := constant S_ .f32 0x7F800000#32
  let main_v0 : FVec F S8192x3072 .f32 := broadcastInDim S8192x3072 ![] bcast_S_S8192x3072 main_cst
  let main_v1 : IVec S8192x3072 1 := cmpf .olt main_arg0 main_v0
  let main_cst_0 : FVec F S_ .f32 := constant S_ .f32 0xFF800000#32
  let main_v2 : FVec F S8192x3072 .f32 := broadcastInDim S8192x3072 ![] bcast_S_S8192x3072 main_cst_0
  let main_v3 : IVec S8192x3072 1 := cmpf .ogt main_arg0 main_v2
  let main_v4 : IVec S8192x3072 1 := andi main_v1 main_v3
  let main_c : IVec S_ 1 := constantI S_ 1 1#1
  let main_v5 : IVec S_ 1 := (fun x v => Host.reduce IntOp.andi x v reducesTo_S8192x3072_S_d0_1 h_S_) main_v4 main_c
  main_v5
-- ==== Kernel.lean ====
abbrev S8192x3072 : Shape := ⟨2, ![8192, 3072]⟩
abbrev S8192x1024 : Shape := ⟨2, ![8192, 1024]⟩
abbrev S1x8192x3x16x64 : Shape := ⟨5, ![1, 8192, 3, 16, 64]⟩
abbrev S3x1x16x8192x64 : Shape := ⟨5, ![3, 1, 16, 8192, 64]⟩
abbrev S1x1x16x8192x64 : Shape := ⟨5, ![1, 1, 16, 8192, 64]⟩
abbrev S1x16x8192x64 : Shape := ⟨4, ![1, 16, 8192, 64]⟩
abbrev S1x16x8192x8192 : Shape := ⟨4, ![1, 16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x16x64 : Shape := ⟨4, ![1, 8192, 16, 64]⟩
abbrev S8192x24x128 : Shape := ⟨3, ![8192, 24, 128]⟩
abbrev S24x8192x128 : Shape := ⟨3, ![24, 8192, 128]⟩
abbrev S8192x8x128 : Shape := ⟨3, ![8192, 8, 128]⟩
abbrev S8x8192x128 : Shape := ⟨3, ![8, 8192, 128]⟩
abbrev S8x128x8192 : Shape := ⟨3, ![8, 128, 8192]⟩
abbrev S1x1024x128 : Shape := ⟨3, ![1, 1024, 128]⟩
abbrev S1x8192x128 : Shape := ⟨3, ![1, 8192, 128]⟩
abbrev S1x128x8192 : Shape := ⟨3, ![1, 128, 8192]⟩
abbrev S2x1024x256 : Shape := ⟨3, ![2, 1024, 256]⟩
abbrev S2048x256 : Shape := ⟨2, ![2048, 256]⟩
abbrev S1x128 : Shape := ⟨2, ![1, 128]⟩
abbrev S1024x128 : Shape := ⟨2, ![1024, 128]⟩
abbrev S128x1024 : Shape := ⟨2, ![128, 1024]⟩
abbrev S128x2048 : Shape := ⟨2, ![128, 2048]⟩
abbrev S1024 : Shape := ⟨1, ![1024]⟩
abbrev S1024x1 : Shape := ⟨2, ![1024, 1]⟩
abbrev S256x256 : Shape := ⟨2, ![256, 256]⟩
abbrev S512x256 : Shape := ⟨2, ![512, 256]⟩
abbrev S1024x256 : Shape := ⟨2, ![1024, 256]⟩
abbrev S1x256x128 : Shape := ⟨3, ![1, 256, 128]⟩
abbrev S256x128 : Shape := ⟨2, ![256, 128]⟩
abbrev S1x256x256 : Shape := ⟨3, ![1, 256, 256]⟩
abbrev S256x1 : Shape := ⟨2, ![256, 1]⟩
abbrev S256x512 : Shape := ⟨2, ![256, 512]⟩
abbrev S256 : Shape := ⟨1, ![256]⟩
abbrev S768x1 : Shape := ⟨2, ![768, 1]⟩
abbrev S512x128 : Shape := ⟨2, ![512, 128]⟩
abbrev S1x512x256 : Shape := ⟨3, ![1, 512, 256]⟩
abbrev S128x256 : Shape := ⟨2, ![128, 256]⟩
abbrev S128x512 : Shape := ⟨2, ![128, 512]⟩
abbrev S1x128x256 : Shape := ⟨3, ![1, 128, 256]⟩
abbrev S768x128 : Shape := ⟨2, ![768, 128]⟩
abbrev S512x1 : Shape := ⟨2, ![512, 1]⟩
abbrev S512x512 : Shape := ⟨2, ![512, 512]⟩
abbrev S512 : Shape := ⟨1, ![512]⟩
abbrev S768x256 : Shape := ⟨2, ![768, 256]⟩
abbrev S1x768x256 : Shape := ⟨3, ![1, 768, 256]⟩
abbrev S768x512 : Shape := ⟨2, ![768, 512]⟩
abbrev S768 : Shape := ⟨1, ![768]⟩
abbrev S1x1024x256 : Shape := ⟨3, ![1, 1024, 256]⟩
abbrev S128x768 : Shape := ⟨2, ![128, 768]⟩
abbrev S128x1536 : Shape := ⟨2, ![128, 1536]⟩
abbrev S1536x256 : Shape := ⟨2, ![1536, 256]⟩
abbrev S1024x512 : Shape := ⟨2, ![1024, 512]⟩

abbrev nBuf : Space → Nat
  | .hbm => 88
  | .vmem => 20
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S1x8192x3x16x64, .f32⟩
  | .hbm, ⟨3, _⟩ => ⟨S3x1x16x8192x64, .f32⟩
  | .hbm, ⟨4, _⟩ => ⟨S1x1x16x8192x64, .f32⟩
  | .hbm, ⟨5, _⟩ => ⟨S1x16x8192x64, .f32⟩
  | .hbm, ⟨6, _⟩ => ⟨S1x1x16x8192x64, .f32⟩
  | .hbm, ⟨7, _⟩ => ⟨S1x16x8192x64, .f32⟩
  | .hbm, ⟨8, _⟩ => ⟨S1x1x16x8192x64, .f32⟩
  | .hbm, ⟨9, _⟩ => ⟨S1x16x8192x64, .f32⟩
  | .hbm, ⟨10, _⟩ => ⟨S1x16x8192x8192, .f32⟩
  | .hbm, ⟨11, _⟩ => ⟨S_, .f32⟩
  | .hbm, ⟨12, _⟩ => ⟨S1x16x8192x8192, .f32⟩
  | .hbm, ⟨13, _⟩ => ⟨S1x16x8192x8192, .f32⟩
  | .hbm, ⟨14, _⟩ => ⟨S8192, .i32⟩
  | .hbm, ⟨15, _⟩ => ⟨S1x8192, .i32⟩
  | .hbm, ⟨16, _⟩ => ⟨S8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S1x16x8192x8192, .f32⟩
  | .hbm, ⟨22, _⟩ => ⟨S_, .f32⟩
  | .hbm, ⟨23, _⟩ => ⟨S1x16x8192x8192, .f32⟩
  | .hbm, ⟨24, _⟩ => ⟨S1x16x8192x8192, .f32⟩
  | .hbm, ⟨25, _⟩ => ⟨S1x16x8192x8192, .f32⟩
  | .hbm, ⟨26, _⟩ => ⟨S1x16x8192x8192, .f32⟩
  | .hbm, ⟨27, _⟩ => ⟨S1x16x8192x8192, .i1⟩
  | .hbm, ⟨28, _⟩ => ⟨S1x16x8192x8192, .f32⟩
  | .hbm, ⟨29, _⟩ => ⟨S1x16x8192x8192, .f32⟩
  | .hbm, ⟨30, _⟩ => ⟨S1x16x8192x8192, .f32⟩
  | .hbm, ⟨31, _⟩ => ⟨S1x16x8192x8192, .f32⟩
  | .hbm, ⟨32, _⟩ => ⟨S1x16x8192x8192, .f32⟩
  | .hbm, ⟨33, _⟩ => ⟨S1x16x8192x8192, .f32⟩
  | .hbm, ⟨34, _⟩ => ⟨S1x16x8192x8192, .f32⟩
  | .hbm, ⟨35, _⟩ => ⟨S1x16x8192x8192, .f32⟩
  | .hbm, ⟨36, _⟩ => ⟨S1x16x8192x8192, .f32⟩
  | .hbm, ⟨37, _⟩ => ⟨S1x16x8192x8192, .f32⟩
  | .hbm, ⟨38, _⟩ => ⟨S1x16x8192x8192, .f32⟩
  | .hbm, ⟨39, _⟩ => ⟨S_, .f32⟩
  | .hbm, ⟨40, _⟩ => ⟨S1x16x8192x8192, .f32⟩
  | .hbm, ⟨41, _⟩ => ⟨S1x16x8192x8192, .f32⟩
  | .hbm, ⟨42, _⟩ => ⟨S1x16x8192x8192, .f32⟩
  | .hbm, ⟨43, _⟩ => ⟨S1x16x8192x8192, .f32⟩
  | .hbm, ⟨44, _⟩ => ⟨S1x16x8192x8192, .i1⟩
  | .hbm, ⟨45, _⟩ => ⟨S1x16x8192x8192, .f32⟩
  | .hbm, ⟨46, _⟩ => ⟨S1x16x8192x8192, .f32⟩
  | .hbm, ⟨47, _⟩ => ⟨S1x16x8192x8192, .f32⟩
  | .hbm, ⟨48, _⟩ => ⟨S1x16x8192x8192, .f32⟩
  | .hbm, ⟨49, _⟩ => ⟨S1x16x8192x8192, .f32⟩
  | .hbm, ⟨50, _⟩ => ⟨S1x16x8192x8192, .f32⟩
  | .hbm, ⟨51, _⟩ => ⟨S1x16x8192x8192, .f32⟩
  | .hbm, ⟨52, _⟩ => ⟨S1x16x8192x8192, .f32⟩
  | .hbm, ⟨53, _⟩ => ⟨S1x16x8192x8192, .f32⟩
  | .hbm, ⟨54, _⟩ => ⟨S_, .f32⟩
  | .hbm, ⟨55, _⟩ => ⟨S_, .f32⟩
  | .hbm, ⟨56, _⟩ => ⟨S1x16x8192x8192, .i1⟩
  | .hbm, ⟨57, _⟩ => ⟨S1x16x8192x8192, .f32⟩
  | .hbm, ⟨58, _⟩ => ⟨S1x16x8192x8192, .f32⟩
  | .hbm, ⟨59, _⟩ => ⟨S_, .f32⟩
  | .hbm, ⟨60, _⟩ => ⟨S_, .f32⟩
  | .hbm, ⟨61, _⟩ => ⟨S1x16x8192x8192, .f32⟩
  | .hbm, ⟨62, _⟩ => ⟨S1x16x8192x8192, .f32⟩
  | .hbm, ⟨63, _⟩ => ⟨S1x16x8192x8192, .f32⟩
  | .hbm, ⟨64, _⟩ => ⟨S1x16x8192x8192, .f32⟩
  | .hbm, ⟨65, _⟩ => ⟨S_, .f32⟩
  | .hbm, ⟨66, _⟩ => ⟨S_, .f32⟩
  | .hbm, ⟨67, _⟩ => ⟨S1x16x8192x8192, .i1⟩
  | .hbm, ⟨68, _⟩ => ⟨S1x16x8192x8192, .f32⟩
  | .hbm, ⟨69, _⟩ => ⟨S1x16x8192x8192, .f32⟩
  | .hbm, ⟨70, _⟩ => ⟨S1x16x8192x64, .f32⟩
  | .hbm, ⟨71, _⟩ => ⟨S1x8192x16x64, .f32⟩
  | .hbm, ⟨72, _⟩ => ⟨S8192x1024, .f32⟩
  | .hbm, ⟨73, _⟩ => ⟨S8192x24x128, .f32⟩
  | .hbm, ⟨74, _⟩ => ⟨S24x8192x128, .f32⟩
  | .hbm, ⟨75, _⟩ => ⟨S24x8192x128, .bf16⟩
  | .hbm, ⟨76, _⟩ => ⟨S8192x8x128, .f32⟩
  | .hbm, ⟨77, _⟩ => ⟨S8x8192x128, .f32⟩
  | .hbm, ⟨78, _⟩ => ⟨S8192x8x128, .f32⟩
  | .hbm, ⟨79, _⟩ => ⟨S8x8192x128, .f32⟩
  | .hbm, ⟨80, _⟩ => ⟨S8x8192x128, .bf16⟩
  | .hbm, ⟨81, _⟩ => ⟨S8x8192x128, .bf16⟩
  | .hbm, ⟨82, _⟩ => ⟨S8x128x8192, .f32⟩
  | .hbm, ⟨83, _⟩ => ⟨S8x128x8192, .f32⟩
  | .hbm, ⟨84, _⟩ => ⟨S8x8192x128, .f32⟩
  | .hbm, ⟨85, _⟩ => ⟨S8x8192x128, .bf16⟩
  | .hbm, ⟨86, _⟩ => ⟨S8x8192x128, .f32⟩
  | .hbm, ⟨87, _⟩ => ⟨S8x8192x128, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1024x128, .f32⟩
  | .local _ .vmem, ⟨7, _⟩ => ⟨S1x1024x128, .f32⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x128x8192, .f32⟩
  | .local _ .vmem, ⟨13, _⟩ => ⟨S1x128x8192, .f32⟩
  | .local _ .vmem, ⟨14, _⟩ => ⟨S1x128x8192, .f32⟩
  | .local _ .vmem, ⟨15, _⟩ => ⟨S1x128x8192, .f32⟩
  | .local _ .vmem, ⟨16, _⟩ => ⟨S2x1024x256, .f32⟩
  | .local _ .vmem, ⟨17, _⟩ => ⟨S2x1024x256, .f32⟩
  | .local _ .vmem, ⟨18, _⟩ => ⟨S2048x256, .bf16⟩
  | .local _ .vmem, ⟨19, _⟩ => ⟨S2048x256, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_call1_v0 : Ref sig .tc := ⟨.hbm, 38, rfl⟩
abbrev main_call1_call0_cst : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_call0_v2 : Ref sig .tc := ⟨.hbm, 42, rfl⟩
abbrev main_call1_call0_v3 : Ref sig .tc := ⟨.hbm, 43, rfl⟩
abbrev main_call1_call0_v4 : Ref sig .tc := ⟨.hbm, 44, rfl⟩
abbrev main_call1_call0_v5 : Ref sig .tc := ⟨.hbm, 45, rfl⟩
abbrev main_call1_call0_v6 : Ref sig .tc := ⟨.hbm, 46, rfl⟩
abbrev main_call1_call0_v7 : Ref sig .tc := ⟨.hbm, 47, rfl⟩
abbrev main_call1_call0_v8 : Ref sig .tc := ⟨.hbm, 48, rfl⟩
abbrev main_call1_call0_v9 : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_v1 : Ref sig .tc := ⟨.hbm, 52, rfl⟩
abbrev main_v20 : Ref sig .tc := ⟨.hbm, 53, rfl⟩
abbrev main_cst_0 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v21 : Ref sig .tc := ⟨.hbm, 58, rfl⟩
abbrev main_call3_cst : Ref sig .tc := ⟨.hbm, 59, rfl⟩
abbrev main_call3_v0 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38_0 : Ref sig .tc := ⟨.hbm, 81, rfl⟩
abbrev main_v38_1 : Ref sig .tc := ⟨.hbm, 82, rfl⟩
abbrev main_v38_2 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c4_i32 : BitVec 32 := 4#32
  let arg1 : BitVec 32 := BitVec.ofNat 32 (i 1).val
  let v70 : BitVec 32 := Scalar.muli c4_i32 arg1
  let c3_i32 : BitVec 32 := 3#32
  let v71 : BitVec 32 := Scalar.addi v70 c3_i32
  let c256_i32 : BitVec 32 := 256#32
  let v72 : BitVec 32 := Scalar.muli v71 c256_i32
  v72
def k0_off1 (i : grid0.Coords) (c3_i32 : BitVec 32) : Fin 3 → Nat :=
  let c0_18 : Index := 0#32
  let c4_i32 : BitVec 32 := 4#32
  let arg1 : BitVec 32 := BitVec.ofNat 32 (i 1).val
  let v70 : BitVec 32 := Scalar.muli c4_i32 arg1
  let v71 : BitVec 32 := Scalar.addi v70 c3_i32
  let c256_i32 : BitVec 32 := 256#32
  let v72 : BitVec 32 := Scalar.muli v71 c256_i32
  let v73 : BitVec 32 := v72
  let v74 : Index := Scalar.indexCast v73
  let c0_19 : Index := 0#32
  ![0, v74.toNat, 0]
def k0_mult2 (i : grid0.Coords) : BitVec 32 :=
  let c4_i32 : BitVec 32 := 4#32
  let arg1 : BitVec 32 := BitVec.ofNat 32 (i 1).val
  let v70 : BitVec 32 := Scalar.muli c4_i32 arg1
  let c3_i32 : BitVec 32 := 3#32
  let v71 : BitVec 32 := Scalar.addi v70 c3_i32
  let c256_i32_20 : BitVec 32 := 256#32
  let v77 : BitVec 32 := Scalar.muli v71 c256_i32_20
  v77
def k0_mult3 (i : grid0.Coords) : BitVec 32 :=
  let c4_i32_85 : BitVec 32 := 4#32
  let arg1 : BitVec 32 := BitVec.ofNat 32 (i 1).val
  let v237 : BitVec 32 := Scalar.muli c4_i32_85 arg1
  let c2_i32 : BitVec 32 := 2#32
  let v238 : BitVec 32 := Scalar.addi v237 c2_i32
  let c256_i32_86 : BitVec 32 := 256#32
  let v239 : BitVec 32 := Scalar.muli v238 c256_i32_86
  v239
def k0_mult4 (i : grid0.Coords) : BitVec 32 :=
  let c4_i32_85 : BitVec 32 := 4#32
  let arg1 : BitVec 32 := BitVec.ofNat 32 (i 1).val
  let v237 : BitVec 32 := Scalar.muli c4_i32_85 arg1
  let c2_i32 : BitVec 32 := 2#32
  let v238 : BitVec 32 := Scalar.addi v237 c2_i32
  let c256_i32_89 : BitVec 32 := 256#32
  let v244 : BitVec 32 := Scalar.muli v238 c256_i32_89
  v244
def k0_mult5 (i : grid0.Coords) : BitVec 32 :=
  let c4_i32_107 : BitVec 32 := 4#32
  let arg1 : BitVec 32 := BitVec.ofNat 32 (i 1).val
  let v269 : BitVec 32 := Scalar.muli c4_i32_107 arg1
  let c2_i32_108 : BitVec 32 := 2#32
  let v270 : BitVec 32 := Scalar.addi v269 c2_i32_108
  let c1_i32 : BitVec 32 := 1#32
  let v271 : BitVec 32 := Scalar.addi v270 c1_i32
  let c256_i32_109 : BitVec 32 := 256#32
  let v272 : BitVec 32 := Scalar.muli v271 c256_i32_109
  v272
def k0_off2 (i : grid0.Coords) (c2_i32_108 : BitVec 32) : Fin 3 → Nat :=
  let c0_110 : Index := 0#32
  let c4_i32_107 : BitVec 32 := 4#32
  let arg1 : BitVec 32 := BitVec.ofNat 32 (i 1).val
  let v269 : BitVec 32 := Scalar.muli c4_i32_107 arg1
  let v270 : BitVec 32 := Scalar.addi v269 c2_i32_108
  let c1_i32 : BitVec 32 := 1#32
  let v271 : BitVec 32 := Scalar.addi v270 c1_i32
  let c256_i32_109 : BitVec 32 := 256#32
  let v272 : BitVec 32 := Scalar.muli v271 c256_i32_109
  let v273 : BitVec 32 := v272
  let v274 : Index := Scalar.indexCast v273
  let c0_111 : Index := 0#32
  ![0, v274.toNat, 0]
def k0_off3 (i : grid0.Coords) (c2_i32_108 : BitVec 32) : Fin 3 → Nat :=
  let c0_122 : Index := 0#32
  let c0_123 : Index := 0#32
  let c4_i32_107 : BitVec 32 := 4#32
  let arg1 : BitVec 32 := BitVec.ofNat 32 (i 1).val
  let v269 : BitVec 32 := Scalar.muli c4_i32_107 arg1
  let v270 : BitVec 32 := Scalar.addi v269 c2_i32_108
  let c1_i32 : BitVec 32 := 1#32
  let v271 : BitVec 32 := Scalar.addi v270 c1_i32
  let c256_i32_109 : BitVec 32 := 256#32
  let v272 : BitVec 32 := Scalar.muli v271 c256_i32_109
  let v273 : BitVec 32 := v272
  let v296 : Index := Scalar.indexCast v273
  ![0, 0, v296.toNat]
def k0_mult6 (i : grid0.Coords) : BitVec 32 :=
  let c4_i32_181 : BitVec 32 := 4#32
  let arg1 : BitVec 32 := BitVec.ofNat 32 (i 1).val
  let v455 : BitVec 32 := Scalar.muli c4_i32_181 arg1
  let c1_i32_182 : BitVec 32 := 1#32
  let v456 : BitVec 32 := Scalar.addi v455 c1_i32_182
  let c256_i32_183 : BitVec 32 := 256#32
  let v457 : BitVec 32 := Scalar.muli v456 c256_i32_183
  v457
def k0_mult7 (i : grid0.Coords) : BitVec 32 :=
  let c4_i32_181 : BitVec 32 := 4#32
  let arg1 : BitVec 32 := BitVec.ofNat 32 (i 1).val
  let v455 : BitVec 32 := Scalar.muli c4_i32_181 arg1
  let c1_i32_182 : BitVec 32 := 1#32
  let v456 : BitVec 32 := Scalar.addi v455 c1_i32_182
  let c256_i32_186 : BitVec 32 := 256#32
  let v462 : BitVec 32 := Scalar.muli v456 c256_i32_186
  v462
def k0_mult8 (i : grid0.Coords) : BitVec 32 :=
  let c4_i32_204 : BitVec 32 := 4#32
  let arg1 : BitVec 32 := BitVec.ofNat 32 (i 1).val
  let v487 : BitVec 32 := Scalar.muli c4_i32_204 arg1
  let c1_i32_205 : BitVec 32 := 1#32
  let v488 : BitVec 32 := Scalar.addi v487 c1_i32_205
  let c1_i32_206 : BitVec 32 := 1#32
  let v489 : BitVec 32 := Scalar.addi v488 c1_i32_206
  let c256_i32_207 : BitVec 32 := 256#32
  let v490 : BitVec 32 := Scalar.muli v489 c256_i32_207
  v490
def k0_mult9 (i : grid0.Coords) : BitVec 32 :=
  let c4_i32_279 : BitVec 32 := 4#32
  let arg1 : BitVec 32 := BitVec.ofNat 32 (i 1).val
  let v673 : BitVec 32 := Scalar.muli c4_i32_279 arg1
  let c0_i32_280 : BitVec 32 := 0#32
  let v674 : BitVec 32 := Scalar.addi v673 c0_i32_280
  let c256_i32_281 : BitVec 32 := 256#32
  let v675 : BitVec 32 := Scalar.muli v674 c256_i32_281
  v675
def k0_mult10 (i : grid0.Coords) : BitVec 32 :=
  let c4_i32_279 : BitVec 32 := 4#32
  let arg1 : BitVec 32 := BitVec.ofNat 32 (i 1).val
  let v673 : BitVec 32 := Scalar.muli c4_i32_279 arg1
  let c0_i32_280 : BitVec 32 := 0#32
  let v674 : BitVec 32 := Scalar.addi v673 c0_i32_280
  let c256_i32_284 : BitVec 32 := 256#32
  let v680 : BitVec 32 := Scalar.muli v674 c256_i32_284
  v680
def k0_mult11 (i : grid0.Coords) : BitVec 32 :=
  let c4_i32_303 : BitVec 32 := 4#32
  let arg1 : BitVec 32 := BitVec.ofNat 32 (i 1).val
  let v701 : BitVec 32 := Scalar.muli c4_i32_303 arg1
  let c0_i32_304 : BitVec 32 := 0#32
  let v702 : BitVec 32 := Scalar.addi v701 c0_i32_304
  let c1_i32_305 : BitVec 32 := 1#32
  let v703 : BitVec 32 := Scalar.addi v702 c1_i32_305
  let c256_i32_306 : BitVec 32 := 256#32
  let v704 : BitVec 32 := Scalar.muli v703 c256_i32_306
  v704
def k0_mult12 (i : grid0.Coords) : BitVec 32 :=
  let c4_i32_374 : BitVec 32 := 4#32
  let arg1 : BitVec 32 := BitVec.ofNat 32 (i 1).val
  let v874 : BitVec 32 := Scalar.muli c4_i32_374 arg1
  let c1_i32_375 : BitVec 32 := 1#32
  let v875 : BitVec 32 := Scalar.subi v874 c1_i32_375
  let c0_i32_376 : BitVec 32 := 0#32
  let v876 : BitVec 32 := Scalar.maxsi v875 c0_i32_376
  let c256_i32_377 : BitVec 32 := 256#32
  let v877 : BitVec 32 := Scalar.muli v876 c256_i32_377
  v877
def k0_off4 (i : grid0.Coords) : Fin 3 → Nat :=
  let c0_378 : Index := 0#32
  let c4_i32_374 : BitVec 32 := 4#32
  let arg1 : BitVec 32 := BitVec.ofNat 32 (i 1).val
  let v874 : BitVec 32 := Scalar.muli c4_i32_374 arg1
  let c1_i32_375 : BitVec 32 := 1#32
  let v875 : BitVec 32 := Scalar.subi v874 c1_i32_375
  let c0_i32_376 : BitVec 32 := 0#32
  let v876 : BitVec 32 := Scalar.maxsi v875 c0_i32_376
  let c256_i32_377 : BitVec 32 := 256#32
  let v877 : BitVec 32 := Scalar.muli v876 c256_i32_377
  let v878 : BitVec 32 := v877
  let v879 : Index := Scalar.indexCast v878
  let c0_379 : Index := 0#32
  ![0, v879.toNat, 0]
def k0_mult13 (i : grid0.Coords) : BitVec 32 :=
  let c4_i32_374 : BitVec 32 := 4#32
  let arg1 : BitVec 32 := BitVec.ofNat 32 (i 1).val
  let v874 : BitVec 32 := Scalar.muli c4_i32_374 arg1
  let c1_i32_375 : BitVec 32 := 1#32
  let v875 : BitVec 32 := Scalar.subi v874 c1_i32_375
  let c0_i32_376 : BitVec 32 := 0#32
  let v876 : BitVec 32 := Scalar.maxsi v875 c0_i32_376
  let c256_i32_380 : BitVec 32 := 256#32
  let v882 : BitVec 32 := Scalar.muli v876 c256_i32_380
  v882
@[reducible] def k0_t1_loop (i : grid0.Coords) : Scf.Loop 32 :=
  let c0_i32_400 : BitVec 32 := 0#32
  let c4_i32_399 : BitVec 32 := 4#32
  let arg1 : BitVec 32 := BitVec.ofNat 32 (i 1).val
  let v903 : BitVec 32 := Scalar.muli c4_i32_399 arg1
  let v904 : BitVec 32 := Scalar.subi v903 c0_i32_400
  let c1_i32_401 : BitVec 32 := 1#32
  let v906 : BitVec 32 := Scalar.divsi v904 c1_i32_401
  let v907 : BitVec 32 := Scalar.muli v906 c1_i32_401
  let v908 : BitVec 32 := Scalar.addi c0_i32_400 v907
  let c1_i32_402 : BitVec 32 := 1#32
  ⟨c0_i32_400, v908, c1_i32_402⟩
def k0_mult14 (i : grid0.Coords) (k0_t1 : Fin (k0_t1_loop i).trips) : BitVec 32 :=
  let c4_i32_432 : BitVec 32 := 4#32
  let arg1 : BitVec 32 := BitVec.ofNat 32 (i 1).val
  let v963 : BitVec 32 := Scalar.muli c4_i32_432 arg1
  let c1_i32_433 : BitVec 32 := 1#32
  let v964 : BitVec 32 := Scalar.subi v963 c1_i32_433
  let c0_i32_400 : BitVec 32 := 0#32
  let c1_i32_402 : BitVec 32 := 1#32
  let arg14 : BitVec 32 := Scf.iv c0_i32_400 c1_i32_402 k0_t1
  let v965 : BitVec 32 := Scalar.subi v964 arg14
  let c1_i32_434 : BitVec 32 := 1#32
  let v966 : BitVec 32 := Scalar.addi v965 c1_i32_434
  let c256_i32_435 : BitVec 32 := 256#32
  let v967 : BitVec 32 := Scalar.muli v966 c256_i32_435
  v967
def k0_off5 (i : grid0.Coords) (k0_t1 : Fin (k0_t1_loop i).trips) : Fin 3 → Nat :=
  let c0_436 : Index := 0#32
  let c4_i32_432 : BitVec 32 := 4#32
  let arg1 : BitVec 32 := BitVec.ofNat 32 (i 1).val
  let v963 : BitVec 32 := Scalar.muli c4_i32_432 arg1
  let c1_i32_433 : BitVec 32 := 1#32
  let v964 : BitVec 32 := Scalar.subi v963 c1_i32_433
  let c0_i32_400 : BitVec 32 := 0#32
  let c1_i32_402 : BitVec 32 := 1#32
  let arg14 : BitVec 32 := Scf.iv c0_i32_400 c1_i32_402 k0_t1
  let v965 : BitVec 32 := Scalar.subi v964 arg14
  let c1_i32_434 : BitVec 32 := 1#32
  let v966 : BitVec 32 := Scalar.addi v965 c1_i32_434
  let c256_i32_435 : BitVec 32 := 256#32
  let v967 : BitVec 32 := Scalar.muli v966 c256_i32_435
  let v968 : BitVec 32 := v967
  let v969 : Index := Scalar.indexCast v968
  let c0_437 : Index := 0#32
  ![0, v969.toNat, 0]
def k0_off6 (i : grid0.Coords) (k0_t1 : Fin (k0_t1_loop i).trips) : Fin 3 → Nat :=
  let c0_448 : Index := 0#32
  let c0_449 : Index := 0#32
  let c4_i32_432 : BitVec 32 := 4#32
  let arg1 : BitVec 32 := BitVec.ofNat 32 (i 1).val
  let v963 : BitVec 32 := Scalar.muli c4_i32_432 arg1
  let c1_i32_433 : BitVec 32 := 1#32
  let v964 : BitVec 32 := Scalar.subi v963 c1_i32_433
  let c0_i32_400 : BitVec 32 := 0#32
  let c1_i32_402 : BitVec 32 := 1#32
  let arg14 : BitVec 32 := Scf.iv c0_i32_400 c1_i32_402 k0_t1
  let v965 : BitVec 32 := Scalar.subi v964 arg14
  let c1_i32_434 : BitVec 32 := 1#32
  let v966 : BitVec 32 := Scalar.addi v965 c1_i32_434
  let c256_i32_435 : BitVec 32 := 256#32
  let v967 : BitVec 32 := Scalar.muli v966 c256_i32_435
  let v968 : BitVec 32 := v967
  let v991 : Index := Scalar.indexCast v968
  ![0, 0, v991.toNat]
def k0_mult15 (i : grid0.Coords) (k0_t1 : Fin (k0_t1_loop i).trips) : BitVec 32 :=
  let c4_i32_432 : BitVec 32 := 4#32
  let arg1 : BitVec 32 := BitVec.ofNat 32 (i 1).val
  let v963 : BitVec 32 := Scalar.muli c4_i32_432 arg1
  let c1_i32_433 : BitVec 32 := 1#32
  let v964 : BitVec 32 := Scalar.subi v963 c1_i32_433
  let c0_i32_400 : BitVec 32 := 0#32
  let c1_i32_402 : BitVec 32 := 1#32
  let arg14 : BitVec 32 := Scf.iv c0_i32_400 c1_i32_402 k0_t1
  let v965 : BitVec 32 := Scalar.subi v964 arg14
  let c1_i32_497 : BitVec 32 := 1#32
  let v1122 : BitVec 32 := Scalar.subi v965 c1_i32_497
  let c0_i32_498 : BitVec 32 := 0#32
  let v1123 : BitVec 32 := Scalar.maxsi v1122 c0_i32_498
  let c256_i32_499 : BitVec 32 := 256#32
  let v1124 : BitVec 32 := Scalar.muli v1123 c256_i32_499
  v1124
def k0_off7 (i : grid0.Coords) (k0_t1 : Fin (k0_t1_loop i).trips) : Fin 3 → Nat :=
  let c0_500 : Index := 0#32
  let c4_i32_432 : BitVec 32 := 4#32
  let arg1 : BitVec 32 := BitVec.ofNat 32 (i 1).val
  let v963 : BitVec 32 := Scalar.muli c4_i32_432 arg1
  let c1_i32_433 : BitVec 32 := 1#32
  let v964 : BitVec 32 := Scalar.subi v963 c1_i32_433
  let c0_i32_400 : BitVec 32 := 0#32
  let c1_i32_402 : BitVec 32 := 1#32
  let arg14 : BitVec 32 := Scf.iv c0_i32_400 c1_i32_402 k0_t1
  let v965 : BitVec 32 := Scalar.subi v964 arg14
  let c1_i32_497 : BitVec 32 := 1#32
  let v1122 : BitVec 32 := Scalar.subi v965 c1_i32_497
  let c0_i32_498 : BitVec 32 := 0#32
  let v1123 : BitVec 32 := Scalar.maxsi v1122 c0_i32_498
  let c256_i32_499 : BitVec 32 := 256#32
  let v1124 : BitVec 32 := Scalar.muli v1123 c256_i32_499
  let v1125 : BitVec 32 := v1124
  let v1126 : Index := Scalar.indexCast v1125
  let c0_501 : Index := 0#32
  ![0, v1126.toNat, 0]
def k0_mult16 (i : grid0.Coords) (k0_t1 : Fin (k0_t1_loop i).trips) : BitVec 32 :=
  let c4_i32_432 : BitVec 32 := 4#32
  let arg1 : BitVec 32 := BitVec.ofNat 32 (i 1).val
  let v963 : BitVec 32 := Scalar.muli c4_i32_432 arg1
  let c1_i32_433 : BitVec 32 := 1#32
  let v964 : BitVec 32 := Scalar.subi v963 c1_i32_433
  let c0_i32_400 : BitVec 32 := 0#32
  let c1_i32_402 : BitVec 32 := 1#32
  let arg14 : BitVec 32 := Scf.iv c0_i32_400 c1_i32_402 k0_t1
  let v965 : BitVec 32 := Scalar.subi v964 arg14
  let c1_i32_497 : BitVec 32 := 1#32
  let v1122 : BitVec 32 := Scalar.subi v965 c1_i32_497
  let c0_i32_498 : BitVec 32 := 0#32
  let v1123 : BitVec 32 := Scalar.maxsi v1122 c0_i32_498
  let c256_i32_502 : BitVec 32 := 256#32
  let v1129 : BitVec 32 := Scalar.muli v1123 c256_i32_502
  v1129
@[reducible] def k0_t2_loop (i : grid0.Coords) : Scf.Loop 32 :=
  let c0_i32_400 : BitVec 32 := 0#32
  let c4_i32_399 : BitVec 32 := 4#32
  let arg1 : BitVec 32 := BitVec.ofNat 32 (i 1).val
  let v903 : BitVec 32 := Scalar.muli c4_i32_399 arg1
  let v904 : BitVec 32 := Scalar.subi v903 c0_i32_400
  let c1_i32_401 : BitVec 32 := 1#32
  let v906 : BitVec 32 := Scalar.divsi v904 c1_i32_401
  let v907 : BitVec 32 := Scalar.muli v906 c1_i32_401
  let v908 : BitVec 32 := Scalar.addi c0_i32_400 v907
  let v905 : BitVec 32 := Scalar.addi c0_i32_400 v904
  let c1_i32_403 : BitVec 32 := 1#32
  ⟨v908, v905, c1_i32_403⟩
def k0_mult17 (i : grid0.Coords) (k0_t2 : Fin (k0_t2_loop i).trips) : BitVec 32 :=
  let c4_i32_432 : BitVec 32 := 4#32
  let arg1 : BitVec 32 := BitVec.ofNat 32 (i 1).val
  let v963 : BitVec 32 := Scalar.muli c4_i32_432 arg1
  let c1_i32_433 : BitVec 32 := 1#32
  let v964 : BitVec 32 := Scalar.subi v963 c1_i32_433
  let c0_i32_400 : BitVec 32 := 0#32
  let c4_i32_399 : BitVec 32 := 4#32
  let v903 : BitVec 32 := Scalar.muli c4_i32_399 arg1
  let v904 : BitVec 32 := Scalar.subi v903 c0_i32_400
  let c1_i32_401 : BitVec 32 := 1#32
  let v906 : BitVec 32 := Scalar.divsi v904 c1_i32_401
  let v907 : BitVec 32 := Scalar.muli v906 c1_i32_401
  let v908 : BitVec 32 := Scalar.addi c0_i32_400 v907
  let c1_i32_403 : BitVec 32 := 1#32
  let arg14 : BitVec 32 := Scf.iv v908 c1_i32_403 k0_t2
  let v965 : BitVec 32 := Scalar.subi v964 arg14
  let c1_i32_434 : BitVec 32 := 1#32
  let v966 : BitVec 32 := Scalar.addi v965 c1_i32_434
  let c256_i32_435 : BitVec 32 := 256#32
  let v967 : BitVec 32 := Scalar.muli v966 c256_i32_435
  v967
def k0_off8 (i : grid0.Coords) (k0_t2 : Fin (k0_t2_loop i).trips) : Fin 3 → Nat :=
  let c0_436 : Index := 0#32
  let c4_i32_432 : BitVec 32 := 4#32
  let arg1 : BitVec 32 := BitVec.ofNat 32 (i 1).val
  let v963 : BitVec 32 := Scalar.muli c4_i32_432 arg1
  let c1_i32_433 : BitVec 32 := 1#32
  let v964 : BitVec 32 := Scalar.subi v963 c1_i32_433
  let c0_i32_400 : BitVec 32 := 0#32
  let c4_i32_399 : BitVec 32 := 4#32
  let v903 : BitVec 32 := Scalar.muli c4_i32_399 arg1
  let v904 : BitVec 32 := Scalar.subi v903 c0_i32_400
  let c1_i32_401 : BitVec 32 := 1#32
  let v906 : BitVec 32 := Scalar.divsi v904 c1_i32_401
  let v907 : BitVec 32 := Scalar.muli v906 c1_i32_401
  let v908 : BitVec 32 := Scalar.addi c0_i32_400 v907
  let c1_i32_403 : BitVec 32 := 1#32
  let arg14 : BitVec 32 := Scf.iv v908 c1_i32_403 k0_t2
  let v965 : BitVec 32 := Scalar.subi v964 arg14
  let c1_i32_434 : BitVec 32 := 1#32
  let v966 : BitVec 32 := Scalar.addi v965 c1_i32_434
  let c256_i32_435 : BitVec 32 := 256#32
  let v967 : BitVec 32 := Scalar.muli v966 c256_i32_435
  let v968 : BitVec 32 := v967
  let v969 : Index := Scalar.indexCast v968
  let c0_437 : Index := 0#32
  ![0, v969.toNat, 0]
def k0_off9 (i : grid0.Coords) (k0_t2 : Fin (k0_t2_loop i).trips) : Fin 3 → Nat :=
  let c0_448 : Index := 0#32
  let c0_449 : Index := 0#32
  let c4_i32_432 : BitVec 32 := 4#32
  let arg1 : BitVec 32 := BitVec.ofNat 32 (i 1).val
  let v963 : BitVec 32 := Scalar.muli c4_i32_432 arg1
  let c1_i32_433 : BitVec 32 := 1#32
  let v964 : BitVec 32 := Scalar.subi v963 c1_i32_433
  let c0_i32_400 : BitVec 32 := 0#32
  let c4_i32_399 : BitVec 32 := 4#32
  let v903 : BitVec 32 := Scalar.muli c4_i32_399 arg1
  let v904 : BitVec 32 := Scalar.subi v903 c0_i32_400
  let c1_i32_401 : BitVec 32 := 1#32
  let v906 : BitVec 32 := Scalar.divsi v904 c1_i32_401
  let v907 : BitVec 32 := Scalar.muli v906 c1_i32_401
  let v908 : BitVec 32 := Scalar.addi c0_i32_400 v907
  let c1_i32_403 : BitVec 32 := 1#32
  let arg14 : BitVec 32 := Scf.iv v908 c1_i32_403 k0_t2
  let v965 : BitVec 32 := Scalar.subi v964 arg14
  let c1_i32_434 : BitVec 32 := 1#32
  let v966 : BitVec 32 := Scalar.addi v965 c1_i32_434
  let c256_i32_435 : BitVec 32 := 256#32
  let v967 : BitVec 32 := Scalar.muli v966 c256_i32_435
  let v968 : BitVec 32 := v967
  let v991 : Index := Scalar.indexCast v968
  ![0, 0, v991.toNat]
def k0_mult18 (i : grid0.Coords) (k0_t2 : Fin (k0_t2_loop i).trips) : BitVec 32 :=
  let c4_i32_432 : BitVec 32 := 4#32
  let arg1 : BitVec 32 := BitVec.ofNat 32 (i 1).val
  let v963 : BitVec 32 := Scalar.muli c4_i32_432 arg1
  let c1_i32_433 : BitVec 32 := 1#32
  let v964 : BitVec 32 := Scalar.subi v963 c1_i32_433
  let c0_i32_400 : BitVec 32 := 0#32
  let c4_i32_399 : BitVec 32 := 4#32
  let v903 : BitVec 32 := Scalar.muli c4_i32_399 arg1
  let v904 : BitVec 32 := Scalar.subi v903 c0_i32_400
  let c1_i32_401 : BitVec 32 := 1#32
  let v906 : BitVec 32 := Scalar.divsi v904 c1_i32_401
  let v907 : BitVec 32 := Scalar.muli v906 c1_i32_401
  let v908 : BitVec 32 := Scalar.addi c0_i32_400 v907
  let c1_i32_403 : BitVec 32 := 1#32
  let arg14 : BitVec 32 := Scf.iv v908 c1_i32_403 k0_t2
  let v965 : BitVec 32 := Scalar.subi v964 arg14
  let c1_i32_497 : BitVec 32 := 1#32
  let v1122 : BitVec 32 := Scalar.subi v965 c1_i32_497
  let c0_i32_498 : BitVec 32 := 0#32
  let v1123 : BitVec 32 := Scalar.maxsi v1122 c0_i32_498
  let c256_i32_499 : BitVec 32 := 256#32
  let v1124 : BitVec 32 := Scalar.muli v1123 c256_i32_499
  v1124
def k0_off10 (i : grid0.Coords) (k0_t2 : Fin (k0_t2_loop i).trips) : Fin 3 → Nat :=
  let c0_500 : Index := 0#32
  let c4_i32_432 : BitVec 32 := 4#32
  let arg1 : BitVec 32 := BitVec.ofNat 32 (i 1).val
  let v963 : BitVec 32 := Scalar.muli c4_i32_432 arg1
  let c1_i32_433 : BitVec 32 := 1#32
  let v964 : BitVec 32 := Scalar.subi v963 c1_i32_433
  let c0_i32_400 : BitVec 32 := 0#32
  let c4_i32_399 : BitVec 32 := 4#32
  let v903 : BitVec 32 := Scalar.muli c4_i32_399 arg1
  let v904 : BitVec 32 := Scalar.subi v903 c0_i32_400
  let c1_i32_401 : BitVec 32 := 1#32
  let v906 : BitVec 32 := Scalar.divsi v904 c1_i32_401
  let v907 : BitVec 32 := Scalar.muli v906 c1_i32_401
  let v908 : BitVec 32 := Scalar.addi c0_i32_400 v907
  let c1_i32_403 : BitVec 32 := 1#32
  let arg14 : BitVec 32 := Scf.iv v908 c1_i32_403 k0_t2
  let v965 : BitVec 32 := Scalar.subi v964 arg14
  let c1_i32_497 : BitVec 32 := 1#32
  let v1122 : BitVec 32 := Scalar.subi v965 c1_i32_497
  let c0_i32_498 : BitVec 32 := 0#32
  let v1123 : BitVec 32 := Scalar.maxsi v1122 c0_i32_498
  let c256_i32_499 : BitVec 32 := 256#32
  let v1124 : BitVec 32 := Scalar.muli v1123 c256_i32_499
  let v1125 : BitVec 32 := v1124
  let v1126 : Index := Scalar.indexCast v1125
  let c0_501 : Index := 0#32
  ![0, v1126.toNat, 0]
def k0_mult19 (i : grid0.Coords) (k0_t2 : Fin (k0_t2_loop i).trips) : BitVec 32 :=
  let c4_i32_432 : BitVec 32 := 4#32
  let arg1 : BitVec 32 := BitVec.ofNat 32 (i 1).val
  let v963 : BitVec 32 := Scalar.muli c4_i32_432 arg1
  let c1_i32_433 : BitVec 32 := 1#32
  let v964 : BitVec 32 := Scalar.subi v963 c1_i32_433
  let c0_i32_400 : BitVec 32 := 0#32
  let c4_i32_399 : BitVec 32 := 4#32
  let v903 : BitVec 32 := Scalar.muli c4_i32_399 arg1
  let v904 : BitVec 32 := Scalar.subi v903 c0_i32_400
  let c1_i32_401 : BitVec 32 := 1#32
  let v906 : BitVec 32 := Scalar.divsi v904 c1_i32_401
  let v907 : BitVec 32 := Scalar.muli v906 c1_i32_401
  let v908 : BitVec 32 := Scalar.addi c0_i32_400 v907
  let c1_i32_403 : BitVec 32 := 1#32
  let arg14 : BitVec 32 := Scf.iv v908 c1_i32_403 k0_t2
  let v965 : BitVec 32 := Scalar.subi v964 arg14
  let c1_i32_497 : BitVec 32 := 1#32
  let v1122 : BitVec 32 := Scalar.subi v965 c1_i32_497
  let c0_i32_498 : BitVec 32 := 0#32
  let v1123 : BitVec 32 := Scalar.maxsi v1122 c0_i32_498
  let c256_i32_502 : BitVec 32 := 256#32
  let v1129 : BitVec 32 := Scalar.muli v1123 c256_i32_502
  v1129
def k0_mult20 : BitVec 32 :=
  let c0_i32_404 : BitVec 32 := 0#32
  c0_i32_404
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "inv_ln2" => some (((Real.log 2)⁻¹ : ℝ) : EReal)
  | "scale_log2e" => some ((8⁻¹ * (Real.log 2)⁻¹ : ℝ) : EReal)
  | _ => none
-- ==== ReferenceIdeal.lean ====
abbrev S8192x3072 : Shape := ⟨2, ![8192, 3072]⟩
abbrev S8192x1024 : Shape := ⟨2, ![8192, 1024]⟩
abbrev S1x8192x3x16x64 : Shape := ⟨5, ![1, 8192, 3, 16, 64]⟩
abbrev S3x1x16x8192x64 : Shape := ⟨5, ![3, 1, 16, 8192, 64]⟩
abbrev S1x1x16x8192x64 : Shape := ⟨5, ![1, 1, 16, 8192, 64]⟩
abbrev S1x16x8192x64 : Shape := ⟨4, ![1, 16, 8192, 64]⟩
abbrev S1x16x8192x8192 : Shape := ⟨4, ![1, 16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x16x64 : Shape := ⟨4, ![1, 8192, 16, 64]⟩
abbrev S1x16x64x8192 : Shape := ⟨4, ![1, 16, 64, 8192]⟩
abbrev S8192x8x128 : Shape := ⟨3, ![8192, 8, 128]⟩
abbrev S8x8192x128 : Shape := ⟨3, ![8, 8192, 128]⟩

abbrev nBuf : Space → Nat
  | .hbm => 196
  | .vmem => 0
  | .smem => 0
  | _ => 0

abbrev hbmTy0_0 (i : Nat) : BufTy := match i % 128 with
  | 0 => ⟨S8192x3072, .f32⟩
  | 1 => ⟨S8192x1024, .f32⟩
  | 2 => ⟨S1x8192x3x16x64, .f32⟩
  | 3 => ⟨S3x1x16x8192x64, .f32⟩
  | 4 => ⟨S1x1x16x8192x64, .f32⟩
  | 5 => ⟨S1x16x8192x64, .f32⟩
  | 6 => ⟨S1x1x16x8192x64, .f32⟩
  | 7 => ⟨S1x16x8192x64, .f32⟩
  | 8 => ⟨S1x1x16x8192x64, .f32⟩
  | 9 => ⟨S1x16x8192x64, .f32⟩
  | 10 => ⟨S1x16x8192x8192, .f32⟩
  | 11 => ⟨S_, .f32⟩
  | 12 => ⟨S1x16x8192x8192, .f32⟩
  | 13 => ⟨S1x16x8192x8192, .f32⟩
  | 14 => ⟨S8192, .i32⟩
  | 15 => ⟨S1x8192, .i32⟩
  | 16 => ⟨S8192, .i32⟩
  | 17 => ⟨S8192x1, .i32⟩
  | 18 => ⟨S8192x8192, .i32⟩
  | 19 => ⟨S8192x8192, .i32⟩
  | 20 => ⟨S8192x8192, .i1⟩
  | 21 => ⟨S1x16x8192x8192, .f32⟩
  | 22 => ⟨S_, .f32⟩
  | 23 => ⟨S1x16x8192x8192, .f32⟩
  | 24 => ⟨S1x16x8192x8192, .f32⟩
  | 25 => ⟨S1x16x8192x8192, .f32⟩
  | 26 => ⟨S1x16x8192x8192, .f32⟩
  | 27 => ⟨S1x16x8192x8192, .i1⟩
  | 28 => ⟨S1x16x8192x8192, .f32⟩
  | 29 => ⟨S1x16x8192x8192, .f32⟩
  | 30 => ⟨S1x16x8192x8192, .f32⟩
  | 31 => ⟨S1x16x8192x8192, .f32⟩
  | 32 => ⟨S1x16x8192x8192, .f32⟩
  | 33 => ⟨S1x16x8192x8192, .f32⟩
  | 34 => ⟨S1x16x8192x8192, .f32⟩
  | 35 => ⟨S1x16x8192x8192, .f32⟩
  | 36 => ⟨S_, .f32⟩
  | 37 => ⟨S1x16x8192x8192, .f32⟩
  | 38 => ⟨S1x16x8192x8192, .i1⟩
  | 39 => ⟨S_, .f32⟩
  | 40 => ⟨S1x16x8192x8192, .f32⟩
  | 41 => ⟨S1x16x8192x8192, .f32⟩
  | 42 => ⟨S_, .f32⟩
  | 43 => ⟨S1x16x8192x8192, .f32⟩
  | 44 => ⟨S1x16x8192x8192, .i1⟩
  | 45 => ⟨S_, .f32⟩
  | 46 => ⟨S1x16x8192x8192, .f32⟩
  | 47 => ⟨S1x16x8192x8192, .f32⟩
  | 48 => ⟨S1x16x8192x8192, .f32⟩
  | 49 => ⟨S1x16x8192x8192, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S1x16x8192x8192, .f32⟩
  | 58 => ⟨S1x16x8192x8192, .i1⟩
  | 59 => ⟨S_, .f32⟩
  | 60 => ⟨S1x16x8192x8192, .f32⟩
  | 61 => ⟨S1x16x8192x8192, .f32⟩
  | 62 => ⟨S1x16x8192x8192, .f32⟩
  | 63 => ⟨S1x16x8192x8192, .f32⟩
  | 64 => ⟨S1x16x8192x8192, .f32⟩
  | 65 => ⟨S_, .f32⟩
  | 66 => ⟨S1x16x8192x8192, .f32⟩
  | 67 => ⟨S1x16x8192x8192, .f32⟩
  | 68 => ⟨S1x16x8192x8192, .f32⟩
  | 69 => ⟨S1x16x8192x8192, .f32⟩
  | 70 => ⟨S1x16x8192x8192, .f32⟩
  | 71 => ⟨S_, .f32⟩
  | 72 => ⟨S1x16x8192x8192, .f32⟩
  | 73 => ⟨S1x16x8192x8192, .f32⟩
  | 74 => ⟨S1x16x8192x8192, .f32⟩
  | 75 => ⟨S1x16x8192x8192, .f32⟩
  | 76 => ⟨S1x16x8192x8192, .i1⟩
  | 77 => ⟨S1x16x8192x8192, .f32⟩
  | 78 => ⟨S1x16x8192x8192, .f32⟩
  | 79 => ⟨S1x16x8192x8192, .f32⟩
  | 80 => ⟨S1x16x8192x8192, .f32⟩
  | 81 => ⟨S1x16x8192x8192, .f32⟩
  | 82 => ⟨S1x16x8192x8192, .f32⟩
  | 83 => ⟨S1x16x8192x8192, .f32⟩
  | 84 => ⟨S1x16x8192x8192, .f32⟩
  | 85 => ⟨S_, .f32⟩
  | 86 => ⟨S1x16x8192x8192, .f32⟩
  | 87 => ⟨S1x16x8192x8192, .i1⟩
  | 88 => ⟨S_, .f32⟩
  | 89 => ⟨S1x16x8192x8192, .f32⟩
  | 90 => ⟨S1x16x8192x8192, .f32⟩
  | 91 => ⟨S_, .f32⟩
  | 92 => ⟨S1x16x8192x8192, .f32⟩
  | 93 => ⟨S1x16x8192x8192, .i1⟩
  | 94 => ⟨S_, .f32⟩
  | 95 => ⟨S1x16x8192x8192, .f32⟩
  | 96 => ⟨S1x16x8192x8192, .f32⟩
  | 97 => ⟨S1x16x8192x8192, .f32⟩
  | 98 => ⟨S1x16x8192x8192, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S1x16x8192x8192, .f32⟩
  | 107 => ⟨S1x16x8192x8192, .i1⟩
  | 108 => ⟨S_, .f32⟩
  | 109 => ⟨S1x16x8192x8192, .f32⟩
  | 110 => ⟨S1x16x8192x8192, .f32⟩
  | 111 => ⟨S1x16x8192x8192, .f32⟩
  | 112 => ⟨S1x16x8192x8192, .f32⟩
  | 113 => ⟨S1x16x8192x8192, .f32⟩
  | 114 => ⟨S_, .f32⟩
  | 115 => ⟨S1x16x8192x8192, .f32⟩
  | 116 => ⟨S1x16x8192x8192, .f32⟩
  | 117 => ⟨S1x16x8192x8192, .f32⟩
  | 118 => ⟨S_, .f32⟩
  | 119 => ⟨S_, .f32⟩
  | 120 => ⟨S1x16x8192x8192, .i1⟩
  | 121 => ⟨S1x16x8192x8192, .f32⟩
  | 122 => ⟨S1x16x8192x8192, .f32⟩
  | 123 => ⟨S_, .f32⟩
  | 124 => ⟨S1x16x8192x8192, .f32⟩
  | 125 => ⟨S_, .f32⟩
  | 126 => ⟨S_, .f32⟩
  | 127 => ⟨S1x16x8192x8192, .f32⟩
  | _ => ⟨S8192x3072, .f32⟩

abbrev hbmTy0_1 (i : Nat) : BufTy := match i % 128 with
  | 0 => ⟨S1x16x8192x8192, .f32⟩
  | 1 => ⟨S1x16x8192x8192, .f32⟩
  | 2 => ⟨S1x16x8192x8192, .f32⟩
  | 3 => ⟨S_, .f32⟩
  | 4 => ⟨S_, .f32⟩
  | 5 => ⟨S1x16x8192x8192, .i1⟩
  | 6 => ⟨S1x16x8192x8192, .f32⟩
  | 7 => ⟨S1x16x8192x8192, .f32⟩
  | 8 => ⟨S_, .f32⟩
  | 9 => ⟨S1x16x8192x8192, .f32⟩
  | 10 => ⟨S1x16x8192x64, .f32⟩
  | 11 => ⟨S1x8192x16x64, .f32⟩
  | 12 => ⟨S8192x1024, .f32⟩
  | 13 => ⟨S1x8192x16x64, .f32⟩
  | 14 => ⟨S1x16x8192x64, .f32⟩
  | 15 => ⟨S1x16x64x8192, .f32⟩
  | 16 => ⟨S1x16x8192x64, .f32⟩
  | 17 => ⟨S1x16x8192x8192, .f32⟩
  | 18 => ⟨S_, .f32⟩
  | 19 => ⟨S1x16x8192x8192, .f32⟩
  | 20 => ⟨S1x16x8192x8192, .f32⟩
  | 21 => ⟨S1x16x8192x8192, .f32⟩
  | 22 => ⟨S1x16x8192x8192, .f32⟩
  | 23 => ⟨S_, .f32⟩
  | 24 => ⟨S_, .f32⟩
  | 25 => ⟨S1x16x8192x8192, .f32⟩
  | 26 => ⟨S1x16x8192x8192, .f32⟩
  | 27 => ⟨S_, .f32⟩
  | 28 => ⟨S1x16x8192x8192, .f32⟩
  | 29 => ⟨S1x16x8192x8192, .f32⟩
  | 30 => ⟨S1x16x8192x8192, .f32⟩
  | 31 => ⟨S1x16x8192x8192, .f32⟩
  | 32 => ⟨S1x16x8192x8192, .f32⟩
  | 33 => ⟨S1x16x8192x8192, .f32⟩
  | 34 => ⟨S1x16x8192x8192, .f32⟩
  | 35 => ⟨S1x16x8192x8192, .f32⟩
  | 36 => ⟨S1x16x8192x8192, .f32⟩
  | 37 => ⟨S1x16x8192x8192, .f32⟩
  | 38 => ⟨S_, .f32⟩
  | 39 => ⟨S1x16x8192x8192, .f32⟩
  | 40 => ⟨S1x16x8192x8192, .f32⟩
  | 41 => ⟨S1x16x8192x64, .f32⟩
  | 42 => ⟨S1x16x8192x64, .f32⟩
  | 43 => ⟨S1x1x16x8192x64, .f32⟩
  | 44 => ⟨S_, .f32⟩
  | 45 => ⟨S3x1x16x8192x64, .f32⟩
  | 46 => ⟨S1x1x16x8192x64, .f32⟩
  | 47 => ⟨S_, .f32⟩
  | 48 => ⟨S3x1x16x8192x64, .f32⟩
  | 49 => ⟨S3x1x16x8192x64, .f32⟩
  | 50 => ⟨S1x1x16x8192x64, .f32⟩
  | 51 => ⟨S_, .f32⟩
  | 52 => ⟨S3x1x16x8192x64, .f32⟩
  | 53 => ⟨S3x1x16x8192x64, .f32⟩
  | 54 => ⟨S1x8192x3x16x64, .f32⟩
  | 55 => ⟨S8192x3072, .f32⟩
  | 56 => ⟨S8192x1024, .f32⟩
  | 57 => ⟨S8192x8x128, .f32⟩
  | 58 => ⟨S8x8192x128, .f32⟩
  | 59 => ⟨S8x8192x128, .bf16⟩
  | 60 => ⟨S8192x1024, .f32⟩
  | 61 => ⟨S8192x8x128, .f32⟩
  | 62 => ⟨S8x8192x128, .f32⟩
  | 63 => ⟨S8x8192x128, .bf16⟩
  | 64 => ⟨S8192x1024, .f32⟩
  | 65 => ⟨S8192x8x128, .f32⟩
  | 66 => ⟨S8x8192x128, .f32⟩
  | 67 => ⟨S8x8192x128, .bf16⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_v19 : Ref sig .tc := ⟨.hbm, 69, rfl⟩
abbrev main_call1_v0 : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_v9 : Ref sig .tc := ⟨.hbm, 81, rfl⟩
abbrev main_call1_call0_v10 : Ref sig .tc := ⟨.hbm, 82, rfl⟩
abbrev main_call1_call0_v11 : Ref sig .tc := ⟨.hbm, 83, rfl⟩
abbrev main_call1_v1_0 : Ref sig .tc := ⟨.hbm, 84, rfl⟩
abbrev main_call1_call0_cst_0 : Ref sig .tc := ⟨.hbm, 85, rfl⟩
abbrev main_call1_call0_v13 : Ref sig .tc := ⟨.hbm, 86, rfl⟩
abbrev main_call1_call0_v14 : Ref sig .tc := ⟨.hbm, 87, rfl⟩
abbrev main_call1_call0_cst_1 : Ref sig .tc := ⟨.hbm, 88, rfl⟩
abbrev main_call1_call0_v15 : Ref sig .tc := ⟨.hbm, 89, rfl⟩
abbrev main_call1_call0_v16 : Ref sig .tc := ⟨.hbm, 90, rfl⟩
abbrev main_call1_call0_cst_2 : Ref sig .tc := ⟨.hbm, 91, rfl⟩
abbrev main_call1_call0_v17 : Ref sig .tc := ⟨.hbm, 92, rfl⟩
abbrev main_call1_call0_v18 : Ref sig .tc := ⟨.hbm, 93, rfl⟩
abbrev main_call1_call0_cst_3 : Ref sig .tc := ⟨.hbm, 94, rfl⟩
abbrev main_call1_call0_v19 : Ref sig .tc := ⟨.hbm, 95, rfl⟩
abbrev main_call1_call0_v20 : Ref sig .tc := ⟨.hbm, 96, rfl⟩
abbrev main_call1_call0_v21 : Ref sig .tc := ⟨.hbm, 97, rfl⟩
abbrev main_v20_1 : Ref sig .tc := ⟨.hbm, 98, rfl⟩
abbrev main_call1_call0_cst_4 : Ref sig .tc := ⟨.hbm, 99, rfl⟩
abbrev main_call1_call0_cst_5 : Ref sig .tc := ⟨.hbm, 100, rfl⟩
abbrev main_call1_call0_v23 : Ref sig .tc := ⟨.hbm, 101, rfl⟩
abbrev main_call1_call0_cst_6 : Ref sig .tc := ⟨.hbm, 102, rfl⟩
abbrev main_call1_call0_cst_7 : Ref sig .tc := ⟨.hbm, 103, rfl⟩
abbrev main_call1_call0_v24 : Ref sig .tc := ⟨.hbm, 104, rfl⟩
abbrev main_call1_call0_cst_8 : Ref sig .tc := ⟨.hbm, 105, rfl⟩
abbrev main_call1_call0_v25 : Ref sig .tc := ⟨.hbm, 106, rfl⟩
abbrev main_call1_call0_v26 : Ref sig .tc := ⟨.hbm, 107, rfl⟩
abbrev main_call1_call0_cst_9 : Ref sig .tc := ⟨.hbm, 108, rfl⟩
abbrev main_call1_call0_v27 : Ref sig .tc := ⟨.hbm, 109, rfl⟩
abbrev main_call1_call0_v28 : Ref sig .tc := ⟨.hbm, 110, rfl⟩
abbrev main_call1_call0_v29 : Ref sig .tc := ⟨.hbm, 111, rfl⟩
abbrev main_call1_call0_v30 : Ref sig .tc := ⟨.hbm, 112, rfl⟩
abbrev main_call1_call0_v31 : Ref sig .tc := ⟨.hbm, 113, rfl⟩
abbrev main_call1_call0_cst_10 : Ref sig .tc := ⟨.hbm, 114, rfl⟩
abbrev main_call1_call0_v32 : Ref sig .tc := ⟨.hbm, 115, rfl⟩
abbrev main_v20_2 : Ref sig .tc := ⟨.hbm, 116, rfl⟩
abbrev main_v20_0 : Ref sig .tc := ⟨.hbm, 117, rfl⟩
abbrev main_cst_0 : Ref sig .tc := ⟨.hbm, 118, rfl⟩
abbrev main_call2_v0 : Ref sig .tc := ⟨.hbm, 119, rfl⟩
abbrev main_v21_1 : Ref sig .tc := ⟨.hbm, 120, rfl⟩
abbrev main_call2_v2 : Ref sig .tc := ⟨.hbm, 121, rfl⟩
abbrev main_v21_0 : Ref sig .tc := ⟨.hbm, 122, rfl⟩
abbrev main_call2_cst : Ref sig .tc := ⟨.hbm, 123, rfl⟩
abbrev main_v21_2 : Ref sig .tc := ⟨.hbm, 124, rfl⟩
abbrev main_call3_cst : Ref sig .tc := ⟨.hbm, 125, rfl⟩
abbrev main_call3_v0 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call5_cst : Ref sig .tc := ⟨.hbm, 146, rfl⟩
abbrev main_call5_v0 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_call6_cst : Ref sig .tc := ⟨.hbm, 151, rfl⟩
abbrev main_call6_v0 : Ref sig .tc := ⟨.hbm, 152, rfl⟩
abbrev main_v38 : Ref sig .tc := ⟨.hbm, 153, rfl⟩
abbrev main_v39 : Ref sig .tc := ⟨.hbm, 154, rfl⟩
abbrev main_call7_cst : Ref sig .tc := ⟨.hbm, 155, rfl⟩
abbrev main_call7_v0 : Ref sig .tc := ⟨.hbm, 156, rfl⟩
abbrev main_v40 : Ref sig .tc := ⟨.hbm, 157, rfl⟩
abbrev main_call8_v0 : Ref sig .tc := ⟨.hbm, 158, rfl⟩
abbrev main_call8_v1 : Ref sig .tc := ⟨.hbm, 159, rfl⟩
abbrev main_v41 : Ref sig .tc := ⟨.hbm, 160, rfl⟩
abbrev main_v42 : Ref sig .tc := ⟨.hbm, 161, rfl⟩
abbrev main_call9_v0 : Ref sig .tc := ⟨.hbm, 162, rfl⟩
abbrev main_call9_v1 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_cst_3 : Ref sig .tc := ⟨.hbm, 172, rfl⟩
abbrev main_v50 : Ref sig .tc := ⟨.hbm, 173, rfl⟩
abbrev main_v51 : Ref sig .tc := ⟨.hbm, 174, rfl⟩
abbrev main_cst_4 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_cst_5 : Ref sig .tc := ⟨.hbm, 179, rfl⟩
abbrev main_v55 : Ref sig .tc := ⟨.hbm, 180, rfl⟩
abbrev main_v56 : Ref sig .tc := ⟨.hbm, 181, rfl⟩
abbrev main_v57 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_v63 : Ref sig .tc := ⟨.hbm, 188, rfl⟩
abbrev main_v64 : Ref sig .tc := ⟨.hbm, 189, rfl⟩
abbrev main_v65 : Ref sig .tc := ⟨.hbm, 190, rfl⟩
abbrev main_v66 : Ref sig .tc := ⟨.hbm, 191, rfl⟩
abbrev main_v67 : Ref sig .tc := ⟨.hbm, 192, rfl⟩
abbrev main_v68 : Ref sig .tc := ⟨.hbm, 193, rfl⟩
abbrev main_v69 : Ref sig .tc := ⟨.hbm, 194, rfl⟩
abbrev main_v70 : Ref sig .tc := ⟨.hbm, 195, rfl⟩

abbrev nD : Nat := 1
abbrev τ : Topo := Topo.v7x

variable {F : FTy → Type} [FloatOps F]
-- ==== Kernel2.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 15
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x1024, .bf16⟩
  | .hbm, ⟨6, _⟩ => ⟨S8192x1024, .bf16⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S8192x2816, .f32⟩
  | .hbm, ⟨11, _⟩ => ⟨S8192x2816, .f32⟩
  | .hbm, ⟨12, _⟩ => ⟨S1024x2816, .bf16⟩
  | .hbm, ⟨13, _⟩ => ⟨S8192x2816, .bf16⟩
  | .hbm, ⟨14, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .bf16⟩
  | .hbm, ⟨30, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Kernel3.lean ====
abbrev S8192x3072 : Shape := ⟨2, ![8192, 3072]⟩
abbrev S8192x24x128 : Shape := ⟨3, ![8192, 24, 128]⟩
abbrev S24x8192x128 : Shape := ⟨3, ![24, 8192, 128]⟩
abbrev S8x8192x128 : Shape := ⟨3, ![8, 8192, 128]⟩
abbrev S1x2048x128 : Shape := ⟨3, ![1, 2048, 128]⟩
abbrev S1x8192x128 : Shape := ⟨3, ![1, 8192, 128]⟩
abbrev S2x2048x256 : Shape := ⟨3, ![2, 2048, 256]⟩
abbrev S2048x512 : Shape := ⟨2, ![2048, 512]⟩
abbrev S1x128 : Shape := ⟨2, ![1, 128]⟩
abbrev S2048x128 : Shape := ⟨2, ![2048, 128]⟩
abbrev S256x256 : Shape := ⟨2, ![256, 256]⟩
abbrev S2048x256 : Shape := ⟨2, ![2048, 256]⟩
abbrev S2048x1 : Shape := ⟨2, ![2048, 1]⟩
abbrev S1x256x128 : Shape := ⟨3, ![1, 256, 128]⟩
abbrev S256x128 : Shape := ⟨2, ![256, 128]⟩
abbrev S1x256x256 : Shape := ⟨3, ![1, 256, 256]⟩
abbrev S256x1 : Shape := ⟨2, ![256, 1]⟩
abbrev S256 : Shape := ⟨1, ![256]⟩
abbrev S1792x1 : Shape := ⟨2, ![1792, 1]⟩
abbrev S512x128 : Shape := ⟨2, ![512, 128]⟩
abbrev S512x256 : Shape := ⟨2, ![512, 256]⟩
abbrev S1x512x256 : Shape := ⟨3, ![1, 512, 256]⟩
abbrev S256x512 : Shape := ⟨2, ![256, 512]⟩
abbrev S1792x128 : Shape := ⟨2, ![1792, 128]⟩
abbrev S512x1 : Shape := ⟨2, ![512, 1]⟩
abbrev S512 : Shape := ⟨1, ![512]⟩
abbrev S1536x1 : Shape := ⟨2, ![1536, 1]⟩
abbrev S768x128 : Shape := ⟨2, ![768, 128]⟩
abbrev S768x256 : Shape := ⟨2, ![768, 256]⟩
abbrev S1x768x256 : Shape := ⟨3, ![1, 768, 256]⟩
abbrev S512x512 : Shape := ⟨2, ![512, 512]⟩
abbrev S1536x128 : Shape := ⟨2, ![1536, 128]⟩
abbrev S768x1 : Shape := ⟨2, ![768, 1]⟩
abbrev S768 : Shape := ⟨1, ![768]⟩
abbrev S1280x1 : Shape := ⟨2, ![1280, 1]⟩
abbrev S1024x128 : Shape := ⟨2, ![1024, 128]⟩
abbrev S1024x256 : Shape := ⟨2, ![1024, 256]⟩
abbrev S1x1024x256 : Shape := ⟨3, ![1, 1024, 256]⟩
abbrev S768x512 : Shape := ⟨2, ![768, 512]⟩
abbrev S1280x128 : Shape := ⟨2, ![1280, 128]⟩
abbrev S1024x1 : Shape := ⟨2, ![1024, 1]⟩
abbrev S1024 : Shape := ⟨1, ![1024]⟩
abbrev S1280x256 : Shape := ⟨2, ![1280, 256]⟩
abbrev S1x1280x256 : Shape := ⟨3, ![1, 1280, 256]⟩
abbrev S1024x512 : Shape := ⟨2, ![1024, 512]⟩
abbrev S1280 : Shape := ⟨1, ![1280]⟩
abbrev S1536x256 : Shape := ⟨2, ![1536, 256]⟩
abbrev S1x1536x256 : Shape := ⟨3, ![1, 1536, 256]⟩
abbrev S1280x512 : Shape := ⟨2, ![1280, 512]⟩
abbrev S1536 : Shape := ⟨1, ![1536]⟩
abbrev S1792x256 : Shape := ⟨2, ![1792, 256]⟩
abbrev S1x1792x256 : Shape := ⟨3, ![1, 1792, 256]⟩
abbrev S1536x512 : Shape := ⟨2, ![1536, 512]⟩
abbrev S1792 : Shape := ⟨1, ![1792]⟩
abbrev S1x2048x256 : Shape := ⟨3, ![1, 2048, 256]⟩
abbrev S1792x512 : Shape := ⟨2, ![1792, 512]⟩
abbrev S2048 : Shape := ⟨1, ![2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x3072, .f32⟩
  | .hbm, ⟨1, _⟩ => ⟨S8192x24x128, .f32⟩
  | .hbm, ⟨2, _⟩ => ⟨S24x8192x128, .f32⟩
  | .hbm, ⟨3, _⟩ => ⟨S24x8192x128, .bf16⟩
  | .hbm, ⟨4, _⟩ => ⟨S8x8192x128, .f32⟩
  | .local _ .vmem, ⟨0, _⟩ => ⟨S1x2048x128, .bf16⟩
  | .local _ .vmem, ⟨1, _⟩ => ⟨S1x2048x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x2048x128, .f32⟩
  | .local _ .vmem, ⟨7, _⟩ => ⟨S1x2048x128, .f32⟩
  | .local _ .vmem, ⟨8, _⟩ => ⟨S2x2048x256, .f32⟩
  | .local _ .vmem, ⟨9, _⟩ => ⟨S2048x512, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c8_i32 : BitVec 32 := 8#32
  let arg1 : BitVec 32 := BitVec.ofNat 32 (i 1).val
  let v24 : BitVec 32 := Scalar.muli c8_i32 arg1
  let c7_i32 : BitVec 32 := 7#32
  let v25 : BitVec 32 := Scalar.addi v24 c7_i32
  let c256_i32 : BitVec 32 := 256#32
  let v26 : BitVec 32 := Scalar.muli v25 c256_i32
  v26
def k0_off1 (i : grid0.Coords) (c7_i32 : BitVec 32) : Fin 3 → Nat :=
  let c0_5 : Index := 0#32
  let c8_i32 : BitVec 32 := 8#32
  let arg1 : BitVec 32 := BitVec.ofNat 32 (i 1).val
  let v24 : BitVec 32 := Scalar.muli c8_i32 arg1
  let v25 : BitVec 32 := Scalar.addi v24 c7_i32
  let c256_i32 : BitVec 32 := 256#32
  let v26 : BitVec 32 := Scalar.muli v25 c256_i32
  let v27 : BitVec 32 := v26
  let v28 : Index := Scalar.indexCast v27
  let c0_6 : Index := 0#32
  ![0, v28.toNat, 0]
def k0_mult2 (i : grid0.Coords) : BitVec 32 :=
  let c8_i32_43 : BitVec 32 := 8#32
  let arg1 : BitVec 32 := BitVec.ofNat 32 (i 1).val
  let v118 : BitVec 32 := Scalar.muli c8_i32_43 arg1
  let c6_i32 : BitVec 32 := 6#32
  let v119 : BitVec 32 := Scalar.addi v118 c6_i32
  let c256_i32_44 : BitVec 32 := 256#32
  let v120 : BitVec 32 := Scalar.muli v119 c256_i32_44
  v120
def k0_mult3 (i : grid0.Coords) : BitVec 32 :=
  let c8_i32_54 : BitVec 32 := 8#32
  let arg1 : BitVec 32 := BitVec.ofNat 32 (i 1).val
  let v135 : BitVec 32 := Scalar.muli c8_i32_54 arg1
  let c6_i32_55 : BitVec 32 := 6#32
  let v136 : BitVec 32 := Scalar.addi v135 c6_i32_55
  let c1_i32 : BitVec 32 := 1#32
  let v137 : BitVec 32 := Scalar.addi v136 c1_i32
  let c256_i32_56 : BitVec 32 := 256#32
  let v138 : BitVec 32 := Scalar.muli v137 c256_i32_56
  v138
def k0_off2 (i : grid0.Coords) (c6_i32_55 : BitVec 32) : Fin 3 → Nat :=
  let c0_57 : Index := 0#32
  let c8_i32_54 : BitVec 32 := 8#32
  let arg1 : BitVec 32 := BitVec.ofNat 32 (i 1).val
  let v135 : BitVec 32 := Scalar.muli c8_i32_54 arg1
  let v136 : BitVec 32 := Scalar.addi v135 c6_i32_55
  let c1_i32 : BitVec 32 := 1#32
  let v137 : BitVec 32 := Scalar.addi v136 c1_i32
  let c256_i32_56 : BitVec 32 := 256#32
  let v138 : BitVec 32 := Scalar.muli v137 c256_i32_56
  let v139 : BitVec 32 := v138
  let v140 : Index := Scalar.indexCast v139
  let c0_58 : Index := 0#32
  ![0, v140.toNat, 0]
def k0_mult4 (i : grid0.Coords) : BitVec 32 :=
  let c8_i32_95 : BitVec 32 := 8#32
  let arg1 : BitVec 32 := BitVec.ofNat 32 (i 1).val
  let v233 : BitVec 32 := Scalar.muli c8_i32_95 arg1
  let c5_i32 : BitVec 32 := 5#32
  let v234 : BitVec 32 := Scalar.addi v233 c5_i32
  let c256_i32_96 : BitVec 32 := 256#32
  let v235 : BitVec 32 := Scalar.muli v234 c256_i32_96
  v235
def k0_mult5 (i : grid0.Coords) : BitVec 32 :=
  let c8_i32_106 : BitVec 32 := 8#32
  let arg1 : BitVec 32 := BitVec.ofNat 32 (i 1).val
  let v250 : BitVec 32 := Scalar.muli c8_i32_106 arg1
  let c5_i32_107 : BitVec 32 := 5#32
  let v251 : BitVec 32 := Scalar.addi v250 c5_i32_107
  let c1_i32_108 : BitVec 32 := 1#32
  let v252 : BitVec 32 := Scalar.addi v251 c1_i32_108
  let c256_i32_109 : BitVec 32 := 256#32
  let v253 : BitVec 32 := Scalar.muli v252 c256_i32_109
  v253
def k0_mult6 (i : grid0.Coords) : BitVec 32 :=
  let c8_i32_148 : BitVec 32 := 8#32
  let arg1 : BitVec 32 := BitVec.ofNat 32 (i 1).val
  let v348 : BitVec 32 := Scalar.muli c8_i32_148 arg1
  let c4_i32 : BitVec 32 := 4#32
  let v349 : BitVec 32 := Scalar.addi v348 c4_i32
  let c256_i32_149 : BitVec 32 := 256#32
  let v350 : BitVec 32 := Scalar.muli v349 c256_i32_149
  v350
def k0_mult7 (i : grid0.Coords) : BitVec 32 :=
  let c8_i32_159 : BitVec 32 := 8#32
  let arg1 : BitVec 32 := BitVec.ofNat 32 (i 1).val
  let v365 : BitVec 32 := Scalar.muli c8_i32_159 arg1
  let c4_i32_160 : BitVec 32 := 4#32
  let v366 : BitVec 32 := Scalar.addi v365 c4_i32_160
  let c1_i32_161 : BitVec 32 := 1#32
  let v367 : BitVec 32 := Scalar.addi v366 c1_i32_161
  let c256_i32_162 : BitVec 32 := 256#32
  let v368 : BitVec 32 := Scalar.muli v367 c256_i32_162
  v368
def k0_mult8 (i : grid0.Coords) : BitVec 32 :=
  let c8_i32_201 : BitVec 32 := 8#32
  let arg1 : BitVec 32 := BitVec.ofNat 32 (i 1).val
  let v463 : BitVec 32 := Scalar.muli c8_i32_201 arg1
  let c3_i32 : BitVec 32 := 3#32
  let v464 : BitVec 32 := Scalar.addi v463 c3_i32
  let c256_i32_202 : BitVec 32 := 256#32
  let v465 : BitVec 32 := Scalar.muli v464 c256_i32_202
  v465
def k0_mult9 (i : grid0.Coords) : BitVec 32 :=
  let c8_i32_212 : BitVec 32 := 8#32
  let arg1 : BitVec 32 := BitVec.ofNat 32 (i 1).val
  let v480 : BitVec 32 := Scalar.muli c8_i32_212 arg1
  let c3_i32_213 : BitVec 32 := 3#32
  let v481 : BitVec 32 := Scalar.addi v480 c3_i32_213
  let c1_i32_214 : BitVec 32 := 1#32
  let v482 : BitVec 32 := Scalar.addi v481 c1_i32_214
  let c256_i32_215 : BitVec 32 := 256#32
  let v483 : BitVec 32 := Scalar.muli v482 c256_i32_215
  v483
def k0_mult10 (i : grid0.Coords) : BitVec 32 :=
  let c8_i32_254 : BitVec 32 := 8#32
  let arg1 : BitVec 32 := BitVec.ofNat 32 (i 1).val
  let v578 : BitVec 32 := Scalar.muli c8_i32_254 arg1
  let c2_i32 : BitVec 32 := 2#32
  let v579 : BitVec 32 := Scalar.addi v578 c2_i32
  let c256_i32_255 : BitVec 32 := 256#32
  let v580 : BitVec 32 := Scalar.muli v579 c256_i32_255
  v580
def k0_mult11 (i : grid0.Coords) : BitVec 32 :=
  let c8_i32_265 : BitVec 32 := 8#32
  let arg1 : BitVec 32 := BitVec.ofNat 32 (i 1).val
  let v595 : BitVec 32 := Scalar.muli c8_i32_265 arg1
  let c2_i32_266 : BitVec 32 := 2#32
  let v596 : BitVec 32 := Scalar.addi v595 c2_i32_266
  let c1_i32_267 : BitVec 32 := 1#32
  let v597 : BitVec 32 := Scalar.addi v596 c1_i32_267
  let c256_i32_268 : BitVec 32 := 256#32
  let v598 : BitVec 32 := Scalar.muli v597 c256_i32_268
  v598
def k0_mult12 (i : grid0.Coords) : BitVec 32 :=
  let c8_i32_307 : BitVec 32 := 8#32
  let arg1 : BitVec 32 := BitVec.ofNat 32 (i 1).val
  let v693 : BitVec 32 := Scalar.muli c8_i32_307 arg1
  let c1_i32_308 : BitVec 32 := 1#32
  let v694 : BitVec 32 := Scalar.addi v693 c1_i32_308
  let c256_i32_309 : BitVec 32 := 256#32
  let v695 : BitVec 32 := Scalar.muli v694 c256_i32_309
  v695
def k0_mult13 (i : grid0.Coords) : BitVec 32 :=
  let c8_i32_320 : BitVec 32 := 8#32
  let arg1 : BitVec 32 := BitVec.ofNat 32 (i 1).val
  let v710 : BitVec 32 := Scalar.muli c8_i32_320 arg1
  let c1_i32_321 : BitVec 32 := 1#32
  let v711 : BitVec 32 := Scalar.addi v710 c1_i32_321
  let c1_i32_322 : BitVec 32 := 1#32
  let v712 : BitVec 32 := Scalar.addi v711 c1_i32_322
  let c256_i32_323 : BitVec 32 := 256#32
  let v713 : BitVec 32 := Scalar.muli v712 c256_i32_323
  v713
def k0_mult14 (i : grid0.Coords) : BitVec 32 :=
  let c8_i32_362 : BitVec 32 := 8#32
  let arg1 : BitVec 32 := BitVec.ofNat 32 (i 1).val
  let v808 : BitVec 32 := Scalar.muli c8_i32_362 arg1
  let c0_i32 : BitVec 32 := 0#32
  let v809 : BitVec 32 := Scalar.addi v808 c0_i32
  let c256_i32_363 : BitVec 32 := 256#32
  let v810 : BitVec 32 := Scalar.muli v809 c256_i32_363
  v810
def k0_mult15 (i : grid0.Coords) : BitVec 32 :=
  let c8_i32_374 : BitVec 32 := 8#32
  let arg1 : BitVec 32 := BitVec.ofNat 32 (i 1).val
  let v823 : BitVec 32 := Scalar.muli c8_i32_374 arg1
  let c0_i32_375 : BitVec 32 := 0#32
  let v824 : BitVec 32 := Scalar.addi v823 c0_i32_375
  let c1_i32_376 : BitVec 32 := 1#32
  let v825 : BitVec 32 := Scalar.addi v824 c1_i32_376
  let c256_i32_377 : BitVec 32 := 256#32
  let v826 : BitVec 32 := Scalar.muli v825 c256_i32_377
  v826
def k0_mult16 (i : grid0.Coords) : BitVec 32 :=
  let c8_i32_414 : BitVec 32 := 8#32
  let arg1 : BitVec 32 := BitVec.ofNat 32 (i 1).val
  let v914 : BitVec 32 := Scalar.muli c8_i32_414 arg1
  let c1_i32_415 : BitVec 32 := 1#32
  let v915 : BitVec 32 := Scalar.subi v914 c1_i32_415
  let c0_i32_416 : BitVec 32 := 0#32
  let v916 : BitVec 32 := Scalar.maxsi v915 c0_i32_416
  let c256_i32_417 : BitVec 32 := 256#32
  let v917 : BitVec 32 := Scalar.muli v916 c256_i32_417
  v917
def k0_off3 (i : grid0.Coords) : Fin 3 → Nat :=
  let c0_418 : Index := 0#32
  let c8_i32_414 : BitVec 32 := 8#32
  let arg1 : BitVec 32 := BitVec.ofNat 32 (i 1).val
  let v914 : BitVec 32 := Scalar.muli c8_i32_414 arg1
  let c1_i32_415 : BitVec 32 := 1#32
  let v915 : BitVec 32 := Scalar.subi v914 c1_i32_415
  let c0_i32_416 : BitVec 32 := 0#32
  let v916 : BitVec 32 := Scalar.maxsi v915 c0_i32_416
  let c256_i32_417 : BitVec 32 := 256#32
  let v917 : BitVec 32 := Scalar.muli v916 c256_i32_417
  let v918 : BitVec 32 := v917
  let v919 : Index := Scalar.indexCast v918
  let c0_419 : Index := 0#32
  ![0, v919.toNat, 0]
@[reducible] def k0_t1_loop (i : grid0.Coords) : Scf.Loop 32 :=
  let c0_i32_429 : BitVec 32 := 0#32
  let c8_i32_428 : BitVec 32 := 8#32
  let arg1 : BitVec 32 := BitVec.ofNat 32 (i 1).val
  let v930 : BitVec 32 := Scalar.muli c8_i32_428 arg1
  let v931 : BitVec 32 := Scalar.subi v930 c0_i32_429
  let c1_i32_430 : BitVec 32 := 1#32
  let v933 : BitVec 32 := Scalar.divsi v931 c1_i32_430
  let v934 : BitVec 32 := Scalar.muli v933 c1_i32_430
  let v935 : BitVec 32 := Scalar.addi c0_i32_429 v934
  let c1_i32_431 : BitVec 32 := 1#32
  ⟨c0_i32_429, v935, c1_i32_431⟩
def k0_mult17 (i : grid0.Coords) (k0_t1 : Fin (k0_t1_loop i).trips) : BitVec 32 :=
  let c8_i32_444 : BitVec 32 := 8#32
  let arg1 : BitVec 32 := BitVec.ofNat 32 (i 1).val
  let v957 : BitVec 32 := Scalar.muli c8_i32_444 arg1
  let c1_i32_445 : BitVec 32 := 1#32
  let v958 : BitVec 32 := Scalar.subi v957 c1_i32_445
  let c0_i32_429 : BitVec 32 := 0#32
  let c1_i32_431 : BitVec 32 := 1#32
  let arg8 : BitVec 32 := Scf.iv c0_i32_429 c1_i32_431 k0_t1
  let v959 : BitVec 32 := Scalar.subi v958 arg8
  let c1_i32_446 : BitVec 32 := 1#32
  let v960 : BitVec 32 := Scalar.addi v959 c1_i32_446
  let c256_i32_447 : BitVec 32 := 256#32
  let v961 : BitVec 32 := Scalar.muli v960 c256_i32_447
  v961
def k0_off4 (i : grid0.Coords) (k0_t1 : Fin (k0_t1_loop i).trips) : Fin 3 → Nat :=
  let c0_448 : Index := 0#32
  let c8_i32_444 : BitVec 32 := 8#32
  let arg1 : BitVec 32 := BitVec.ofNat 32 (i 1).val
  let v957 : BitVec 32 := Scalar.muli c8_i32_444 arg1
  let c1_i32_445 : BitVec 32 := 1#32
  let v958 : BitVec 32 := Scalar.subi v957 c1_i32_445
  let c0_i32_429 : BitVec 32 := 0#32
  let c1_i32_431 : BitVec 32 := 1#32
  let arg8 : BitVec 32 := Scf.iv c0_i32_429 c1_i32_431 k0_t1
  let v959 : BitVec 32 := Scalar.subi v958 arg8
  let c1_i32_446 : BitVec 32 := 1#32
  let v960 : BitVec 32 := Scalar.addi v959 c1_i32_446
  let c256_i32_447 : BitVec 32 := 256#32
  let v961 : BitVec 32 := Scalar.muli v960 c256_i32_447
  let v962 : BitVec 32 := v961
  let v963 : Index := Scalar.indexCast v962
  let c0_449 : Index := 0#32
  ![0, v963.toNat, 0]
def k0_mult18 (i : grid0.Coords) (k0_t1 : Fin (k0_t1_loop i).trips) : BitVec 32 :=
  let c8_i32_444 : BitVec 32 := 8#32
  let arg1 : BitVec 32 := BitVec.ofNat 32 (i 1).val
  let v957 : BitVec 32 := Scalar.muli c8_i32_444 arg1
  let c1_i32_445 : BitVec 32 := 1#32
  let v958 : BitVec 32 := Scalar.subi v957 c1_i32_445
  let c0_i32_429 : BitVec 32 := 0#32
  let c1_i32_431 : BitVec 32 := 1#32
  let arg8 : BitVec 32 := Scf.iv c0_i32_429 c1_i32_431 k0_t1
  let v959 : BitVec 32 := Scalar.subi v958 arg8
  let c1_i32_479 : BitVec 32 := 1#32
  let v1038 : BitVec 32 := Scalar.subi v959 c1_i32_479
  let c0_i32_480 : BitVec 32 := 0#32
  let v1039 : BitVec 32 := Scalar.maxsi v1038 c0_i32_480
  let c256_i32_481 : BitVec 32 := 256#32
  let v1040 : BitVec 32 := Scalar.muli v1039 c256_i32_481
  v1040
def k0_off5 (i : grid0.Coords) (k0_t1 : Fin (k0_t1_loop i).trips) : Fin 3 → Nat :=
  let c0_482 : Index := 0#32
  let c8_i32_444 : BitVec 32 := 8#32
  let arg1 : BitVec 32 := BitVec.ofNat 32 (i 1).val
  let v957 : BitVec 32 := Scalar.muli c8_i32_444 arg1
  let c1_i32_445 : BitVec 32 := 1#32
  let v958 : BitVec 32 := Scalar.subi v957 c1_i32_445
  let c0_i32_429 : BitVec 32 := 0#32
  let c1_i32_431 : BitVec 32 := 1#32
  let arg8 : BitVec 32 := Scf.iv c0_i32_429 c1_i32_431 k0_t1
  let v959 : BitVec 32 := Scalar.subi v958 arg8
  let c1_i32_479 : BitVec 32 := 1#32
  let v1038 : BitVec 32 := Scalar.subi v959 c1_i32_479
  let c0_i32_480 : BitVec 32 := 0#32
  let v1039 : BitVec 32 := Scalar.maxsi v1038 c0_i32_480
  let c256_i32_481 : BitVec 32 := 256#32
  let v1040 : BitVec 32 := Scalar.muli v1039 c256_i32_481
  let v1041 : BitVec 32 := v1040
  let v1042 : Index := Scalar.indexCast v1041
  let c0_483 : Index := 0#32
  ![0, v1042.toNat, 0]
@[reducible] def k0_t2_loop (i : grid0.Coords) : Scf.Loop 32 :=
  let c0_i32_429 : BitVec 32 := 0#32
  let c8_i32_428 : BitVec 32 := 8#32
  let arg1 : BitVec 32 := BitVec.ofNat 32 (i 1).val
  let v930 : BitVec 32 := Scalar.muli c8_i32_428 arg1
  let v931 : BitVec 32 := Scalar.subi v930 c0_i32_429
  let c1_i32_430 : BitVec 32 := 1#32
  let v933 : BitVec 32 := Scalar.divsi v931 c1_i32_430
  let v934 : BitVec 32 := Scalar.muli v933 c1_i32_430
  let v935 : BitVec 32 := Scalar.addi c0_i32_429 v934
  let v932 : BitVec 32 := Scalar.addi c0_i32_429 v931
  let c1_i32_432 : BitVec 32 := 1#32
  ⟨v935, v932, c1_i32_432⟩
def k0_mult19 (i : grid0.Coords) (k0_t2 : Fin (k0_t2_loop i).trips) : BitVec 32 :=
  let c8_i32_444 : BitVec 32 := 8#32
  let arg1 : BitVec 32 := BitVec.ofNat 32 (i 1).val
  let v957 : BitVec 32 := Scalar.muli c8_i32_444 arg1
  let c1_i32_445 : BitVec 32 := 1#32
  let v958 : BitVec 32 := Scalar.subi v957 c1_i32_445
  let c0_i32_429 : BitVec 32 := 0#32
  let c8_i32_428 : BitVec 32 := 8#32
  let v930 : BitVec 32 := Scalar.muli c8_i32_428 arg1
  let v931 : BitVec 32 := Scalar.subi v930 c0_i32_429
  let c1_i32_430 : BitVec 32 := 1#32
  let v933 : BitVec 32 := Scalar.divsi v931 c1_i32_430
  let v934 : BitVec 32 := Scalar.muli v933 c1_i32_430
  let v935 : BitVec 32 := Scalar.addi c0_i32_429 v934
  let c1_i32_432 : BitVec 32 := 1#32
  let arg8 : BitVec 32 := Scf.iv v935 c1_i32_432 k0_t2
  let v959 : BitVec 32 := Scalar.subi v958 arg8
  let c1_i32_446 : BitVec 32 := 1#32
  let v960 : BitVec 32 := Scalar.addi v959 c1_i32_446
  let c256_i32_447 : BitVec 32 := 256#32
  let v961 : BitVec 32 := Scalar.muli v960 c256_i32_447
  v961
def k0_off6 (i : grid0.Coords) (k0_t2 : Fin (k0_t2_loop i).trips) : Fin 3 → Nat :=
  let c0_448 : Index := 0#32
  let c8_i32_444 : BitVec 32 := 8#32
  let arg1 : BitVec 32 := BitVec.ofNat 32 (i 1).val
  let v957 : BitVec 32 := Scalar.muli c8_i32_444 arg1
  let c1_i32_445 : BitVec 32 := 1#32
  let v958 : BitVec 32 := Scalar.subi v957 c1_i32_445
  let c0_i32_429 : BitVec 32 := 0#32
  let c8_i32_428 : BitVec 32 := 8#32
  let v930 : BitVec 32 := Scalar.muli c8_i32_428 arg1
  let v931 : BitVec 32 := Scalar.subi v930 c0_i32_429
  let c1_i32_430 : BitVec 32 := 1#32
  let v933 : BitVec 32 := Scalar.divsi v931 c1_i32_430
  let v934 : BitVec 32 := Scalar.muli v933 c1_i32_430
  let v935 : BitVec 32 := Scalar.addi c0_i32_429 v934
  let c1_i32_432 : BitVec 32 := 1#32
  let arg8 : BitVec 32 := Scf.iv v935 c1_i32_432 k0_t2
  let v959 : BitVec 32 := Scalar.subi v958 arg8
  let c1_i32_446 : BitVec 32 := 1#32
  let v960 : BitVec 32 := Scalar.addi v959 c1_i32_446
  let c256_i32_447 : BitVec 32 := 256#32
  let v961 : BitVec 32 := Scalar.muli v960 c256_i32_447
  let v962 : BitVec 32 := v961
  let v963 : Index := Scalar.indexCast v962
  let c0_449 : Index := 0#32
  ![0, v963.toNat, 0]
def k0_mult20 (i : grid0.Coords) (k0_t2 : Fin (k0_t2_loop i).trips) : BitVec 32 :=
  let c8_i32_444 : BitVec 32 := 8#32
  let arg1 : BitVec 32 := BitVec.ofNat 32 (i 1).val
  let v957 : BitVec 32 := Scalar.muli c8_i32_444 arg1
  let c1_i32_445 : BitVec 32 := 1#32
  let v958 : BitVec 32 := Scalar.subi v957 c1_i32_445
  let c0_i32_429 : BitVec 32 := 0#32
  let c8_i32_428 : BitVec 32 := 8#32
  let v930 : BitVec 32 := Scalar.muli c8_i32_428 arg1
  let v931 : BitVec 32 := Scalar.subi v930 c0_i32_429
  let c1_i32_430 : BitVec 32 := 1#32
  let v933 : BitVec 32 := Scalar.divsi v931 c1_i32_430
  let v934 : BitVec 32 := Scalar.muli v933 c1_i32_430
  let v935 : BitVec 32 := Scalar.addi c0_i32_429 v934
  let c1_i32_432 : BitVec 32 := 1#32
  let arg8 : BitVec 32 := Scf.iv v935 c1_i32_432 k0_t2
  let v959 : BitVec 32 := Scalar.subi v958 arg8
  let c1_i32_479 : BitVec 32 := 1#32
  let v1038 : BitVec 32 := Scalar.subi v959 c1_i32_479
  let c0_i32_480 : BitVec 32 := 0#32
  let v1039 : BitVec 32 := Scalar.maxsi v1038 c0_i32_480
  let c256_i32_481 : BitVec 32 := 256#32
  let v1040 : BitVec 32 := Scalar.muli v1039 c256_i32_481
  v1040
def k0_off7 (i : grid0.Coords) (k0_t2 : Fin (k0_t2_loop i).trips) : Fin 3 → Nat :=
  let c0_482 : Index := 0#32
  let c8_i32_444 : BitVec 32 := 8#32
  let arg1 : BitVec 32 := BitVec.ofNat 32 (i 1).val
  let v957 : BitVec 32 := Scalar.muli c8_i32_444 arg1
  let c1_i32_445 : BitVec 32 := 1#32
  let v958 : BitVec 32 := Scalar.subi v957 c1_i32_445
  let c0_i32_429 : BitVec 32 := 0#32
  let c8_i32_428 : BitVec 32 := 8#32
  let v930 : BitVec 32 := Scalar.muli c8_i32_428 arg1
  let v931 : BitVec 32 := Scalar.subi v930 c0_i32_429
  let c1_i32_430 : BitVec 32 := 1#32
  let v933 : BitVec 32 := Scalar.divsi v931 c1_i32_430
  let v934 : BitVec 32 := Scalar.muli v933 c1_i32_430
  let v935 : BitVec 32 := Scalar.addi c0_i32_429 v934
  let c1_i32_432 : BitVec 32 := 1#32
  let arg8 : BitVec 32 := Scf.iv v935 c1_i32_432 k0_t2
  let v959 : BitVec 32 := Scalar.subi v958 arg8
  let c1_i32_479 : BitVec 32 := 1#32
  let v1038 : BitVec 32 := Scalar.subi v959 c1_i32_479
  let c0_i32_480 : BitVec 32 := 0#32
  let v1039 : BitVec 32 := Scalar.maxsi v1038 c0_i32_480
  let c256_i32_481 : BitVec 32 := 256#32
  let v1040 : BitVec 32 := Scalar.muli v1039 c256_i32_481
  let v1041 : BitVec 32 := v1040
  let v1042 : Index := Scalar.indexCast v1041
  let c0_483 : Index := 0#32
  ![0, v1042.toNat, 0]
def k0_mult21 : BitVec 32 :=
  let c0_i32_433 : BitVec 32 := 0#32
  c0_i32_433
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel3Ideal.lean ====
variable {F : FTy → Type} [FloatOps F] [Named F]
def κ : String → Option EReal := fun
  | "inv_ln2" => some (((Real.log 2)⁻¹ : ℝ) : EReal)
  | "scale_log2e" => some ((8⁻¹ * (Real.log 2)⁻¹ : ℝ) : EReal)
  | _ => none
-- ==== Reference3Ideal.lean ====
abbrev S8192x3072 : Shape := ⟨2, ![8192, 3072]⟩
abbrev S1x8192x3x16x64 : Shape := ⟨5, ![1, 8192, 3, 16, 64]⟩
abbrev S3x1x16x8192x64 : Shape := ⟨5, ![3, 1, 16, 8192, 64]⟩
abbrev S1x1x16x8192x64 : Shape := ⟨5, ![1, 1, 16, 8192, 64]⟩
abbrev S1x16x8192x64 : Shape := ⟨4, ![1, 16, 8192, 64]⟩
abbrev S1x16x8192x8192 : Shape := ⟨4, ![1, 16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x16x64 : Shape := ⟨4, ![1, 8192, 16, 64]⟩
abbrev S8192x1024 : Shape := ⟨2, ![8192, 1024]⟩
abbrev S8192x8x128 : Shape := ⟨3, ![8192, 8, 128]⟩
abbrev S8x8192x128 : Shape := ⟨3, ![8, 8192, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S1x8192x3x16x64, .f32⟩
  | .hbm, ⟨2, _⟩ => ⟨S3x1x16x8192x64, .f32⟩
  | .hbm, ⟨3, _⟩ => ⟨S1x1x16x8192x64, .f32⟩
  | .hbm, ⟨4, _⟩ => ⟨S1x16x8192x64, .f32⟩
  | .hbm, ⟨5, _⟩ => ⟨S1x1x16x8192x64, .f32⟩
  | .hbm, ⟨6, _⟩ => ⟨S1x16x8192x64, .f32⟩
  | .hbm, ⟨7, _⟩ => ⟨S1x1x16x8192x64, .f32⟩
  | .hbm, ⟨8, _⟩ => ⟨S1x16x8192x64, .f32⟩
  | .hbm, ⟨9, _⟩ => ⟨S1x16x8192x8192, .f32⟩
  | .hbm, ⟨10, _⟩ => ⟨S_, .f32⟩
  | .hbm, ⟨11, _⟩ => ⟨S1x16x8192x8192, .f32⟩
  | .hbm, ⟨12, _⟩ => ⟨S1x16x8192x8192, .f32⟩
  | .hbm, ⟨13, _⟩ => ⟨S8192, .i32⟩
  | .hbm, ⟨14, _⟩ => ⟨S1x8192, .i32⟩
  | .hbm, ⟨15, _⟩ => ⟨S8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S1x16x8192x8192, .f32⟩
  | .hbm, ⟨21, _⟩ => ⟨S_, .f32⟩
  | .hbm, ⟨22, _⟩ => ⟨S1x16x8192x8192, .f32⟩
  | .hbm, ⟨23, _⟩ => ⟨S1x16x8192x8192, .f32⟩
  | .hbm, ⟨24, _⟩ => ⟨S1x16x8192x8192, .f32⟩
  | .hbm, ⟨25, _⟩ => ⟨S1x16x8192x8192, .f32⟩
  | .hbm, ⟨26, _⟩ => ⟨S1x16x8192x8192, .i1⟩
  | .hbm, ⟨27, _⟩ => ⟨S1x16x8192x8192, .f32⟩
  | .hbm, ⟨28, _⟩ => ⟨S1x16x8192x8192, .f32⟩
  | .hbm, ⟨29, _⟩ => ⟨S1x16x8192x8192, .f32⟩
  | .hbm, ⟨30, _⟩ => ⟨S1x16x8192x8192, .f32⟩
  | .hbm, ⟨31, _⟩ => ⟨S1x16x8192x8192, .f32⟩
  | .hbm, ⟨32, _⟩ => ⟨S1x16x8192x8192, .f32⟩
  | .hbm, ⟨33, _⟩ => ⟨S1x16x8192x8192, .f32⟩
  | .hbm, ⟨34, _⟩ => ⟨S1x16x8192x8192, .f32⟩
  | .hbm, ⟨35, _⟩ => ⟨S1x16x8192x8192, .f32⟩
  | .hbm, ⟨36, _⟩ => ⟨S1x16x8192x8192, .f32⟩
  | .hbm, ⟨37, _⟩ => ⟨S1x16x8192x8192, .f32⟩
  | .hbm, ⟨38, _⟩ => ⟨S_, .f32⟩
  | .hbm, ⟨39, _⟩ => ⟨S1x16x8192x8192, .f32⟩
  | .hbm, ⟨40, _⟩ => ⟨S1x16x8192x8192, .f32⟩
  | .hbm, ⟨41, _⟩ => ⟨S1x16x8192x8192, .f32⟩
  | .hbm, ⟨42, _⟩ => ⟨S1x16x8192x8192, .f32⟩
  | .hbm, ⟨43, _⟩ => ⟨S1x16x8192x8192, .i1⟩
  | .hbm, ⟨44, _⟩ => ⟨S1x16x8192x8192, .f32⟩
  | .hbm, ⟨45, _⟩ => ⟨S1x16x8192x8192, .f32⟩
  | .hbm, ⟨46, _⟩ => ⟨S1x16x8192x8192, .f32⟩
  | .hbm, ⟨47, _⟩ => ⟨S1x16x8192x8192, .f32⟩
  | .hbm, ⟨48, _⟩ => ⟨S1x16x8192x8192, .f32⟩
  | .hbm, ⟨49, _⟩ => ⟨S1x16x8192x8192, .f32⟩
  | .hbm, ⟨50, _⟩ => ⟨S1x16x8192x8192, .f32⟩
  | .hbm, ⟨51, _⟩ => ⟨S1x16x8192x8192, .f32⟩
  | .hbm, ⟨52, _⟩ => ⟨S1x16x8192x8192, .f32⟩
  | .hbm, ⟨53, _⟩ => ⟨S_, .f32⟩
  | .hbm, ⟨54, _⟩ => ⟨S_, .f32⟩
  | .hbm, ⟨55, _⟩ => ⟨S1x16x8192x8192, .i1⟩
  | .hbm, ⟨56, _⟩ => ⟨S1x16x8192x8192, .f32⟩
  | .hbm, ⟨57, _⟩ => ⟨S1x16x8192x8192, .f32⟩
  | .hbm, ⟨58, _⟩ => ⟨S_, .f32⟩
  | .hbm, ⟨59, _⟩ => ⟨S_, .f32⟩
  | .hbm, ⟨60, _⟩ => ⟨S1x16x8192x8192, .f32⟩
  | .hbm, ⟨61, _⟩ => ⟨S1x16x8192x8192, .f32⟩
  | .hbm, ⟨62, _⟩ => ⟨S1x16x8192x8192, .f32⟩
  | .hbm, ⟨63, _⟩ => ⟨S1x16x8192x8192, .f32⟩
  | .hbm, ⟨64, _⟩ => ⟨S_, .f32⟩
  | .hbm, ⟨65, _⟩ => ⟨S_, .f32⟩
  | .hbm, ⟨66, _⟩ => ⟨S1x16x8192x8192, .i1⟩
  | .hbm, ⟨67, _⟩ => ⟨S1x16x8192x8192, .f32⟩
  | .hbm, ⟨68, _⟩ => ⟨S1x16x8192x8192, .f32⟩
  | .hbm, ⟨69, _⟩ => ⟨S1x16x8192x64, .f32⟩
  | .hbm, ⟨70, _⟩ => ⟨S1x8192x16x64, .f32⟩
  | .hbm, ⟨71, _⟩ => ⟨S8192x1024, .f32⟩
  | .hbm, ⟨72, _⟩ => ⟨S8192x8x128, .f32⟩
  | .hbm, ⟨73, _⟩ => ⟨S8x8192x128, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v20 : Ref sig .tc := ⟨.hbm, 52, rfl⟩
abbrev main_cst_0 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v21 : Ref sig .tc := ⟨.hbm, 57, rfl⟩
abbrev main_call3_cst : Ref sig .tc := ⟨.hbm, 58, rfl⟩
abbrev main_call3_v0 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S2816x1024 : Shape := ⟨2, ![2816, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S1024x2816, .bf16⟩
  | .hbm, ⟨8, _⟩ => ⟨S1024x2816, .bf16⟩
  | .hbm, ⟨9, _⟩ => ⟨S8192x2816, .bf16⟩
  | .hbm, ⟨10, _⟩ => ⟨S8192x2816, .bf16⟩
  | .hbm, ⟨11, _⟩ => ⟨S2816x1024, .bf16⟩
  | .hbm, ⟨12, _⟩ => ⟨S2816x1024, .bf16⟩
  | .hbm, ⟨13, _⟩ => ⟨S1x1024, .f32⟩
  | .hbm, ⟨14, _⟩ => ⟨S8192x1024, .f32⟩
  | .hbm, ⟨15, _⟩ => ⟨S8192x1024, .bf16⟩
  | .hbm, ⟨16, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨3, ![32, 1, 1], ![false, false, false]⟩

def k0_cond3 (i : grid0.Coords) : BitVec 1 :=
  let arg2 : BitVec 32 := BitVec.ofNat 32 (i 2).val
  let c0_i32_16 : BitVec 32 := 0#32
  let v24 : BitVec 1 := Scalar.cmpi .eq arg2 c0_i32_16
  let v25 : BitVec 32 := Scalar.extui v24
  let c0_i32_17 : BitVec 32 := 0#32
  let v26 : BitVec 1 := Scalar.cmpi .ne v25 c0_i32_17
  v26

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]
-- ==== Reference4Ideal.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S8192x2048, .f32⟩
  | .hbm, ⟨5, _⟩ => ⟨S1024x2048, .bf16⟩
  | .hbm, ⟨6, _⟩ => ⟨S8192x2048, .bf16⟩
  | .hbm, ⟨7, _⟩ => ⟨S1024x1024, .bf16⟩
  | .hbm, ⟨8, _⟩ => ⟨S1024x1024, .bf16⟩
  | .hbm, ⟨9, _⟩ => ⟨S8192x1024, .bf16⟩
  | .hbm, ⟨10, _⟩ => ⟨S8192x1024, .bf16⟩
  | .hbm, ⟨11, _⟩ => ⟨S1024x1024, .bf16⟩
  | .hbm, ⟨12, _⟩ => ⟨S1024x1024, .bf16⟩
  | .hbm, ⟨13, _⟩ => ⟨S1x1024, .f32⟩
  | .hbm, ⟨14, _⟩ => ⟨S8192x1024, .f32⟩
  | .hbm, ⟨15, _⟩ => ⟨S8192x1024, .bf16⟩
  | .hbm, ⟨16, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_16 : BitVec 32 := 0#32
  let v24 : BitVec 1 := Scalar.cmpi .eq arg2 c0_i32_16
  let v25 : BitVec 32 := Scalar.extui v24
  let c0_i32_17 : BitVec 32 := 0#32
  let v26 : BitVec 1 := Scalar.cmpi .ne v25 c0_i32_17
  v26

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]
-- ==== Reference5Ideal.lean ====
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S8192x2048, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S3072x1024 : Shape := ⟨2, ![3072, 1024]⟩
abbrev S8192x8x128 : Shape := ⟨3, ![8192, 8, 128]⟩
abbrev S8x8192x128 : Shape := ⟨3, ![8, 8192, 128]⟩
abbrev S1024x1024 : Shape := ⟨2, ![1024, 1024]⟩
abbrev S1x1024 : Shape := ⟨2, ![1, 1024]⟩
abbrev S8x512x128 : Shape := ⟨3, ![8, 512, 128]⟩
abbrev S512x1024 : Shape := ⟨2, ![512, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 26
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S8192x3072, .f32⟩
  | .hbm, ⟨5, _⟩ => ⟨S1024x3072, .bf16⟩
  | .hbm, ⟨6, _⟩ => ⟨S3072x1024, .bf16⟩
  | .hbm, ⟨7, _⟩ => ⟨S8192x1024, .f32⟩
  | .hbm, ⟨8, _⟩ => ⟨S8192x8x128, .f32⟩
  | .hbm, ⟨9, _⟩ => ⟨S8x8192x128, .f32⟩
  | .hbm, ⟨10, _⟩ => ⟨S8x8192x128, .bf16⟩
  | .hbm, ⟨11, _⟩ => ⟨S8192x1024, .f32⟩
  | .hbm, ⟨12, _⟩ => ⟨S8192x8x128, .f32⟩
  | .hbm, ⟨13, _⟩ => ⟨S8x8192x128, .f32⟩
  | .hbm, ⟨14, _⟩ => ⟨S8x8192x128, .bf16⟩
  | .hbm, ⟨15, _⟩ => ⟨S8192x1024, .f32⟩
  | .hbm, ⟨16, _⟩ => ⟨S8192x8x128, .f32⟩
  | .hbm, ⟨17, _⟩ => ⟨S8x8192x128, .f32⟩
  | .hbm, ⟨18, _⟩ => ⟨S8x8192x128, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1x1024, .f32⟩
  | .hbm, ⟨23, _⟩ => ⟨S8192x1024, .f32⟩
  | .hbm, ⟨24, _⟩ => ⟨S8192x1024, .bf16⟩
  | .hbm, ⟨25, _⟩ => ⟨S1x1024, .f32⟩
  | .local _ .vmem, ⟨0, _⟩ => ⟨S8x512x128, .bf16⟩
  | .local _ .vmem, ⟨1, _⟩ => ⟨S8x512x128, .bf16⟩
  | .local _ .vmem, ⟨2, _⟩ => ⟨S1024x1024, .bf16⟩
  | .local _ .vmem, ⟨3, _⟩ => ⟨S8x512x128, .bf16⟩
  | .local _ .vmem, ⟨4, _⟩ => ⟨S8x512x128, .bf16⟩
  | .local _ .vmem, ⟨5, _⟩ => ⟨S1024x1024, .bf16⟩
  | .local _ .vmem, ⟨6, _⟩ => ⟨S8x512x128, .bf16⟩
  | .local _ .vmem, ⟨7, _⟩ => ⟨S8x512x128, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev main_v18_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_80 : BitVec 32 := 0#32
  let v75 : BitVec 1 := Scalar.cmpi .eq arg2 c0_i32_80
  let v76 : BitVec 32 := Scalar.extui v75
  let c0_i32_81 : BitVec 32 := 0#32
  let v77 : BitVec 1 := Scalar.cmpi .ne v76 c0_i32_81
  v77

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true, false]
-- ==== Reference6Ideal.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S8192x3072, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3072, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel7.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S8192x1024, .f32⟩
  | .hbm, ⟨5, _⟩ => ⟨S8192x2816, .bf16⟩
  | .hbm, ⟨6, _⟩ => ⟨S2816x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_11 : BitVec 32 := 0#32
  let v18 : BitVec 1 := Scalar.cmpi .eq arg2 c0_i32_11
  let v19 : BitVec 32 := Scalar.extui v18
  let c0_i32_12 : BitVec 32 := 0#32
  let v20 : BitVec 1 := Scalar.cmpi .ne v19 c0_i32_12
  v20

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference7Ideal.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .bf16⟩
  | .hbm, ⟨76, _⟩ => ⟨S1x1024, .f32⟩
  | .hbm, ⟨77, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Kernel8.lean ====
abbrev S8192x1024 : Shape := ⟨2, ![8192, 1024]⟩
abbrev S1024x2816 : Shape := ⟨2, ![1024, 2816]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x1024, .bf16⟩
  | .hbm, ⟨4, _⟩ => ⟨S1024x2816, .bf16⟩
  | .hbm, ⟨5, _⟩ => ⟨S1024x2816, .bf16⟩
  | .hbm, ⟨6, _⟩ => ⟨S8192x2816, .f32⟩
  | .hbm, ⟨7, _⟩ => ⟨S8192x2816, .f32⟩
  | .hbm, ⟨8, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x2048 : Shape := ⟨2, ![1024, 2048]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1024x1024, .bf16⟩
  | .hbm, ⟨5, _⟩ => ⟨S1024x1024, .bf16⟩
  | .hbm, ⟨6, _⟩ => ⟨S1x1024, .f32⟩
  | .hbm, ⟨7, _⟩ => ⟨S8192x1024, .bf16⟩
  | .hbm, ⟨8, _⟩ => ⟨S8192x1024, .f32⟩
  | .hbm, ⟨9, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S8192x1024 : Shape := ⟨2, ![8192, 1024]⟩
abbrev S1024 : Shape := ⟨1, ![1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2048, .f32⟩
  | .hbm, ⟨20, _⟩ => ⟨S8192x1024, .bf16⟩
  | .hbm, ⟨21, _⟩ => ⟨S8192x1024, .f32⟩
  | .hbm, ⟨22, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel10.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S8192x2816, .bf16⟩
  | .hbm, ⟨5, _⟩ => ⟨S2816x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference10Ideal.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S1024 : Shape := ⟨1, ![1024]⟩
abbrev S8192x8x128 : Shape := ⟨3, ![8192, 8, 128]⟩
abbrev S8x8192x128 : Shape := ⟨3, ![8, 8192, 128]⟩
abbrev S1x1024 : Shape := ⟨2, ![1, 1024]⟩
abbrev S8x512x128 : Shape := ⟨3, ![8, 512, 128]⟩
abbrev S512x1024 : Shape := ⟨2, ![512, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S8192x8x128, .f32⟩
  | .hbm, ⟨5, _⟩ => ⟨S8x8192x128, .f32⟩
  | .hbm, ⟨6, _⟩ => ⟨S8x8192x128, .bf16⟩
  | .hbm, ⟨7, _⟩ => ⟨S1024x1024, .bf16⟩
  | .hbm, ⟨8, _⟩ => ⟨S1x1024, .f32⟩
  | .hbm, ⟨9, _⟩ => ⟨S8192x1024, .f32⟩
  | .hbm, ⟨10, _⟩ => ⟨S8192x1024, .bf16⟩
  | .local _ .vmem, ⟨0, _⟩ => ⟨S8x512x128, .bf16⟩
  | .local _ .vmem, ⟨1, _⟩ => ⟨S8x512x128, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_23 : BitVec 32 := 0#32
  let v28 : BitVec 1 := Scalar.cmpi .eq arg2 c0_i32_23
  let v29 : BitVec 32 := Scalar.extui v28
  let c0_i32_24 : BitVec 32 := 0#32
  let v30 : BitVec 1 := Scalar.cmpi .ne v29 c0_i32_24
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel12.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S8192x2816, .bf16⟩
  | .hbm, ⟨4, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S2x1024x704 : Shape := ⟨3, ![2, 1024, 704]⟩
abbrev S1x512x704 : Shape := ⟨3, ![1, 512, 704]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .local _ .vmem, ⟨0, _⟩ => ⟨S1x512x704, .f32⟩
  | .local _ .vmem, ⟨1, _⟩ => ⟨S1x512x704, .f32⟩
  | .local _ .vmem, ⟨2, _⟩ => ⟨S1x512x704, .f32⟩
  | .local _ .vmem, ⟨3, _⟩ => ⟨S1x512x704, .f32⟩
  | .local _ .vmem, ⟨4, _⟩ => ⟨S1x512x704, .f32⟩
  | .local _ .vmem, ⟨5, _⟩ => ⟨S1x512x704, .f32⟩
  | .local _ .vmem, ⟨6, _⟩ => ⟨S1x512x704, .f32⟩
  | .local _ .vmem, ⟨7, _⟩ => ⟨S1x512x704, .f32⟩
  | .local _ .vmem, ⟨8, _⟩ => ⟨S1x512x704, .f32⟩
  | .local _ .vmem, ⟨9, _⟩ => ⟨S1x512x704, .f32⟩
  | .local _ .vmem, ⟨10, _⟩ => ⟨S1x512x704, .f32⟩
  | .local _ .vmem, ⟨11, _⟩ => ⟨S1x512x704, .f32⟩
  | .local _ .vmem, ⟨12, _⟩ => ⟨S1x512x704, .f32⟩
  | .local _ .vmem, ⟨13, _⟩ => ⟨S1x512x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference13Ideal.lean ====
abbrev S2x1024x704 : Shape := ⟨3, ![2, 1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S4x3136x1024 : Shape := ⟨3, ![4, 3136, 1024]⟩
abbrev S4x1568x1024 : Shape := ⟨3, ![4, 1568, 1024]⟩
abbrev S_ : Shape := ⟨0, ![]⟩
abbrev S1 : Shape := ⟨1, ![1]⟩
abbrev S1x784x1024 : Shape := ⟨3, ![1, 784, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4x3136x1024, .f32⟩
  | .hbm, ⟨1, _⟩ => ⟨S4x1568x1024, .f32⟩
  | .hbm, ⟨2, _⟩ => ⟨S_, .i32⟩
  | .hbm, ⟨3, _⟩ => ⟨S4x1568x1024, .bf16⟩
  | .local _ .vmem, ⟨0, _⟩ => ⟨S1x784x1024, .f32⟩
  | .local _ .vmem, ⟨1, _⟩ => ⟨S1x784x1024, .f32⟩
  | .local _ .vmem, ⟨2, _⟩ => ⟨S1x784x1024, .f32⟩
  | .local _ .vmem, ⟨3, _⟩ => ⟨S1x784x1024, .f32⟩
  | .local _ .vmem, ⟨4, _⟩ => ⟨S1x784x1024, .bf16⟩
  | .local _ .vmem, ⟨5, _⟩ => ⟨S1x784x1024, .bf16⟩
  | .local _ .smem, ⟨0, _⟩ => ⟨S1, .i32⟩
  | _, _ => ⟨S4x3136x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x784x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x784x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x784x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4x3136x1024 : Shape := ⟨3, ![4, 3136, 1024]⟩
abbrev S4x1568x1024 : Shape := ⟨3, ![4, 1568, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x3136x1024, .f32⟩
  | .hbm, ⟨1, _⟩ => ⟨S4x1568x1024, .f32⟩
  | .hbm, ⟨2, _⟩ => ⟨S4x1568x1024, .f32⟩
  | .hbm, ⟨3, _⟩ => ⟨S4x1568x1024, .f32⟩
  | .hbm, ⟨4, _⟩ => ⟨S4x1568x1024, .bf16⟩
  | _, _ => ⟨S4x3136x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4x1568x1024 : Shape := ⟨3, ![4, 1568, 1024]⟩
abbrev S_ : Shape := ⟨0, ![]⟩
abbrev S1 : Shape := ⟨1, ![1]⟩
abbrev S3136x1024 : Shape := ⟨2, ![3136, 1024]⟩
abbrev S4x784x1024 : Shape := ⟨3, ![4, 784, 1024]⟩
abbrev S1x784x1024 : Shape := ⟨3, ![1, 784, 1024]⟩
abbrev S784x1024 : Shape := ⟨2, ![784, 1024]⟩
abbrev S1568x1024 : Shape := ⟨2, ![1568, 1024]⟩

abbrev nBuf : Space → Nat
  | .hbm => 8
  | .vmem => 6
  | .smem => 2
  | _ => 0

abbrev bufTy : (tb : Table) → Fin (tcTables nBuf tb) → BufTy
  | .hbm, ⟨0, _⟩ => ⟨S4x1568x1024, .f32⟩
  | .hbm, ⟨1, _⟩ => ⟨S4x1568x1024, .f32⟩
  | .hbm, ⟨2, _⟩ => ⟨S4x1568x1024, .bf16⟩
  | .hbm, ⟨3, _⟩ => ⟨S4x1568x1024, .bf16⟩
  | .hbm, ⟨4, _⟩ => ⟨S_, .i32⟩
  | .hbm, ⟨5, _⟩ => ⟨S_, .i32⟩
  | .hbm, ⟨6, _⟩ => ⟨S3136x1024, .f32⟩
  | .hbm, ⟨7, _⟩ => ⟨S1568x1024, .f32⟩
  | .local _ .vmem, ⟨0, _⟩ => ⟨S4x784x1024, .bf16⟩
  | .local _ .vmem, ⟨1, _⟩ => ⟨S4x784x1024, .bf16⟩
  | .local _ .vmem, ⟨2, _⟩ => ⟨S1x784x1024, .bf16⟩
  | .local _ .vmem, ⟨3, _⟩ => ⟨S1x784x1024, .bf16⟩
  | .local _ .vmem, ⟨4, _⟩ => ⟨S784x1024, .f32⟩
  | .local _ .vmem, ⟨5, _⟩ => ⟨S784x1024, .f32⟩
  | .local _ .smem, ⟨0, _⟩ => ⟨S1, .i32⟩
  | .local _ .smem, ⟨1, _⟩ => ⟨S1, .i32⟩
  | _, _ => ⟨S4x1568x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_v4 : Ref sig .tc := ⟨.hbm, 6, rfl⟩
abbrev main_v5 : Ref sig .tc := ⟨.hbm, 7, rfl⟩
abbrev main_v2 : Ref sig .tc := ⟨.smem, 0, rfl⟩
abbrev main_v3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨2, ![main_v2.idx, main_v3.idx], fun | 0 => main_v2.names | 1 => main_v3.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S4x784x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x784x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S784x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S4x1568x1024 : Shape := ⟨3, ![4, 1568, 1024]⟩
abbrev S1x1568x1024 : Shape := ⟨3, ![1, 1568, 1024]⟩
abbrev S1568x1024 : Shape := ⟨2, ![1568, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x1568x1024, .f32⟩
  | .hbm, ⟨1, _⟩ => ⟨S4x1568x1024, .f32⟩
  | .hbm, ⟨2, _⟩ => ⟨S1x1568x1024, .f32⟩
  | .hbm, ⟨3, _⟩ => ⟨S1568x1024, .f32⟩
  | .hbm, ⟨4, _⟩ => ⟨S1x1568x1024, .f32⟩
  | .hbm, ⟨5, _⟩ => ⟨S1568x1024, .f32⟩
  | .hbm, ⟨6, _⟩ => ⟨S1568x1024, .f32⟩
  | .hbm, ⟨7, _⟩ => ⟨S1x1568x1024, .f32⟩
  | .hbm, ⟨8, _⟩ => ⟨S1568x1024, .f32⟩
  | .hbm, ⟨9, _⟩ => ⟨S1568x1024, .f32⟩
  | .hbm, ⟨10, _⟩ => ⟨S1x1568x1024, .f32⟩
  | .hbm, ⟨11, _⟩ => ⟨S1568x1024, .f32⟩
  | .hbm, ⟨12, _⟩ => ⟨S1568x1024, .f32⟩
  | _, _ => ⟨S4x1568x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Proof.Trip.lean ====
module

public import proofs.«01_k».proof.Proof.Gen.KernelIdeal.Loops
public import Idealize.ShloMosaic.Lib.Exec
public import Idealize.ShloMosaic.Lib.Tactic
public import Idealize.ShloMosaic.Lib.Pipeline.Kit
public import Idealize.ShloMosaic.Lib.LoopRemainder

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the key loop carries: the two running sums, the two carried sums of the weights' gradients, dq so far. -/
abbrev Acc (F : FTy → Type) : Type :=
  FVec F S1024x1 .f32 × FVec F S1024x1 .f32 × FVec F S1024x1 .f32 × FVec F S1024x1 .f32 × FVec F S1024x128 .f32

variable (c : Dev nD) (i : grid0.Coords)
    (arg2 : Memref sig .tc .vmem S1x1024x128 .bf16) (harg2 : arg2.IsWhole)
    (arg3 : Memref sig .tc .vmem S1x8192x128 .bf16) (harg3 : arg3.IsWhole)
    (arg4 : Memref sig .tc .vmem S1x8192x128 .bf16) (harg4 : arg4.IsWhole)
    (arg5 : Memref sig .tc .vmem S1x1024x128 .f32) (harg5 : arg5.IsWhole)
    (arg6 : Memref sig .tc .vmem S1x1024x128 .bf16) (harg6 : arg6.IsWhole)
    (arg7 : Memref sig .tc .vmem S1x1024x128 .bf16) (harg7 : arg7.IsWhole)
    (arg8 : Memref sig .tc .vmem S1x128x8192 .f32) (harg8 : arg8.IsWhole)
    (arg9 : Memref sig .tc .vmem S1x128x8192 .f32) (harg9 : arg9.IsWhole)
    (arg10 : Memref sig .tc .vmem S2x1024x256 .f32) (harg10 : arg10.IsWhole)
    (arg11 : Memref sig .tc .vmem S2x1024x256 .f32) (harg11 : arg11.IsWhole)
    (arg12 : Memref sig .tc .vmem S2048x256 .bf16) (harg12 : arg12.IsWhole)
    (arg13 : Memref sig .tc .vmem S2048x256 .bf16) (harg13 : arg13.IsWhole)
    (arg1 : BitVec 32) (v5 v7 : IVec S1x128 1) (v17 v21 : FVec F S1024x128 .bf16) (v31 : FVec F S128x2048 .bf16)
    (v35 v39 : FVec F S1024x128 .bf16) (v45 : FVec F S128x2048 .bf16) (v49 v53 : FVec F S1024x1 .f32)
    (v59 : FVec F S256x256 .bf16) (v66 : FVec F S512x256 .bf16) (v752 : FVec F S1024x128 .f32)
    (v810 v813 v870 v873 : FVec F S1024x1 .f32) (v876 : BitVec 32) (v881 : FVec F S256x128 .bf16)
    (x3 : BufTy.Contents (Elt F) arg3.view.ty) (x4 : BufTy.Contents (Elt F) arg4.view.ty)

/-- What one step of the key loop holds: keys and values as they are, the six buffers it writes at the given contents. -/
abbrev Held (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) : sProp 𝕄 :=
  iprop((arg3.view.loc (c : Thread nD τ) ↦[arg3.view.set]{fullShare} x3) ∗ (arg4.view.loc (c : Thread nD τ) ↦[arg4.view.set]{fullShare} x4)
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10)
    ∗ (arg11.view.loc (c : Thread nD τ) ↦[arg11.view.set]{fullShare} f11)
    ∗ (arg12.view.loc (c : Thread nD τ) ↦[arg12.view.set]{fullShare} f12)
    ∗ (arg13.view.loc (c : Thread nD τ) ↦[arg13.view.set]{fullShare} f13))

local notation "HELD" => Held (F := F) c arg3 arg4 arg8 arg9 arg10 arg11 arg12 arg13 x3 x4
local notation "BODY" => k0_t1_body (F := F) i arg2 harg2 arg3 harg3 arg4 harg4 arg5 harg5 arg6 harg6 arg7 harg7 arg8 harg8 arg9 harg9 arg10 harg10 arg11 harg11 arg12 harg12 arg13 harg13 arg1 v5 v7 v17 v21 v31 v35 v39 v45 v49 v53 v59 v66 v752 v810 v813 v870 v873 v876 v881

/-- One step of the key loop: what it yields and the pieces it writes, found by running it. -/
@[irreducible] def trip (k : Fin (k0_t1_loop i).trips) (acc : Acc F) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    Σ' (R : Acc F) (L8 : List (View.Piece (Elt F) S1x128x8192 .f32)) (L9 : List (View.Piece (Elt F) S1x128x8192 .f32))
      (L10 : List (View.Piece (Elt F) S2x1024x256 .f32)) (L11 : List (View.Piece (Elt F) S2x1024x256 .f32))
      (L12 : List (View.Piece (Elt F) S2048x256 .bf16)),
      { L13 : List (View.Piece (Elt F) S2048x256 .bf16) // ∀ E : Set ℕ, HELD f8 f9 f10 f11 f12 f13
        ⊢ wp frame (wpE (defs₀ (F := F)) Variants.none (c : Thread nD τ) none) E (BODY k acc)
          (fun yld => iprop(⌜yld = R⌝ ∗ HELD (arg8.view.writes (Elt F) f8 L8) (arg9.view.writes (Elt F) f9 L9) (arg10.view.writes (Elt F) f10 L10) (arg11.view.writes (Elt F) f11 L11) (arg12.view.writes (Elt F) f12 L12) (arg13.view.writes (Elt F) f13 L13))) } := by
  refine ⟨?_, ?_, ?_, ?_, ?_, ?_, ?_, fun E => ?run⟩
  case run =>
    unfold k0_t1_body
    iintro ⟨H3, H4, H8, H9, H10, H11, H12, H13⟩
    sl_exec
    sl_step
    sl_close

/-- What the key loop has done before a step: the carried values and the pieces written so far. -/
structure St (F : FTy → Type) where
  acc : Acc F
  L8 : List (View.Piece (Elt F) S1x128x8192 .f32)
  L9 : List (View.Piece (Elt F) S1x128x8192 .f32)
  L10 : List (View.Piece (Elt F) S2x1024x256 .f32)
  L11 : List (View.Piece (Elt F) S2x1024x256 .f32)
  L12 : List (View.Piece (Elt F) S2048x256 .bf16)
  L13 : List (View.Piece (Elt F) S2048x256 .bf16)

local notation "TRIP" => trip (F := F) c i arg2 harg2 arg3 harg3 arg4 harg4 arg5 harg5 arg6 harg6 arg7 harg7 arg8 harg8 arg9 harg9 arg10 harg10 arg11 harg11 arg12 harg12 arg13 harg13 arg1 v5 v7 v17 v21 v31 v35 v39 v45 v49 v53 v59 v66 v752 v810 v813 v870 v873 v876 v881 x3 x4

/-- The state after step `k` from the state `s` before it; past the last step `s` itself. -/
@[irreducible] def stStep (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (s : St F) (k : ℕ) : St F :=
  if h : k < (k0_t1_loop i).trips then
    let T := TRIP ⟨k, h⟩ s.acc (arg8.view.writes (Elt F) f8 s.L8) (arg9.view.writes (Elt F) f9 s.L9) (arg10.view.writes (Elt F) f10 s.L10) (arg11.view.writes (Elt F) f11 s.L11) (arg12.view.writes (Elt F) f12 s.L12) (arg13.view.writes (Elt F) f13 s.L13)
    ⟨T.1, T.2.1 ++ s.L8, T.2.2.1 ++ s.L9, T.2.2.2.1 ++ s.L10, T.2.2.2.2.1 ++ s.L11, T.2.2.2.2.2.1 ++ s.L12,
      T.2.2.2.2.2.2.1 ++ s.L13⟩
  else s

local notation "STEP" => stStep (F := F) c i arg2 harg2 arg3 harg3 arg4 harg4 arg5 harg5 arg6 harg6 arg7 harg7 arg8 harg8 arg9 harg9 arg10 harg10 arg11 harg11 arg12 harg12 arg13 harg13 arg1 v5 v7 v17 v21 v31 v35 v39 v45 v49 v53 v59 v66 v752 v810 v813 v870 v873 v876 v881 x3 x4

theorem stStep_lt (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (s : St F) (k : Fin (k0_t1_loop i).trips) :
    STEP f8 f9 f10 f11 f12 f13 s k.val = (let T := TRIP k s.acc (arg8.view.writes (Elt F) f8 s.L8) (arg9.view.writes (Elt F) f9 s.L9) (arg10.view.writes (Elt F) f10 s.L10) (arg11.view.writes (Elt F) f11 s.L11) (arg12.view.writes (Elt F) f12 s.L12) (arg13.view.writes (Elt F) f13 s.L13)
    ⟨T.1, T.2.1 ++ s.L8, T.2.2.1 ++ s.L9, T.2.2.2.1 ++ s.L10, T.2.2.2.2.1 ++ s.L11, T.2.2.2.2.2.1 ++ s.L12,
      T.2.2.2.2.2.2.1 ++ s.L13⟩ : St F) := by
  unfold stStep; exact dif_pos k.isLt

/-- The state before step `k`. -/
def st (init : Acc F) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) : ℕ → St F
  | 0 => ⟨init, [], [], [], [], [], []⟩
  | k + 1 => STEP f8 f9 f10 f11 f12 f13 (st init f8 f9 f10 f11 f12 f13 k) k

local notation "STK" => st (F := F) c i arg2 harg2 arg3 harg3 arg4 harg4 arg5 harg5 arg6 harg6 arg7 harg7 arg8 harg8 arg9 harg9 arg10 harg10 arg11 harg11 arg12 harg12 arg13 harg13 arg1 v5 v7 v17 v21 v31 v35 v39 v45 v49 v53 v59 v66 v752 v810 v813 v870 v873 v876 v881 x3 x4

theorem st_succ (init : Acc F) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (k : ℕ) : STK init f8 f9 f10 f11 f12 f13 (k + 1) = STEP f8 f9 f10 f11 f12 f13 (STK init f8 f9 f10 f11 f12 f13 k) k := rfl

/-- The invariant: before step `k` the carried values and the buffers are the state's. -/
abbrev inv (init : Acc F) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (k : ℕ) (acc : Acc F) : sProp 𝕄 :=
  iprop((arg3.view.loc (c : Thread nD τ) ↦[arg3.view.set]{fullShare} x3) ∗ (arg4.view.loc (c : Thread nD τ) ↦[arg4.view.set]{fullShare} x4)
    ∗ (∃ f, (arg8.view.loc (c : Thread nD τ) ↦[arg8.view.set]{fullShare} f) ∗ ⌜f = arg8.view.writes (Elt F) f8 (STK init f8 f9 f10 f11 f12 f13 k).L8⌝)
    ∗ (∃ f, (arg9.view.loc (c : Thread nD τ) ↦[arg9.view.set]{fullShare} f) ∗ ⌜f = arg9.view.writes (Elt F) f9 (STK init f8 f9 f10 f11 f12 f13 k).L9⌝)
    ∗ (∃ f, (arg10.view.loc (c : Thread nD τ) ↦[arg10.view.set]{fullShare} f) ∗ ⌜f = arg10.view.writes (Elt F) f10 (STK init f8 f9 f10 f11 f12 f13 k).L10⌝)
    ∗ (∃ f, (arg11.view.loc (c : Thread nD τ) ↦[arg11.view.set]{fullShare} f) ∗ ⌜f = arg11.view.writes (Elt F) f11 (STK init f8 f9 f10 f11 f12 f13 k).L11⌝)
    ∗ (∃ f, (arg12.view.loc (c : Thread nD τ) ↦[arg12.view.set]{fullShare} f) ∗ ⌜f = arg12.view.writes (Elt F) f12 (STK init f8 f9 f10 f11 f12 f13 k).L12⌝)
    ∗ (∃ f, (arg13.view.loc (c : Thread nD τ) ↦[arg13.view.set]{fullShare} f) ∗ ⌜f = arg13.view.writes (Elt F) f13 (STK init f8 f9 f10 f11 f12 f13 k).L13⌝)
    ∗ ⌜acc = (STK init f8 f9 f10 f11 f12 f13 k).acc⌝)

set_option warn.classDefReducibility false in
/-- The key loop by its invariant. -/
@[sl_loop] def keyLoop (E : Set ℕ) (init : Acc F) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg1 v5 v7 v17 v21 v31 v35 v39 v45 v49 v53 v59 v66 v752 v810 v813 v870 v873 v876 v881 init where
  inv := inv (F := F) c i arg2 harg2 arg3 harg3 arg4 harg4 arg5 harg5 arg6 harg6 arg7 harg7 arg8 harg8 arg9 harg9 arg10 harg10 arg11 harg11 arg12 harg12 arg13 harg13 arg1 v5 v7 v17 v21 v31 v35 v39 v45 v49 v53 v59 v66 v752 v810 v813 v870 v873 v876 v881 x3 x4 init f8 f9 f10 f11 f12 f13
  step k acc := by
    iintro ⟨H3, H4, ⟨%g8, H8, %h8⟩, ⟨%g9, H9, %h9⟩, ⟨%g10, H10, %h10⟩, ⟨%g11, H11, %h11⟩, ⟨%g12, H12, %h12⟩,
      ⟨%g13, H13, %h13⟩, %hacc⟩
    subst h8 h9 h10 h11 h12 h13 hacc
    iapply (wp_wand_r Idealize.ShloMosaic.frame (wpE (defs₀ (F := F)) Variants.none (c : Thread nD τ) none) E)
    isplitl [H3 H4 H8 H9 H10 H11 H12 H13]
    · iapply ((TRIP k _ _ _ _ _ _ _).2.2.2.2.2.2.2 E)
      isplitl [H3]; · iexact H3
      isplitl [H4]; · iexact H4
      isplitl [H8]; · iexact H8
      isplitl [H9]; · iexact H9
      isplitl [H10]; · iexact H10
      isplitl [H11]; · iexact H11
      isplitl [H12]; · iexact H12
      iexact H13
    · iintro %yld ⟨%hres, H3, H4, H8, H9, H10, H11, H12, H13⟩
      isplitl [H3]; · iexact H3
      isplitl [H4]; · iexact H4
      simp only [st_succ, stStep_lt, View.writes_append]
      isplitl [H8]
      · iexists _; isplitl [H8]; · iexact H8
        ipureintro; rfl
      isplitl [H9]
      · iexists _; isplitl [H9]; · iexact H9
        ipureintro; rfl
      isplitl [H10]
      · iexists _; isplitl [H10]; · iexact H10
        ipureintro; rfl
      isplitl [H11]
      · iexists _; isplitl [H11]; · iexact H11
        ipureintro; rfl
      isplitl [H12]
      · iexists _; isplitl [H12]; · iexact H12
        ipureintro; rfl
      isplitl [H13]
      · iexists _; isplitl [H13]; · iexact H13
        ipureintro; rfl
      ipureintro; exact hres

end Cert.KernelIdeal.Gen

end
-- ==== Proof.Run.lean ====
module

public import proofs.«01_k».proof.Proof.Trip
public import proofs.«01_k».proof.Proof.Gen.KernelIdeal.Frame
public import Idealize.ShloMosaic.Lib.WritesUnit

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The two accumulators as a grid point finds them: zero at the first point of a pair of heads. -/
def start (i : grid0.Coords) (z d : Vec F S1x128x8192 .f32) : Vec F S1x128x8192 .f32 :=
  if Scalar.cmpi .ne (Scalar.extui (Scalar.cmpi .eq (BitVec.ofNat 32 (i 1).val) 0#32)) 0#32 = 1#1 then z else d

theorem zero_off : ∀ a : Fin 3, (![0, 0, 0] : Fin 3 → ℕ) a = 0 := by decide

/-- A buffer written over the whole of its shape holds what was written. -/
theorem writes_all {s : Shape} {e : EltTy} (m : Memref sig .tc .vmem s e) (h : m.IsWhole)
    (f : BufTy.Contents (Elt F) m.view.ty) (off : Fin s.rank → ℕ) (inb : ∀ a, off a + s.size a ≤ s.size a)
    (ho : ∀ a, off a = 0) (w : s.Idx → Elt F e) :
    m.view.writes (Elt F) f [⟨Rect.unit off s.size inb, w⟩] = h.unread w :=
  h.eq_unread (funext fun y => View.read_writes_cons_unit_of_mem _ _ inb w [] y y rfl
    (fun a => by rw [ho a, Nat.zero_add]))

/-- The body's first conditional: after it the accumulators are at `y8` and `y9`, and the rest `p` runs from there. -/
theorem wp_start {α : Type} (c : Dev nD) (i : grid0.Coords) (E : Set ℕ)
    (arg8 arg9 : Memref sig .tc .vmem S1x128x8192 .f32) (harg8 : arg8.IsWhole) (harg9 : arg9.IsWhole)
    (d8 d9 y8 y9 : Vec F S1x128x8192 .f32) (h8 : start i k0_pay49 d8 = y8) (h9 : start i k0_pay50 d9 = y9)
    (p : Prog (TpuEff nD τ sig (Elt F) Λ₀ .tc) α) (Q : α → sProp 𝕄) :
    iprop((arg8.view.loc (c : Thread nD τ) ↦[arg8.view.set]{fullShare} harg8.unread d8) ∗ (arg9.view.loc (c : Thread nD τ) ↦[arg9.view.set]{fullShare} harg9.unread d9) ∗ (((arg8.view.loc (c : Thread nD τ) ↦[arg8.view.set]{fullShare} harg8.unread y8) ∗ (arg9.view.loc (c : Thread nD τ) ↦[arg9.view.set]{fullShare} harg9.unread y9))
        -∗ wp Idealize.ShloMosaic.frame (wpE (defs₀ (F := F)) Variants.none (c : Thread nD τ) none) E p Q))
      ⊢ wp Idealize.ShloMosaic.frame (wpE (defs₀ (F := F)) Variants.none (c : Thread nD τ) none) E (do
        let arg1 : BitVec 32 := BitVec.ofNat 32 (i 1).val
        let v0 : BitVec 1 := Scalar.cmpi .eq arg1 0#32
        let v1 : BitVec 32 := Scalar.extui v0
        let v2 : BitVec 1 := Scalar.cmpi .ne v1 0#32
        if k0_h1 : v2 = 1#1 then do
          let v964 : Vec F S1x128x8192 .f32 ← Prog.lift (.load arg8 (Rect.unit (s := S1x128x8192) ![0, 0, 0] S1x128x8192.size inb_S1x128x8192_S1x128x8192_0_0_0).toLoadRect (View.loadsAt_vmem h_S1x128x8192))
          Prog.lift (.store arg8 (Rect.unit (s := S1x128x8192) ![0, 0, 0] S1x128x8192.size inb_S1x128x8192_S1x128x8192_0_0_0) (k0_pay49 (F := F)) Finset.univ (View.stores_vmem_bits_univ h_S1x128x8192 rfl) (.inl rfl))
          let v966 : Vec F S1x128x8192 .f32 ← Prog.lift (.load arg9 (Rect.unit (s := S1x128x8192) ![0, 0, 0] S1x128x8192.size inb_S1x128x8192_S1x128x8192_0_0_0).toLoadRect (View.loadsAt_vmem h_S1x128x8192))
          Prog.lift (.store arg9 (Rect.unit (s := S1x128x8192) ![0, 0, 0] S1x128x8192.size inb_S1x128x8192_S1x128x8192_0_0_0) (k0_pay50 (F := F)) Finset.univ (View.stores_vmem_bits_univ h_S1x128x8192 rfl) (.inl rfl))
          pure ⟨⟩
        else do
          pure ⟨⟩
        p) Q := by
  subst h8 h9
  iintro ⟨H8, H9, Hk⟩
  unfold start
  by_cases h : Scalar.cmpi .ne (Scalar.extui (Scalar.cmpi .eq (BitVec.ofNat 32 (i 1).val) 0#32)) 0#32 = 1#1
  · rw [if_pos h, if_pos h]
    dsimp only
    rw [dif_pos h]
    sl_exec
    rw [writes_all arg8 harg8 _ _ _ zero_off, writes_all arg9 harg9 _ _ _ zero_off]
    iapply Hk
    isplitl [H8]; · iexact H8
    iexact H9
  · rw [if_neg h, if_neg h]
    dsimp only
    rw [dif_neg h]
    iapply Hk
    isplitl [H8]; · iexact H8
    iexact H9

/-- The body run once, from accumulators `y8` and `y9` after its first conditional: the pieces its stores leave. -/
noncomputable def run (c : Dev nD) (i : grid0.Coords)
    (arg2 : Memref sig .tc .vmem S1x1024x128 .bf16) (harg2 : arg2.IsWhole)
    (arg3 : Memref sig .tc .vmem S1x8192x128 .bf16) (harg3 : arg3.IsWhole)
    (arg4 : Memref sig .tc .vmem S1x8192x128 .bf16) (harg4 : arg4.IsWhole)
    (arg5 : Memref sig .tc .vmem S1x1024x128 .f32) (harg5 : arg5.IsWhole)
    (arg6 : Memref sig .tc .vmem S1x1024x128 .bf16) (harg6 : arg6.IsWhole)
    (arg7 : Memref sig .tc .vmem S1x1024x128 .bf16) (harg7 : arg7.IsWhole)
    (arg8 : Memref sig .tc .vmem S1x128x8192 .f32) (harg8 : arg8.IsWhole)
    (arg9 : Memref sig .tc .vmem S1x128x8192 .f32) (harg9 : arg9.IsWhole)
    (arg10 : Memref sig .tc .vmem S2x1024x256 .f32) (harg10 : arg10.IsWhole)
    (arg11 : Memref sig .tc .vmem S2x1024x256 .f32) (harg11 : arg11.IsWhole)
    (arg12 : Memref sig .tc .vmem S2048x256 .bf16) (harg12 : arg12.IsWhole)
    (arg13 : Memref sig .tc .vmem S2048x256 .bf16) (harg13 : arg13.IsWhole)
    (x0 : Vec F S1x1024x128 .bf16) (x1 x2 : Vec F S1x8192x128 .bf16) (x3 : Vec F S1x1024x128 .f32) (x4 : Vec F S1x1024x128 .bf16)
    (y8 y9 : Vec F S1x128x8192 .f32) :
    Σ' (L7 : List (View.Piece (Elt F) S1x1024x128 .bf16)) (L8 : List (View.Piece (Elt F) S1x128x8192 .f32)),
    { L9 : List (View.Piece (Elt F) S1x128x8192 .f32) //
      ∀ (d8 d9 : Vec F S1x128x8192 .f32) (h8 : start i k0_pay49 d8 = y8) (h9 : start i k0_pay50 d9 = y9)
        (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare d8 ∗ owns (c : Thread nD τ) arg9 fullShare d9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7)
              ∗ (arg8.view.loc (c : Thread nD τ) ↦[arg8.view.set]{fullShare} arg8.view.writes (Elt F) (harg8.unread y8) L8)
              ∗ (arg9.view.loc (c : Thread nD τ) ↦[arg9.view.set]{fullShare} arg9.view.writes (Elt F) (harg9.unread y9) L9)
              ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K } := by
  refine ⟨?_, ?_, ?_, fun d8 d9 h8 h9 E K => ?run⟩
  case run =>
    simp only [cc0_attn_bwd_eq_skeleton]; unfold cc0_attn_bwd_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩,
      ⟨%f6, %hf6, H6⟩, ⟨%f7, %hf7, H7⟩, ⟨%ds0, %fs0, -, HS0⟩, ⟨%ds1, %fs1, -, HS1⟩, ⟨%ds2, %fs2, -, HS2⟩,
      ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hf6; obtain rfl := harg9.eq_unread hf7
    rw [wp_bind]
    unfold k0_part9_skel
    iapply (wp_start c i E arg8 arg9 harg8 harg9 d8 d9 y8 y9 h8 h9 _ _)
    isplitl [H6]; · iexact H6
    isplitl [H7]; · iexact H7
    iintro ⟨H6, H7⟩
    rw [← wp_bind]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexact H6
    isplitl [H7]; · iexact H7
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.Body.lean ====
module
public import proofs.«01_k».proof.Proof.Run
public import proofs.«01_k».proof.Proof.Gen.KernelIdeal.Points
public import Idealize.ShloMosaic.Lib.Claim
public import Idealize.ShloMosaic.Lib.Pipeline.TableIdle
@[expose] public section
set_option maxRecDepth 16384
set_option maxHeartbeats 4000000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging buffers and the scratch, as the body is handed them -/

abbrev ms0 (t : Fin cfg0.N) : Memref sig .tc .vmem S1x1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8192x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8192x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128x8192 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128x8192 .f32 := win0_7.stage (cfg0.slots t 7)
abbrev hs7 (t : Fin cfg0.N) : (ms7 t).IsWhole := hstage0_7 ((cfg0.slots t 7).cast nbuf0_7)
abbrev scr0 : Memref sig .tc .vmem S2x1024x256 .f32 := Memref.whole cc0_scratch0
abbrev scr1 : Memref sig .tc .vmem S2x1024x256 .f32 := Memref.whole cc0_scratch1
abbrev scr2 : Memref sig .tc .vmem S2048x256 .bf16 := Memref.whole cc0_scratch2
abbrev scr3 : Memref sig .tc .vmem S2048x256 .bf16 := Memref.whole cc0_scratch3

theorem scratch_eq (c : Dev nD) :
    (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; rfl

/-! ## What a point leaves in the three outputs -/

/-- The body's run at a grid point, over its input blocks, from accumulators at `y8` and `y9`. -/
abbrev ran (c : Dev nD) (t : Fin cfg0.N) (y8 y9 : Vec F S1x128x8192 .f32) :=
  run c (grid0.coords t) (ms0 t) (hs0 t) (ms1 t) (hs1 t) (ms2 t) (hs2 t) (ms3 t) (hs3 t) (ms4 t) (hs4 t) (ms5 t) (hs5 t) (ms6 t) (hs6 t) (ms7 t) (hs7 t) scr0 (Memref.isWhole_whole _) scr1 (Memref.isWhole_whole _) scr2 (Memref.isWhole_whole _) scr3 (Memref.isWhole_whole _) (iblk m c 0 t) (iblk m c 1 t) (iblk m c 2 t) (iblk m c 3 t) (iblk m c 4 t) y8 y9

/-- The query gradient's block after a point. -/
def dqOut (c : Dev nD) (t : Fin cfg0.N) (y8 y9 : Vec F S1x128x8192 .f32) : Vec F S1x1024x128 .bf16 :=
  (ms5 t).view.read (Elt F) ((ms5 t).view.writes (Elt F) (ms5 t).view.junk (ran m c t y8 y9).1)
/-- The key gradient's rows after a point. -/
def dkOut (c : Dev nD) (t : Fin cfg0.N) (y8 y9 : Vec F S1x128x8192 .f32) : Vec F S1x128x8192 .f32 :=
  (ms6 t).view.read (Elt F) ((ms6 t).view.writes (Elt F) ((hs6 t).unread y8) (ran m c t y8 y9).2.1)
/-- The value gradient's rows after a point. -/
def dvOut (c : Dev nD) (t : Fin cfg0.N) (y8 y9 : Vec F S1x128x8192 .f32) : Vec F S1x128x8192 .f32 :=
  (ms7 t).view.read (Elt F) ((ms7 t).view.writes (Elt F) ((hs7 t).unread y9) (ran m c t y8 y9).2.2.1)

/-- The two accumulators after point `n`: each point's run from what the point before left, or from zero at a head pair's
    first block of queries. -/
def accs (c : Dev nD) : (n : ℕ) → n < cfg0.N → Vec F S1x128x8192 .f32 × Vec F S1x128x8192 .f32
  | 0, hn => (dkOut m c ⟨0, hn⟩ k0_pay49 k0_pay50, dvOut m c ⟨0, hn⟩ k0_pay49 k0_pay50)
  | n + 1, hn =>
    let p := accs c n (by omega)
    let y8 := start (grid0.coords ⟨n + 1, hn⟩) k0_pay49 p.1
    let y9 := start (grid0.coords ⟨n + 1, hn⟩) k0_pay50 p.2
    (dkOut m c ⟨n + 1, hn⟩ y8 y9, dvOut m c ⟨n + 1, hn⟩ y8 y9)

/-- What the key accumulator holds when point `t`'s work begins. -/
def kIn (c : Dev nD) (t : Fin cfg0.N) : Vec F S1x128x8192 .f32 :=
  if h : t.val = 0 then k0_pay49 else start (grid0.coords t) k0_pay49 (accs m c (t.val - 1) (by omega)).1
/-- What the value accumulator holds when point `t`'s work begins. -/
def vIn (c : Dev nD) (t : Fin cfg0.N) : Vec F S1x128x8192 .f32 :=
  if h : t.val = 0 then k0_pay50 else start (grid0.coords t) k0_pay50 (accs m c (t.val - 1) (by omega)).2

theorem accs_eq (c : Dev nD) (t : Fin cfg0.N) :
    accs m c t.val t.isLt = (dkOut m c t (kIn m c t) (vIn m c t), dvOut m c t (kIn m c t) (vIn m c t)) := by
  obtain ⟨n, hn⟩ := t
  cases n with
  | zero => simp only [accs, kIn, vIn, dif_pos]
  | succ n => simp only [accs, kIn, vIn, Nat.succ_ne_zero, dif_neg, not_false_eq_true, Nat.add_sub_cancel]

/-! ## The pipeline's data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqOut m c t (kIn m c t) (vIn m c t)
    | ⟨6, _⟩ => (accs m c t.val t.isLt).1
    | ⟨7, _⟩ => (accs m c t.val t.isLt).2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = dqOut m c t (kIn m c t) (vIn m c t) := by dsimp only [dats]
theorem after6 (c : Dev nD) (t : Fin cfg0.N) : (dats m 0 c).after 6 t = (accs m c t.val t.isLt).1 := by dsimp only [dats]
theorem after7 (c : Dev nD) (t : Fin cfg0.N) : (dats m 0 c).after 7 t = (accs m c t.val t.isLt).2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The accumulators are carried along a head pair's blocks -/

/-- The first conditional holds at a head pair's first block of queries. -/
theorem first_iff : ∀ t : Fin cfg0.N,
    (Scalar.cmpi .ne (Scalar.extui (Scalar.cmpi .eq (BitVec.ofNat 32 (grid0.coords t 1).val) 0#32)) 0#32) = 1#1 ↔ t.val % 8 = 0 :=
  (fun t => by
    have ht : t.val < 64 := Nat.lt_of_lt_of_eq t.isLt N_0
    have e1 : (grid0.coords t 1).val = t.val / 1 % 8 := Pipeline.Grid.coords_val t 1 (by decide) rfl
    simp only [e1]
    word_cmp
   : ∀ t : Fin grid0.N, (Scalar.cmpi .ne (Scalar.extui (Scalar.cmpi .eq (BitVec.ofNat 32 (grid0.coords t 1).val) 0#32)) 0#32) = 1#1 ↔ t.val % 8 = 0)

theorem start_first (t : Fin cfg0.N) (h : t.val % 8 = 0) (z d : Vec F S1x128x8192 .f32) :
    start (grid0.coords t) z d = z := if_pos ((first_iff t).mpr h)
theorem start_later (t : Fin cfg0.N) (h : ¬ t.val % 8 = 0) (z d : Vec F S1x128x8192 .f32) :
    start (grid0.coords t) z d = d := if_neg (fun e => h ((first_iff t).mp e))

/-- Whether an accumulator's buffer holds nothing yet when position `n` is reached. -/
def freshAt (n : ℕ) : Bool := n % 8 == 0

theorem fresh6_step : ∀ t : Fin cfg0.N,
    freshAt (t.val + 1) = ((cfg0.win 6).flush t || (cfg0.idle 6 (cfg0.grid.coords t) && freshAt t.val)) := by decide +kernel
theorem fresh6 (t : Fin cfg0.N) : cfg0.fresh 6 t.val = freshAt t.val :=
  Pipeline.Cfg.fresh_tab cfg0 6 freshAt rfl fresh6_step t.val (Nat.le_of_lt t.isLt)
theorem live6 : ∀ t : Fin cfg0.N, cfg0.idle 6 (grid0.coords t) = false := by decide +kernel
theorem before6 (c : Dev nD) (t : Fin cfg0.N) (h : ¬ t.val % 8 = 0) (d) :
    (dats m 0 c).before 6 t d = (accs m c (t.val - 1) (Nat.lt_of_le_of_lt (Nat.sub_le _ _) t.isLt)).1 := by
  rw [Dat.before_out_traj _ 6 rfl (fun _ _ => rfl)
      (fun t _ hi _ => absurd ((live6 t).symm.trans hi) Bool.false_ne_true) t.val t rfl d,
    if_neg (by rw [fresh6]; simpa [freshAt] using h)]
  dsimp only [dats]
theorem start6 (c : Dev nD) (t : Fin cfg0.N) (d) :
    start (grid0.coords t) k0_pay49 ((dats m 0 c).before 6 t d) = kIn m c t := by
  unfold kIn
  by_cases h : t.val % 8 = 0
  · split
    · exact start_first t h _ _
    · rw [start_first t h, start_first t h]
  · rw [dif_neg (fun e => h (by rw [e])), before6 m c t h d]

theorem fresh7_step : ∀ t : Fin cfg0.N,
    freshAt (t.val + 1) = ((cfg0.win 7).flush t || (cfg0.idle 7 (cfg0.grid.coords t) && freshAt t.val)) := by decide +kernel
theorem fresh7 (t : Fin cfg0.N) : cfg0.fresh 7 t.val = freshAt t.val :=
  Pipeline.Cfg.fresh_tab cfg0 7 freshAt rfl fresh7_step t.val (Nat.le_of_lt t.isLt)
theorem live7 : ∀ t : Fin cfg0.N, cfg0.idle 7 (grid0.coords t) = false := by decide +kernel
theorem before7 (c : Dev nD) (t : Fin cfg0.N) (h : ¬ t.val % 8 = 0) (d) :
    (dats m 0 c).before 7 t d = (accs m c (t.val - 1) (Nat.lt_of_le_of_lt (Nat.sub_le _ _) t.isLt)).2 := by
  rw [Dat.before_out_traj _ 7 rfl (fun _ _ => rfl)
      (fun t _ hi _ => absurd ((live7 t).symm.trans hi) Bool.false_ne_true) t.val t rfl d,
    if_neg (by rw [fresh7]; simpa [freshAt] using h)]
  dsimp only [dats]
theorem start7 (c : Dev nD) (t : Fin cfg0.N) (d) :
    start (grid0.coords t) k0_pay50 ((dats m 0 c).before 7 t d) = vIn m c t := by
  unfold vIn
  by_cases h : t.val % 8 = 0
  · split
    · exact start_first t h _ _
    · rw [start_first t h, start_first t h]
  · rw [dif_neg (fun e => h (by rw [e])), before7 m c t h d]

/-- The stores into the query gradient's block cover it. -/
theorem cover_dq (c : Dev nD) (t : Fin cfg0.N) (y8 y9 : Vec F S1x128x8192 .f32) (y : S1x1024x128.Idx) :
    ∃ pc ∈ (ran m c t y8 y9).1, y ∈ pc.1.set :=
  View.cover_of_tiledL (ran m c t y8 y9).1 S1x1024x128.size (by sl_kernel_rfl) y

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7, accs_eq]
  rw [show (dats m 0 c).Φ t.castSucc = Pipeline.ΦA spec0 c from rfl, scratch_eq]
  dsimp only
  unfold dqOut dkOut dvOut
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((ran m c t (kIn m c t) (vIn m c t)).2.2.2 _ _ (start6 m c t d6) (start7 m c t d7) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, ⟨%e5, H5⟩, H6, H7, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover_dq m c t _ _)
  isplitl [H6]
  · unfold owns; iexists _; isplitr
    swap; · iexact H6
    ipureintro; rfl
  unfold owns; iexists _; isplitr
  swap; · iexact H7
  ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run of the whole program, and its frame -/

set_option backward.isDefEq.respectTransparency.types false in
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (hQ' := fun _ h => h)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Twin.lean ====
module

public import proofs.«01_k».proof.Proof.Body
public import proofs.«01_k».proof.Proof.Gen.Kernel
public import proofs.«01_k».proof.Defs

@[expose] public section

set_option maxRecDepth 65536
set_option maxHeartbeats 4000000

noncomputable section

namespace Cert.KernelIdeal.Gen

open Idealize.ShloMosaic Idealize.ShloMosaic.TcCoe Idealize.ShloMosaic.Tactic

/-- On words a named constant is its word. -/
local instance wordNamed : Named Bits where
  named _ _ φ bits := FloatOps.ofBits φ bits

theorem kernel_frame : Cert.quiescent_Kernel (hKernel := Cert.Kernel.Gen.facts) := fun m ρ _ => by
  exact cast (by sl_kernel_rfl) (frame (F := Bits) m ρ)

end Cert.KernelIdeal.Gen

end
-- ==== Proof.Reals.lean ====
module

public import Idealize.ShloMosaic.Lib.ReduceAll
public import Idealize.ShloMosaic.Lib.Pointwise

@[expose] public section

/-! Extended reals that are real numbers: closed under the arithmetic of the programs, so that an identity between two
finite expressions may be proved over ℝ. -/

noncomputable section

namespace Cert.Reals

open Idealize.ShloMosaic

/-- `x` is a real number. -/
def IsR (x : EReal) : Prop := ∃ r : ℝ, x = (r : EReal)

theorem isR_coe (r : ℝ) : IsR (r : EReal) := ⟨r, rfl⟩
theorem isR_zero : IsR 0 := ⟨0, by norm_cast⟩
theorem isR_one : IsR 1 := ⟨1, by norm_cast⟩
theorem IsR.add {x y : EReal} : IsR x → IsR y → IsR (x + y) := by
  rintro ⟨a, rfl⟩ ⟨b, rfl⟩; exact ⟨a + b, by norm_cast⟩
theorem IsR.mul {x y : EReal} : IsR x → IsR y → IsR (x * y) := by
  rintro ⟨a, rfl⟩ ⟨b, rfl⟩; exact ⟨a * b, by norm_cast⟩
theorem IsR.sub {x y : EReal} : IsR x → IsR y → IsR (x - y) := by
  rintro ⟨a, rfl⟩ ⟨b, rfl⟩; exact ⟨a - b, by norm_cast⟩
theorem IsR.neg {x : EReal} : IsR x → IsR (-x) := by
  rintro ⟨a, rfl⟩; exact ⟨-a, by norm_cast⟩
theorem IsR.sum {ι : Type} (s : Finset ι) (f : ι → EReal) (h : ∀ i ∈ s, IsR (f i)) : IsR (∑ i ∈ s, f i) := by
  classical
  induction s using Finset.induction_on with
  | empty => simpa using isR_zero
  | insert a s ha ih =>
    rw [Finset.sum_insert ha]
    exact (h a (Finset.mem_insert_self ..)).add (ih fun i hi => h i (Finset.mem_insert_of_mem hi))
theorem IsR.sum_univ {n : ℕ} {f : Fin n → EReal} (h : ∀ i, IsR (f i)) : IsR (∑ i, f i) := IsR.sum _ _ fun i _ => h i

/-- The real number of a real entry. -/
theorem IsR.coe_toReal {x : EReal} (h : IsR x) : (x.toReal : EReal) = x := by
  obtain ⟨a, rfl⟩ := h; rfl

theorem ofBits_top : Ideal.ofBits .f32 0x7F800000#32 = (⊤ : EReal) := by
  show Ideal.ieee 8 23 0x7F800000#32 = _
  unfold Ideal.ieee; dsimp only
  rw [if_pos (by decide), if_pos (by decide), if_neg (by decide)]
theorem ofBits_bot : Ideal.ofBits .f32 0xFF800000#32 = (⊥ : EReal) := by
  show Ideal.ieee 8 23 0xFF800000#32 = _
  unfold Ideal.ieee; dsimp only
  rw [if_pos (by decide), if_pos (by decide), if_pos (by decide)]

/-- A bit that says `x` lies strictly between the infinities. -/
theorem isR_of_between {x : EReal}
    (h : IntOp.andi (Ideal.cmp .olt x (Ideal.ofBits .f32 0x7F800000#32)) (Ideal.cmp .ogt x (Ideal.ofBits .f32 0xFF800000#32)) = 1#1) :
    IsR x := by
  obtain ⟨h1, h2⟩ := IntOp.andi_eq_one.1 h
  rw [ofBits_top] at h1
  rw [ofBits_bot] at h2
  induction x with
  | bot => simp [Ideal.cmp] at h2
  | top => simp [Ideal.cmp] at h1
  | coe r => exact isR_coe r

/-- The logistic function of the programs, at the extended reals. -/
def sg (g : EReal) : EReal := Ideal.div 1 (1 + Ideal.exp (-g))

theorem exp_top : Ideal.exp ⊤ = ⊤ := rfl
theorem exp_bot : Ideal.exp ⊥ = 0 := rfl
theorem sg_top : sg ⊤ = 1 := by
  rw [sg, EReal.neg_top, exp_bot]; simp [Ideal.div]
theorem sg_bot : sg ⊥ = 0 := by
  rw [sg, EReal.neg_bot, exp_top, show (1 : EReal) + ⊤ = ⊤ from EReal.add_top_of_ne_bot (by decide)]; simp [Ideal.div]
theorem sg_coe (r : ℝ) : sg (r : EReal) = ((1 / (1 + Real.exp (-r)) : ℝ) : EReal) := by
  have h : (1 + Real.exp (-r)) ≠ 0 := (by positivity : (0 : ℝ) < 1 + Real.exp (-r)).ne'
  have e : (1 : EReal) + Ideal.exp (-(r : EReal)) = ((1 + Real.exp (-r) : ℝ) : EReal) := by
    rw [← EReal.coe_neg]; show (1 : EReal) + ((Real.exp (-r) : ℝ) : EReal) = _; norm_cast
  rw [sg, e, Ideal.div_coe h, one_mul]

/-- The logistic function is a real number everywhere. -/
theorem isR_sg (g : EReal) : IsR (sg g) := by
  induction g with
  | bot => rw [sg_bot]; exact isR_zero
  | top => rw [sg_top]; exact isR_one
  | coe r => rw [sg_coe]; exact isR_coe _

/-- The gradient of the gate in its two spellings, whatever the gate is. -/
theorem silu_grad (g : EReal) {a u : EReal} (ha : IsR a) (hu : IsR u) :
    a * u * (sg g + g * sg g * (1 - sg g)) = a * u * sg g + g * (a * u) * (sg g * (1 - sg g)) := by
  obtain ⟨a, rfl⟩ := ha
  obtain ⟨u, rfl⟩ := hu
  induction g with
  | bot => rw [sg_bot]; simp
  | top =>
    have h : (1 : EReal) - 1 = 0 := by
      rw [← EReal.coe_one, ← EReal.coe_sub]; norm_num
    rw [sg_top, h]; simp
  | coe r =>
    obtain ⟨s, hs⟩ := isR_sg (r : EReal)
    rw [hs]; norm_cast; ring

end Cert.Reals

end
-- ==== Proof.Attn.lean ====
module

public import proofs.«01_k».proof.Proof.Reals
public import Idealize.ShloMosaic.Lib.Pipeline.ValueKit

@[expose] public section

/-! The rows of the attention over the reals: for a row `t` with scores `z t` and products `D t` of the cotangent with the
values, the log weights, the weights, the cotangents of the weights and those of the scores. -/

noncomputable section

namespace Cert.Attn

open Idealize.ShloMosaic

/-- The logarithm of the logistic function. -/
def lg (z : ℝ) : ℝ := -Real.log (1 + Real.exp (-z))

variable (z D : ℕ → ℕ → ℝ) (t j : ℕ)

/-- The log of what key `j` leaves over for the keys before it; nothing is taken by a key that is not before the row. -/
def L : ℝ := if j < t then lg (-(z t j)) else 0
/-- What the keys from `j` on leave over, as a logarithm to base 2. -/
def R : ℝ := (∑ x ∈ Finset.Ico j 8192, L z t x) / Real.log 2
/-- The weight of key `j`. -/
def W : ℝ := if j < t then Real.exp (lg (z t j) + ∑ x ∈ Finset.Ico (j + 1) 8192, L z t x) else 0
/-- The weight times its own cotangent. -/
def E : ℝ := D t j * W z t j
/-- The sum of those from key `j` on. -/
def ES : ℝ := ∑ x ∈ Finset.Ico j 8192, E z D t x
/-- Their sum over all keys. -/
def TOT : ℝ := ∑ x ∈ Finset.range 8192, E z D t x
/-- The cotangent of the score. -/
def DZ : ℝ := if j < t then E z D t j - Real.exp (lg (z t j)) * ∑ x ∈ Finset.range (j + 1), E z D t x else 0

theorem log2_pos : 0 < Real.log 2 := Real.log_pos (by norm_num)

theorem lg_sub (x : ℝ) : lg x - x = lg (-x) := by
  have h : 1 + Real.exp (-x) = Real.exp (-x) * (1 + Real.exp (- -x)) := by
    rw [mul_add, ← Real.exp_add]; simp [add_comm]
  have p : (0 : ℝ) < 1 + Real.exp (- -x) := by positivity
  unfold lg
  rw [h, Real.log_mul (Real.exp_pos _).ne' p.ne', Real.log_exp]
  ring

theorem lg_min (x : ℝ) : min x 0 - Real.log (1 + Real.exp (-|x|)) = lg x := by
  rcases le_total 0 x with h | h
  · rw [abs_of_nonneg h, min_eq_right h, lg]; ring
  · rw [abs_of_nonpos h, min_eq_left h]
    have := lg_sub (-x)
    unfold lg at *
    rw [neg_neg] at *
    linarith

theorem two_rpow (x : ℝ) : Real.exp (x / Real.log 2 * Real.log 2) = Real.exp x := by
  rw [div_mul_cancel₀ _ log2_pos.ne']

theorem sum_Ico_split {f : ℕ → ℝ} {a B : ℕ} (h : a ≤ B) (hB : B ≤ 8192) :
    ∑ x ∈ Finset.Ico a 8192, f x = ∑ x ∈ Finset.Ico a B, f x + ∑ x ∈ Finset.Ico B 8192, f x :=
  (Finset.sum_Ico_consecutive f h hB).symm

theorem sum_block (f : ℕ → ℝ) (B n : ℕ) : ∑ k : Fin n, f (B + k) = ∑ x ∈ Finset.Ico B (B + n), f x := by
  rw [Fin.sum_univ_eq_sum_range (fun k => f (B + k)), Finset.sum_Ico_eq_sum_range, Nat.add_sub_cancel_left]

/-- The later keys of a block of 256. -/
theorem sum_after (f : ℕ → ℝ) (B : ℕ) (c : Fin 256) :
    ∑ k : Fin 256, f (B + k) * (if c.val < k.val then 1 else 0) = ∑ x ∈ Finset.Ico (B + c + 1) (B + 256), f x := by
  have e : ∀ k : Fin 256, f (B + k) * (if c.val < k.val then (1:ℝ) else 0)
      = (fun x => if B + c.val < x then f x else 0) (B + k) := fun k => by
    by_cases h : c.val < k.val <;> simp [h]
  rw [Finset.sum_congr rfl fun k _ => e k, sum_block (fun x => if B + c.val < x then f x else 0) B 256, ← Finset.sum_filter]
  refine Finset.sum_congr (Finset.ext fun x => ?_) fun _ _ => rfl
  simp only [Finset.mem_filter, Finset.mem_Ico]
  omega

/-- The keys of a block of 256 from one on. -/
theorem sum_from (f : ℕ → ℝ) (B : ℕ) (c : Fin 256) :
    ∑ k : Fin 256, f (B + k) * (if c.val ≤ k.val then 1 else 0) = ∑ x ∈ Finset.Ico (B + c) (B + 256), f x := by
  have e : ∀ k : Fin 256, f (B + k) * (if c.val ≤ k.val then (1:ℝ) else 0)
      = (fun x => if B + c.val ≤ x then f x else 0) (B + k) := fun k => by
    by_cases h : c.val ≤ k.val <;> simp [h]
  rw [Finset.sum_congr rfl fun k _ => e k, sum_block (fun x => if B + c.val ≤ x then f x else 0) B 256, ← Finset.sum_filter]
  refine Finset.sum_congr (Finset.ext fun x => ?_) fun _ _ => rfl
  simp only [Finset.mem_filter, Finset.mem_Ico]
  omega

theorem coe_ite (p : Prop) [Decidable p] (a b : ℝ) : ((if p then a else b : ℝ) : EReal) = if p then (a : EReal) else b := by
  split <;> rfl

theorem exp2_eq {φ : FTy} (x : Ideal φ) : FloatOps.exp2 x = Ideal.exp2 x := rfl
theorem absf_eq (x : ℝ) : (FloatOps.absf (F := Ideal) (φ := .f32) (x : EReal) : EReal) = ((|x| : ℝ) : EReal) := rfl
theorem exp2_coe (x : ℝ) : Ideal.exp2 (x : EReal) = ((Real.exp (x * Real.log 2) : ℝ) : EReal) := by
  rw [Ideal.exp2_coe]
  exact congrArg _ ((Real.rpow_def_of_pos (by norm_num) x).trans (by rw [mul_comm]))

/-- A score in units of the base-2 logarithm, from eight times it. -/
theorem z2_eq (x : ℝ) :
    ((8 * x : ℝ) : EReal) * ((8⁻¹ * (Real.log 2)⁻¹ : ℝ) : EReal) = ((x / Real.log 2 : ℝ) : EReal) := by
  norm_cast; ring

theorem coe_min (a b : ℝ) : min (a : EReal) (b : EReal) = ((min a b : ℝ) : EReal) :=
  ((EReal.coe_strictMono.monotone).map_min).symm

theorem lse_eq (x : ℝ) : Ideal.log (1 + Ideal.exp2 (0 - ((|x / Real.log 2| : ℝ) : EReal))) = ((Real.log (1 + Real.exp (-|x|)) : ℝ) : EReal) := by
  have h : (0 - ((|x / Real.log 2| : ℝ) : EReal)) = ((-|x / Real.log 2| : ℝ) : EReal) := by rw [zero_sub]; norm_cast
  have e : |x / Real.log 2| * Real.log 2 = |x| := by
    rw [abs_div, abs_of_pos log2_pos, div_mul_cancel₀ _ log2_pos.ne']
  rw [h, exp2_coe, neg_mul, e]
  have p : (0 : ℝ) < 1 + Real.exp (-|x|) := by positivity
  rw [show (1 : EReal) + ((Real.exp (-|x|) : ℝ) : EReal) = ((1 + Real.exp (-|x|) : ℝ) : EReal) by norm_cast]
  exact if_neg p.not_ge

theorem lb_eq (x : ℝ) :
    min ((x / Real.log 2 : ℝ) : EReal) 0 - ((Real.log (1 + Real.exp (-|x|)) : ℝ) : EReal) * (((Real.log 2)⁻¹ : ℝ) : EReal)
      = ((lg x / Real.log 2 : ℝ) : EReal) := by
  rw [show (0 : EReal) = ((0 : ℝ) : EReal) from rfl, coe_min, ← EReal.coe_mul, ← EReal.coe_sub]
  have : min (x / Real.log 2) 0 = min x 0 / Real.log 2 := by
    rw [← min_div_div_right log2_pos.le, zero_div]
  rw [← lg_min x, this]
  congr 1
  ring

theorem l2_eq (x : ℝ) : ((lg x / Real.log 2 : ℝ) : EReal) - ((x / Real.log 2 : ℝ) : EReal) = ((lg (-x) / Real.log 2 : ℝ) : EReal) := by
  rw [← lg_sub]; norm_cast; ring

theorem exp2_lg (x : ℝ) : Ideal.exp2 ((lg x / Real.log 2 : ℝ) : EReal) = ((Real.exp (lg x) : ℝ) : EReal) := by
  rw [exp2_coe, two_rpow]

theorem coe_sum {n : ℕ} (f : Fin n → ℝ) : ∑ k, (f k : EReal) = ((∑ k, f k : ℝ) : EReal) := by
  induction n with
  | zero => rfl
  | succ n ih => rw [Fin.sum_univ_succ, Fin.sum_univ_succ, ih, ← EReal.coe_add]

theorem toInt_small {n : ℕ} (h : n < 2 ^ 31) : (BitVec.ofNat 32 n).toInt = n := by
  have e : (BitVec.ofNat 32 n).toNat = n := by rw [BitVec.toNat_ofNat]; omega
  rw [BitVec.toInt_eq_toNat_of_lt (by omega), e]

/-- Word comparisons of small numbers, as choices and as numbers. -/
theorem sel_slt {α : Type} {r c : ℕ} (hr : r < 2 ^ 31) (hc : c < 2 ^ 31) (a b : α) :
    Scalar.select (IntOp.cmpi .slt (BitVec.ofNat 32 c) (BitVec.ofNat 32 r)) a b = if c < r then a else b := by
  have e : IntOp.cmpi .slt (BitVec.ofNat 32 c) (BitVec.ofNat 32 r) = BitVec.ofBool (decide (c < r)) := by
    show BitVec.ofBool (BitVec.slt _ _) = _
    rw [BitVec.slt, toInt_small hc, toInt_small hr]; simp
  rw [e]
  by_cases h : c < r <;> simp [h, Scalar.select]

theorem num_sgt {r c : ℕ} (hr : r < 2 ^ 31) (hc : c < 2 ^ 31) :
    (FloatOps.sitofp (F := Ideal) FTy.f32 (BitVec.setWidth 32 (IntOp.cmpi .sgt (BitVec.ofNat 32 r) (BitVec.ofNat 32 c))) : EReal)
      = ((if c < r then 1 else 0 : ℝ) : EReal) := by
  have e : IntOp.cmpi .sgt (BitVec.ofNat 32 r) (BitVec.ofNat 32 c) = BitVec.ofBool (decide (c < r)) := by
    show BitVec.ofBool (BitVec.slt _ _) = _
    rw [BitVec.slt, toInt_small hc, toInt_small hr]; simp
  rw [e]
  by_cases h : c < r <;> simp [h, FloatOps.sitofp]

theorem num_sge {r c : ℕ} (hr : r < 2 ^ 31) (hc : c < 2 ^ 31) :
    (FloatOps.sitofp (F := Ideal) FTy.f32 (BitVec.setWidth 32 (IntOp.cmpi .sge (BitVec.ofNat 32 r) (BitVec.ofNat 32 c))) : EReal)
      = ((if c ≤ r then 1 else 0 : ℝ) : EReal) := by
  have e : IntOp.cmpi .sge (BitVec.ofNat 32 r) (BitVec.ofNat 32 c) = BitVec.ofBool (decide (c ≤ r)) := by
    show BitVec.ofBool (BitVec.sle _ _) = _
    rw [BitVec.sle, toInt_small hc, toInt_small hr]; simp
  rw [e]
  by_cases h : c ≤ r <;> simp [h, FloatOps.sitofp]

/-- The masked log of a diagonal block. -/
theorem l2_mask (B r c : ℕ) :
    (if c < r then ((lg (-(z (B + r) (B + c))) / Real.log 2 : ℝ) : EReal) else 0) = ((L z (B + r) (B + c) / Real.log 2 : ℝ) : EReal) := by
  by_cases h : c < r <;> simp [L, h]

theorem L_of_lt (h : j < t) : lg (-(z t j)) = L z t j := (if_pos h).symm

theorem R_split (B : ℕ) (hB : B + 256 ≤ 8192) (c : Fin 256) :
    lg (z t (B + c)) / Real.log 2 + (R z t (B + 256) + ∑ k : Fin 256, L z t (B + k) / Real.log 2 * (if c.val < k.val then 1 else 0))
      = (lg (z t (B + c)) + ∑ x ∈ Finset.Ico (B + c + 1) 8192, L z t x) / Real.log 2 := by
  rw [sum_after (fun x => L z t x / Real.log 2) B c, sum_Ico_split (a := B + c + 1) (B := B + 256) (by omega) hB, ← Finset.sum_div, R]
  ring

/-- A weight from its parts in base 2. -/
theorem w_core (B : ℕ) (hB : B + 256 ≤ 8192) (c : Fin 256) (h : B + c < t) :
    Ideal.exp2 (((lg (z t (B + c)) / Real.log 2 : ℝ) : EReal) + ((R z t (B + 256) : EReal)
      + ∑ k : Fin 256, ((L z t (B + k) / Real.log 2 : ℝ) : EReal) * ((if c.val < k.val then 1 else 0 : ℝ) : EReal)))
      = ((W z t (B + c) : ℝ) : EReal) := by
  simp only [← EReal.coe_mul, coe_sum, ← EReal.coe_add]
  rw [R_split z t B hB c, exp2_coe, two_rpow, W, if_pos h]

theorem w_mask (B : ℕ) (hB : B + 256 ≤ 8192) (r : ℕ) (c : Fin 256) :
    (if c.val < r then Ideal.exp2 (((lg (z (B + r) (B + c)) / Real.log 2 : ℝ) : EReal) + ((R z (B + r) (B + 256) : EReal)
      + ∑ k : Fin 256, ((L z (B + r) (B + k) / Real.log 2 : ℝ) : EReal) * ((if c.val < k.val then 1 else 0 : ℝ) : EReal))) else 0)
      = ((W z (B + r) (B + c) : ℝ) : EReal) := by
  split
  · exact w_core z _ B hB c (by omega)
  · rw [W, if_neg (by omega)]; rfl

theorem e_eq : ((D t j : ℝ) : EReal) * ((W z t j : ℝ) : EReal) = ((E z D t j : ℝ) : EReal) := (EReal.coe_mul _ _).symm

theorem range_split (B : ℕ) (hB : B + 256 ≤ 8192) (c : Fin 256) :
    E z D t (B + c) + (TOT z D t - ES z D t (B + 256)
      - (∑ k : Fin 256, E z D t (B + k) * (if c.val ≤ k.val then 1 else 0) + ∑ k : Fin 256, (E z D t (B + k) - E z D t (B + k)) * (if c.val ≤ k.val then 1 else 0)))
      = ∑ x ∈ Finset.range (B + c + 1), E z D t x := by
  have h1 : TOT z D t = ∑ x ∈ Finset.range (B + c), E z D t x + ∑ x ∈ Finset.Ico (B + c) (B + 256), E z D t x + ES z D t (B + 256) := by
    rw [TOT, ES, add_assoc, Finset.sum_Ico_consecutive _ (by omega) hB, Finset.range_eq_Ico, Finset.range_eq_Ico, Finset.sum_Ico_consecutive _ (by omega) (by omega)]
  simp only [sub_self, zero_mul, Finset.sum_const_zero]
  rw [sum_from (fun x => E z D t x) B c, Finset.sum_range_succ, h1]
  ring

/-- The cotangent of a score from the sums the blocks carry. -/
theorem dz_core (B : ℕ) (hB : B + 256 ≤ 8192) (c : Fin 256) (h : B + c < t) :
    ((E z D t (B + c) : ℝ) : EReal) - ((Real.exp (lg (z t (B + c))) : ℝ) : EReal) * (((E z D t (B + c) : ℝ) : EReal)
      + (((TOT z D t : ℝ) : EReal) - ((ES z D t (B + 256) : ℝ) : EReal)
      - (∑ k : Fin 256, ((E z D t (B + k) : ℝ) : EReal) * ((if c.val ≤ k.val then 1 else 0 : ℝ) : EReal)
        + ∑ k : Fin 256, (((E z D t (B + k) : ℝ) : EReal) - ((E z D t (B + k) : ℝ) : EReal)) * ((if c.val ≤ k.val then 1 else 0 : ℝ) : EReal))))
      = ((DZ z D t (B + c) : ℝ) : EReal) := by
  simp only [← EReal.coe_mul, ← EReal.coe_sub, coe_sum, ← EReal.coe_add]
  rw [range_split z D t B hB c, DZ, if_pos h]

theorem dz_mask (B : ℕ) (hB : B + 256 ≤ 8192) (r : ℕ) (c : Fin 256) :
    (if c.val < r then ((E z D (B + r) (B + c) : ℝ) : EReal) - ((Real.exp (lg (z (B + r) (B + c))) : ℝ) : EReal) * (((E z D (B + r) (B + c) : ℝ) : EReal)
      + (((TOT z D (B + r) : ℝ) : EReal) - ((ES z D (B + r) (B + 256) : ℝ) : EReal)
      - (∑ k : Fin 256, ((E z D (B + r) (B + k) : ℝ) : EReal) * ((if c.val ≤ k.val then 1 else 0 : ℝ) : EReal)
        + ∑ k : Fin 256, (((E z D (B + r) (B + k) : ℝ) : EReal) - ((E z D (B + r) (B + k) : ℝ) : EReal)) * ((if c.val ≤ k.val then 1 else 0 : ℝ) : EReal)))) else 0)
      = ((DZ z D (B + r) (B + c) : ℝ) : EReal) := by
  split
  · exact dz_core z D _ B hB c (by omega)
  · rw [DZ, if_neg (by omega)]; rfl

/-- A block's part joins what the later blocks left. -/
theorem R_add (B : ℕ) (hB : B + 256 ≤ 8192) :
    ((R z t (B + 256) : ℝ) : EReal) + ∑ k : Fin 256, ((L z t (B + k) / Real.log 2 : ℝ) : EReal) = ((R z t B : ℝ) : EReal) := by
  rw [coe_sum, ← EReal.coe_add, sum_block (fun x => L z t x / Real.log 2) B 256, ← Finset.sum_div, R, R,
    sum_Ico_split (a := B) (B := B + 256) (by omega) hB, ← add_div, add_comm]

theorem ES_add (B : ℕ) (hB : B + 256 ≤ 8192) :
    ((ES z D t (B + 256) : ℝ) : EReal) + ∑ k : Fin 256, ((E z D t (B + k) : ℝ) : EReal) = ((ES z D t B : ℝ) : EReal) := by
  rw [coe_sum, ← EReal.coe_add, sum_block (fun x => E z D t x) B 256, ES, ES,
    sum_Ico_split (a := B) (B := B + 256) (by omega) hB, add_comm]

/-- Keys that are not before the row take nothing. -/
theorem R_of_le (h : t ≤ j) : R z t j = 0 := by
  rw [R, Finset.sum_eq_zero, zero_div]
  intro x hx
  exact if_neg (by have := (Finset.mem_Ico.mp hx).1; omega)
theorem E_of_le (h : t ≤ j) : E z D t j = 0 := by
  rw [E, W, if_neg (by omega), mul_zero]
theorem ES_of_le (h : t ≤ j) : ES z D t j = 0 :=
  Finset.sum_eq_zero fun x hx => E_of_le z D t x (by have := (Finset.mem_Ico.mp hx).1; omega)

theorem l2_mask_mul (B r c : ℕ) (y : EReal) :
    (if c < r then ((lg (-(z (B + r) (B + c))) / Real.log 2 : ℝ) : EReal) * y else 0) = ((L z (B + r) (B + c) / Real.log 2 : ℝ) : EReal) * y := by
  rw [← l2_mask]
  split
  · rfl
  · rw [zero_mul]

/-- The carried sums after a diagonal block, whose rows start `k` rows into the tile. -/
theorem R_step {T B k : ℕ} (hk : B = T + k) (hB : B + 256 ≤ 8192) (r : ℕ) :
    ((R z (T + r) (B + 256) : ℝ) : EReal) + (if _ : r < k then 0 else ∑ x : Fin 256, ((L z (B + (r - k)) (B + x) / Real.log 2 : ℝ) : EReal))
      = ((R z (T + r) B : ℝ) : EReal) := by
  by_cases h : r < k
  · rw [dif_pos h, R_of_le z _ _ (by omega), R_of_le z _ _ (by omega)]; norm_num
  · rw [dif_neg h, show B + (r - k) = T + r by omega, R_add z _ B hB]

theorem ES_step {T B k : ℕ} (hk : B = T + k) (hB : B + 256 ≤ 8192) (r : ℕ) :
    ((ES z D (T + r) (B + 256) : ℝ) : EReal) + (if _ : r < k then 0 else ∑ x : Fin 256, ((E z D (B + (r - k)) (B + x) : ℝ) : EReal))
      = ((ES z D (T + r) B : ℝ) : EReal) := by
  by_cases h : r < k
  · rw [dif_pos h, ES_of_le z D _ _ (by omega), ES_of_le z D _ _ (by omega)]; norm_num
  · rw [dif_neg h, show B + (r - k) = T + r by omega, ES_add z D _ B hB]

/-- The entries of a block are these real numbers. -/
def At3 {m n : ℕ} (x : (⟨3, ![1, m, n]⟩ : Shape).Idx → EReal) (f : ℕ → ℕ → ℝ) : Prop :=
  ∀ (r : Fin m) (c : Fin n), x (ix3 0 r c) = ((f r c : ℝ) : EReal)
def At2 {m n : ℕ} (x : (⟨2, ![m, n]⟩ : Shape).Idx → EReal) (f : ℕ → ℕ → ℝ) : Prop :=
  ∀ (r : Fin m) (c : Fin n), x (ix2 r c) = ((f r c : ℝ) : EReal)
def AtC {m : ℕ} (x : (⟨2, ![m, 1]⟩ : Shape).Idx → EReal) (f : ℕ → ℝ) : Prop :=
  ∀ r : Fin m, x (ix2 r 0) = ((f r : ℝ) : EReal)
/-- The mask of the keys before the row, in a diagonal block. -/
def Msk {m : ℕ} (v : (⟨2, ![m, 256]⟩ : Shape).Idx → BitVec 1) : Prop :=
  ∀ (r : Fin m) (c : Fin 256) (a b : EReal), Scalar.select (v (ix2 r c)) a b = if c.val < r.val then a else b
/-- The triangle of the later keys of a block, and the two copies of the one of the keys from one on. -/
def Tri (v : (⟨2, ![256, 256]⟩ : Shape).Idx → EReal) : Prop :=
  ∀ k c : Fin 256, v (ix2 k c) = ((if c.val < k.val then 1 else 0 : ℝ) : EReal)
def Tri2 (v : (⟨2, ![512, 256]⟩ : Shape).Idx → EReal) : Prop :=
  ∀ k c : Fin 256, (∀ h, v (ix2 ⟨k.val, h⟩ c) = ((if c.val ≤ k.val then 1 else 0 : ℝ) : EReal))
    ∧ ∀ h, v (ix2 ⟨256 + k.val, h⟩ c) = ((if c.val ≤ k.val then 1 else 0 : ℝ) : EReal)

end Cert.Attn

end
-- ==== Proof.Window.lean ====
module

public import proofs.«01_k».proof.Proof.Attn

@[expose] public section

/-! Running sums along the last axis of an array of rank four, as windows of its whole length padded on one side. -/

noncomputable section

namespace Cert.Attn

open Idealize.ShloMosaic

theorem foldl_coe {ι : Type} (l : List ι) (g : ι → EReal) (f : ι → ℝ) (hg : ∀ a, g a = ((f a : ℝ) : EReal)) (v : ℝ) :
    l.foldl (fun r a => r + g a) (v : EReal) = ((v + (l.map f).sum : ℝ) : EReal) := by
  induction l generalizing v with
  | nil => simp
  | cons a l ih => rw [List.foldl_cons, hg a, ← EReal.coe_add, ih, List.map_cons, List.sum_cons, add_assoc]

/-- The positions of a window that is as long as the last axis. -/
def lane (N : ℕ) : Fin N ≃ (⟨4, ![1, 1, 1, N]⟩ : Idealize.ShloMosaic.Shape).Idx where
  toFun k := ix4 0 0 0 k
  invFun w := w 3
  left_inv _ := rfl
  right_inv w := by
    rw [eq_ix4 w]
    exact congrArg₂ (fun a b => ix4 a b 0 (w 3)) (Subsingleton.elim (α := Fin 1) _ _) (Subsingleton.elim (α := Fin 1) _ _) |>.trans
      (congrArg (fun a => ix4 (w 0) (w 1) a (w 3)) (Subsingleton.elim (α := Fin 1) _ _))

/-- The position of the window that is met as the `n`th. -/
def pos {N : ℕ} (n : Fin (⟨4, ![1, 1, 1, N]⟩ : Idealize.ShloMosaic.Shape).numel) : (⟨4, ![1, 1, 1, N]⟩ : Idealize.ShloMosaic.Shape).Idx :=
  (⟨4, ![1, 1, 1, N]⟩ : Idealize.ShloMosaic.Shape).rowMajor.symm n

theorem window {A B N P H : ℕ} (x : (⟨4, ![1, A, B, N]⟩ : Idealize.ShloMosaic.Shape).Idx → EReal) (f : ℕ → ℝ) (z : Fin 1) (a : Fin A) (b : Fin B)
    (hx : ∀ k : Fin N, x (ix4 z a b k) = ((f k : ℝ) : EReal))
    (h : (⟨4, ![1, A, B, N]⟩ : Idealize.ShloMosaic.Shape).ReduceWindows (![1, 1, 1, N] : Fin 4 → ℕ) ![1, 1, 1, 1] ![0, 0, 0, P] ![0, 0, 0, H]
      ⟨4, ![1, A, B, N]⟩) (j : Fin N) {u : Idealize.ShloMosaic.Shape} (hu : 0 < u.numel) (init : u.Idx → EReal) (hv : init (Shape.Idx.first hu) = 0) :
    Host.reduceWindow (· + ·) ![1, 1, 1, N] ![1, 1, 1, 1] ![0, 0, 0, P] ![0, 0, 0, H] x init h hu (ix4 z a b j)
      = ((∑ k : Fin N, if P ≤ j.val + k.val ∧ j.val + k.val - P < N then f (j.val + k.val - P) else 0 : ℝ) : EReal) := by
  unfold Host.reduceWindow
  dsimp only
  rw [hv]
  refine (foldl_coe _ _ (fun n => if P ≤ j.val + (pos n 3).val ∧ j.val + (pos n 3).val - P < N then f (j.val + (pos n 3).val - P) else 0)
    (fun n => ?_) 0).trans ?_
  · have w0 : (pos n 0).val = 0 := Nat.lt_one_iff.1 (pos n 0).isLt
    have w1 : (pos n 1).val = 0 := Nat.lt_one_iff.1 (pos n 1).isLt
    have w2 : (pos n 2).val = 0 := Nat.lt_one_iff.1 (pos n 2).isLt
    split
    · next hin =>
      have h3 := hin 3
      change P ≤ j.val * 1 + (pos n 3).val ∧ j.val * 1 + (pos n 3).val - P < N at h3
      rw [Nat.mul_one] at h3
      rw [if_pos h3]
      refine (congrArg x (funext fun a' => Fin.ext ?_)).trans (hx ⟨j.val + (pos n 3).val - P, h3.2⟩)
      match a' with
      | ⟨0, _⟩ => show z.val * 1 + (pos n 0).val - 0 = z.val; omega
      | ⟨1, _⟩ => show a.val * 1 + (pos n 1).val - 0 = a.val; omega
      | ⟨2, _⟩ => show b.val * 1 + (pos n 2).val - 0 = b.val; omega
      | ⟨3, _⟩ => show j.val * 1 + (pos n 3).val - P = j.val + (pos n 3).val - P; omega
    · next hin =>
      rw [if_neg fun hh => hin fun a' => ?_]
      · rfl
      match a' with
      | ⟨0, _⟩ => show 0 ≤ z.val * 1 + (pos n 0).val ∧ z.val * 1 + (pos n 0).val - 0 < 1; omega
      | ⟨1, _⟩ => show 0 ≤ a.val * 1 + (pos n 1).val ∧ a.val * 1 + (pos n 1).val - 0 < A; omega
      | ⟨2, _⟩ => show 0 ≤ b.val * 1 + (pos n 2).val ∧ b.val * 1 + (pos n 2).val - 0 < B; omega
      | ⟨3, _⟩ => show P ≤ j.val * 1 + (pos n 3).val ∧ j.val * 1 + (pos n 3).val - P < N; omega
  · rw [zero_add, ← Fin.sum_univ_def]
    refine congrArg _ ((Equiv.sum_comp (⟨4, ![1, 1, 1, N]⟩ : Idealize.ShloMosaic.Shape).rowMajor.symm (fun w =>
      if P ≤ j.val + (w 3).val ∧ j.val + (w 3).val - P < N then f (j.val + (w 3).val - P) else 0)).trans ?_)
    rw [← Equiv.sum_comp (lane N)]
    rfl

theorem windowAdd {A B N P H : ℕ} (x : FVec Ideal (⟨4, ![1, A, B, N]⟩ : Idealize.ShloMosaic.Shape) .f32) (f : ℕ → ℝ) (z : Fin 1) (a : Fin A) (b : Fin B)
    (hx : ∀ k : Fin N, x (ix4 z a b k) = ((f k : ℝ) : EReal))
    (h : (⟨4, ![1, A, B, N]⟩ : Idealize.ShloMosaic.Shape).ReduceWindows (![1, 1, 1, N] : Fin 4 → ℕ) ![1, 1, 1, 1] ![0, 0, 0, P] ![0, 0, 0, H]
      ⟨4, ![1, A, B, N]⟩) (j : Fin N) {u : Idealize.ShloMosaic.Shape} (hu : 0 < u.numel) (init : u.Idx → Ideal .f32)
    (hv : init (Shape.Idx.first hu) = (0 : EReal)) :
    Host.reduceWindowAdd ![1, 1, 1, N] ![1, 1, 1, 1] ![0, 0, 0, P] ![0, 0, 0, H] x init h hu (ix4 z a b j)
      = ((∑ k : Fin N, if P ≤ j.val + k.val ∧ j.val + k.val - P < N then f (j.val + k.val - P) else 0 : ℝ) : EReal) :=
  window x f z a b hx h j (u := ⟨0, ![]⟩) (by decide) (fun _ => init (Shape.Idx.first hu)) hv

/-- A running sum from the first entry. -/
theorem sum_upto (f : ℕ → ℝ) {N P : ℕ} (hP : P + 1 = N) (j : Fin N) :
    ∑ k : Fin N, (if P ≤ j.val + k.val ∧ j.val + k.val - P < N then f (j.val + k.val - P) else 0) = ∑ x ∈ Finset.range (j.val + 1), f x := by
  have hj := j.isLt
  rw [Fin.sum_univ_eq_sum_range (fun k => if P ≤ j.val + k ∧ j.val + k - P < N then f (j.val + k - P) else 0) N, ← Finset.sum_filter]
  refine Finset.sum_bij' (fun k _ => j.val + k - P) (fun x _ => x + P - j.val) ?_ ?_ ?_ ?_ ?_ <;>
    intro k hk <;> simp only [Finset.mem_filter, Finset.mem_range] at hk ⊢ <;> omega

/-- A running sum to the last entry. -/
theorem sum_onward (f : ℕ → ℝ) {N : ℕ} (j : Fin N) :
    ∑ k : Fin N, (if 0 ≤ j.val + k.val ∧ j.val + k.val - 0 < N then f (j.val + k.val - 0) else 0) = ∑ x ∈ Finset.Ico j.val N, f x := by
  have hj := j.isLt
  rw [Fin.sum_univ_eq_sum_range (fun k => if 0 ≤ j.val + k ∧ j.val + k - 0 < N then f (j.val + k - 0) else 0) N, ← Finset.sum_filter]
  refine Finset.sum_bij' (fun k _ => j.val + k - 0) (fun x _ => x - j.val) ?_ ?_ ?_ ?_ ?_ <;>
    intro k hk <;> simp only [Finset.mem_filter, Finset.mem_range, Finset.mem_Ico] at hk ⊢ <;> omega

end Cert.Attn

end
-- ==== Proof.Ref.lean ====
module

public import proofs.«01_k».proof.Proof.Window
public import proofs.«01_k».proof.Proof.Gen.ReferenceIdeal.Read

@[expose] public section

set_option maxRecDepth 16384
set_option maxHeartbeats 4000000

/-! The reference's arrays over the reals, a head at a time: the scores, the log weights, the weights, and the gradients. -/

noncomputable section

namespace Cert.Attn

variable (X Y : ℕ → ℕ → ℝ) (h : ℕ)

/-- A head's scores, and the products of the cotangent's rows with the value rows. -/
def zh (t s : ℕ) : ℝ := (∑ d : Fin 64, X t (64 * h + d) * X s (1024 + 64 * h + d)) / 8
def Dh (t s : ℕ) : ℝ := ∑ d : Fin 64, Y t (64 * h + d) * X s (2048 + 64 * h + d)

end Cert.Attn

namespace Cert.ReferenceIdeal.Read

open Cert.ReferenceIdeal Cert.ReferenceIdeal.Gen Idealize.ShloMosaic Idealize.ShloMosaic.TcCoe Idealize.SL.Sem Idealize.ShloMosaic.StableHlo Cert.Attn

variable {x0 : (⟨S8192x3072, .f32⟩ : BufTy).Contents (Elt Ideal)} {x1 : (⟨S8192x1024, .f32⟩ : BufTy).Contents (Elt Ideal)} {X Y : ℕ → ℕ → ℝ}

/-- The arguments hold these real numbers. -/
def Is {m n : ℕ} (x : (⟨2, ![m, n]⟩ : Idealize.ShloMosaic.Shape).Idx → EReal) (f : ℕ → ℕ → ℝ) : Prop := ∀ i, x i = ((f (i 0).val (i 1).val : ℝ) : EReal)

theorem Is.at {m n : ℕ} {x : (⟨2, ![m, n]⟩ : Idealize.ShloMosaic.Shape).Idx → EReal} {f : ℕ → ℕ → ℝ} (hx : Is x f)
    (i : (⟨2, ![m, n]⟩ : Idealize.ShloMosaic.Shape).Idx) {a b : ℕ} (ha : (i 0).val = a) (hb : (i 1).val = b) : x i = ((f a b : ℝ) : EReal) := by
  rw [hx i, ha, hb]

theorem zero_word : (FloatOps.ofBits (F := Ideal) .f32 0x00000000#32 : EReal) = ((0 : ℝ) : EReal) := by
  simp [FloatOps.ofBits, Ideal.ofBits, Ideal.ieee]
theorem inf_word : (FloatOps.ofBits (F := Ideal) .f32 0x7F800000#32 : EReal) = ⊤ := by
  simp [FloatOps.ofBits, Ideal.ofBits, Ideal.ieee]
theorem eighth_word : (FloatOps.ofBits (F := Ideal) .f32 0x3E000000#32 : EReal) = ((1 / 8 : ℝ) : EReal) := by
  simp [FloatOps.ofBits, Ideal.ofBits, Ideal.ieee, -EReal.coe_mul]; norm_num

/-- The coordinates of a head's row, read off its place in row-major order. -/
theorem flat {a b d f : ℕ} (ha : a < 1) (hb : b < 16) (hd : d < 8192) (hf : f < 64) :
    (((a * 16 + b) * 8192 + d) * 64 + f) / 524288 % 16 = b ∧ (((a * 16 + b) * 8192 + d) * 64 + f) / 64 % 8192 = d
      ∧ (((a * 16 + b) * 8192 + d) * 64 + f) % 64 = f := by
  obtain rfl : a = 0 := by omega
  refine ⟨?_, ?_, ?_⟩ <;> omega

section Stages

variable (hX : Is x0 X)
include hX

theorem q_at (i : S1x16x8192x64.Idx) : val_main_v3 (F := Ideal) x0 i = ((X (i 2).val (64 * (i 1).val + (i 3).val) : ℝ) : EReal) := by
  rw [val_main_v3_apply, val_main_v2_apply, val_main_v1_apply, val_main_v0_apply]
  have h1 : (i 1).val < 16 := (i 1).isLt
  have h2 : (i 2).val < 8192 := (i 2).isLt
  have h3 : (i 3).val < 64 := (i 3).isLt
  obtain ⟨e1, e2, e3⟩ := flat (i 0).isLt h1 h2 h3
  refine hX.at _ ?_ ?_ <;> dsimp only <;> rw [e1, e2, e3] <;> omega

theorem k_at (i : S1x16x8192x64.Idx) : val_main_v5 (F := Ideal) x0 i = ((X (i 2).val (1024 + 64 * (i 1).val + (i 3).val) : ℝ) : EReal) := by
  rw [val_main_v5_apply, val_main_v4_apply, val_main_v1_apply, val_main_v0_apply]
  have h1 : (i 1).val < 16 := (i 1).isLt
  have h2 : (i 2).val < 8192 := (i 2).isLt
  have h3 : (i 3).val < 64 := (i 3).isLt
  obtain ⟨e1, e2, e3⟩ := flat (i 0).isLt h1 h2 h3
  refine hX.at _ ?_ ?_ <;> dsimp only <;> rw [e1, e2, e3] <;> omega

theorem v_at (i : S1x16x8192x64.Idx) : val_main_v7 (F := Ideal) x0 i = ((X (i 2).val (2048 + 64 * (i 1).val + (i 3).val) : ℝ) : EReal) := by
  rw [val_main_v7_apply, val_main_v6_apply, val_main_v1_apply, val_main_v0_apply]
  have h1 : (i 1).val < 16 := (i 1).isLt
  have h2 : (i 2).val < 8192 := (i 2).isLt
  have h3 : (i 3).val < 64 := (i 3).isLt
  obtain ⟨e1, e2, e3⟩ := flat (i 0).isLt h1 h2 h3
  refine hX.at _ ?_ ?_ <;> dsimp only <;> rw [e1, e2, e3] <;> omega

theorem z_at (i : S1x16x8192x8192.Idx) : val_main_v10 (F := Ideal) x0 i = ((zh X (i 1).val (i 2).val (i 3).val : ℝ) : EReal) := by
  rw [val_main_v10_apply, val_main_v9_apply, val_main_cst_apply, eighth_word, val_main_v8_apply]
  simp only [q_at hX, k_at hX, ← EReal.coe_mul, coe_sum]
  show ((_ : ℝ) : EReal) * ((_ : ℝ) : EReal) = _
  rw [← EReal.coe_mul]
  refine congrArg _ ?_
  unfold zh
  ring

end Stages

/-- The logistic's logarithm as it is computed: `max(y, 0) + log(1 + exp(-|y|))` with its guards. -/
theorem softplus (y : ℝ) :
    Scalar.select (FloatOps.cmpf (F := Ideal) (φ := .f32) .une (FloatOps.subf (F := Ideal) (φ := .f32) (y : EReal) ((0 : ℝ) : EReal)) (FloatOps.subf (F := Ideal) (φ := .f32) (y : EReal) ((0 : ℝ) : EReal)))
      (FloatOps.addf (F := Ideal) (φ := .f32) (y : EReal) ((0 : ℝ) : EReal))
      (FloatOps.addf (F := Ideal) (φ := .f32) (FloatOps.maximumf (F := Ideal) (φ := .f32) (y : EReal) ((0 : ℝ) : EReal))
        (FloatOps.hostUnary (F := Ideal) (φ := .f32) .log1p (FloatOps.hostUnary (F := Ideal) (φ := .f32) .exp (FloatOps.hostNegf (F := Ideal) (φ := .f32) (FloatOps.hostAbsf (F := Ideal) (φ := .f32) (FloatOps.subf (F := Ideal) (φ := .f32) (y : EReal) ((0 : ℝ) : EReal)))))))
      = ((-lg (-y) : ℝ) : EReal) := by
  have e1 : FloatOps.cmpf (F := Ideal) (φ := .f32) .une (FloatOps.subf (F := Ideal) (φ := .f32) (y : EReal) ((0 : ℝ) : EReal)) (FloatOps.subf (F := Ideal) (φ := .f32) (y : EReal) ((0 : ℝ) : EReal)) = 0#1 := by
    show Ideal.cmp .une _ _ = _
    simp [Ideal.cmp]
  rw [e1]
  show (max (y : EReal) ((0 : ℝ) : EReal)) + Ideal.log (1 + Ideal.exp (-(max ((y : EReal) - ((0 : ℝ) : EReal)) (-((y : EReal) - ((0 : ℝ) : EReal)))))) = _
  have e2 : (y : EReal) - ((0 : ℝ) : EReal) = ((y : ℝ) : EReal) := by rw [← EReal.coe_sub, sub_zero]
  have em (a b : ℝ) : max (a : EReal) (b : EReal) = ((max a b : ℝ) : EReal) := (Monotone.map_max EReal.coe_strictMono.monotone).symm
  rw [e2, ← EReal.coe_neg, em, em, ← EReal.coe_neg]
  show _ + Ideal.log (1 + ((Real.exp (-max y (-y)) : ℝ) : EReal)) = _
  rw [show (1 : EReal) = ((1 : ℝ) : EReal) from rfl, ← EReal.coe_add]
  have hp : 0 < 1 + Real.exp (-max y (-y)) := by positivity
  show _ + (if 1 + Real.exp (-max y (-y)) ≤ 0 then (⊥ : EReal) else ((Real.log (1 + Real.exp (-max y (-y))) : ℝ) : EReal)) = _
  rw [if_neg (not_le.2 hp), ← EReal.coe_add]
  refine congrArg _ ?_
  rw [← lg_min, abs_neg, ← abs_eq_max_neg]
  rcases le_total y 0 with h | h
  · rw [max_eq_right h, min_eq_right (by linarith)]; ring
  · rw [max_eq_left h, min_eq_left (by linarith)]; ring

theorem guard (y : ℝ) (b : EReal) :
    Scalar.select (FloatOps.cmpf (F := Ideal) (φ := .f32) .oeq (y : EReal) ⊤) b (y : EReal) = (y : EReal) := by
  have e : FloatOps.cmpf (F := Ideal) (φ := .f32) .oeq (y : EReal) ⊤ = 0#1 := by
    show Ideal.cmp .oeq _ _ = _
    simp [Ideal.cmp]
  rw [e]; rfl

section Stages

variable (hX : Is x0 X)
include hX

theorem lsig (i : S1x16x8192x8192.Idx) : val_main_v18_0 (F := Ideal) x0 i = ((lg (zh X (i 1).val (i 2).val (i 3).val) : ℝ) : EReal)
    ∧ val_main_v18_1 (F := Ideal) x0 i = ((Real.exp (lg (-zh X (i 1).val (i 2).val (i 3).val)) : ℝ) : EReal)
    ∧ val_main_v20_0 (F := Ideal) x0 i = ((lg (-zh X (i 1).val (i 2).val (i 3).val) : ℝ) : EReal)
    ∧ val_main_v20_1 (F := Ideal) x0 i = ((Real.exp (lg (zh X (i 1).val (i 2).val (i 3).val)) : ℝ) : EReal) := by
  have hz := z_at hX i
  generalize zh X (i 1).val (i 2).val (i 3).val = z at hz ⊢
  have n0 : val_main_call0_v0 (F := Ideal) x0 i = ((-z : ℝ) : EReal) := by
    rw [val_main_call0_v0_apply, hz]; exact (EReal.coe_neg z).symm
  have n1 : val_main_call1_v0 (F := Ideal) x0 i = ((z : ℝ) : EReal) := by
    rw [val_main_call1_v0_apply, val_main_v19_apply, hz]
    show - -(z : EReal) = _
    rw [neg_neg]
  have s0 : val_main_call0_v1_0 (F := Ideal) x0 i = ((-lg z : ℝ) : EReal) := by
    rw [val_main_call0_v1_0_apply, val_main_call0_call0_v4_apply, val_main_call0_call0_v3_apply, val_main_call0_call0_v2_apply, val_main_call0_call0_v6_apply,
      val_main_call0_call0_v5_apply, val_main_call0_call0_v11_apply, val_main_call0_call0_v1_apply, val_main_call0_call0_v0_apply, val_main_call0_call0_v10_apply,
      val_main_call0_call0_v9_apply, val_main_call0_call0_v8_apply, val_main_call0_call0_v7_apply, val_main_call0_call0_v3_apply, val_main_call0_call0_v2_apply,
      n0]
    simp only [val_main_call0_call0_cst_apply, zero_word]
    exact (softplus (-z)).trans (by rw [neg_neg])
  have s1 : val_main_call1_v1_0 (F := Ideal) x0 i = ((-lg (-z) : ℝ) : EReal) := by
    rw [val_main_call1_v1_0_apply, val_main_call1_call0_v4_apply, val_main_call1_call0_v3_apply, val_main_call1_call0_v2_apply, val_main_call1_call0_v6_apply,
      val_main_call1_call0_v5_apply, val_main_call1_call0_v11_apply, val_main_call1_call0_v1_apply, val_main_call1_call0_v0_apply, val_main_call1_call0_v10_apply,
      val_main_call1_call0_v9_apply, val_main_call1_call0_v8_apply, val_main_call1_call0_v7_apply, val_main_call1_call0_v3_apply, val_main_call1_call0_v2_apply,
      n1]
    simp only [val_main_call1_call0_cst_apply, zero_word]
    exact softplus z
  refine ⟨?_, ?_, ?_, ?_⟩
  · rw [val_main_v18_0_apply, s0]
    show -((-lg z : ℝ) : EReal) = _
    rw [← EReal.coe_neg, neg_neg]
  · rw [val_main_v18_1_apply, val_main_call0_call0_v21_apply, val_main_call0_call0_v16_apply, val_main_call0_call0_v14_apply, val_main_call0_call0_v13_apply,
      val_main_call0_call0_v20_apply, val_main_call0_call0_v18_apply, val_main_call0_call0_v17_apply, val_main_call0_call0_cst_0_apply,
      val_main_call0_call0_cst_2_apply, inf_word, n0, s0, guard, guard]
    show Ideal.exp (((-z : ℝ) : EReal) - ((-lg z : ℝ) : EReal)) = _
    rw [← EReal.coe_sub, ← lg_sub]
    show ((Real.exp _ : ℝ) : EReal) = _
    refine congrArg (fun x : ℝ => ((Real.exp x : ℝ) : EReal)) ?_
    ring
  · rw [val_main_v20_0_apply, s1]
    show -((-lg (-z) : ℝ) : EReal) = _
    rw [← EReal.coe_neg, neg_neg]
  · rw [val_main_v20_1_apply, val_main_call1_call0_v21_apply, val_main_call1_call0_v16_apply, val_main_call1_call0_v14_apply, val_main_call1_call0_v13_apply,
      val_main_call1_call0_v20_apply, val_main_call1_call0_v18_apply, val_main_call1_call0_v17_apply, val_main_call1_call0_cst_0_apply,
      val_main_call1_call0_cst_2_apply, inf_word, n1, s1, guard, guard]
    show Ideal.exp ((z : EReal) - ((-lg (-z) : ℝ) : EReal)) = _
    rw [← EReal.coe_sub, ← lg_sub]
    show ((Real.exp _ : ℝ) : EReal) = _
    refine congrArg (fun x : ℝ => ((Real.exp x : ℝ) : EReal)) ?_
    ring

omit hX in
theorem mask_sel (i : S8192x8192.Idx) (a b : EReal) :
    Scalar.select (val_main_v17 (F := Ideal) i) a b = if (i 1).val < (i 0).val then a else b := by
  rw [val_main_v17_apply, val_main_v15_apply, val_main_v12_apply, val_main_v11_apply, val_main_v16_apply, val_main_v14_apply, val_main_v13_apply]
  have h0 : (i 0).val < 8192 := (i 0).isLt
  have h1 : (i 1).val < 8192 := (i 1).isLt
  exact sel_slt (r := (i 0).val) (c := (i 1).val) (by omega) (by omega) a b

theorem L_at (i : S1x16x8192x8192.Idx) : val_main_v21_0 (F := Ideal) x0 i = ((L (zh X (i 1).val) (i 2).val (i 3).val : ℝ) : EReal) := by
  rw [val_main_v21_0_apply, val_main_v21_1_apply, mask_sel, (lsig hX i).2.2.1, val_main_call2_v2_apply, val_main_call2_v0_apply, val_main_cst_0_apply,
    zero_word, ← coe_ite]
  rfl

theorem after_at (i : S1x16x8192x8192.Idx) :
    val_main_v22 (F := Ideal) x0 i = ((∑ x ∈ Finset.Ico (i 3).val 8192, L (zh X (i 1).val) (i 2).val x : ℝ) : EReal) := by
  obtain ⟨z, a, b, j, rfl⟩ : ∃ (z : Fin 1) (a : Fin 16) (b j : Fin 8192), i = ix4 z a b j := ⟨_, _, _, _, eq_ix4 i⟩
  unfold val_main_v22
  refine (windowAdd _ (fun s => L (zh X a.val) b.val s) z a b (fun k => L_at hX _) _ j h_S_ (val_main_call3_v0 (F := Ideal)) ?_).trans ?_
  · rw [val_main_call3_v0_apply, val_main_call3_cst_apply, zero_word]; rfl
  · exact congrArg _ (sum_onward _ _)

theorem A_at (i : S1x16x8192x8192.Idx) :
    val_main_v25 (F := Ideal) x0 i = ((Real.exp (lg (zh X (i 1).val (i 2).val (i 3).val) + ∑ x ∈ Finset.Ico ((i 3).val + 1) 8192, L (zh X (i 1).val) (i 2).val x) : ℝ) : EReal) := by
  rw [val_main_v25_apply, val_main_v24_apply, val_main_v23_apply, (lsig hX i).1, after_at hX i, L_at hX i]
  have h3 : (i 3).val < 8192 := (i 3).isLt
  rw [Finset.sum_eq_sum_Ico_succ_bot h3]
  show Ideal.exp (((_ : ℝ) : EReal) + (((_ : ℝ) : EReal) - ((_ : ℝ) : EReal))) = _
  rw [← EReal.coe_sub, ← EReal.coe_add, add_sub_cancel_left]
  rfl

theorem W_at (i : S1x16x8192x8192.Idx) : val_main_v26_0 (F := Ideal) x0 i = ((W (zh X (i 1).val) (i 2).val (i 3).val : ℝ) : EReal) := by
  rw [val_main_v26_0_apply, val_main_v26_1_apply, mask_sel, A_at hX i, val_main_call4_v2_apply, val_main_call4_v0_apply, val_main_cst_1_apply,
    zero_word, ← coe_ite]
  rfl

/-- The attention's output. -/
theorem out_at (i : S8192x1024.Idx) : val_main_v29 (F := Ideal) x0 i
    = ((∑ s : Fin 8192, W (zh X ((i 1).val / 64)) (i 0).val s.val * X s.val (2048 + (i 1).val) : ℝ) : EReal) := by
  rw [val_main_v29_apply, val_main_v28_apply, val_main_v27_apply]
  have h0 : (i 0).val < 8192 := (i 0).isLt
  have h1 : (i 1).val < 1024 := (i 1).isLt
  simp only [W_at hX, v_at hX, ← EReal.coe_mul, coe_sum]
  refine congrArg _ (Finset.sum_congr rfl fun s _ => ?_)
  rw [show ((i 0).val * 1024 + (i 1).val) / 64 % 16 = (i 1).val / 64 by omega, show ((i 0).val * 1024 + (i 1).val) / 1024 % 8192 = (i 0).val by omega,
    show 2048 + 64 * ((i 1).val / 64) + ((i 0).val * 1024 + (i 1).val) % 64 = 2048 + (i 1).val by omega]

end Stages

end Cert.ReferenceIdeal.Read

end
-- ==== Proof.Grad.lean ====
module

public import proofs.«01_k».proof.Proof.Ref
public import Idealize.ShloMosaic.Lib.KernelVsHost

@[expose] public section

set_option maxRecDepth 16384
set_option maxHeartbeats 400000

/-! The reference's gradients over the reals. -/

noncomputable section

namespace Cert.Attn

variable (X Y : ℕ → ℕ → ℝ) (h : ℕ)

/-- A head's gradients: of its queries, its keys and its values, at a row and a column. -/
def gq (t c : ℕ) : ℝ := ∑ s : Fin 8192, DZ (zh X h) (Dh X Y h) t s.val * (1 / 8) * X s.val (1024 + c)
def gk (s c : ℕ) : ℝ := ∑ t : Fin 8192, DZ (zh X h) (Dh X Y h) t.val s * (1 / 8) * X t.val c
def gv (s c : ℕ) : ℝ := ∑ t : Fin 8192, Y t.val c * W (zh X h) t.val s
/-- The three side by side. -/
def side (r c : ℕ) : ℝ :=
  if c / 1024 = 0 then gq X Y (c % 1024 / 64) r (c % 1024) else if c / 1024 = 1 then gk X Y (c % 1024 / 64) r (c % 1024) else gv X Y (c % 1024 / 64) r (c % 1024)

end Cert.Attn

namespace Cert.ReferenceIdeal.Read

open Cert.ReferenceIdeal Cert.ReferenceIdeal.Gen Idealize.ShloMosaic Idealize.ShloMosaic.TcCoe Idealize.SL.Sem Idealize.ShloMosaic.StableHlo Cert.Attn

variable {x0 : (⟨S8192x3072, .f32⟩ : BufTy).Contents (Elt Ideal)} {x1 : (⟨S8192x1024, .f32⟩ : BufTy).Contents (Elt Ideal)} {X Y : ℕ → ℕ → ℝ}

theorem sig_one (z : ℝ) : Real.exp (lg (-z)) = 1 - Real.exp (lg z) := by
  have h1 : 0 < 1 + Real.exp (-z) := by positivity
  have h2 : 0 < 1 + Real.exp z := by positivity
  unfold lg
  rw [neg_neg, Real.exp_neg, Real.exp_neg, Real.exp_log h1, Real.exp_log h2]
  have e : Real.exp (-z) * Real.exp z = 1 := by rw [← Real.exp_add]; simp
  field_simp
  nlinarith [e]

section Stages

variable (hX : Is x0 X) (hY : Is x1 Y)
include hX hY

omit hX in
theorem do_at (i : S1x16x8192x64.Idx) : val_main_v31 (F := Ideal) x1 i = ((Y (i 2).val (64 * (i 1).val + (i 3).val) : ℝ) : EReal) := by
  rw [val_main_v31_apply, val_main_v30_apply]
  have h0 : (i 0).val < 1 := (i 0).isLt
  have h1 : (i 1).val < 16 := (i 1).isLt
  have h2 : (i 2).val < 8192 := (i 2).isLt
  have h3 : (i 3).val < 64 := (i 3).isLt
  refine hY.at _ ?_ ?_ <;> dsimp only <;> omega

theorem dv_at (i : S1x16x8192x64.Idx) : val_main_v33 (F := Ideal) x0 x1 i
    = ((∑ t : Fin 8192, Y t.val (64 * (i 1).val + (i 3).val) * W (zh X (i 1).val) t.val (i 2).val : ℝ) : EReal) := by
  rw [val_main_v33_apply, val_main_v32_apply]
  simp only [do_at hY, W_at hX, ← EReal.coe_mul, coe_sum]

theorem D_at (i : S1x16x8192x8192.Idx) : val_main_v34 (F := Ideal) x0 x1 i = ((Dh X Y (i 1).val (i 2).val (i 3).val : ℝ) : EReal) := by
  rw [val_main_v34_apply]
  simp only [do_at hY, v_at hX, ← EReal.coe_mul, coe_sum]
  rfl

theorem E_at (i : S1x16x8192x8192.Idx) : val_main_v36 (F := Ideal) x0 x1 i
    = ((E (zh X (i 1).val) (Dh X Y (i 1).val) (i 2).val (i 3).val : ℝ) : EReal) := by
  rw [val_main_v36_apply, val_main_v35_apply, val_main_v26_1_apply, mask_sel, A_at hX i, D_at hX hY i, val_main_call5_v0_apply, val_main_call5_cst_apply,
    zero_word, ← coe_ite]
  show ((_ : ℝ) : EReal) * ((_ : ℝ) : EReal) = _
  rw [← EReal.coe_mul]
  refine congrArg _ ?_
  unfold E W
  show (if (i 3).val < (i 2).val then _ else _) * _ = _
  split
  · rfl
  · rw [zero_mul, mul_zero]

theorem before_at (i : S1x16x8192x8192.Idx) : val_main_v38 (F := Ideal) x0 x1 i
    = ((∑ x ∈ Finset.range ((i 3).val + 1), E (zh X (i 1).val) (Dh X Y (i 1).val) (i 2).val x : ℝ) : EReal) := by
  obtain ⟨z, a, b, j, rfl⟩ : ∃ (z : Fin 1) (a : Fin 16) (b j : Fin 8192), i = ix4 z a b j := ⟨_, _, _, _, eq_ix4 i⟩
  unfold val_main_v38
  refine (windowAdd _ (fun s => E (zh X a.val) (Dh X Y a.val) b.val s) z a b (fun k => E_at hX hY _) _ j h_S_ (val_main_call6_v0 (F := Ideal)) ?_).trans ?_
  · rw [val_main_call6_v0_apply, val_main_call6_cst_apply, zero_word]; rfl
  · exact congrArg _ (sum_upto _ (by norm_num) _)

theorem dz_at (i : S1x16x8192x8192.Idx) : val_main_v46 (F := Ideal) x0 x1 i
    = ((DZ (zh X (i 1).val) (Dh X Y (i 1).val) (i 2).val (i 3).val * (1 / 8) : ℝ) : EReal) := by
  rw [val_main_v46_apply, val_main_v45_apply, val_main_cst_2_apply, eighth_word, val_main_v44_apply, val_main_v43_apply, val_main_call9_v1_apply,
    val_main_call9_v0_apply, val_main_v42_apply, val_main_v41_apply, val_main_call8_v1_apply, val_main_call8_v0_apply, val_main_v40_apply,
    val_main_v21_1_apply, mask_sel, val_main_v39_apply, val_main_v37_apply, before_at hX hY i, E_at hX hY i, (lsig hX i).2.1, (lsig hX i).2.2.2,
    val_main_call7_v0_apply, val_main_call7_cst_apply, zero_word]
  generalize hz : zh X (i 1).val = z
  generalize hD : Dh X Y (i 1).val = D
  show (- -(-(if (i 3).val < (i 2).val then -((_ : ℝ) : EReal) + ((_ : ℝ) : EReal) else ((0 : ℝ) : EReal)) * ((_ : ℝ) : EReal))
    + -(-((_ : ℝ) : EReal) * ((_ : ℝ) : EReal))) * ((_ : ℝ) : EReal) = _
  rw [← EReal.coe_neg, ← EReal.coe_add, ← coe_ite]
  simp only [← EReal.coe_neg, ← EReal.coe_mul, ← EReal.coe_add]
  refine congrArg _ ?_
  rw [sig_one]
  unfold DZ
  split
  · ring
  · next h => rw [E_of_le z D _ _ (by omega)]; ring

theorem dk_at (i : S1x16x8192x64.Idx) : val_main_v47 (F := Ideal) x0 x1 i
    = ((∑ t : Fin 8192, DZ (zh X (i 1).val) (Dh X Y (i 1).val) t.val (i 2).val * (1 / 8) * X t.val (64 * (i 1).val + (i 3).val) : ℝ) : EReal) := by
  rw [val_main_v47_apply]
  simp only [dz_at hX hY, q_at hX, ← EReal.coe_mul, coe_sum]

theorem dq_at (i : S1x16x8192x64.Idx) : val_main_v48 (F := Ideal) x0 x1 i
    = ((∑ s : Fin 8192, DZ (zh X (i 1).val) (Dh X Y (i 1).val) (i 2).val s.val * (1 / 8) * X s.val (1024 + 64 * (i 1).val + (i 3).val) : ℝ) : EReal) := by
  rw [val_main_v48_apply]
  simp only [dz_at hX hY, k_at hX, ← EReal.coe_mul, coe_sum]

omit hX hY in
theorem ix4_eq {j : S1x16x8192x64.Idx} {b : Fin 16} {c : Fin 8192} {d : Fin 64} (h1 : (j 1).val = b.val) (h2 : (j 2).val = c.val) (h3 : (j 3).val = d.val) :
    j = ix4 0 b c d := funext fun a => Fin.ext (match a with
    | ⟨0, _⟩ => Nat.lt_one_iff.1 (j 0).isLt
    | ⟨1, _⟩ => h1
    | ⟨2, _⟩ => h2
    | ⟨3, _⟩ => h3)

omit hX hY in
theorem pad_in (x : S1x1x16x8192x64.Idx → EReal) (i : S3x1x16x8192x64.Idx) {a b : ℕ} (v : S_.Idx → EReal)
    (h : S1x1x16x8192x64.Pads ![a, 0, 0, 0, 0] ![b, 0, 0, 0, 0] ![0, 0, 0, 0, 0] S3x1x16x8192x64) (hi : (i 0).val = a) :
    pad S3x1x16x8192x64 ![a, 0, 0, 0, 0] ![b, 0, 0, 0, 0] ![0, 0, 0, 0, 0] x v h h_S_ i = x (ix5 0 (i 1) (i 2) (i 3) (i 4)) :=
  pad_apply_of_inside _ _ _ x v h h_S_ i (ix5 0 (i 1) (i 2) (i 3) (i 4)) fun c => match c with
    | ⟨0, _⟩ => by show (i 0).val = a + 0 * (0 + 1); omega
    | ⟨1, _⟩ => by show (i 1).val = 0 + (i 1).val * (0 + 1); omega
    | ⟨2, _⟩ => by show (i 2).val = 0 + (i 2).val * (0 + 1); omega
    | ⟨3, _⟩ => by show (i 3).val = 0 + (i 3).val * (0 + 1); omega
    | ⟨4, _⟩ => by show (i 4).val = 0 + (i 4).val * (0 + 1); omega

omit hX hY in
theorem pad_out (x : S1x1x16x8192x64.Idx → EReal) (i : S3x1x16x8192x64.Idx) {a b : ℕ} (v : S_.Idx → EReal)
    (h : S1x1x16x8192x64.Pads ![a, 0, 0, 0, 0] ![b, 0, 0, 0, 0] ![0, 0, 0, 0, 0] S3x1x16x8192x64) (hi : (i 0).val ≠ a) (hv : ∀ j, v j = ((0 : ℝ) : EReal)) :
    pad S3x1x16x8192x64 ![a, 0, 0, 0, 0] ![b, 0, 0, 0, 0] ![0, 0, 0, 0, 0] x v h h_S_ i = 0 :=
  (pad_apply_of_not_inside _ _ _ x v h h_S_ i (0 : Fin 5) (by
    show ¬(a ≤ (i 0).val ∧ ((i 0).val - a) % (0 + 1) = 0 ∧ ((i 0).val - a) / (0 + 1) < 1)
    omega)).trans (hv _)

omit hX hY in
/-- The three gradients side by side. -/
theorem sides (i : S3x1x16x8192x64.Idx) : val_main_v56 (F := Ideal) x0 x1 i
    = if (i 0).val = 0 then val_main_v48 (F := Ideal) x0 x1 (ix4 0 (i 2) (i 3) (i 4))
      else if (i 0).val = 1 then val_main_v47 (F := Ideal) x0 x1 (ix4 0 (i 2) (i 3) (i 4))
      else val_main_v33 (F := Ideal) x0 x1 (ix4 0 (i 2) (i 3) (i 4)) := by
  have hi : (i 0).val < 3 := (i 0).isLt
  have z3 (j : S_.Idx) : val_main_cst_3 (F := Ideal) j = ((0 : ℝ) : EReal) := (val_main_cst_3_apply j).trans zero_word
  have z4 (j : S_.Idx) : val_main_cst_4 (F := Ideal) j = ((0 : ℝ) : EReal) := (val_main_cst_4_apply j).trans zero_word
  have z5 (j : S_.Idx) : val_main_cst_5 (F := Ideal) j = ((0 : ℝ) : EReal) := (val_main_cst_5_apply j).trans zero_word
  rw [val_main_v56_apply, val_main_v53_apply]
  unfold val_main_v50 val_main_v52 val_main_v55
  show ((_ : EReal) + (_ : EReal)) + (_ : EReal) = _
  obtain h | h | h : (i 0).val = 0 ∨ (i 0).val = 1 ∨ (i 0).val = 2 := by omega
  · rw [pad_out _ i _ _ (by omega) z3, pad_out _ i _ _ (by omega) z4, pad_in _ i _ _ h, if_pos h, val_main_v54_apply, zero_add, zero_add]
    exact congrArg _ (ix4_eq rfl rfl rfl)
  · rw [pad_out _ i _ _ (by omega) z3, pad_in _ i _ _ h, pad_out _ i _ _ (by omega) z5, if_neg (by omega), if_pos h, val_main_v51_apply, zero_add, add_zero]
    exact congrArg _ (ix4_eq rfl rfl rfl)
  · rw [pad_in _ i _ _ h, pad_out _ i _ _ (by omega) z4, pad_out _ i _ _ (by omega) z5, if_neg (by omega), if_neg (by omega), val_main_v49_apply, add_zero,
      add_zero]
    exact congrArg _ (ix4_eq rfl rfl rfl)

/-- The three gradients as columns of one array. -/
theorem cols (i : S8192x3072.Idx) : val_main_v58 (F := Ideal) x0 x1 i
    = ((side X Y (i 0).val (i 1).val : ℝ) : EReal) := by
  have h0 : (i 0).val < 8192 := (i 0).isLt
  have h1 : (i 1).val < 3072 := (i 1).isLt
  have e1 : ((i 0).val * 3072 + (i 1).val) / 1024 % 3 = (i 1).val / 1024 := by omega
  have e2 : ((i 0).val * 3072 + (i 1).val) / 64 % 16 = (i 1).val % 1024 / 64 := by omega
  have e3 : ((i 0).val * 3072 + (i 1).val) / 3072 % 8192 = (i 0).val := by omega
  have e4 : ((i 0).val * 3072 + (i 1).val) % 64 = (i 1).val % 64 := by omega
  have e5 : 64 * ((i 1).val % 1024 / 64) + (i 1).val % 64 = (i 1).val % 1024 := by omega
  rw [val_main_v58_apply, val_main_v57_apply, sides, dq_at hX hY, dk_at hX hY, dv_at hX hY]
  have e (a : ℕ) (x y w x' y' w' : ℝ) (hx : x = x') (hy : y = y') (hw : w = w') :
      (if a = 0 then (x : EReal) else if a = 1 then (y : EReal) else (w : EReal))
        = ((if a = 0 then x' else if a = 1 then y' else w' : ℝ) : EReal) := by
    subst hx hy hw; rw [coe_ite, coe_ite]
  refine (e (((i 0).val * 3072 + (i 1).val) / 1024 % 3) _ _ _ _ _ _ ?_ ?_ ?_).trans (by rw [e1]; rfl)
  · refine Finset.sum_congr rfl fun s _ => ?_
    show DZ (zh X (((i 0).val * 3072 + (i 1).val) / 64 % 16)) (Dh X Y (((i 0).val * 3072 + (i 1).val) / 64 % 16))
      (((i 0).val * 3072 + (i 1).val) / 3072 % 8192) s.val * (1 / 8)
      * X s.val (1024 + 64 * (((i 0).val * 3072 + (i 1).val) / 64 % 16) + ((i 0).val * 3072 + (i 1).val) % 64) = _
    rw [e2, e3, e4, add_assoc, e5]
  · refine Finset.sum_congr rfl fun s _ => ?_
    show DZ (zh X (((i 0).val * 3072 + (i 1).val) / 64 % 16)) (Dh X Y (((i 0).val * 3072 + (i 1).val) / 64 % 16))
      s.val (((i 0).val * 3072 + (i 1).val) / 3072 % 8192) * (1 / 8)
      * X s.val (64 * (((i 0).val * 3072 + (i 1).val) / 64 % 16) + ((i 0).val * 3072 + (i 1).val) % 64) = _
    rw [e2, e3, e4, e5]
  · refine Finset.sum_congr rfl fun s _ => ?_
    show Y s.val (64 * (((i 0).val * 3072 + (i 1).val) / 64 % 16) + ((i 0).val * 3072 + (i 1).val) % 64)
      * W (zh X (((i 0).val * 3072 + (i 1).val) / 64 % 16)) s.val (((i 0).val * 3072 + (i 1).val) / 3072 % 8192) = _
    rw [e2, e3, e4, e5]

/-- The results, by pairs of heads. -/
theorem res_q (i : S8x8192x128.Idx) : val_main_v62 (F := Ideal) x0 x1 i
    = ((gq X Y ((128 * (i 0).val + (i 2).val) / 64) (i 1).val (128 * (i 0).val + (i 2).val) : ℝ) : EReal) := by
  have h0 : (i 0).val < 8 := (i 0).isLt
  have h2 : (i 2).val < 128 := (i 2).isLt
  rw [val_main_v62_apply]
  show val_main_v61 (F := Ideal) x0 x1 i = _
  rw [val_main_v61_apply, val_main_v60_apply, val_main_v59_apply, cols hX hY]
  have e1 : (((i 1).val * 8 + (i 0).val) * 128 + (i 2).val) % 1024 = 128 * (i 0).val + (i 2).val := by omega
  have e2 : (((i 1).val * 8 + (i 0).val) * 128 + (i 2).val) / 1024 = (i 1).val := by omega
  refine congrArg _ ?_
  show side X Y ((((i 1).val * 8 + (i 0).val) * 128 + (i 2).val) / 1024) ((((i 1).val * 8 + (i 0).val) * 128 + (i 2).val) % 1024) = _
  rw [e1, e2]
  unfold side
  rw [if_pos (by omega), Nat.mod_eq_of_lt (by omega)]

theorem res_k (i : S8x8192x128.Idx) : val_main_v66 (F := Ideal) x0 x1 i
    = ((gk X Y ((128 * (i 0).val + (i 2).val) / 64) (i 1).val (128 * (i 0).val + (i 2).val) : ℝ) : EReal) := by
  have h0 : (i 0).val < 8 := (i 0).isLt
  have h2 : (i 2).val < 128 := (i 2).isLt
  rw [val_main_v66_apply]
  show val_main_v65 (F := Ideal) x0 x1 i = _
  rw [val_main_v65_apply, val_main_v64_apply, val_main_v63_apply, cols hX hY]
  have e1 : (((i 1).val * 8 + (i 0).val) * 128 + (i 2).val) % 1024 = 128 * (i 0).val + (i 2).val := by omega
  have e2 : (((i 1).val * 8 + (i 0).val) * 128 + (i 2).val) / 1024 = (i 1).val := by omega
  refine congrArg _ ?_
  show side X Y ((((i 1).val * 8 + (i 0).val) * 128 + (i 2).val) / 1024) (1024 + (((i 1).val * 8 + (i 0).val) * 128 + (i 2).val) % 1024) = _
  rw [e1, e2]
  unfold side
  rw [if_neg (by omega), if_pos (by omega), show (1024 + (128 * (i 0).val + (i 2).val)) % 1024 = 128 * (i 0).val + (i 2).val by omega]

theorem res_v (i : S8x8192x128.Idx) : val_main_v70 (F := Ideal) x0 x1 i
    = ((gv X Y ((128 * (i 0).val + (i 2).val) / 64) (i 1).val (128 * (i 0).val + (i 2).val) : ℝ) : EReal) := by
  have h0 : (i 0).val < 8 := (i 0).isLt
  have h2 : (i 2).val < 128 := (i 2).isLt
  rw [val_main_v70_apply]
  show val_main_v69 (F := Ideal) x0 x1 i = _
  rw [val_main_v69_apply, val_main_v68_apply, val_main_v67_apply, cols hX hY]
  have e1 : (((i 1).val * 8 + (i 0).val) * 128 + (i 2).val) % 1024 = 128 * (i 0).val + (i 2).val := by omega
  have e2 : (((i 1).val * 8 + (i 0).val) * 128 + (i 2).val) / 1024 = (i 1).val := by omega
  refine congrArg _ ?_
  show side X Y ((((i 1).val * 8 + (i 0).val) * 128 + (i 2).val) / 1024) (2048 + (((i 1).val * 8 + (i 0).val) * 128 + (i 2).val) % 1024) = _
  rw [e1, e2]
  unfold side
  rw [if_neg (by omega), if_neg (by omega), show (2048 + (128 * (i 0).val + (i 2).val)) % 1024 = 128 * (i 0).val + (i 2).val by omega]

end Stages

end Cert.ReferenceIdeal.Read

end
-- ==== Proof.Pay.lean ====
module

public import proofs.«01_k».proof.Proof.Attn
public import proofs.«01_k».proof.Proof.Trip
public import Idealize.ShloMosaic.Lib.Pipeline.ValueKit

@[expose] public section

set_option maxRecDepth 16384
set_option maxHeartbeats 4000000

/-! The parts of the body around the weights: the halves of a head pair, the scores of a block, and the products that gather the gradients. -/

noncomputable section

namespace Cert.Attn

open Idealize.ShloMosaic

/-- The lanes of the first and of the second head of a pair. -/
def lo (q : ℕ → ℕ → ℝ) (t l : ℕ) : ℝ := if l < 64 then q t l else 0
def hi (q : ℕ → ℕ → ℝ) (t l : ℕ) : ℝ := if 64 ≤ l then q t l else 0
/-- The product of two rows over a pair's lanes. -/
def sc (q k : ℕ → ℕ → ℝ) (t s : ℕ) : ℝ := ∑ l : Fin 128, q t l * k s l
/-- The rows of both heads side by side, transposed. -/
def Two (v : (⟨2, ![128, 2048]⟩ : Shape).Idx → EReal) (f g : ℕ → ℕ → ℝ) : Prop :=
  ∀ (l : Fin 128) (r : ℕ), r < 1024 → (∀ h, v (ix2 l ⟨r, h⟩) = ((f r l : ℝ) : EReal)) ∧ ∀ m h, m = 1024 + r → v (ix2 l ⟨m, h⟩) = ((g r l : ℝ) : EReal)
/-- A block of keys of both heads one above the other. -/
def Stk (v : (⟨2, ![512, 128]⟩ : Shape).Idx → EReal) (f g : ℕ → ℕ → ℝ) : Prop :=
  ∀ (j : Fin 256) (l : Fin 128), (∀ h, v (ix2 ⟨j.val, h⟩ l) = ((f j l : ℝ) : EReal)) ∧ ∀ h, v (ix2 ⟨256 + j.val, h⟩ l) = ((g j l : ℝ) : EReal)

theorem sel_lo (n : Fin 128) (a : ℝ) :
    Scalar.select (IntOp.cmpi .slt (BitVec.ofNat 32 n.val) 64#32) (a : EReal) 0 = ((if n.val < 64 then a else 0 : ℝ) : EReal) := by
  rw [show (64#32) = BitVec.ofNat 32 64 from rfl, sel_slt (by norm_num) (by omega)]
  split <;> simp [*]

theorem sel_hi (n : Fin 128) (a : ℝ) :
    Scalar.select (IntOp.cmpi .sge (BitVec.ofNat 32 n.val) 64#32) (a : EReal) 0 = ((if 64 ≤ n.val then a else 0 : ℝ) : EReal) := by
  rw [show IntOp.cmpi .sge (BitVec.ofNat 32 n.val) 64#32 = if 64 ≤ n.val then 1#1 else 0#1 from by revert n; decide +kernel]
  split <;> simp [Scalar.select]

theorem eighth : Ideal.ofBits .f32 0x3E000000#32 = ((1 / 8 : ℝ) : EReal) := by
  simp [Ideal.ofBits, Ideal.ieee, -EReal.coe_mul]
  norm_num

end Cert.Attn

namespace Cert.KernelIdeal.Gen

open Idealize.ShloMosaic Idealize.ShloMosaic.TcCoe Idealize.ShloMosaic.Tactic Cert.Attn

variable {q k f g p : ℕ → ℕ → ℝ}

theorem q_lo {x : Vec Ideal S1x1024x128 .bf16} (h : At3 x q) : At2 (k0_pay56 x) (lo q) := fun r l => by
  pointwise [k0_pay56, k0_pay51, k0_pay53]
  simp only [h _ _, sel_lo, lo]

theorem q_hi {x : Vec Ideal S1x1024x128 .bf16} (h : At3 x q) : At2 (k0_pay57 x) (hi q) := fun r l => by
  pointwise [k0_pay57, k0_pay52, k0_pay53]
  simp only [h _ _, sel_hi, hi]

theorem g_hi {x : Vec Ideal S1x1024x128 .bf16} (h : At3 x q) : At2 (k0_pay62 (k0_pay54 x) k0_pay60 k0_pay61) (hi q) := q_hi h

theorem q_two {x : Vec Ideal S1x1024x128 .bf16} (h : At2 (k0_pay56 x) f) (h' : At2 (k0_pay57 x) g) :
    Two (k0_pay58 x) (fun r l => f r l * (1 / 8)) (fun r l => g r l * (1 / 8)) := fun l r hr => by
  constructor
  · intro hh
    pointwise [k0_pay58]
    rw [dif_pos hr, eighth, EReal.coe_mul]
    exact congrArg (· * _) (h ⟨r, hr⟩ l)
  · rintro _ hh rfl
    pointwise [k0_pay58]
    rw [eighth, EReal.coe_mul]
    exact congrArg (· * _) (h' ⟨r, hr⟩ l)

theorem g_two {x : Vec Ideal S1x1024x128 .bf16} (h : At3 x q) :
    Two (k0_pay63 (k0_pay54 x) (k0_pay59 x) k0_pay60 k0_pay61) (lo q) (hi q) := fun l r hr => by
  constructor
  · intro hh
    pointwise [k0_pay63]
    rw [dif_pos hr]
    exact q_lo h ⟨r, hr⟩ l
  · rintro _ hh rfl
    pointwise [k0_pay63]
    exact g_hi h ⟨r, hr⟩ l

theorem tot_0 {v13 : Vec Ideal S1024x128 .f32} {v35 : Vec Ideal S1024x128 .bf16} (h : At2 v35 f) (h' : At2 v13 g) :
    AtC (k0_pay64 (F := Ideal) v13 v35) (fun r => ∑ l : Fin 128, f r l * g r l) := fun r => by
  pointwise [k0_pay64]
  simp only [h _ _, h' _ _, ← EReal.coe_mul, coe_sum]

theorem tot_1 {v13 : Vec Ideal S1024x128 .f32} {x : Vec Ideal S1x1024x128 .bf16} (h : At3 x q) (h' : At2 v13 g) :
    AtC (k0_pay65 (F := Ideal) (k0_pay54 x) v13 k0_pay60 k0_pay61) (fun r => ∑ l : Fin 128, hi q r l * g r l) := tot_0 (g_hi h) h'

theorem sc_256 {v : Vec Ideal S1024x128 .bf16} {w : Vec Ideal S1x256x128 .bf16} (h : At2 v q) (h' : At3 w k) :
    At3 (k0_pay74 v (k0_pay69 w)) (fun r c => sc q k (768 + r) c) := fun r c => by
  pointwise [k0_pay74, k0_pay69]
  simp only [h _ _, h' _ _, ← EReal.coe_mul, coe_sum, sc]

theorem sc_512 {v : Vec Ideal S1024x128 .bf16} {w : Vec Ideal S1x256x128 .bf16} (h : At2 v q) (h' : At3 w k) :
    At3 (k0_pay105 v (k0_pay69 w)) (fun r c => sc q k (512 + r) c) := fun r c => by
  pointwise [k0_pay105, k0_pay69]
  simp only [h _ _, h' _ _, ← EReal.coe_mul, coe_sum, sc]

theorem sc_768 {v : Vec Ideal S1024x128 .bf16} {w : Vec Ideal S1x256x128 .bf16} (h : At2 v q) (h' : At3 w k) :
    At3 (k0_pay141 v w) (fun r c => sc q k (256 + r) c) := fun r c => by
  pointwise [k0_pay141, k0_pay69, k0_pay137]
  simp only [h _ _, h' _ _, ← EReal.coe_mul, coe_sum, sc]

theorem sc_1024 {v : Vec Ideal S1024x128 .bf16} {w : Vec Ideal S1x256x128 .bf16} (h : At2 v q) (h' : At3 w k) :
    At3 (k0_pay206 v (k0_pay69 w)) (sc q k) := fun r c => by
  pointwise [k0_pay206, k0_pay69]
  simp only [h _ _, h' _ _, ← EReal.coe_mul, coe_sum, sc]

theorem stk {w : Vec Ideal S1x256x128 .bf16} (h' : At3 w k) : Stk (k0_pay3 (F := Ideal) k0_pay51 k0_pay52 w) (lo k) (hi k) := fun j l => by
  constructor <;> intro hh <;> pointwise [k0_pay3, k0_pay51, k0_pay52]
  · simp only [h' _ _, sel_lo, lo]
  · simp only [h' _ _, sel_hi, hi]

variable {d0 d1 : ℕ → ℕ → ℝ}

theorem key_256 {v} {x y : Vec Ideal S256x256 .bf16} {o : Vec Ideal S1x128x256 .f32} (hv : Two v f g) (hx : At2 x d0) (hy : At2 y d1) (ho : At3 o p) :
    At3 (k0_pay111 v x y o) fun l c => p l c + ∑ r : Fin 256, (f (768 + r) l * d0 r c + g (768 + r) l * d1 r c) := fun l c => by
  pointwise [k0_pay111]
  have e1 : ∀ x : Fin 256, v (ix2 l ⟨768 + x.val, by omega⟩) = ((f (768 + x.val) l : ℝ) : EReal) := fun x => (hv l _ (by omega)).1 _
  have e2 : ∀ x : Fin 256, v (ix2 l ⟨1792 + x.val, by omega⟩) = ((g (768 + x.val) l : ℝ) : EReal) := fun x => (hv l _ (by omega)).2 _ _ (by omega)
  simp only [ho _ _, e1, e2, hx _ _, hy _ _, ← EReal.coe_mul, coe_sum, ← EReal.coe_add, ← Finset.sum_add_distrib]

theorem key_512 {v} {x y : Vec Ideal S512x256 .bf16} {o : Vec Ideal S1x128x256 .f32} (hv : Two v f g) (hx : At2 x d0) (hy : At2 y d1) (ho : At3 o p) :
    At3 (k0_pay148 (k0_pay144 v) (k0_pay146 o) (k0_pay147 x y)) fun l c => p l c + ∑ r : Fin 512, (f (512 + r) l * d0 r c + g (512 + r) l * d1 r c) := fun l c => by
  pointwise [k0_pay148, k0_pay144, k0_pay146, k0_pay147]
  have e1 : ∀ x : Fin 512, v (ix2 l ⟨512 + x.val, by omega⟩) = ((f (512 + x.val) l : ℝ) : EReal) := fun x => (hv l _ (by omega)).1 _
  have e2 : ∀ x : Fin 512, v (ix2 l ⟨1536 + x.val, by omega⟩) = ((g (512 + x.val) l : ℝ) : EReal) := fun x => (hv l _ (by omega)).2 _ _ (by omega)
  simp only [ho _ _, e1, e2, hx _ _, hy _ _, ← EReal.coe_mul, coe_sum, ← EReal.coe_add, ← Finset.sum_add_distrib]

theorem key_768 {v} {x y : Vec Ideal S768x256 .bf16} {o : Vec Ideal S1x128x256 .f32} (hv : Two v f g) (hx : At2 x d0) (hy : At2 y d1) (ho : At3 o p) :
    At3 (k0_pay178 v x y o) fun l c => p l c + ∑ r : Fin 768, (f (256 + r) l * d0 r c + g (256 + r) l * d1 r c) := fun l c => by
  pointwise [k0_pay178]
  have e1 : ∀ x : Fin 768, v (ix2 l ⟨256 + x.val, by omega⟩) = ((f (256 + x.val) l : ℝ) : EReal) := fun x => (hv l _ (by omega)).1 _
  have e2 : ∀ x : Fin 768, v (ix2 l ⟨1280 + x.val, by omega⟩) = ((g (256 + x.val) l : ℝ) : EReal) := fun x => (hv l _ (by omega)).2 _ _ (by omega)
  simp only [ho _ _, e1, e2, hx _ _, hy _ _, ← EReal.coe_mul, coe_sum, ← EReal.coe_add, ← Finset.sum_add_distrib]

theorem key_1024 {v} {x y : Vec Ideal S1024x256 .bf16} {o : Vec Ideal S1x128x256 .f32} (hv : Two v f g) (hx : At2 x d0) (hy : At2 y d1) (ho : At3 o p) :
    At3 (k0_pay221 v x y o) fun l c => p l c + ∑ r : Fin 1024, (f r l * d0 r c + g r l * d1 r c) := fun l c => by
  pointwise [k0_pay221]
  have e1 : ∀ x : Fin 1024, v (ix2 l ⟨x.val, by omega⟩) = ((f (x.val) l : ℝ) : EReal) := fun x => (hv l _ (by omega)).1 _
  have e2 : ∀ x : Fin 1024, v (ix2 l ⟨1024 + x.val, by omega⟩) = ((g (x.val) l : ℝ) : EReal) := fun x => (hv l _ (by omega)).2 _ _ (by omega)
  simp only [ho _ _, e1, e2, hx _ _, hy _ _, ← EReal.coe_mul, coe_sum, ← EReal.coe_add, ← Finset.sum_add_distrib]

theorem dq_256 {v} {x y : Vec Ideal S256x256 .bf16} {o : Vec Ideal S1024x128 .f32} (hv : Stk v f g) (hx : At2 x d0) (hy : At2 y d1) (ho : At2 o p) :
    At2 (k0_pay114 o v (k0_pay113 x y) (constant S256x128 FTy.f32 0#32)) fun r l => p r l + if r < 768 then 0 else ∑ j : Fin 256, (d0 (r - 768) j * f j l + d1 (r - 768) j * g j l) := fun r l => by
  pointwise [k0_pay114, k0_pay113]
  by_cases hr : r.val < 768
  · simp only [dif_pos hr, if_pos hr, ho _ _, add_zero]
  · simp only [dif_neg hr, if_neg hr, ho _ _, hx _ _, hy _ _, (hv _ _).1 _, (hv _ _).2 _, ← EReal.coe_mul, coe_sum, ← EReal.coe_add, ← Finset.sum_add_distrib]

theorem dq_512 {v} {x y : Vec Ideal S512x256 .bf16} {o : Vec Ideal S1024x128 .f32} (hv : Stk v f g) (hx : At2 x d0) (hy : At2 y d1) (ho : At2 o p) :
    At2 (k0_pay150 o v x y) fun r l => p r l + if r < 512 then 0 else ∑ j : Fin 256, (d0 (r - 512) j * f j l + d1 (r - 512) j * g j l) := fun r l => by
  pointwise [k0_pay150]
  by_cases hr : r.val < 512
  · simp only [dif_pos hr, if_pos hr, ho _ _, add_zero]
  · simp only [dif_neg hr, if_neg hr, ho _ _, hx _ _, hy _ _, (hv _ _).1 _, (hv _ _).2 _, ← EReal.coe_mul, coe_sum, ← EReal.coe_add, ← Finset.sum_add_distrib]

theorem dq_768 {v} {x y : Vec Ideal S768x256 .bf16} {o : Vec Ideal S1024x128 .f32} (hv : Stk v f g) (hx : At2 x d0) (hy : At2 y d1) (ho : At2 o p) :
    At2 (k0_pay180 o v x y) fun r l => p r l + if r < 256 then 0 else ∑ j : Fin 256, (d0 (r - 256) j * f j l + d1 (r - 256) j * g j l) := fun r l => by
  pointwise [k0_pay180]
  by_cases hr : r.val < 256
  · simp only [dif_pos hr, if_pos hr, ho _ _, add_zero]
  · simp only [dif_neg hr, if_neg hr, ho _ _, hx _ _, hy _ _, (hv _ _).1 _, (hv _ _).2 _, ← EReal.coe_mul, coe_sum, ← EReal.coe_add, ← Finset.sum_add_distrib]

theorem dq_1024 {v} {x y : Vec Ideal S1024x256 .bf16} {o : Vec Ideal S1024x128 .f32} (hv : Stk v f g) (hx : At2 x d0) (hy : At2 y d1) (ho : At2 o p) :
    At2 (k0_pay7 o v x y) fun r l => p r l + ∑ j : Fin 256, (d0 r j * f j l + d1 r j * g j l) := fun r l => by
  pointwise [k0_pay7]
  simp only [ho _ _, hx _ _, hy _ _, (hv _ _).1 _, (hv _ _).2 _, ← EReal.coe_mul, coe_sum, ← EReal.coe_add, ← Finset.sum_add_distrib]

theorem dq_last {v} {x y : Vec Ideal S1024x256 .bf16} {o : Vec Ideal S1024x128 .f32} (hv : Stk v f g) (hx : At2 x d0) (hy : At2 y d1) (ho : At2 o p) :
    At3 (k0_pay2 o v x y) fun r l => (p r l + ∑ j : Fin 256, (d0 r j * f j l + d1 r j * g j l)) * (1 / 8) := fun r l => by
  have e := dq_1024 hv hx hy ho r l
  rw [EReal.coe_mul, ← e, ← eighth]
  pointwise [k0_pay2, k0_pay7]

theorem msk_256 : Msk (k0_pay76 (iota .tc S1024x256 32 [0] iota_S1024x256_d0_w32) (iota .tc S1024x256 32 [1] iota_S1024x256_d1_w32)) := fun r c a b => by
  pointwise [k0_pay76]
  exact sel_slt (by omega) (by omega) a b
theorem msk_512 : Msk (k0_pay115 (iota .tc S1024x256 32 [0] iota_S1024x256_d0_w32) (iota .tc S1024x256 32 [1] iota_S1024x256_d1_w32)) := fun r c a b => by
  pointwise [k0_pay115]
  exact sel_slt (by omega) (by omega) a b
theorem msk_768 : Msk (k0_pay151 (iota .tc S1024x256 32 [0] iota_S1024x256_d0_w32) (iota .tc S1024x256 32 [1] iota_S1024x256_d1_w32)) := fun r c a b => by
  pointwise [k0_pay151]
  exact sel_slt (by omega) (by omega) a b
theorem msk_1024 : Msk (k0_pay181 (iota .tc S1024x256 32 [0] iota_S1024x256_d0_w32) (iota .tc S1024x256 32 [1] iota_S1024x256_d1_w32)) := fun r c a b => by
  pointwise [k0_pay181]
  exact sel_slt (by omega) (by omega) a b

theorem zero_col : AtC (k0_pay68 (F := Ideal)) fun _ => 0 := fun r => by
  pointwise [k0_pay68]
  rfl
theorem zero_acc : At2 (k0_pay100 (F := Ideal)) fun _ _ => 0 := fun r c => by
  pointwise [k0_pay100]
  rfl

end Cert.KernelIdeal.Gen

end

end
-- ==== Proof.Host.lean ====
module

public import proofs.«01_k».proof.Proof.Body
public import proofs.«01_k».proof.Proof.Grad
public import proofs.«01_k».proof.Proof.Pay
public import Idealize.ShloMosaic.Lib.Pipeline.ValueKit

@[expose] public section

set_option maxRecDepth 16384
set_option maxHeartbeats 400000

/-! The blocks the body reads, as columns of the two arguments: what the host lines before the region leave in them. -/

noncomputable section

namespace Cert.KernelIdeal.Gen

open Idealize.ShloMosaic Idealize.ShloMosaic.TcCoe Idealize.ShloMosaic.Tactic Cert.Attn
open Cert.ReferenceIdeal.Read (Is)

theorem idx : ∀ t : Fin cfg0.N, win0_0.index t = ![t.val / 8, t.val % 8, 0] ∧ win0_1.index t = ![8 + t.val / 8, 0, 0]
    ∧ win0_2.index t = ![16 + t.val / 8, 0, 0] ∧ win0_3.index t = ![t.val / 8, t.val % 8, 0] ∧ win0_4.index t = ![t.val / 8, t.val % 8, 0]
    ∧ win0_5.index t = ![t.val / 8, t.val % 8, 0] ∧ win0_6.index t = ![t.val / 8, 0, 0] ∧ win0_7.index t = ![t.val / 8, 0, 0]
    ∧ (grid0.coords t 1).val = t.val % 8 :=
  (by decide +kernel : ∀ t : Fin grid0.N, _)

section Lines

variable {F : FTy → Type} [FloatOps F] (m : (ℓ : Loc nD τ sig) → Buf (Elt F) ℓ) (c : Dev nD)

abbrev arg0 : (⟨S8192x3072, .f32⟩ : BufTy).Contents (Elt F) := m ((c : Thread nD τ).loc main_arg0)
abbrev arg1 : (⟨S8192x1024, .f32⟩ : BufTy).Contents (Elt F) := m ((c : Thread nD τ).loc main_arg1)

/-- Columns of a row of pairs of heads, one pair after another. -/
abbrev split24 (x : FVec F S8192x3072 .f32) : FVec F S24x8192x128 .f32 :=
  transpose S24x8192x128 [1, 0, 2] (shapeCast S8192x24x128 x shapeCasts_S8192x3072_S8192x24x128) transposes_S8192x24x128_S24x8192x128_1_0_2
abbrev split8 (x : FVec F S8192x1024 .f32) : FVec F S8x8192x128 .f32 :=
  transpose S8x8192x128 [1, 0, 2] (shapeCast S8192x8x128 x shapeCasts_S8192x1024_S8192x8x128) transposes_S8192x8x128_S8x8192x128_1_0_2

theorem V_v32 : V m c main_v32 = (truncf .bf16 (split24 (F := F) (arg0 m c)) bitsLt_bf16_f32 : FVec F S24x8192x128 .bf16) := by
  sl_kernel_rfl
/-- The output the host computes is the reference's. -/
theorem V_v34 : V m c main_v34 = split8 (F := F) (Cert.ReferenceIdeal.Read.val_main_v29 (F := F) (arg0 m c)) := by
  sl_kernel_rfl
theorem V_v37 : V m c main_v37 = (truncf .bf16 (split8 (F := F) (arg1 m c)) bitsLt_bf16_f32 : FVec F S8x8192x128 .bf16) := by
  sl_kernel_rfl

end Lines

variable (m : (ℓ : Loc nD τ sig) → Buf (Elt Ideal) ℓ) (c : Dev nD)

theorem split24_at (x : FVec Ideal S8192x3072 .f32) (i : S24x8192x128.Idx) :
    split24 x i = x (ix2 (i 1) ⟨(i 0).val * 128 + (i 2).val, by have h0 : (i 0).val < 24 := (i 0).isLt; have h2 : (i 2).val < 128 := (i 2).isLt; omega⟩) := by
  idx_vars i
  pointwise
theorem split8_at (x : FVec Ideal S8192x1024 .f32) (i : S8x8192x128.Idx) :
    split8 x i = x (ix2 (i 1) ⟨(i 0).val * 128 + (i 2).val, by have h0 : (i 0).val < 8 := (i 0).isLt; have h2 : (i 2).val < 128 := (i 2).isLt; omega⟩) := by
  idx_vars i
  pointwise

variable (t : Fin cfg0.N) {X Y : ℕ → ℕ → ℝ}

theorem blk0 (hX : Is (arg0 m c) X) : At3 (iblk m c 0 t : FVec Ideal S1x1024x128 .bf16) fun r l => X (1024 * (t.val % 8) + r) (128 * (t.val / 8) + l) := fun r l => by
  blk_simp [iblk]
  refine (congrFun (V_v32 m c) _).trans ((split24_at _ _).trans (hX.at _ ?_ ?_))
  · show ((win0_0.blk t).view.emb (ix3 0 r l) 1).val = _
    blk_simp [idx t]; omega
  · show ((win0_0.blk t).view.emb (ix3 0 r l) 0).val * 128 + ((win0_0.blk t).view.emb (ix3 0 r l) 2).val = _
    blk_simp [idx t]; omega
theorem blk1 (hX : Is (arg0 m c) X) : At3 (iblk m c 1 t : FVec Ideal S1x8192x128 .bf16) fun r l => X r (1024 + 128 * (t.val / 8) + l) := fun r l => by
  blk_simp [iblk]
  refine (congrFun (V_v32 m c) _).trans ((split24_at _ _).trans (hX.at _ ?_ ?_))
  · show ((win0_1.blk t).view.emb (ix3 0 r l) 1).val = _
    blk_simp [idx t]
  · show ((win0_1.blk t).view.emb (ix3 0 r l) 0).val * 128 + ((win0_1.blk t).view.emb (ix3 0 r l) 2).val = _
    blk_simp [idx t]; omega
theorem blk2 (hX : Is (arg0 m c) X) : At3 (iblk m c 2 t : FVec Ideal S1x8192x128 .bf16) fun r l => X r (2048 + 128 * (t.val / 8) + l) := fun r l => by
  blk_simp [iblk]
  refine (congrFun (V_v32 m c) _).trans ((split24_at _ _).trans (hX.at _ ?_ ?_))
  · show ((win0_2.blk t).view.emb (ix3 0 r l) 1).val = _
    blk_simp [idx t]
  · show ((win0_2.blk t).view.emb (ix3 0 r l) 0).val * 128 + ((win0_2.blk t).view.emb (ix3 0 r l) 2).val = _
    blk_simp [idx t]; omega
theorem blk4 (hY : Is (arg1 m c) Y) : At3 (iblk m c 4 t : FVec Ideal S1x1024x128 .bf16) fun r l => Y (1024 * (t.val % 8) + r) (128 * (t.val / 8) + l) := fun r l => by
  blk_simp [iblk]
  refine (congrFun (V_v37 m c) _).trans ((split8_at _ _).trans (hY.at _ ?_ ?_))
  · show ((win0_4.blk t).view.emb (ix3 0 r l) 1).val = _
    blk_simp [idx t]; omega
  · show ((win0_4.blk t).view.emb (ix3 0 r l) 0).val * 128 + ((win0_4.blk t).view.emb (ix3 0 r l) 2).val = _
    blk_simp [idx t]; omega

/-- A head's output, from its weights and value rows. -/
def oh (X : ℕ → ℕ → ℝ) (h t c : ℕ) : ℝ := ∑ s : Fin 8192, W (zh X h) t s * X s (2048 + c)

theorem blk3 (hX : Is (arg0 m c) X) : At3 (iblk m c 3 t : FVec Ideal S1x1024x128 .f32) fun r l =>
    oh X ((128 * (t.val / 8) + l) / 64) (1024 * (t.val % 8) + r) (128 * (t.val / 8) + l) := fun r l => by
  blk_simp [iblk]
  refine (congrFun (V_v34 m c) _).trans ((split8_at _ _).trans ((Cert.ReferenceIdeal.Read.out_at hX _).trans ?_))
  have e1 : ((win0_3.blk t).view.emb (ix3 0 r l) 1).val = 1024 * (t.val % 8) + r.val := by blk_simp [idx t]; omega
  have e0 : ((win0_3.blk t).view.emb (ix3 0 r l) 0).val * 128 + ((win0_3.blk t).view.emb (ix3 0 r l) 2).val = 128 * (t.val / 8) + l.val := by blk_simp [idx t]; omega
  show ((oh X ((((win0_3.blk t).view.emb (ix3 0 r l) 0).val * 128 + ((win0_3.blk t).view.emb (ix3 0 r l) 2).val) / 64) ((win0_3.blk t).view.emb (ix3 0 r l) 1).val (((win0_3.blk t).view.emb (ix3 0 r l) 0).val * 128 + ((win0_3.blk t).view.emb (ix3 0 r l) 2).val) : ℝ) : EReal) = _
  rw [e0, e1]

end Cert.KernelIdeal.Gen
end
-- ==== Proof.Geo.lean ====
module

public import proofs.«01_k».proof.Proof.Pay
public import Idealize.ShloMosaic.Lib.WritesUnit

@[expose] public section

set_option maxRecDepth 16384
set_option maxHeartbeats 4000000

/-! Where the body reads and writes: the offsets it computes, and what a buffer holds after a piece is written. -/

noncomputable section

namespace Cert.KernelIdeal.Gen

open Idealize.ShloMosaic Idealize.ShloMosaic.TcCoe Idealize.ShloMosaic.Tactic Cert.Attn

theorem off1 (i : grid0.Coords) (r : Fin 4) : k0_off1 i (BitVec.ofNat 32 r.val) = ![0, 1024 * (i 1).val + 256 * r.val, 0] := by
  unfold k0_off1; generalize i 1 = n; revert n r; decide +kernel
theorem off2 (i : grid0.Coords) (r : Fin 3) : k0_off2 i (BitVec.ofNat 32 r.val) = ![0, 1024 * (i 1).val + 256 * (r.val + 1), 0] := by
  unfold k0_off2; generalize i 1 = n; revert n r; decide +kernel
theorem off3 (i : grid0.Coords) (r : Fin 3) : k0_off3 i (BitVec.ofNat 32 r.val) = ![0, 0, 1024 * (i 1).val + 256 * (r.val + 1)] := by
  unfold k0_off3; generalize i 1 = n; revert n r; decide +kernel
theorem off4 (i : grid0.Coords) : k0_off4 i = ![0, 1024 * (i 1).val - 256, 0] := by
  unfold k0_off4; generalize i 1 = n; revert n; decide +kernel
theorem trips_eq (i : grid0.Coords) : (k0_t1_loop i).trips = 4 * (i 1).val := by
  unfold k0_t1_loop; generalize i 1 = n; revert n; decide +kernel
theorem off5 (i : grid0.Coords) (k : Fin (k0_t1_loop i).trips) : k0_off5 i k = ![0, 1024 * (i 1).val - 256 * k.val, 0] := by
  have hk : k.val < 4 * (i 1).val := trips_eq i ▸ k.isLt
  have hi : (i 1).val < 8 := (i 1).isLt
  unfold k0_off5; generalize k.val = m at *
  have key : ∀ n : Fin 8, ∀ m : Fin 32, m.val < 4 * n.val → (Scalar.indexCast (Scalar.muli (Scalar.addi (Scalar.subi (Scalar.subi (Scalar.muli 4#32 (BitVec.ofNat 32 n.val)) 1#32) (Scf.iv 0#32 1#32 m.val)) 1#32) 256#32)).toNat = 1024 * n.val - 256 * m.val := by decide +kernel
  exact congrArg (fun x => ![0, x, 0]) (key ⟨(i 1).val, hi⟩ ⟨m, by omega⟩ hk)
theorem off6 (i : grid0.Coords) (k : Fin (k0_t1_loop i).trips) : k0_off6 i k = ![0, 0, 1024 * (i 1).val - 256 * k.val] :=
  congrArg (fun x => ![0, 0, x]) (congrFun (off5 i k) 1)
theorem off7 (i : grid0.Coords) (k : Fin (k0_t1_loop i).trips) : k0_off7 i k = ![0, 1024 * (i 1).val - 256 * k.val - 512, 0] := by
  have hk : k.val < 4 * (i 1).val := trips_eq i ▸ k.isLt
  have hi : (i 1).val < 8 := (i 1).isLt
  unfold k0_off7; generalize k.val = m at *
  have key : ∀ n : Fin 8, ∀ m : Fin 32, m.val < 4 * n.val → (Scalar.indexCast (Scalar.muli (Scalar.maxsi (Scalar.subi (Scalar.subi (Scalar.subi (Scalar.muli 4#32 (BitVec.ofNat 32 n.val)) 1#32) (Scf.iv 0#32 1#32 m.val)) 1#32) 0#32) 256#32)).toNat = 1024 * n.val - 256 * m.val - 512 := by decide +kernel
  exact congrArg (fun x => ![0, x, 0]) (key ⟨(i 1).val, hi⟩ ⟨m, by omega⟩ hk)

section Reads

variable {s : Shape} {e : EltTy} (m : Memref sig .tc .vmem s e) (f : BufTy.Contents (Elt Ideal) m.view.ty)
  (L : List (View.Piece (Elt Ideal) s e)) {off size : Fin s.rank → ℕ} (inb : ∀ a, off a + size a ≤ s.size a)

/-- A rectangle just written reads back what was written. -/
theorem hit (w : (Rect.unit off size inb).shape.Idx → Elt Ideal e) :
    m.view.readAt (Elt Ideal) (Rect.unit off size inb).toLoadRect (m.view.writes (Elt Ideal) f (⟨Rect.unit off size inb, w⟩ :: L)) = w :=
  funext fun x => View.read_writes_cons_unit_of_mem _ f inb w L _ x rfl fun a => by
    show off a + 1 * (x a).val = _
    rw [Nat.one_mul]

/-- A rectangle beside the one just written reads what was there before. -/
theorem miss {off' size' : Fin s.rank → ℕ} (inb' : ∀ a, off' a + size' a ≤ s.size a) (w : (Rect.unit off' size' inb').shape.Idx → Elt Ideal e)
    (a : Fin s.rank) (h : off a + size a ≤ off' a ∨ off' a + size' a ≤ off a) :
    m.view.readAt (Elt Ideal) (Rect.unit off size inb).toLoadRect (m.view.writes (Elt Ideal) f (⟨Rect.unit off' size' inb', w⟩ :: L))
      = m.view.readAt (Elt Ideal) (Rect.unit off size inb).toLoadRect (m.view.writes (Elt Ideal) f L) :=
  funext fun x => View.read_writes_cons_unit_of_not_mem _ f inb' w L _ rfl a (by
    have hx : (x a).val < size a := (x a).isLt
    have hy : ((Rect.unit off size inb).toLoadRect.idx x a).val = off a + 1 * (x a).val := rfl
    omega)

end Reads

/-- A block of rows read out of a whole buffer. -/
theorem rd3 {m n k : ℕ} {M : Memref sig .tc .vmem ⟨3, ![1, m, n]⟩ .bf16} (hM : M.IsWhole) {x : Vec Ideal ⟨3, ![1, m, n]⟩ .bf16} {q : ℕ → ℕ → ℝ} (h : At3 x q)
    {off : Fin 3 → ℕ} {inb : ∀ a, off a + (![1, k, n] : Fin 3 → ℕ) a ≤ (⟨3, ![1, m, n]⟩ : Shape).size a} (o : ℕ) (ho : off = ![0, o, 0]) :
    At3 (M.view.readAt (Elt Ideal) (Rect.unit (s := ⟨3, ![1, m, n]⟩) off ![1, k, n] inb).toLoadRect (hM.unread x)) fun r c => q (o + r) c := fun r c => by
  subst ho
  have b : o + k ≤ m := inb 1
  rw [View.readAt_apply, hM.read_unread]
  exact (congrArg x (funext fun a => Fin.ext (by
    show (![0, o, 0] : Fin 3 → ℕ) a + 1 * (ix3 (0 : Fin 1) r c a).val = (ix3 (0 : Fin 1) (⟨o + r, by omega⟩ : Fin m) c a).val
    fin_cases a <;> simp [ix3]))).trans (h ⟨o + r, _⟩ c)

/-- What an accumulator of keys holds. -/
def Ac {M : Memref sig .tc .vmem S1x128x8192 .f32} (f : BufTy.Contents (Elt Ideal) M.view.ty) (p : ℕ → ℕ → ℝ) : Prop :=
  ∀ (l : Fin 128) (s : Fin 8192), M.view.read (Elt Ideal) f (ix3 0 l s) = ((p l s : ℝ) : EReal)

variable {M : Memref sig .tc .vmem S1x128x8192 .f32} {f : BufTy.Contents (Elt Ideal) M.view.ty} {p : ℕ → ℕ → ℝ}
  {off : Fin 3 → ℕ} {inb : ∀ a, off a + S1x128x256.size a ≤ S1x128x8192.size a}

theorem Ac.rd (h : Ac f p) (o : ℕ) (ho : off = ![0, 0, o]) :
    At3 (M.view.readAt (Elt Ideal) (Rect.unit (s := S1x128x8192) off S1x128x256.size inb).toLoadRect f) fun l c => p l (o + c) := fun l c => by
  subst ho
  have b : o + 256 ≤ 8192 := inb 2
  rw [View.readAt_apply]
  exact (congrArg (M.view.read (Elt Ideal) f) (funext fun a => Fin.ext (by
    show (![0, 0, o] : Fin 3 → ℕ) a + 1 * (ix3 (0 : Fin 1) l c a).val = (ix3 (0 : Fin 1) l (⟨o + c, by omega⟩ : Fin 8192) a).val
    fin_cases a <;> simp [ix3]))).trans (h l ⟨o + c, _⟩)

theorem Ac.wr {L : List (View.Piece (Elt Ideal) S1x128x8192 .f32)} (h : Ac (M.view.writes (Elt Ideal) f L) p) {w : Vec Ideal S1x128x256 .f32} {q : ℕ → ℕ → ℝ} (o : ℕ) (ho : off = ![0, 0, o])
    (hw : At3 w fun l c => q l (o + c)) :
    Ac (M.view.writes (Elt Ideal) f (⟨Rect.unit (s := S1x128x8192) off S1x128x256.size inb, w⟩ :: L)) fun l s => if o ≤ s ∧ s < o + 256 then q l s else p l s := fun l s => by
  subst ho
  dsimp only
  have b : o + 256 ≤ 8192 := inb 2
  by_cases hs : o ≤ s.val ∧ s.val < o + 256
  · rw [View.read_writes_cons_unit_of_mem _ f inb w L (ix3 0 l s) (ix3 0 l ⟨s - o, by omega⟩) rfl (by
      intro a; fin_cases a <;> simp [ix3] <;> omega), if_pos hs]
    have e := hw l ⟨s - o, by omega⟩
    rw [e]
    simp only [Nat.add_sub_cancel' hs.1]
  · rw [View.read_writes_cons_unit_of_not_mem _ f inb w L (ix3 0 l s) rfl 2 (by simp [ix3]; omega), if_neg hs]
    exact h l s

theorem Ac.add {L : List (View.Piece (Elt Ideal) S1x128x8192 .f32)} {o : ℕ} {t : ℕ → ℕ → ℝ}
    (h : Ac (M.view.writes (Elt Ideal) f L) fun l s => p l s + if o + 256 ≤ s then t l s else 0) {w : Vec Ideal S1x128x256 .f32} (ho : off = ![0, 0, o])
    (hw : At3 w fun l c => p l (o + c) + t l (o + c)) :
    Ac (M.view.writes (Elt Ideal) f (⟨Rect.unit (s := S1x128x8192) off S1x128x256.size inb, w⟩ :: L)) fun l s => p l s + if o ≤ s then t l s else 0 := fun l s => by
  rw [h.wr (q := fun l s => p l s + t l s) o ho hw l s]
  congr 1
  dsimp only
  by_cases a : o ≤ s.val
  · by_cases b : s.val < o + 256
    · rw [if_pos ⟨a, b⟩, if_pos a]
    · rw [if_neg (by omega), if_pos (by omega), if_pos a]
  · rw [if_neg (by omega), if_neg (by omega), if_neg a]

end Cert.KernelIdeal.Gen

end

end
-- ==== Proof.Diag.lean ====
module

public import proofs.«01_k».proof.Proof.Gen.KernelIdeal.Skeleton
public import proofs.«01_k».proof.Proof.Attn
public import Idealize.ShloMosaic.Lib.Pipeline.ValueKit

@[expose] public section

set_option maxRecDepth 16384
set_option maxHeartbeats 4000000

/-! A block of keys on the diagonal: its weights, the cotangents of its scores and the two sums carried on, for each of the
four blocks of a tile and each of the two heads of a pair. -/

noncomputable section

namespace Cert.KernelIdeal.Gen

open Idealize.ShloMosaic Idealize.ShloMosaic.TcCoe Idealize.ShloMosaic.Tactic Cert.Attn

theorem nm_scale : Named.named (F := Ideal) (φ := .f32) κ "scale_log2e" 0x3E38AA3B#32 = ((8⁻¹ * (Real.log 2)⁻¹ : ℝ) : EReal) :=
  IdealRules.named_const.ideal_named_scalar _ _ _ _ rfl
theorem nm_ln2 : Named.named (F := Ideal) (φ := .f32) κ "inv_ln2" 0x3FB8AA3B#32 = (((Real.log 2)⁻¹ : ℝ) : EReal) :=
  IdealRules.named_const.ideal_named_scalar _ _ _ _ rfl

theorem tri : Tri (k0_pay66 (F := Ideal)) := by
  intro k c
  pointwise [k0_pay66]
  exact num_sgt (by omega) (by omega)

theorem tri2 : Tri2 (k0_pay67 (F := Ideal)) := by
  intro k c
  refine ⟨fun h => ?_, fun h => ?_⟩
  · pointwise [k0_pay67]
    exact num_sge (by omega) (by omega)
  · pointwise [k0_pay67]
    exact num_sge (by omega) (by omega)

variable {z D : ℕ → ℕ → ℝ} {T B : ℕ} (hB : B + 256 ≤ 8192)
  {v59 : FVec Ideal S256x256 .bf16} (h59 : Tri v59) {v66 : FVec Ideal S512x256 .bf16} (h66 : Tri2 v66)
  {a e tt : FVec Ideal S1024x1 .f32} (ha : AtC a fun r => R z (T + r) (B + 256)) (he : AtC e fun r => ES z D (T + r) (B + 256))
  (ht : AtC tt fun r => TOT z D (T + r))

include hB h59 h66 ha he ht

section Three

variable (hk : B = T + 768) {x d : Vec Ideal S1x256x256 .f32}
  (hx : At3 x fun r c => 8 * z (B + r) (B + c)) (hd : At3 d fun r c => D (B + r) (B + c))
include hk hx hd

theorem diag3_0 (hae : a = e) {mk : IVec S256x256 1} (hm : Msk mk) :
    At2 (k0_pay83 v59 a mk (k0_pay77 x) (k0_pay78 x) (k0_pay79 x)) (fun r c => W z (B + r) (B + c))
      ∧ At2 (k0_pay85 tt v59 v66 a mk (k0_pay77 x) (k0_pay78 x) (k0_pay79 x) d) (fun r c => DZ z D (B + r) (B + c))
      ∧ AtC (k0_pay88 a (k0_pay86 mk (k0_pay77 x) (k0_pay78 x) (k0_pay79 x)) k0_pay87) (fun r => R z (T + r) B)
      ∧ AtC (k0_pay89 e (k0_pay84 v59 a mk (k0_pay77 x) (k0_pay78 x) (k0_pay79 x) d)) (fun r => ES z D (T + r) B) := by
  subst hae
  have off : ∀ r : ℕ, T + (768 + r) = B + r := fun r => by omega
  have lb : At2 (k0_pay80 (k0_pay78 x) (k0_pay79 x)) fun r c => lg (z (B + r) (B + c)) / Real.log 2 := fun r c => by
    pointwise [k0_pay80, k0_pay79, k0_pay78, k0_pay77]
    simp only [hx _ _, nm_scale, nm_ln2, exp2_eq, absf_eq, z2_eq, lse_eq, lb_eq]
  have l2 : At2 (k0_pay81 mk (k0_pay77 x) (k0_pay78 x) (k0_pay79 x)) fun r c => L z (B + r) (B + c) / Real.log 2 := fun r c => by
    pointwise [k0_pay81, k0_pay77]
    simp only [lb _ _, hx _ _, nm_scale, z2_eq, l2_eq, hm _ _, l2_mask]
  have w : At2 (k0_pay82 v59 a mk (k0_pay77 x) (k0_pay78 x) (k0_pay79 x)) fun r c => W z (B + r) (B + c) := fun r c => by
    pointwise [k0_pay82]
    simp only [lb _ _, l2 _ _, ha _, h59 _ _, hm _ _, exp2_eq, off]
    exact w_mask z B hB r c
  have ee : At2 (k0_pay84 v59 a mk (k0_pay77 x) (k0_pay78 x) (k0_pay79 x) d) fun r c => E z D (B + r) (B + c) := fun r c => by
    pointwise [k0_pay84]
    simp only [w _ _, hd _ _, e_eq]
  refine ⟨fun r c => ?_, fun r c => ?_, fun r => ?_, fun r => ?_⟩
  · pointwise [k0_pay83]
    exact w r c
  · pointwise [k0_pay85]
    simp only [ee _ _, lb _ _, hm _ _, ht _, he _, (h66 _ _).1 _, (h66 _ _).2 _, exp2_eq, exp2_lg, off]
    exact dz_mask z D B hB r c
  · pointwise [k0_pay88, k0_pay86, k0_pay87]
    simp only [ha _, l2 _ _]
    exact R_step z hk hB r
  · pointwise [k0_pay89]
    simp only [he _, ee _ _]
    exact ES_step z D hk hB r

theorem diag3_1 {mk : IVec S256x256 1} (hm : Msk mk) :
    At2 (k0_pay94 v59 a mk x) (fun r c => W z (B + r) (B + c))
      ∧ At2 (k0_pay97 tt v66 e mk (k0_pay91 x) (k0_pay93 v59 a mk x) (k0_pay95 d)) (fun r c => DZ z D (B + r) (B + c))
      ∧ AtC (k0_pay98 a (k0_pay92 mk x)) (fun r => R z (T + r) B)
      ∧ AtC (k0_pay99 e (k0_pay93 v59 a mk x) (k0_pay95 d)) (fun r => ES z D (T + r) B) := by
  have off : ∀ r : ℕ, T + (768 + r) = B + r := fun r => by omega
  have lb : At2 (k0_pay91 x) fun r c => lg (z (B + r) (B + c)) / Real.log 2 := fun r c => by
    pointwise [k0_pay91, k0_pay90]
    simp only [hx _ _, nm_scale, nm_ln2, exp2_eq, absf_eq, z2_eq, lse_eq, lb_eq]
  have l2 : At2 (k0_pay92 mk x) fun r c => L z (B + r) (B + c) / Real.log 2 := fun r c => by
    pointwise [k0_pay92, k0_pay90]
    simp only [lb _ _, hx _ _, nm_scale, z2_eq, l2_eq, hm _ _, l2_mask]
  have w : At2 (k0_pay93 v59 a mk x) fun r c => W z (B + r) (B + c) := fun r c => by
    pointwise [k0_pay93]
    simp only [lb _ _, l2 _ _, ha _, h59 _ _, hm _ _, exp2_eq, off]
    exact w_mask z B hB r c
  have ee : At2 (k0_pay96 (k0_pay93 v59 a mk x) (k0_pay95 d)) fun r c => E z D (B + r) (B + c) := fun r c => by
    pointwise [k0_pay96, k0_pay95]
    simp only [w _ _, hd _ _, e_eq]
  refine ⟨fun r c => ?_, fun r c => ?_, fun r => ?_, fun r => ?_⟩
  · pointwise [k0_pay94]
    exact w r c
  · pointwise [k0_pay97]
    simp only [ee _ _, lb _ _, hm _ _, ht _, he _, (h66 _ _).1 _, (h66 _ _).2 _, exp2_eq, exp2_lg, off]
    exact dz_mask z D B hB r c
  · pointwise [k0_pay98]
    simp only [ha _, l2 _ _]
    exact R_step z hk hB r
  · pointwise [k0_pay99]
    simp only [he _, ee _ _]
    exact ES_step z D hk hB r

end Three

section Two

variable (hk : B = T + 512) {x d : Vec Ideal S1x512x256 .f32}
  (hx : At3 x fun r c => 8 * z (B + r) (B + c)) (hd : At3 d fun r c => D (B + r) (B + c))
include hk hx hd

theorem diag2_0 {v67 v68 : IVec S1024x256 32} (hm : Msk (k0_pay115 v67 v68)) :
    At2 (k0_pay120 v59 v67 v68 a x) (fun r c => W z (B + r) (B + c))
      ∧ At2 (k0_pay122 tt v66 e (k0_pay115 v67 v68) (k0_pay117 x) (k0_pay121 v59 v67 v68 a x d)) (fun r c => DZ z D (B + r) (B + c))
      ∧ AtC (k0_pay123 a (k0_pay118 v67 v68 x)) (fun r => R z (T + r) B)
      ∧ AtC (k0_pay124 e (k0_pay121 v59 v67 v68 a x d)) (fun r => ES z D (T + r) B) := by
  have off : ∀ r : ℕ, T + (512 + r) = B + r := fun r => by omega
  have lb : At2 (k0_pay117 x) fun r c => lg (z (B + r) (B + c)) / Real.log 2 := fun r c => by
    pointwise [k0_pay117, k0_pay116]
    simp only [hx _ _, nm_scale, nm_ln2, exp2_eq, absf_eq, z2_eq, lse_eq, lb_eq]
  have l2 : At2 (k0_pay118 v67 v68 x) fun r c => L z (B + r) (B + c) / Real.log 2 := fun r c => by
    pointwise [k0_pay118, k0_pay116]
    simp only [lb _ _, hx _ _, nm_scale, z2_eq, l2_eq, hm _ _, l2_mask]
  have w : At2 (k0_pay119 v59 v67 v68 a x) fun r c => W z (B + r) (B + c) := fun r c => by
    pointwise [k0_pay119]
    simp only [lb _ _, l2 _ _, ha _, h59 _ _, hm _ _, exp2_eq, off]
    exact w_mask z B hB r c
  have ee : At2 (k0_pay121 v59 v67 v68 a x d) fun r c => E z D (B + r) (B + c) := fun r c => by
    pointwise [k0_pay121]
    simp only [w _ _, hd _ _, e_eq]
  refine ⟨fun r c => ?_, fun r c => ?_, fun r => ?_, fun r => ?_⟩
  · pointwise [k0_pay120]
    exact w r c
  · pointwise [k0_pay122]
    simp only [ee _ _, lb _ _, hm _ _, ht _, he _, (h66 _ _).1 _, (h66 _ _).2 _, exp2_eq, exp2_lg, off]
    exact dz_mask z D B hB r c
  · pointwise [k0_pay123]
    simp only [ha _, l2 _ _]
    exact R_step z hk hB r
  · pointwise [k0_pay124]
    simp only [he _, ee _ _]
    exact ES_step z D hk hB r

theorem diag2_1 {mk : IVec S512x256 1} (hm : Msk mk) :
    At2 (k0_pay131 v59 a mk (k0_pay125 x) (k0_pay126 x) (k0_pay127 x) (Named.named κ "inv_ln2" 0x3FB8AA3B#32)) (fun r c => W z (B + r) (B + c))
      ∧ At2 (k0_pay133 tt v59 v66 a e mk (k0_pay125 x) (k0_pay126 x) (k0_pay127 x) (Named.named κ "inv_ln2" 0x3FB8AA3B#32) d) (fun r c => DZ z D (B + r) (B + c))
      ∧ AtC (k0_pay135 a (k0_pay134 mk (k0_pay125 x) (k0_pay126 x) (k0_pay127 x) (Named.named κ "inv_ln2" 0x3FB8AA3B#32))) (fun r => R z (T + r) B)
      ∧ AtC (k0_pay136 e (k0_pay132 v59 a mk (k0_pay125 x) (k0_pay126 x) (k0_pay127 x) (Named.named κ "inv_ln2" 0x3FB8AA3B#32) d)) (fun r => ES z D (T + r) B) := by
  have off : ∀ r : ℕ, T + (512 + r) = B + r := fun r => by omega
  have lb : At2 (k0_pay128 (k0_pay126 x) (k0_pay127 x) (Named.named κ "inv_ln2" 0x3FB8AA3B#32)) fun r c => lg (z (B + r) (B + c)) / Real.log 2 := fun r c => by
    pointwise [k0_pay128, k0_pay127, k0_pay126, k0_pay125]
    simp only [hx _ _, nm_scale, nm_ln2, exp2_eq, absf_eq, z2_eq, lse_eq, lb_eq]
  have l2 : At2 (k0_pay129 mk (k0_pay125 x) (k0_pay126 x) (k0_pay127 x) (Named.named κ "inv_ln2" 0x3FB8AA3B#32)) fun r c => L z (B + r) (B + c) / Real.log 2 := fun r c => by
    pointwise [k0_pay129, k0_pay125]
    simp only [lb _ _, hx _ _, nm_scale, z2_eq, l2_eq, hm _ _, l2_mask]
  have w : At2 (k0_pay130 v59 a mk (k0_pay125 x) (k0_pay126 x) (k0_pay127 x) (Named.named κ "inv_ln2" 0x3FB8AA3B#32)) fun r c => W z (B + r) (B + c) := fun r c => by
    pointwise [k0_pay130]
    simp only [lb _ _, l2 _ _, ha _, h59 _ _, hm _ _, exp2_eq, off]
    exact w_mask z B hB r c
  have ee : At2 (k0_pay132 v59 a mk (k0_pay125 x) (k0_pay126 x) (k0_pay127 x) (Named.named κ "inv_ln2" 0x3FB8AA3B#32) d) fun r c => E z D (B + r) (B + c) := fun r c => by
    pointwise [k0_pay132]
    simp only [w _ _, hd _ _, e_eq]
  refine ⟨fun r c => ?_, fun r c => ?_, fun r => ?_, fun r => ?_⟩
  · pointwise [k0_pay131]
    exact w r c
  · pointwise [k0_pay133]
    simp only [ee _ _, lb _ _, hm _ _, ht _, he _, (h66 _ _).1 _, (h66 _ _).2 _, exp2_eq, exp2_lg, off]
    exact dz_mask z D B hB r c
  · pointwise [k0_pay135, k0_pay134]
    simp only [ha _, l2 _ _]
    exact R_step z hk hB r
  · pointwise [k0_pay136]
    simp only [he _, ee _ _]
    exact ES_step z D hk hB r

end Two

section One

variable (hk : B = T + 256) {x d : Vec Ideal S1x768x256 .f32}
  (hx : At3 x fun r c => 8 * z (B + r) (B + c)) (hd : At3 d fun r c => D (B + r) (B + c))
include hk hx hd

theorem diag1_0 {mk : IVec S768x256 1} (hm : Msk mk) :
    At2 (k0_pay157 v59 a mk (k0_pay153 x) (k0_pay154 x)) (fun r c => W z (B + r) (B + c))
      ∧ At2 (k0_pay159 tt v59 v66 a e mk (k0_pay153 x) (k0_pay154 x) d) (fun r c => DZ z D (B + r) (B + c))
      ∧ AtC (k0_pay160 a mk (k0_pay154 x)) (fun r => R z (T + r) B)
      ∧ AtC (k0_pay161 e (k0_pay158 v59 a mk (k0_pay153 x) (k0_pay154 x) d)) (fun r => ES z D (T + r) B) := by
  have off : ∀ r : ℕ, T + (256 + r) = B + r := fun r => by omega
  have lb : At2 (k0_pay153 x) fun r c => lg (z (B + r) (B + c)) / Real.log 2 := fun r c => by
    pointwise [k0_pay153, k0_pay152]
    simp only [hx _ _, nm_scale, nm_ln2, exp2_eq, absf_eq, z2_eq, lse_eq, lb_eq]
  have l2 : At2 (k0_pay155 mk (k0_pay154 x)) fun r c => L z (B + r) (B + c) / Real.log 2 := fun r c => by
    pointwise [k0_pay155, k0_pay154, k0_pay152]
    simp only [lb _ _, hx _ _, nm_scale, z2_eq, l2_eq, hm _ _, l2_mask]
  have w : At2 (k0_pay156 v59 a mk (k0_pay153 x) (k0_pay154 x)) fun r c => W z (B + r) (B + c) := fun r c => by
    pointwise [k0_pay156]
    simp only [lb _ _, l2 _ _, ha _, h59 _ _, hm _ _, exp2_eq, off]
    exact w_mask z B hB r c
  have ee : At2 (k0_pay158 v59 a mk (k0_pay153 x) (k0_pay154 x) d) fun r c => E z D (B + r) (B + c) := fun r c => by
    pointwise [k0_pay158]
    simp only [w _ _, hd _ _, e_eq]
  refine ⟨fun r c => ?_, fun r c => ?_, fun r => ?_, fun r => ?_⟩
  · pointwise [k0_pay157]
    exact w r c
  · pointwise [k0_pay159]
    simp only [ee _ _, lb _ _, hm _ _, ht _, he _, (h66 _ _).1 _, (h66 _ _).2 _, exp2_eq, exp2_lg, off]
    exact dz_mask z D B hB r c
  · pointwise [k0_pay160]
    simp only [ha _, l2 _ _]
    exact R_step z hk hB r
  · pointwise [k0_pay161]
    simp only [he _, ee _ _]
    exact ES_step z D hk hB r

theorem diag1_1 {mk : IVec S768x256 1} (hm : Msk mk) :
    At2 (k0_pay166 v59 a mk x) (fun r c => W z (B + r) (B + c))
      ∧ At2 (k0_pay168 tt v66 e mk (k0_pay163 x) (k0_pay167 v59 a mk x d)) (fun r c => DZ z D (B + r) (B + c))
      ∧ AtC (k0_pay169 a (k0_pay164 mk x)) (fun r => R z (T + r) B)
      ∧ AtC (k0_pay170 e (k0_pay167 v59 a mk x d)) (fun r => ES z D (T + r) B) := by
  have off : ∀ r : ℕ, T + (256 + r) = B + r := fun r => by omega
  have lb : At2 (k0_pay163 x) fun r c => lg (z (B + r) (B + c)) / Real.log 2 := fun r c => by
    pointwise [k0_pay163, k0_pay162]
    simp only [hx _ _, nm_scale, nm_ln2, exp2_eq, absf_eq, z2_eq, lse_eq, lb_eq]
  have l2 : At2 (k0_pay164 mk x) fun r c => L z (B + r) (B + c) / Real.log 2 := fun r c => by
    pointwise [k0_pay164, k0_pay162]
    simp only [lb _ _, hx _ _, nm_scale, z2_eq, l2_eq, hm _ _, l2_mask]
  have w : At2 (k0_pay165 v59 a mk x) fun r c => W z (B + r) (B + c) := fun r c => by
    pointwise [k0_pay165]
    simp only [lb _ _, l2 _ _, ha _, h59 _ _, hm _ _, exp2_eq, off]
    exact w_mask z B hB r c
  have ee : At2 (k0_pay167 v59 a mk x d) fun r c => E z D (B + r) (B + c) := fun r c => by
    pointwise [k0_pay167]
    simp only [w _ _, hd _ _, e_eq]
  refine ⟨fun r c => ?_, fun r c => ?_, fun r => ?_, fun r => ?_⟩
  · pointwise [k0_pay166]
    exact w r c
  · pointwise [k0_pay168]
    simp only [ee _ _, lb _ _, hm _ _, ht _, he _, (h66 _ _).1 _, (h66 _ _).2 _, exp2_eq, exp2_lg, off]
    exact dz_mask z D B hB r c
  · pointwise [k0_pay169]
    simp only [ha _, l2 _ _]
    exact R_step z hk hB r
  · pointwise [k0_pay170]
    simp only [he _, ee _ _]
    exact ES_step z D hk hB r

end One

end Cert.KernelIdeal.Gen

end
-- ==== Proof.Below.lean ====
module

public import proofs.«01_k».proof.Proof.Diag
public import proofs.«01_k».proof.Proof.Trip
public import Idealize.ShloMosaic.Lib.Pipeline.ValueKit

@[expose] public section

set_option maxRecDepth 16384
set_option maxHeartbeats 4000000

/-! The last block of the diagonal, and a block below it: weights, cotangents of the scores and the two sums carried on. -/

noncomputable section

namespace Cert.KernelIdeal.Gen

open Idealize.ShloMosaic Idealize.ShloMosaic.TcCoe Idealize.ShloMosaic.Tactic Cert.Attn

variable {z D : ℕ → ℕ → ℝ} {T B : ℕ} (hB : B + 256 ≤ 8192)
  {v59 : FVec Ideal S256x256 .bf16} (h59 : Tri v59) {v66 : FVec Ideal S512x256 .bf16} (h66 : Tri2 v66)
  {a e tt : FVec Ideal S1024x1 .f32} (ht : AtC tt fun r => TOT z D (T + r))

section Below

variable (hk : B + 256 ≤ T) {m10 m11 : Memref sig .tc .vmem S2x1024x256 .f32}
  {f10 : BufTy.Contents (Elt Ideal) m10.view.ty} {f11 : BufTy.Contents (Elt Ideal) m11.view.ty} {acc : Acc Ideal}

include hB h59 h66 ht hk

theorem below_0 {x d : Vec Ideal S1x1024x256 .f32} (ha : AtC a fun r => R z (T + r) (B + 256)) (he : AtC e fun r => ES z D (T + r) (B + 256))
    (hx : At3 x fun r c => 8 * z (T + r) (B + c)) (hd : At3 d fun r c => D (T + r) (B + c)) :
    At2 (k0_pay12 v59 a x) (fun r c => W z (T + r) (B + c))
      ∧ At2 (k0_pay14 tt v66 e (k0_pay9 x) (k0_pay11 v59 a x) d) (fun r c => DZ z D (T + r) (B + c))
      ∧ AtC (k0_pay15 a (k0_pay10 x)) (fun r => R z (T + r) B)
      ∧ AtC (k0_pay16 e (k0_pay11 v59 a x) d) (fun r => ES z D (T + r) B) := by
  have lb : At2 (k0_pay9 x) fun r c => lg (z (T + r) (B + c)) / Real.log 2 := fun r c => by
    pointwise [k0_pay9, k0_pay8]
    simp only [hx _ _, nm_scale, nm_ln2, exp2_eq, absf_eq, z2_eq, lse_eq, lb_eq]
  have l2 : At2 (k0_pay10 x) fun r c => L z (T + r) (B + c) / Real.log 2 := fun r c => by
    pointwise [k0_pay10, k0_pay8]
    simp only [lb _ _, hx _ _, nm_scale, z2_eq, l2_eq]
    rw [L_of_lt z _ _ (by omega)]
  have w : At2 (k0_pay11 v59 a x) fun r c => W z (T + r) (B + c) := fun r c => by
    pointwise [k0_pay11]
    simp only [lb _ _, l2 _ _, ha _, h59 _ _, exp2_eq]
    exact w_core z _ B hB c (by omega)
  have ee : At2 (k0_pay13 (k0_pay11 v59 a x) d) fun r c => E z D (T + r) (B + c) := fun r c => by
    pointwise [k0_pay13]
    simp only [w _ _, hd _ _, e_eq]
  refine ⟨fun r c => ?_, fun r c => ?_, fun r => ?_, fun r => ?_⟩
  · pointwise [k0_pay12]
    exact w r c
  · pointwise [k0_pay14]
    simp only [ee _ _, lb _ _, ht _, he _, (h66 _ _).1 _, (h66 _ _).2 _, exp2_eq, exp2_lg]
    exact dz_core z D _ B hB c (by omega)
  · pointwise [k0_pay15]
    simp only [ha _, l2 _ _]
    exact R_add z _ B hB
  · pointwise [k0_pay16]
    simp only [he _, ee _ _]
    exact ES_add z D _ B hB

theorem below_1 (ha : AtC acc.2.1 fun r => R z (T + r) (B + 256)) (he : AtC acc.2.2.2.1 fun r => ES z D (T + r) (B + 256))
    (hx : At3 (m10.view.readAt (Elt Ideal) (Rect.unit (s := S2x1024x256) ![1, 0, 0] S1x1024x256.size inb_S2x1024x256_S1x1024x256_1_0_0).toLoadRect f10) fun r c => 8 * z (T + r) (B + c))
    (hd : At3 (m11.view.readAt (Elt Ideal) (Rect.unit (s := S2x1024x256) ![1, 0, 0] S1x1024x256.size inb_S2x1024x256_S1x1024x256_1_0_0).toLoadRect f11) fun r c => D (T + r) (B + c)) :
    At2 (trip.sl.v1094 m10 v59 acc f10) (fun r c => W z (T + r) (B + c))
      ∧ At2 (trip.sl.v1115 m10 m11 tt v59 v66 acc f10 f11) (fun r c => DZ z D (T + r) (B + c))
      ∧ AtC (trip.sl.v1118 m10 acc f10) (fun r => R z (T + r) B)
      ∧ AtC (trip.sl.v1121 m10 m11 v59 acc f10 f11) (fun r => ES z D (T + r) B) := by
  have lb : At2 (trip.sl.r_11 m10 f10) fun r c => lg (z (T + r) (B + c)) / Real.log 2 := fun r c => by
    pointwise [trip.sl.r_11, k0_pay18, k0_pay17]
    simp only [hx _ _, nm_scale, nm_ln2, exp2_eq, absf_eq, z2_eq, lse_eq, lb_eq]
  have l2 : At2 (trip.sl.v1084 m10 f10) fun r c => L z (T + r) (B + c) / Real.log 2 := fun r c => by
    pointwise [trip.sl.v1084, trip.sl.r_10, k0_pay17]
    simp only [lb _ _, hx _ _, nm_scale, z2_eq, l2_eq]
    rw [L_of_lt z _ _ (by omega)]
  have w : At2 (trip.sl.v1091 m10 v59 acc f10) fun r c => W z (T + r) (B + c) := fun r c => by
    pointwise [trip.sl.v1091, trip.sl.v1090, trip.sl.v1089, trip.sl.v1088, trip.sl.v1087, trip.sl.v1086, trip.sl.v1085, trip.sl.cst_486]
    simp only [lb _ _, l2 _ _, ha _, h59 _ _, exp2_eq]
    exact w_core z _ B hB c (by omega)
  have ee : At2 (trip.sl.v1098 m10 m11 v59 acc f10 f11) fun r c => E z D (T + r) (B + c) := fun r c => by
    pointwise [trip.sl.v1098, trip.sl.v1097, trip.sl.v1096]
    simp only [w _ _, hd _ _, e_eq]
  refine ⟨fun r c => ?_, fun r c => ?_, fun r => ?_, fun r => ?_⟩
  · pointwise [trip.sl.v1094]
    exact w r c
  · pointwise [trip.sl.v1115, trip.sl.v1112, trip.sl.v1111, trip.sl.v1110, trip.sl.v1109, trip.sl.v1108, trip.sl.v1107, trip.sl.v1106, trip.sl.v1105, trip.sl.v1104, trip.sl.v1103, trip.sl.v1102, trip.sl.v1101, trip.sl.v1100, trip.sl.v1099, trip.sl.cst_486]
    simp only [ee _ _, lb _ _, ht _, he _, (h66 _ _).1 _, (h66 _ _).2 _, exp2_eq, exp2_lg]
    exact dz_core z D _ B hB c (by omega)
  · pointwise [trip.sl.v1118, trip.sl.v1117, trip.sl.v1116]
    simp only [ha _, l2 _ _]
    exact R_add z _ B hB
  · pointwise [trip.sl.v1121, trip.sl.v1120, trip.sl.v1119]
    simp only [he _, ee _ _]
    exact ES_add z D _ B hB

end Below

variable (ha : AtC a fun r => R z (T + r) (B + 256)) (he : AtC e fun r => ES z D (T + r) (B + 256))

include hB h59 h66 ha he ht

section Zero

variable (hk : B = T) {x d : Vec Ideal S1x1024x256 .f32}
  (hx : At3 x fun r c => 8 * z (B + r) (B + c)) (hd : At3 d fun r c => D (B + r) (B + c))
include hk hx hd

theorem diag0_0 {mk : IVec S1024x256 1} (hm : Msk mk) :
    At2 (k0_pay186 v59 a mk x) (fun r c => W z (B + r) (B + c))
      ∧ At2 (k0_pay189 mk (k0_pay183 x) (k0_pay187 v59 a mk x d) (k0_pay188 tt v59 v66 a e mk x d)) (fun r c => DZ z D (B + r) (B + c))
      ∧ AtC (k0_pay190 a (k0_pay184 mk x)) (fun r => R z (T + r) B)
      ∧ AtC (k0_pay191 e (k0_pay187 v59 a mk x d)) (fun r => ES z D (T + r) B) := by
  subst hk
  have lb : At2 (k0_pay183 x) fun r c => lg (z (B + r) (B + c)) / Real.log 2 := fun r c => by
    pointwise [k0_pay183, k0_pay182]
    simp only [hx _ _, nm_scale, nm_ln2, exp2_eq, absf_eq, z2_eq, lse_eq, lb_eq]
  have l2 : At2 (k0_pay184 mk x) fun r c => L z (B + r) (B + c) / Real.log 2 := fun r c => by
    pointwise [k0_pay184, k0_pay182]
    simp only [lb _ _, hx _ _, nm_scale, z2_eq, l2_eq, hm _ _, l2_mask]
  have w : At2 (k0_pay185 v59 a mk x) fun r c => W z (B + r) (B + c) := fun r c => by
    pointwise [k0_pay185]
    simp only [lb _ _, l2 _ _, ha _, h59 _ _, hm _ _, exp2_eq]
    exact w_mask z B hB r c
  have ee : At2 (k0_pay187 v59 a mk x d) fun r c => E z D (B + r) (B + c) := fun r c => by
    pointwise [k0_pay187]
    simp only [w _ _, hd _ _, e_eq]
  refine ⟨fun r c => ?_, fun r c => ?_, fun r => ?_, fun r => ?_⟩
  · pointwise [k0_pay186]
    exact w r c
  · pointwise [k0_pay189, k0_pay188]
    simp only [ee _ _, lb _ _, hm _ _, ht _, he _, (h66 _ _).1 _, (h66 _ _).2 _, exp2_eq, exp2_lg]
    exact dz_mask z D B hB r c
  · pointwise [k0_pay190]
    simp only [ha _, l2 _ _]
    exact R_add z _ B hB
  · pointwise [k0_pay191]
    simp only [he _, ee _ _]
    exact ES_add z D _ B hB

theorem diag0_1 {mk : IVec S1024x256 1} (hm : Msk mk) :
    At2 (k0_pay197 (k0_pay195 v59 a mk x)) (fun r c => W z (B + r) (B + c))
      ∧ At2 (k0_pay199 tt v66 e mk (k0_pay193 x) (k0_pay195 v59 a mk x) d) (fun r c => DZ z D (B + r) (B + c))
      ∧ AtC (k0_pay200 a (k0_pay194 mk x)) (fun r => R z (T + r) B)
      ∧ AtC (k0_pay201 e (k0_pay195 v59 a mk x) d) (fun r => ES z D (T + r) B) := by
  subst hk
  have lb : At2 (k0_pay193 x) fun r c => lg (z (B + r) (B + c)) / Real.log 2 := fun r c => by
    pointwise [k0_pay193, k0_pay192]
    simp only [hx _ _, nm_scale, nm_ln2, exp2_eq, absf_eq, z2_eq, lse_eq, lb_eq]
  have l2 : At2 (k0_pay194 mk x) fun r c => L z (B + r) (B + c) / Real.log 2 := fun r c => by
    pointwise [k0_pay194, k0_pay192]
    simp only [lb _ _, hx _ _, nm_scale, z2_eq, l2_eq, hm _ _, l2_mask]
  have w : At2 (k0_pay195 v59 a mk x) fun r c => W z (B + r) (B + c) := fun r c => by
    pointwise [k0_pay195]
    simp only [lb _ _, l2 _ _, ha _, h59 _ _, hm _ _, exp2_eq]
    exact w_mask z B hB r c
  have ee : At2 (k0_pay198 (k0_pay195 v59 a mk x) d) fun r c => E z D (B + r) (B + c) := fun r c => by
    pointwise [k0_pay198, k0_pay196]
    simp only [w _ _, hd _ _, e_eq]
  refine ⟨fun r c => ?_, fun r c => ?_, fun r => ?_, fun r => ?_⟩
  · pointwise [k0_pay197, k0_pay196]
    exact w r c
  · pointwise [k0_pay199]
    simp only [ee _ _, lb _ _, hm _ _, ht _, he _, (h66 _ _).1 _, (h66 _ _).2 _, exp2_eq, exp2_lg]
    exact dz_mask z D B hB r c
  · pointwise [k0_pay200]
    simp only [ha _, l2 _ _]
    exact R_add z _ B hB
  · pointwise [k0_pay201]
    simp only [he _, ee _ _]
    exact ES_add z D _ B hB

end Zero

end Cert.KernelIdeal.Gen

end
-- ==== Proof.Step.lean ====
module

public import proofs.«01_k».proof.Proof.Geo
public import proofs.«01_k».proof.Proof.Below

@[expose] public section

set_option maxRecDepth 16384
set_option maxHeartbeats 4000000

/-! What the body has done when the blocks of keys from one on are finished, and that a step of the key loop carries it on. -/

noncomputable section

namespace Cert.Attn

open Idealize.ShloMosaic

theorem At3.of {m n : ℕ} {x : (⟨3, ![1, m, n]⟩ : Shape).Idx → EReal} {f g : ℕ → ℕ → ℝ} (h : At3 x f) (e : ∀ r < m, ∀ c < n, f r c = g r c) : At3 x g :=
  fun r c => (h r c).trans (congrArg _ (e r r.isLt c c.isLt))
theorem At2.of {m n : ℕ} {x : (⟨2, ![m, n]⟩ : Shape).Idx → EReal} {f g : ℕ → ℕ → ℝ} (h : At2 x f) (e : ∀ r < m, ∀ c < n, f r c = g r c) : At2 x g :=
  fun r c => (h r c).trans (congrArg _ (e r r.isLt c c.isLt))

/-- The scores of two rows. -/
def zz (q k : ℕ → ℕ → ℝ) (t s : ℕ) : ℝ := sc q k t s / 8
theorem zz_eq (q k : ℕ → ℕ → ℝ) (t s : ℕ) : sc q k t s = 8 * zz q k t s := by unfold zz; ring

/-- What the rows of a tile add to a key's gradient. -/
def kt (f g w u : ℕ → ℕ → ℝ) (T l s : ℕ) : ℝ := ∑ r : Fin 1024, (f (T + r) l * w (T + r) s + g (T + r) l * u (T + r) s)
/-- What the keys from `a` on add to a row's gradient. -/
def qt (f g w u : ℕ → ℕ → ℝ) (a t l : ℕ) : ℝ := ∑ j ∈ Finset.Ico a 8192, (w t j * f j l + u t j * g j l)

theorem qt_step (f g w u : ℕ → ℕ → ℝ) (B t l : ℕ) (hB : B + 256 ≤ 8192) :
    qt f g w u (B + 256) t l + ∑ j : Fin 256, (w t (B + j) * f (B + j) l + u t (B + j) * g (B + j) l) = qt f g w u B t l := by
  unfold qt
  rw [sum_block (fun j => w t j * f j l + u t j * g j l) B 256, add_comm]
  exact Finset.sum_Ico_consecutive _ (by omega) hB

theorem W_of_le {z : ℕ → ℕ → ℝ} {t j : ℕ} (h : t ≤ j) : W z t j = 0 := if_neg (by omega)
theorem DZ_of_le {z D : ℕ → ℕ → ℝ} {t j : ℕ} (h : t ≤ j) : DZ z D t j = 0 := if_neg (by omega)

/-- The rows before a diagonal block add nothing to its keys. -/
theorem kt_rows {f g w u : ℕ → ℕ → ℝ} {T s : ℕ} (o n l : ℕ) (ho : o + n = 1024) (hw : ∀ r < o, w (T + r) s = 0) (hu : ∀ r < o, u (T + r) s = 0) :
    ∑ r : Fin n, (f (T + (o + r)) l * w (T + (o + r)) s + g (T + (o + r)) l * u (T + (o + r)) s) = kt f g w u T l s := by
  rw [sum_block (fun r => f (T + r) l * w (T + r) s + g (T + r) l * u (T + r) s) o n, ho]
  refine Eq.trans (Finset.sum_subset (fun x hx => Finset.mem_range.2 (Finset.mem_Ico.1 hx).2) fun x hx h => ?_)
    (Fin.sum_univ_eq_sum_range (fun r => f (T + r) l * w (T + r) s + g (T + r) l * u (T + r) s) 1024).symm
  have hx' : x < o := by
    rw [Finset.mem_Ico] at h
    have := Finset.mem_range.1 hx
    omega
  rw [hw x hx', hu x hx', mul_zero, mul_zero, add_zero]

end Cert.Attn

namespace Cert.KernelIdeal.Gen

open Idealize.ShloMosaic Idealize.ShloMosaic.TcCoe Idealize.ShloMosaic.Tactic Cert.Attn

variable (Q K V G : ℕ → ℕ → ℝ) (T : ℕ)

/-- The rows of queries, scaled as the body scales them, that a key's gradient gathers. -/
abbrev q0 : ℕ → ℕ → ℝ := fun t l => lo Q t l * (1 / 8)
abbrev q1 : ℕ → ℕ → ℝ := fun t l => hi Q t l * (1 / 8)
abbrev z0 : ℕ → ℕ → ℝ := zz (lo Q) K
abbrev z1 : ℕ → ℕ → ℝ := zz (hi Q) K
abbrev D0 : ℕ → ℕ → ℝ := sc (lo G) V
abbrev D1 : ℕ → ℕ → ℝ := sc (hi G) V
abbrev ka : ℕ → ℕ → ℕ → ℝ := kt (q0 Q) (q1 Q) (DZ (z0 Q K) (D0 V G)) (DZ (z1 Q K) (D1 V G))
abbrev va : ℕ → ℕ → ℕ → ℝ := kt (lo G) (hi G) (W (z0 Q K)) (W (z1 Q K))
abbrev qa : ℕ → ℕ → ℕ → ℝ := qt (lo K) (hi K) (DZ (z0 Q K) (D0 V G)) (DZ (z1 Q K) (D1 V G))

/-- A half of the score scratch, and of the weight scratch. -/
abbrev half3 (m : Memref sig .tc .vmem S2x1024x256 .f32) (f : BufTy.Contents (Elt Ideal) m.view.ty) (h : ℕ) (inb : ∀ a, (![h, 0, 0] : Fin 3 → ℕ) a + S1x1024x256.size a ≤ S2x1024x256.size a) : Vec Ideal S1x1024x256 .f32 :=
  m.view.readAt (Elt Ideal) (Rect.unit (s := S2x1024x256) ![h, 0, 0] S1x1024x256.size inb).toLoadRect f
abbrev half2 (m : Memref sig .tc .vmem S2048x256 .bf16) (f : BufTy.Contents (Elt Ideal) m.view.ty) (h : ℕ) (inb : ∀ a, (![h, 0] : Fin 2 → ℕ) a + S1024x256.size a ≤ S2048x256.size a) : Vec Ideal S1024x256 .bf16 :=
  m.view.readAt (Elt Ideal) (Rect.unit (s := S2048x256) ![h, 0] S1024x256.size inb).toLoadRect f

variable (P8 P9 : ℕ → ℕ → ℝ)
  {arg8 arg9 : Memref sig .tc .vmem S1x128x8192 .f32} {arg10 arg11 : Memref sig .tc .vmem S2x1024x256 .f32} {arg12 arg13 : Memref sig .tc .vmem S2048x256 .bf16}

/-- The weights and their gradients of the keys from `B` on are there and those from `B + 256` on are gathered; the scores of the
    block before wait. -/
structure Inv (B : ℕ) (acc : Acc Ideal) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) : Prop where
  r0 : AtC acc.1 fun r => R (z0 Q K) (T + r) B
  r1 : AtC acc.2.1 fun r => R (z1 Q K) (T + r) B
  e0 : AtC acc.2.2.1 fun r => ES (z0 Q K) (D0 V G) (T + r) B
  e1 : AtC acc.2.2.2.1 fun r => ES (z1 Q K) (D1 V G) (T + r) B
  dq : At2 acc.2.2.2.2 fun r l => qa Q K V G (B + 256) (T + r) l
  k8 : Ac f8 fun l s => P8 l s + if B + 256 ≤ s then ka Q K V G T l s else 0
  k9 : Ac f9 fun l s => P9 l s + if B + 256 ≤ s then va Q K G T l s else 0
  s0 : At3 (half3 arg10 f10 0 inb_S2x1024x256_S1x1024x256_0_0_0) fun r c => 8 * z0 Q K (T + r) (B - 256 + c)
  s1 : At3 (half3 arg10 f10 1 inb_S2x1024x256_S1x1024x256_1_0_0) fun r c => 8 * z1 Q K (T + r) (B - 256 + c)
  g0 : At3 (half3 arg11 f11 0 inb_S2x1024x256_S1x1024x256_0_0_0) fun r c => D0 V G (T + r) (B - 256 + c)
  g1 : At3 (half3 arg11 f11 1 inb_S2x1024x256_S1x1024x256_1_0_0) fun r c => D1 V G (T + r) (B - 256 + c)
  w0 : At2 (half2 arg12 f12 0 inb_S2048x256_S1024x256_0_0) fun r c => W (z0 Q K) (T + r) (B + c)
  w1 : At2 (half2 arg12 f12 1024 inb_S2048x256_S1024x256_1024_0) fun r c => W (z1 Q K) (T + r) (B + c)
  y0 : At2 (half2 arg13 f13 0 inb_S2048x256_S1024x256_0_0) fun r c => DZ (z0 Q K) (D0 V G) (T + r) (B + c)
  y1 : At2 (half2 arg13 f13 1024 inb_S2048x256_S1024x256_1024_0) fun r c => DZ (z1 Q K) (D1 V G) (T + r) (B + c)

variable {Q K V G T P8 P9} (c : Dev nD) (i : grid0.Coords)
    (arg2 : Memref sig .tc .vmem S1x1024x128 .bf16) (harg2 : arg2.IsWhole)
    (arg3 : Memref sig .tc .vmem S1x8192x128 .bf16) (harg3 : arg3.IsWhole)
    (arg4 : Memref sig .tc .vmem S1x8192x128 .bf16) (harg4 : arg4.IsWhole)
    (arg5 : Memref sig .tc .vmem S1x1024x128 .f32) (harg5 : arg5.IsWhole)
    (arg6 : Memref sig .tc .vmem S1x1024x128 .bf16) (harg6 : arg6.IsWhole)
    (arg7 : Memref sig .tc .vmem S1x1024x128 .bf16) (harg7 : arg7.IsWhole)
    (harg8 : arg8.IsWhole) (harg9 : arg9.IsWhole) (harg10 : arg10.IsWhole) (harg11 : arg11.IsWhole) (harg12 : arg12.IsWhole) (harg13 : arg13.IsWhole)
    (arg1 : BitVec 32) {v17 v21 : FVec Ideal S1024x128 .bf16} {v31 : FVec Ideal S128x2048 .bf16}
    {v35 v39 : FVec Ideal S1024x128 .bf16} {v45 : FVec Ideal S128x2048 .bf16} {v49 v53 : FVec Ideal S1024x1 .f32}
    {v59 : FVec Ideal S256x256 .bf16} {v66 : FVec Ideal S512x256 .bf16} (v752 : FVec Ideal S1024x128 .f32)
    (v810 v813 v870 v873 : FVec Ideal S1024x1 .f32) (v876 : BitVec 32) (v881 : FVec Ideal S256x128 .bf16)
    {x1 x2 : Vec Ideal S1x8192x128 .bf16}
    (hT : T = 1024 * (i 1).val) (h17 : At2 v17 fun r l => lo Q (T + r) l) (h21 : At2 v21 fun r l => hi Q (T + r) l)
    (h31 : Two v31 (fun r l => q0 Q (T + r) l) fun r l => q1 Q (T + r) l)
    (h35 : At2 v35 fun r l => lo G (T + r) l) (h39 : At2 v39 fun r l => hi G (T + r) l)
    (h45 : Two v45 (fun r l => lo G (T + r) l) fun r l => hi G (T + r) l)
    (h49 : AtC v49 fun r => TOT (z0 Q K) (D0 V G) (T + r)) (h53 : AtC v53 fun r => TOT (z1 Q K) (D1 V G) (T + r))
    (h59 : Tri v59) (h66 : Tri2 v66) (hK : At3 x1 K) (hV : At3 x2 V)
  {acc : Acc Ideal} {f8 : BufTy.Contents (Elt Ideal) arg8.view.ty} {f9 : BufTy.Contents (Elt Ideal) arg9.view.ty} {f10 : BufTy.Contents (Elt Ideal) arg10.view.ty} {f11 : BufTy.Contents (Elt Ideal) arg11.view.ty} {f12 : BufTy.Contents (Elt Ideal) arg12.view.ty} {f13 : BufTy.Contents (Elt Ideal) arg13.view.ty}

local notation "TRIP" => trip (F := Ideal) c i arg2 harg2 arg3 harg3 arg4 harg4 arg5 harg5 arg6 harg6 arg7 harg7 arg8 harg8 arg9 harg9 arg10 harg10 arg11 harg11 arg12 harg12 arg13 harg13 arg1 k0_pay51 k0_pay52 v17 v21 v31 v35 v39 v45 v49 v53 v59 v66 v752 v810 v813 v870 v873 v876 v881 (harg3.unread x1) (harg4.unread x2)

include hT h17 h21 h31 h35 h39 h45 h49 h53 h59 h66 hK hV in
theorem inv_trip (k : Fin (k0_t1_loop i).trips) (B : ℕ) (hB : B = 1024 * (i 1).val - 256 * k.val) (h : Inv Q K V G T P8 P9 B acc f8 f9 f10 f11 f12 f13) :
    Inv Q K V G T P8 P9 (B - 256) (TRIP k acc f8 f9 f10 f11 f12 f13).1
      (arg8.view.writes (Elt Ideal) f8 (TRIP k acc f8 f9 f10 f11 f12 f13).2.1)
      (arg9.view.writes (Elt Ideal) f9 (TRIP k acc f8 f9 f10 f11 f12 f13).2.2.1)
      (arg10.view.writes (Elt Ideal) f10 (TRIP k acc f8 f9 f10 f11 f12 f13).2.2.2.1)
      (arg11.view.writes (Elt Ideal) f11 (TRIP k acc f8 f9 f10 f11 f12 f13).2.2.2.2.1)
      (arg12.view.writes (Elt Ideal) f12 (TRIP k acc f8 f9 f10 f11 f12 f13).2.2.2.2.2.1)
      (arg13.view.writes (Elt Ideal) f13 (TRIP k acc f8 f9 f10 f11 f12 f13).2.2.2.2.2.2.1) := by
  have hk : k.val < 4 * (i 1).val := trips_eq i ▸ k.isLt
  have hi : (i 1).val < 8 := (i 1).isLt
  obtain ⟨B', rfl⟩ : ∃ B', B = B' + 256 := ⟨B - 256, by omega⟩
  obtain ⟨r0, r1, e0, e1, dq, k8, k9, s0, s1, g0, g1, w0, w1, y0, y1⟩ := h
  rw [Nat.add_sub_cancel] at *
  have b0 := below_0 (B := B') (by omega) h59 h66 h49 (by omega) r0 e0 s0 g0
  have b1 := below_1 (B := B') (by omega) h59 h66 h53 (by omega) r1 e1 s1 g1
  have hs := stk (rd3 harg3 hK (k := 256) (inb := k0_off5_inb i k) (B' + 256) (by rw [off5, hB]))
  have hx := rd3 harg3 hK (k := 256) (inb := k0_off7_inb i k) (B' - 256) (by rw [off7, ← hB]; congr 2)
  have hv := rd3 harg4 hV (k := 256) (inb := k0_off7_inb i k) (B' - 256) (by rw [off7, ← hB]; congr 2)
  unfold trip
  dsimp only
  constructor
  · exact b0.2.2.1
  · exact b1.2.2.1
  · exact b0.2.2.2
  · exact b1.2.2.2
  · exact (dq_1024 hs y0 y1 dq).of fun r _ l _ => qt_step _ _ _ _ (B' + 256) _ _ (by omega)
  · exact Ac.add (L := []) k8 (by rw [off6, hB]) ((key_1024 h31 y0 y1 (k8.rd (B' + 256) (by rw [off6, hB]))).of fun l _ c hc => by
      rw [if_neg (by omega), add_zero]; rfl)
  · exact Ac.add (L := []) k9 (by rw [off6, hB]) ((key_1024 h45 w0 w1 (k9.rd (B' + 256) (by rw [off6, hB]))).of fun l _ c hc => by
      rw [if_neg (by omega), add_zero]; rfl)
  · unfold half3; rw [miss _ _ _ _ _ _ 0 ?_, hit]
    · exact (sc_1024 h17 hx).of fun _ _ _ _ => zz_eq _ _ _ _
    · decide
  · unfold half3; rw [hit]
    exact (sc_1024 h21 hx).of fun _ _ _ _ => zz_eq _ _ _ _
  · unfold half3; rw [miss _ _ _ _ _ _ 0 ?_, hit]
    · exact sc_1024 h35 hv
    · decide
  · unfold half3; rw [hit]
    exact sc_1024 h39 hv
  · unfold half2; rw [miss _ _ _ _ _ _ 0 ?_, hit]
    · exact b0.1
    · decide
  · unfold half2; rw [hit]
    exact b1.1
  · unfold half2; rw [miss _ _ _ _ _ _ 0 ?_, hit]
    · exact b0.2.1
    · decide
  · unfold half2; rw [hit]
    exact b1.2.1

end Cert.KernelIdeal.Gen

end

end
-- ==== Proof.Heads.lean ====
module

public import proofs.«01_k».proof.Proof.Host
public import proofs.«01_k».proof.Proof.Step

@[expose] public section

set_option maxRecDepth 16384
set_option maxHeartbeats 400000

/-! A pair's lanes are two heads': the pair's sums over the reals are the heads'. -/

noncomputable section

namespace Cert.KernelIdeal.Gen

open Idealize.ShloMosaic Cert.Attn

variable (X Y : ℕ → ℕ → ℝ) (p : ℕ)

/-- A pair's queries, keys, values, outputs and cotangents. -/
abbrev Qp (t l : ℕ) : ℝ := X t (128 * p + l)
abbrev Kp (t l : ℕ) : ℝ := X t (1024 + 128 * p + l)
abbrev Vp (t l : ℕ) : ℝ := X t (2048 + 128 * p + l)
abbrev Op (t l : ℕ) : ℝ := oh X ((128 * p + l) / 64) t (128 * p + l)

theorem lanes (f : ℕ → ℝ) : ∑ l : Fin 128, f l = ∑ d : Fin 64, f d + ∑ d : Fin 64, f (64 + d) := by
  rw [← Finset.sum_range f, ← Finset.sum_range f, ← Finset.sum_range (fun d => f (64 + d))]
  exact Finset.sum_range_add f 64 64

theorem sum_lo (f : ℕ → ℕ → ℝ) (g : ℕ → ℝ) (t : ℕ) : ∑ l : Fin 128, lo f t l * g l = ∑ d : Fin 64, f t d * g d := by
  rw [lanes fun l => lo f t l * g l]
  simp [lo]
theorem sum_hi (f : ℕ → ℕ → ℝ) (g : ℕ → ℝ) (t : ℕ) : ∑ l : Fin 128, hi f t l * g l = ∑ d : Fin 64, f t (64 + d) * g (64 + d) := by
  rw [lanes fun l => hi f t l * g l, Finset.sum_eq_zero fun d _ => ?_, zero_add]
  · simp [hi]
  · have hd : (d : Fin 64).val < 64 := d.isLt
    rw [hi, if_neg (by omega), zero_mul]

theorem z0_eq : z0 (Qp X p) (Kp X p) = zh X (2 * p) := funext fun t => funext fun s => by
  unfold z0 zz sc zh
  rw [sum_lo _ (Kp X p s)]
  refine congrArg (· / 8) (Finset.sum_congr rfl fun d _ => ?_)
  rw [show 64 * (2 * p) = 128 * p by omega]
theorem z1_eq : z1 (Qp X p) (Kp X p) = zh X (2 * p + 1) := funext fun t => funext fun s => by
  unfold z1 zz sc zh
  rw [sum_hi _ (Kp X p s)]
  refine congrArg (· / 8) (Finset.sum_congr rfl fun d _ => ?_)
  rw [show 64 * (2 * p + 1) + d.val = 128 * p + (64 + d) by omega, show 1024 + 64 * (2 * p + 1) + d.val = 1024 + 128 * p + (64 + d) by omega]
theorem D0_eq : D0 (Vp X p) (Qp Y p) = Dh X Y (2 * p) := funext fun t => funext fun s => by
  unfold D0 sc Dh
  rw [sum_lo _ (Vp X p s)]
  refine Finset.sum_congr rfl fun d _ => ?_
  rw [show 64 * (2 * p) = 128 * p by omega]
theorem D1_eq : D1 (Vp X p) (Qp Y p) = Dh X Y (2 * p + 1) := funext fun t => funext fun s => by
  unfold D1 sc Dh
  rw [sum_hi _ (Vp X p s)]
  refine Finset.sum_congr rfl fun d _ => ?_
  rw [show 64 * (2 * p + 1) + d.val = 128 * p + (64 + d) by omega, show 2048 + 64 * (2 * p + 1) + d.val = 2048 + 128 * p + (64 + d) by omega]

/-- A row's sum is its cotangent times its output. -/
theorem tot_eq (h t : ℕ) : ∑ d : Fin 64, Y t (64 * h + d) * oh X h t (64 * h + d) = TOT (zh X h) (Dh X Y h) t := by
  unfold TOT oh E Dh
  simp only [Finset.mul_sum, Finset.sum_mul]
  rw [Finset.sum_comm, Finset.sum_range]
  refine Finset.sum_congr rfl fun s _ => Finset.sum_congr rfl fun d _ => ?_
  rw [show 2048 + (64 * h + d.val) = 2048 + 64 * h + d by omega]; ring

theorem tot0_eq (t : ℕ) : ∑ l : Fin 128, lo (Qp Y p) t l * Op X p t l = TOT (z0 (Qp X p) (Kp X p)) (D0 (Vp X p) (Qp Y p)) t := by
  rw [z0_eq, D0_eq, ← tot_eq, sum_lo _ (Op X p t)]
  refine Finset.sum_congr rfl fun d _ => ?_
  have hd := d.isLt
  unfold Op
  rw [show (128 * p + d.val) / 64 = 2 * p by omega, show 64 * (2 * p) = 128 * p by omega]
theorem tot1_eq (t : ℕ) : ∑ l : Fin 128, hi (Qp Y p) t l * Op X p t l = TOT (z1 (Qp X p) (Kp X p)) (D1 (Vp X p) (Qp Y p)) t := by
  rw [z1_eq, D1_eq, ← tot_eq, sum_hi _ (Op X p t)]
  refine Finset.sum_congr rfl fun d _ => ?_
  have hd := d.isLt
  unfold Op
  rw [show (128 * p + (64 + d.val)) / 64 = 2 * p + 1 by omega, show 64 * (2 * p + 1) + d.val = 128 * p + (64 + d) by omega]

/-- The gradients of a head's keys and values from the first `N` rows of queries. -/
def gkN (h N s c : ℕ) : ℝ := ∑ t ∈ Finset.range N, DZ (zh X h) (Dh X Y h) t s * (1 / 8) * X t c
def gvN (h N s c : ℕ) : ℝ := ∑ t ∈ Finset.range N, Y t c * W (zh X h) t s

theorem gkN_all (h s c : ℕ) : gkN X Y h 8192 s c = gk X Y h s c := Finset.sum_range _
theorem gvN_all (h s c : ℕ) : gvN X Y h 8192 s c = gv X Y h s c := Finset.sum_range _

theorem ka_eq {l : ℕ} (hl : l < 128) (T s : ℕ) :
    gkN X Y ((128 * p + l) / 64) T s (128 * p + l) + ka (Qp X p) (Kp X p) (Vp X p) (Qp Y p) T l s = gkN X Y ((128 * p + l) / 64) (T + 1024) s (128 * p + l) := by
  unfold gkN
  rw [Finset.sum_range_add, Finset.sum_range (n := 1024)]
  congr 1
  unfold ka kt
  rw [z0_eq, z1_eq, D0_eq, D1_eq]
  refine Finset.sum_congr rfl fun r _ => ?_
  by_cases h : l < 64
  · rw [show (128 * p + l) / 64 = 2 * p by omega]
    simp only [q0, q1, lo, hi, if_pos h, if_neg (show ¬ 64 ≤ l by omega)]; ring
  · rw [show (128 * p + l) / 64 = 2 * p + 1 by omega]
    simp only [q0, q1, lo, hi, if_neg h, if_pos (show 64 ≤ l by omega)]; ring
theorem va_eq {l : ℕ} (hl : l < 128) (T s : ℕ) :
    gvN X Y ((128 * p + l) / 64) T s (128 * p + l) + va (Qp X p) (Kp X p) (Qp Y p) T l s = gvN X Y ((128 * p + l) / 64) (T + 1024) s (128 * p + l) := by
  unfold gvN
  rw [Finset.sum_range_add, Finset.sum_range (n := 1024)]
  congr 1
  unfold va kt
  rw [z0_eq, z1_eq]
  refine Finset.sum_congr rfl fun r _ => ?_
  by_cases h : l < 64
  · rw [show (128 * p + l) / 64 = 2 * p by omega]
    simp only [lo, hi, if_pos h, if_neg (show ¬ 64 ≤ l by omega)]; ring
  · rw [show (128 * p + l) / 64 = 2 * p + 1 by omega]
    simp only [lo, hi, if_neg h, if_pos (show 64 ≤ l by omega)]; ring
theorem qa_eq {l : ℕ} (hl : l < 128) (t : ℕ) :
    qa (Qp X p) (Kp X p) (Vp X p) (Qp Y p) 0 t l * (1 / 8) = gq X Y ((128 * p + l) / 64) t (128 * p + l) := by
  unfold qa qt gq
  rw [z0_eq, z1_eq, D0_eq, D1_eq, Finset.sum_mul, ← Finset.range_eq_Ico, Finset.sum_range]
  refine Finset.sum_congr rfl fun r _ => ?_
  rw [← Nat.add_assoc]
  by_cases h : l < 64
  · rw [show (128 * p + l) / 64 = 2 * p by omega]
    simp only [lo, hi, if_pos h, if_neg (show ¬ 64 ≤ l by omega)]; ring
  · rw [show (128 * p + l) / 64 = 2 * p + 1 by omega]
    simp only [lo, hi, if_neg h, if_pos (show 64 ≤ l by omega)]; ring

end Cert.KernelIdeal.Gen

end

end
-- ==== Proof.Chain.lean ====
module

public import proofs.«01_k».proof.Proof.Step
public import proofs.«01_k».proof.Proof.Run
public import proofs.«01_k».proof.Proof.Diag

@[expose] public section

set_option maxRecDepth 16384
set_option maxHeartbeats 4000000

/-! The whole body at a tile of queries: the four blocks of keys on the diagonal, the key loop, and the last block. -/

noncomputable section

namespace Cert.Attn

theorem W_past {z : ℕ → ℕ → ℝ} {T r s : ℕ} (h : r ≤ s) : W z (T + r) (T + s) = 0 := W_of_le (by omega)
theorem DZ_past {z D : ℕ → ℕ → ℝ} {T r s : ℕ} (h : r ≤ s) : DZ z D (T + r) (T + s) = 0 := DZ_of_le (by omega)

theorem R_top (z : ℕ → ℕ → ℝ) (T r : ℕ) (h : r < 1024) : R z (T + r) (T + 1024) = 0 := by
  unfold R
  rw [Finset.sum_eq_zero (f := fun x => L z (T + r) x) fun x hx => if_neg (by have := (Finset.mem_Ico.1 hx).1; omega), zero_div]

theorem ES_top (z D : ℕ → ℕ → ℝ) (T r : ℕ) (h : r < 1024) : ES z D (T + r) (T + 1024) = 0 :=
  Finset.sum_eq_zero fun x hx => by
    unfold E; rw [W_of_le (by have := (Finset.mem_Ico.1 hx).1; omega), mul_zero]

theorem qt_top {f g w u : ℕ → ℕ → ℝ} {T r l : ℕ} (hw : ∀ j, r ≤ j → w (T + r) (T + j) = 0) (hu : ∀ j, r ≤ j → u (T + r) (T + j) = 0) (h : r < 1024) :
    qt f g w u (T + 1024) (T + r) l = 0 :=
  Finset.sum_eq_zero fun x hx => by
    have hx := (Finset.mem_Ico.1 hx).1
    obtain ⟨j, rfl⟩ : ∃ j, x = T + j := ⟨x - T, by omega⟩
    rw [hw j (by omega), hu j (by omega), zero_mul, zero_mul, add_zero]

/-- A block of keys on the diagonal adds to the rows from its own on. -/
theorem qt_diag {f g w u : ℕ → ℕ → ℝ} {T l r : ℕ} (o : ℕ) (hB : T + o + 256 ≤ 8192) (hw : ∀ j, r ≤ j → w (T + r) (T + j) = 0) (hu : ∀ j, r ≤ j → u (T + r) (T + j) = 0) :
    qt f g w u (T + o + 256) (T + r) l + (if r < o then 0 else ∑ j : Fin 256, (w (T + o + (r - o)) (T + o + j) * f (T + o + j) l + u (T + o + (r - o)) (T + o + j) * g (T + o + j) l))
      = qt f g w u (T + o) (T + r) l := by
  rw [← qt_step f g w u (T + o) (T + r) l hB]
  congr 1
  split
  · exact (Finset.sum_eq_zero fun j _ => by rw [Nat.add_assoc, hw _ (by omega), hu _ (by omega), zero_mul, zero_mul, add_zero]).symm
  · rw [show T + o + (r - o) = T + r by omega]

theorem kt_diag {f g w u : ℕ → ℕ → ℝ} {T : ℕ} (o n : ℕ) (ho : o + n = 1024) (hw : ∀ r s, r ≤ s → w (T + r) (T + s) = 0) (hu : ∀ r s, r ≤ s → u (T + r) (T + s) = 0) (l c : ℕ) :
    ∑ r : Fin n, (f (T + (o + r)) l * w (T + o + r) (T + o + c) + g (T + (o + r)) l * u (T + o + r) (T + o + c)) = kt f g w u T l (T + o + c) := by
  rw [← kt_rows o n l ho (fun r hr => by rw [Nat.add_assoc]; exact hw _ _ (by omega)) (fun r hr => by rw [Nat.add_assoc]; exact hu _ _ (by omega))]
  simp only [Nat.add_assoc]

theorem kt_top {f g w u : ℕ → ℕ → ℝ} {T : ℕ} (hw : ∀ r s, r ≤ s → w (T + r) (T + s) = 0) (hu : ∀ r s, r ≤ s → u (T + r) (T + s) = 0) (l s : ℕ) (h : T + 1024 ≤ s) :
    kt f g w u T l s = 0 :=
  Finset.sum_eq_zero fun r _ => by
    obtain ⟨j, rfl⟩ : ∃ j, s = T + j := ⟨s - T, by omega⟩
    rw [hw _ _ (by omega), hu _ _ (by omega), mul_zero, mul_zero, add_zero]

theorem AtC.of {m : ℕ} {x : (⟨2, ![m, 1]⟩ : Idealize.ShloMosaic.Shape).Idx → EReal} {f g : ℕ → ℝ} (h : AtC x f) (e : ∀ r < m, f r = g r) : AtC x g :=
  fun r => (h r).trans (congrArg _ (e r r.isLt))

end Cert.Attn

namespace Cert.KernelIdeal.Gen

open Idealize.ShloMosaic Idealize.ShloMosaic.TcCoe Idealize.ShloMosaic.Tactic Cert.Attn

section Cover

variable {s : Shape} {e : EltTy} (m : Memref sig .tc .vmem s e)
  (L : List (View.Piece (Elt Ideal) s e)) {off size : Fin s.rank → ℕ} (inb : ∀ a, off a + size a ≤ s.size a)

theorem cov_hit (w : (Rect.unit off size inb).shape.Idx → Elt Ideal e) :
    m.view.readCov (⟨Rect.unit off size inb, w⟩ :: L) (Rect.unit off size inb).toLoadRect = w := hit m _ L inb w
theorem cov_skip {off' size' : Fin s.rank → ℕ} (inb' : ∀ a, off' a + size' a ≤ s.size a) (w : (Rect.unit off' size' inb').shape.Idx → Elt Ideal e)
    (a : Fin s.rank) (h : off a + size a ≤ off' a ∨ off' a + size' a ≤ off a) :
    m.view.readCov (⟨Rect.unit off' size' inb', w⟩ :: L) (Rect.unit off size inb).toLoadRect = m.view.readCov L (Rect.unit off size inb).toLoadRect :=
  miss m _ L inb inb' w a h

end Cover

/-- Scores of a block of keys on the diagonal. -/
theorem score {m n : ℕ} {x : Vec Ideal ⟨3, ![1, m, n]⟩ .f32} {f k : ℕ → ℕ → ℝ} {T : ℕ} (o : ℕ) (h : At3 x fun r c => sc (fun r l => f (T + r) l) (fun r l => k (T + o + r) l) (o + r) c) :
    At3 x fun r c => 8 * zz f k (T + o + r) (T + o + c) :=
  h.of fun r _ c _ => by rw [Nat.add_assoc T o r]; exact zz_eq f k _ _
theorem score' {m n : ℕ} {x : Vec Ideal ⟨3, ![1, m, n]⟩ .f32} {f k : ℕ → ℕ → ℝ} {T : ℕ} (o : ℕ) (h : At3 x fun r c => sc (fun r l => f (T + r) l) (fun r l => k (T + o + r) l) (o + r) c) :
    At3 x fun r c => sc f k (T + o + r) (T + o + c) :=
  h.of fun r _ c _ => by rw [Nat.add_assoc T o r]; rfl
theorem rows_o {x : Vec Ideal S1x1024x128 .f32} {f : ℕ → ℕ → ℝ} (h : At3 x f) : At2 (k0_pay55 x) f := fun r l => by
  pointwise [k0_pay55]; exact h r l

section Loop

variable {Q K V G : ℕ → ℕ → ℝ} {T : ℕ} {P8 P9 : ℕ → ℕ → ℝ} (c : Dev nD) (i : grid0.Coords)

    (arg2 : Memref sig .tc .vmem S1x1024x128 .bf16) (harg2 : arg2.IsWhole)
    (arg3 : Memref sig .tc .vmem S1x8192x128 .bf16) (harg3 : arg3.IsWhole)
    (arg4 : Memref sig .tc .vmem S1x8192x128 .bf16) (harg4 : arg4.IsWhole)
    (arg5 : Memref sig .tc .vmem S1x1024x128 .f32) (harg5 : arg5.IsWhole)
    (arg6 : Memref sig .tc .vmem S1x1024x128 .bf16) (harg6 : arg6.IsWhole)
    (arg7 : Memref sig .tc .vmem S1x1024x128 .bf16) (harg7 : arg7.IsWhole)
    (arg8 : Memref sig .tc .vmem S1x128x8192 .f32) (harg8 : arg8.IsWhole)
    (arg9 : Memref sig .tc .vmem S1x128x8192 .f32) (harg9 : arg9.IsWhole)
    (arg10 : Memref sig .tc .vmem S2x1024x256 .f32) (harg10 : arg10.IsWhole)
    (arg11 : Memref sig .tc .vmem S2x1024x256 .f32) (harg11 : arg11.IsWhole)
    (arg12 : Memref sig .tc .vmem S2048x256 .bf16) (harg12 : arg12.IsWhole)
    (arg13 : Memref sig .tc .vmem S2048x256 .bf16) (harg13 : arg13.IsWhole)
    (arg1 : BitVec 32) {v17 v21 : FVec Ideal S1024x128 .bf16} {v31 : FVec Ideal S128x2048 .bf16}
    {v35 v39 : FVec Ideal S1024x128 .bf16} {v45 : FVec Ideal S128x2048 .bf16} {v49 v53 : FVec Ideal S1024x1 .f32}
    {v59 : FVec Ideal S256x256 .bf16} {v66 : FVec Ideal S512x256 .bf16} (v752 : FVec Ideal S1024x128 .f32)
    (v810 v813 v870 v873 : FVec Ideal S1024x1 .f32) (v876 : BitVec 32) (v881 : FVec Ideal S256x128 .bf16)
    {x1 x2 : Vec Ideal S1x8192x128 .bf16}
    (hT : T = 1024 * (i 1).val) (h17 : At2 v17 fun r l => lo Q (T + r) l) (h21 : At2 v21 fun r l => hi Q (T + r) l)
    (h31 : Two v31 (fun r l => q0 Q (T + r) l) fun r l => q1 Q (T + r) l)
    (h35 : At2 v35 fun r l => lo G (T + r) l) (h39 : At2 v39 fun r l => hi G (T + r) l)
    (h45 : Two v45 (fun r l => lo G (T + r) l) fun r l => hi G (T + r) l)
    (h49 : AtC v49 fun r => TOT (z0 Q K) (D0 V G) (T + r)) (h53 : AtC v53 fun r => TOT (z1 Q K) (D1 V G) (T + r))
    (h59 : Tri v59) (h66 : Tri2 v66) (hK : At3 x1 K) (hV : At3 x2 V)
  {acc : Acc Ideal} {f8 : BufTy.Contents (Elt Ideal) arg8.view.ty} {f9 : BufTy.Contents (Elt Ideal) arg9.view.ty} {f10 : BufTy.Contents (Elt Ideal) arg10.view.ty} {f11 : BufTy.Contents (Elt Ideal) arg11.view.ty} {f12 : BufTy.Contents (Elt Ideal) arg12.view.ty} {f13 : BufTy.Contents (Elt Ideal) arg13.view.ty}

local notation "STK" => st (F := Ideal) c i arg2 harg2 arg3 harg3 arg4 harg4 arg5 harg5 arg6 harg6 arg7 harg7 arg8 harg8 arg9 harg9 arg10 harg10 arg11 harg11 arg12 harg12 arg13 harg13 arg1 k0_pay51 k0_pay52 v17 v21 v31 v35 v39 v45 v49 v53 v59 v66 v752 v810 v813 v870 v873 v876 v881 (harg3.unread x1) (harg4.unread x2) acc f8 f9 f10 f11 f12 f13

include hT h17 h21 h31 h35 h39 h45 h49 h53 h59 h66 hK hV in
/-- The key loop carries the invariant down by a block of keys a step. -/
theorem inv_st (h : Inv Q K V G T P8 P9 T acc f8 f9 f10 f11 f12 f13) (k : ℕ) (hk : k ≤ (k0_t1_loop i).trips) :
    Inv Q K V G T P8 P9 (T - 256 * k) (STK k).acc (arg8.view.writes (Elt Ideal) f8 (STK k).L8) (arg9.view.writes (Elt Ideal) f9 (STK k).L9)
      (arg10.view.writes (Elt Ideal) f10 (STK k).L10) (arg11.view.writes (Elt Ideal) f11 (STK k).L11)
      (arg12.view.writes (Elt Ideal) f12 (STK k).L12) (arg13.view.writes (Elt Ideal) f13 (STK k).L13) := by
  induction k with
  | zero => exact h
  | succ k ih =>
    have e := inv_trip c i arg2 harg2 arg3 harg3 arg4 harg4 arg5 harg5 arg6 harg6 arg7 harg7 harg8 harg9 harg10 harg11 harg12 harg13 arg1 v752 v810 v813 v870 v873 v876 v881
      hT h17 h21 h31 h35 h39 h45 h49 h53 h59 h66 hK hV ⟨k, hk⟩ (T - 256 * k) (by rw [hT]) (ih (by omega))
    rw [st_succ, show k = (⟨k, hk⟩ : Fin (k0_t1_loop i).trips).val from rfl, stStep_lt]
    dsimp only
    simp only [View.writes_append]
    rw [show T - 256 * (k + 1) = T - 256 * k - 256 by omega]
    exact e

end Loop

theorem zero3 : ∀ a : Fin 3, (![0, 0, 0] : Fin 3 → ℕ) a = 0 := by decide

/-- A whole buffer read whole. -/
theorem whole_rd {m n : ℕ} {e : EltTy} {M : Memref sig .tc .vmem ⟨3, ![1, m, n]⟩ e} (hM : M.IsWhole) (x : Vec Ideal ⟨3, ![1, m, n]⟩ e)
    (inb : ∀ a, (![0, 0, 0] : Fin 3 → ℕ) a + (⟨3, ![1, m, n]⟩ : Shape).size a ≤ (⟨3, ![1, m, n]⟩ : Shape).size a) :
    M.view.readAt (Elt Ideal) (Rect.unit (s := ⟨3, ![1, m, n]⟩) ![0, 0, 0] (⟨3, ![1, m, n]⟩ : Shape).size inb).toLoadRect (hM.unread x) = x := by
  funext y
  rw [View.readAt_apply, hM.read_unread]
  exact congrArg x (funext fun a => Fin.ext (by
    show (![0, 0, 0] : Fin 3 → ℕ) a + 1 * (y a).val = (y a).val
    rw [zero3 a]; omega))

end Cert.KernelIdeal.Gen

end

end
-- ==== Proof.Diags.lean ====
module

public import proofs.«01_k».proof.Proof.Chain

@[expose] public section

set_option maxRecDepth 16384
set_option maxHeartbeats 4000000

/-! The blocks of keys on the diagonal of a tile of queries, with the reads the body makes. -/

noncomputable section

namespace Cert.KernelIdeal.Gen

open Idealize.ShloMosaic Idealize.ShloMosaic.TcCoe Idealize.ShloMosaic.Tactic Cert.Attn

section Body

variable {Q K V G O : ℕ → ℕ → ℝ} {T : ℕ} {P8 P9 : ℕ → ℕ → ℝ} (c : Dev nD) (i : grid0.Coords)
    (arg2 : Memref sig .tc .vmem S1x1024x128 .bf16) (harg2 : arg2.IsWhole)
    (arg3 : Memref sig .tc .vmem S1x8192x128 .bf16) (harg3 : arg3.IsWhole)
    (arg4 : Memref sig .tc .vmem S1x8192x128 .bf16) (harg4 : arg4.IsWhole)
    (arg5 : Memref sig .tc .vmem S1x1024x128 .f32) (harg5 : arg5.IsWhole)
    (arg6 : Memref sig .tc .vmem S1x1024x128 .bf16) (harg6 : arg6.IsWhole)
    (arg7 : Memref sig .tc .vmem S1x1024x128 .bf16) (harg7 : arg7.IsWhole)
    (arg8 : Memref sig .tc .vmem S1x128x8192 .f32) (harg8 : arg8.IsWhole)
    (arg9 : Memref sig .tc .vmem S1x128x8192 .f32) (harg9 : arg9.IsWhole)
    (arg10 : Memref sig .tc .vmem S2x1024x256 .f32) (harg10 : arg10.IsWhole)
    (arg11 : Memref sig .tc .vmem S2x1024x256 .f32) (harg11 : arg11.IsWhole)
    (arg12 : Memref sig .tc .vmem S2048x256 .bf16) (harg12 : arg12.IsWhole)
    (arg13 : Memref sig .tc .vmem S2048x256 .bf16) (harg13 : arg13.IsWhole)
    {x0 x4 : Vec Ideal S1x1024x128 .bf16} {x1 x2 : Vec Ideal S1x8192x128 .bf16} {x3 : Vec Ideal S1x1024x128 .f32} {y8 y9 : Vec Ideal S1x128x8192 .f32}

local notation "W1 " f:max => f c i arg2 harg2 arg3 harg3 arg5 harg5 arg6 harg6 arg10 x0 x1 x3 x4
local notation "W2 " f:max => f c i arg2 harg2 arg4 harg4 arg5 harg5 arg6 harg6 arg11 x0 x2 x3 x4
local notation "W3 " f:max => f c i arg2 harg2 arg3 harg3 arg4 harg4 arg5 harg5 arg6 harg6 arg10 arg11 x0 x1 x2 x3 x4
local notation "W4 " f:max => f c i arg2 harg2 arg3 harg3 arg4 harg4 arg5 harg5 arg6 harg6 arg10 arg11 arg13 x0 x1 x2 x3 x4
local notation "W5 " f:max => f c i arg2 harg2 arg3 harg3 arg5 harg5 arg6 harg6 arg10 arg12 x0 x1 x3 x4
local notation "W6 " f:max => f c i arg2 harg2 arg5 harg5 arg6 harg6 x0 x3 x4
local notation "W7 " f:max => f c i arg2 harg2 arg3 harg3 arg4 harg4 arg5 harg5 arg6 harg6 arg7 harg7 arg8 harg8 arg9 harg9 arg10 harg10 arg11 harg11 arg12 harg12 arg13 harg13 x0 x1 x2 x3 x4 y8 y9

variable (hT : T = 1024 * (i 1).val) (hQ : At3 x0 fun r l => Q (T + r) l) (hK : At3 x1 K) (hV : At3 x2 V)
  (hO : At3 x3 fun r l => O (T + r) l) (hG : At3 x4 fun r l => G (T + r) l)
  (ht0 : ∀ r < 1024, ∑ l : Fin 128, lo G (T + r) l * O (T + r) l = TOT (z0 Q K) (D0 V G) (T + r))
  (ht1 : ∀ r < 1024, ∑ l : Fin 128, hi G (T + r) l * O (T + r) l = TOT (z1 Q K) (D1 V G) (T + r))

local notation "ψ " f:max => f c i arg2 harg2 arg3 harg3 arg4 harg4 arg5 harg5 arg6 harg6 arg7 harg7 arg8 harg8 arg9 harg9 arg10 harg10 arg11 harg11 arg12 harg12 arg13 harg13 hT hQ hK hV hO hG ht0 ht1
include c i arg2 harg2 arg3 harg3 arg4 harg4 arg5 harg5 arg6 harg6 arg7 harg7 arg8 harg8 arg9 harg9 arg10 harg10 arg11 harg11 arg12 harg12 arg13 harg13 hT hQ hK hV hO hG ht0 ht1

theorem lo_q : At2 (k0_pay56 (arg2.view.readAt (Elt Ideal) (Rect.unit (s := S1x1024x128) ![0, 0, 0] S1x1024x128.size inb_S1x1024x128_S1x1024x128_0_0_0).toLoadRect (harg2.unread x0))) fun r l => lo Q (T + r) l := by
  rw [whole_rd harg2]; exact q_lo hQ
theorem hi_q : At2 (k0_pay57 (arg2.view.readAt (Elt Ideal) (Rect.unit (s := S1x1024x128) ![0, 0, 0] S1x1024x128.size inb_S1x1024x128_S1x1024x128_0_0_0).toLoadRect (harg2.unread x0))) fun r l => hi Q (T + r) l := by
  rw [whole_rd harg2]; exact q_hi hQ
theorem lo_g : At2 (k0_pay59 (F := Ideal) (arg6.view.readAt (Elt Ideal) (Rect.unit (s := S1x1024x128) ![0, 0, 0] S1x1024x128.size inb_S1x1024x128_S1x1024x128_0_0_0).toLoadRect (harg6.unread x4))) fun r l => lo G (T + r) l := by
  rw [whole_rd harg6]; exact q_lo hG
theorem hi_g : At2 (W6 run.sl.r) fun r l => hi G (T + r) l := by
  unfold run.sl.r; dsimp only; rw [whole_rd harg6]; exact g_hi hG
theorem two_g : Two (W6 run.sl.r_1) (fun r l => lo G (T + r) l) fun r l => hi G (T + r) l := by
  unfold run.sl.r_1; dsimp only; rw [whole_rd harg6]; exact g_two hG
theorem two_q : Two (k0_pay58 (arg2.view.readAt (Elt Ideal) (Rect.unit (s := S1x1024x128) ![0, 0, 0] S1x1024x128.size inb_S1x1024x128_S1x1024x128_0_0_0).toLoadRect (harg2.unread x0))) (fun r l => q0 Q (T + r) l) fun r l => q1 Q (T + r) l :=
  q_two (ψ lo_q) (ψ hi_q)
theorem tot0 : AtC (W6 run.sl.r_2) fun r => TOT (z0 Q K) (D0 V G) (T + r) := by
  unfold run.sl.r_2; dsimp only
  rw [whole_rd harg5]
  exact (tot_0 (ψ lo_g) (rows_o hO)).of fun r hr => ht0 r hr
theorem tot1 : AtC (W6 run.sl.r_3) fun r => TOT (z1 Q K) (D1 V G) (T + r) := by
  unfold run.sl.r_3; dsimp only
  rw [whole_rd harg5, whole_rd harg6]
  exact (tot_1 hG (rows_o hO)).of fun r hr => ht1 r hr

theorem top : T + 1024 ≤ 8192 := by
  have h : (i 1).val < 8 := (i 1).isLt
  rw [hT]; omega

theorem s3_0 : At3 (W1 run.sl.v104) fun r c => 8 * z0 Q K (T + 768 + r) (T + 768 + c) := by
  unfold run.sl.v104 run.sl.HS0_2; rw [cov_skip _ _ _ _ _ 0 ?_, cov_hit]
  · exact score 768 (sc_256 (ψ lo_q) (rd3 harg3 hK (k := 256) (inb := k0_off1_inb i 3) (T + 768) (by rw [hT]; exact off1 i 3)))
  · decide
theorem g3_0 : At3 (W2 run.sl.v136) fun r c => D0 V G (T + 768 + r) (T + 768 + c) := by
  unfold run.sl.v136 run.sl.HS1_2; rw [cov_skip _ _ _ _ _ 0 ?_, cov_hit]
  · exact score' 768 (sc_256 (ψ lo_g) (rd3 harg4 hV (k := 256) (inb := k0_off1_inb i 3) (T + 768) (by rw [hT]; exact off1 i 3)))
  · decide
theorem t3_0 : At2 (W5 run.sl.v288) (fun r c => W (z0 Q K) (T + 768 + r) (T + 768 + c))
      ∧ At2 (W4 run.sl.v286) (fun r c => DZ (z0 Q K) (D0 V G) (T + 768 + r) (T + 768 + c))
      ∧ AtC (W1 run.sl.r_12) (fun r => R (z0 Q K) (T + r) (T + 768)) ∧ AtC (W3 run.sl.r_13) fun r => ES (z0 Q K) (D0 V G) (T + r) (T + 768) := by
  have hB := ψ top
  have h := diag3_0 (B := T + 768) (T := T) (by omega) tri tri2 (zero_col.of fun r hr => (R_top _ T r hr).symm) (zero_col.of fun r hr => (ES_top _ _ T r hr).symm) (ψ tot0) rfl (ψ s3_0) (ψ g3_0) rfl msk_256
  refine ⟨?_, ?_, h.2.2.1, h.2.2.2⟩
  · unfold run.sl.v288 run.sl.HS2_2; rw [cov_skip _ _ _ _ _ 0 ?_, cov_hit]
    · exact h.1
    · decide
  · unfold run.sl.v286 run.sl.HS3_2; rw [cov_skip _ _ _ _ _ 0 ?_, cov_hit]
    · exact h.2.1
    · decide

theorem s3_1 : At3 (W1 run.sl.v170) fun r c => 8 * z1 Q K (T + 768 + r) (T + 768 + c) := by
  unfold run.sl.v170 run.sl.HS0_2; rw [cov_hit]
  exact score 768 (sc_256 (ψ hi_q) (rd3 harg3 hK (k := 256) (inb := k0_off1_inb i 3) (T + 768) (by rw [hT]; exact off1 i 3)))
theorem g3_1 : At3 (W2 run.sl.v202) fun r c => D1 V G (T + 768 + r) (T + 768 + c) := by
  unfold run.sl.v202 run.sl.HS1_2; rw [cov_hit]
  exact score' 768 (sc_256 (ψ hi_g) (rd3 harg4 hV (k := 256) (inb := k0_off1_inb i 3) (T + 768) (by rw [hT]; exact off1 i 3)))
theorem t3_1 : At2 (W5 run.sl.v289) (fun r c => W (z1 Q K) (T + 768 + r) (T + 768 + c))
      ∧ At2 (W4 run.sl.v287) (fun r c => DZ (z1 Q K) (D1 V G) (T + 768 + r) (T + 768 + c))
      ∧ AtC (W1 run.sl.r_18) (fun r => R (z1 Q K) (T + r) (T + 768)) ∧ AtC (W3 run.sl.r_19) fun r => ES (z1 Q K) (D1 V G) (T + r) (T + 768) := by
  have hB := ψ top
  have h := diag3_1 (B := T + 768) (T := T) (by omega) tri tri2 (zero_col.of fun r hr => (R_top _ T r hr).symm) (zero_col.of fun r hr => (ES_top _ _ T r hr).symm) (ψ tot1) rfl (ψ s3_1) (ψ g3_1) msk_256
  refine ⟨?_, ?_, h.2.2.1, h.2.2.2⟩
  · unfold run.sl.v289 run.sl.HS2_2; rw [cov_hit]
    exact h.1
  · unfold run.sl.v287 run.sl.HS3_2; rw [cov_hit]
    exact h.2.1

theorem s2_0 : At3 (W1 run.sl.v323) fun r c => 8 * z0 Q K (T + 512 + r) (T + 512 + c) := by
  unfold run.sl.v323 run.sl.HS0_4; rw [cov_skip _ _ _ _ _ 0 ?_, cov_hit]
  · exact score 512 (sc_512 (ψ lo_q) (rd3 harg3 hK (k := 256) (inb := k0_off1_inb i 2) (T + 512) (by rw [hT]; exact off1 i 2)))
  · decide
theorem g2_0 : At3 (W2 run.sl.v355) fun r c => D0 V G (T + 512 + r) (T + 512 + c) := by
  unfold run.sl.v355 run.sl.HS1_4; rw [cov_skip _ _ _ _ _ 0 ?_, cov_hit]
  · exact score' 512 (sc_512 (ψ lo_g) (rd3 harg4 hV (k := 256) (inb := k0_off1_inb i 2) (T + 512) (by rw [hT]; exact off1 i 2)))
  · decide
theorem t2_0 : At2 (W5 run.sl.v506) (fun r c => W (z0 Q K) (T + 512 + r) (T + 512 + c))
      ∧ At2 (W4 run.sl.v504) (fun r c => DZ (z0 Q K) (D0 V G) (T + 512 + r) (T + 512 + c))
      ∧ AtC (W1 run.sl.r_28) (fun r => R (z0 Q K) (T + r) (T + 512)) ∧ AtC (W3 run.sl.r_29) fun r => ES (z0 Q K) (D0 V G) (T + r) (T + 512) := by
  have hB := ψ top
  have h := diag2_0 (B := T + 512) (T := T) (by omega) tri tri2 (ψ t3_0).2.2.1 (ψ t3_0).2.2.2 (ψ tot0) rfl (ψ s2_0) (ψ g2_0) msk_512
  refine ⟨?_, ?_, h.2.2.1, h.2.2.2⟩
  · unfold run.sl.v506 run.sl.HS2_4; rw [cov_skip _ _ _ _ _ 0 ?_, cov_hit]
    · exact h.1
    · decide
  · unfold run.sl.v504 run.sl.HS3_4; rw [cov_skip _ _ _ _ _ 0 ?_, cov_hit]
    · exact h.2.1
    · decide

theorem s2_1 : At3 (W1 run.sl.v389) fun r c => 8 * z1 Q K (T + 512 + r) (T + 512 + c) := by
  unfold run.sl.v389 run.sl.HS0_4; rw [cov_hit]
  exact score 512 (sc_512 (ψ hi_q) (rd3 harg3 hK (k := 256) (inb := k0_off1_inb i 2) (T + 512) (by rw [hT]; exact off1 i 2)))
theorem g2_1 : At3 (W2 run.sl.v421) fun r c => D1 V G (T + 512 + r) (T + 512 + c) := by
  unfold run.sl.v421 run.sl.HS1_4; rw [cov_hit]
  exact score' 512 (sc_512 (ψ hi_g) (rd3 harg4 hV (k := 256) (inb := k0_off1_inb i 2) (T + 512) (by rw [hT]; exact off1 i 2)))
theorem t2_1 : At2 (W5 run.sl.v507) (fun r c => W (z1 Q K) (T + 512 + r) (T + 512 + c))
      ∧ At2 (W4 run.sl.v505) (fun r c => DZ (z1 Q K) (D1 V G) (T + 512 + r) (T + 512 + c))
      ∧ AtC (W1 run.sl.r_35) (fun r => R (z1 Q K) (T + r) (T + 512)) ∧ AtC (W3 run.sl.r_36) fun r => ES (z1 Q K) (D1 V G) (T + r) (T + 512) := by
  have hB := ψ top
  have h := diag2_1 (B := T + 512) (T := T) (by omega) tri tri2 (ψ t3_1).2.2.1 (ψ t3_1).2.2.2 (ψ tot1) rfl (ψ s2_1) (ψ g2_1) msk_512
  refine ⟨?_, ?_, h.2.2.1, h.2.2.2⟩
  · unfold run.sl.v507 run.sl.HS2_4; rw [cov_hit]
    exact h.1
  · unfold run.sl.v505 run.sl.HS3_4; rw [cov_hit]
    exact h.2.1

theorem s1_0 : At3 (W1 run.sl.v541) fun r c => 8 * z0 Q K (T + 256 + r) (T + 256 + c) := by
  unfold run.sl.v541 run.sl.HS0_6; rw [cov_skip _ _ _ _ _ 0 ?_, cov_hit]
  · exact score 256 (sc_768 (ψ lo_q) (rd3 harg3 hK (k := 256) (inb := k0_off1_inb i 1) (T + 256) (by rw [hT]; exact off1 i 1)))
  · decide
theorem g1_0 : At3 (W2 run.sl.v573) fun r c => D0 V G (T + 256 + r) (T + 256 + c) := by
  unfold run.sl.v573 run.sl.HS1_6; rw [cov_skip _ _ _ _ _ 0 ?_, cov_hit]
  · exact score' 256 (sc_768 (ψ lo_g) (rd3 harg4 hV (k := 256) (inb := k0_off1_inb i 1) (T + 256) (by rw [hT]; exact off1 i 1)))
  · decide
theorem t1_0 : At2 (W5 run.sl.v720) (fun r c => W (z0 Q K) (T + 256 + r) (T + 256 + c))
      ∧ At2 (W4 run.sl.v718) (fun r c => DZ (z0 Q K) (D0 V G) (T + 256 + r) (T + 256 + c))
      ∧ AtC (W1 run.sl.r_48) (fun r => R (z0 Q K) (T + r) (T + 256)) ∧ AtC (W3 run.sl.r_49) fun r => ES (z0 Q K) (D0 V G) (T + r) (T + 256) := by
  have hB := ψ top
  have h := diag1_0 (B := T + 256) (T := T) (by omega) tri tri2 (ψ t2_0).2.2.1 (ψ t2_0).2.2.2 (ψ tot0) rfl (ψ s1_0) (ψ g1_0) msk_768
  refine ⟨?_, ?_, h.2.2.1, h.2.2.2⟩
  · unfold run.sl.v720 run.sl.HS2_6; rw [cov_skip _ _ _ _ _ 0 ?_, cov_hit]
    · exact h.1
    · decide
  · unfold run.sl.v718 run.sl.HS3_6; rw [cov_skip _ _ _ _ _ 0 ?_, cov_hit]
    · exact h.2.1
    · decide

theorem s1_1 : At3 (W1 run.sl.v607) fun r c => 8 * z1 Q K (T + 256 + r) (T + 256 + c) := by
  unfold run.sl.v607 run.sl.HS0_6; rw [cov_hit]
  exact score 256 (sc_768 (ψ hi_q) (rd3 harg3 hK (k := 256) (inb := k0_off1_inb i 1) (T + 256) (by rw [hT]; exact off1 i 1)))
theorem g1_1 : At3 (W2 run.sl.v639) fun r c => D1 V G (T + 256 + r) (T + 256 + c) := by
  unfold run.sl.v639 run.sl.HS1_6; rw [cov_hit]
  exact score' 256 (sc_768 (ψ hi_g) (rd3 harg4 hV (k := 256) (inb := k0_off1_inb i 1) (T + 256) (by rw [hT]; exact off1 i 1)))
theorem t1_1 : At2 (W5 run.sl.v721) (fun r c => W (z1 Q K) (T + 256 + r) (T + 256 + c))
      ∧ At2 (W4 run.sl.v719) (fun r c => DZ (z1 Q K) (D1 V G) (T + 256 + r) (T + 256 + c))
      ∧ AtC (W1 run.sl.r_53) (fun r => R (z1 Q K) (T + r) (T + 256)) ∧ AtC (W3 run.sl.r_54) fun r => ES (z1 Q K) (D1 V G) (T + r) (T + 256) := by
  have hB := ψ top
  have h := diag1_1 (B := T + 256) (T := T) (by omega) tri tri2 (ψ t2_1).2.2.1 (ψ t2_1).2.2.2 (ψ tot1) rfl (ψ s1_1) (ψ g1_1) msk_768
  refine ⟨?_, ?_, h.2.2.1, h.2.2.2⟩
  · unfold run.sl.v721 run.sl.HS2_6; rw [cov_hit]
    exact h.1
  · unfold run.sl.v719 run.sl.HS3_6; rw [cov_hit]
    exact h.2.1

end Body

end Cert.KernelIdeal.Gen

end

end
-- ==== Proof.Last.lean ====
module

public import proofs.«01_k».proof.Proof.Diags

@[expose] public section

set_option maxRecDepth 16384
set_option maxHeartbeats 4000000

/-! The last block of keys on the diagonal. -/

noncomputable section

namespace Cert.KernelIdeal.Gen

open Idealize.ShloMosaic Idealize.ShloMosaic.TcCoe Idealize.ShloMosaic.Tactic Cert.Attn

section Body

variable {Q K V G O : ℕ → ℕ → ℝ} {T : ℕ} {P8 P9 : ℕ → ℕ → ℝ} (c : Dev nD) (i : grid0.Coords)
    (arg2 : Memref sig .tc .vmem S1x1024x128 .bf16) (harg2 : arg2.IsWhole)
    (arg3 : Memref sig .tc .vmem S1x8192x128 .bf16) (harg3 : arg3.IsWhole)
    (arg4 : Memref sig .tc .vmem S1x8192x128 .bf16) (harg4 : arg4.IsWhole)
    (arg5 : Memref sig .tc .vmem S1x1024x128 .f32) (harg5 : arg5.IsWhole)
    (arg6 : Memref sig .tc .vmem S1x1024x128 .bf16) (harg6 : arg6.IsWhole)
    (arg7 : Memref sig .tc .vmem S1x1024x128 .bf16) (harg7 : arg7.IsWhole)
    (arg8 : Memref sig .tc .vmem S1x128x8192 .f32) (harg8 : arg8.IsWhole)
    (arg9 : Memref sig .tc .vmem S1x128x8192 .f32) (harg9 : arg9.IsWhole)
    (arg10 : Memref sig .tc .vmem S2x1024x256 .f32) (harg10 : arg10.IsWhole)
    (arg11 : Memref sig .tc .vmem S2x1024x256 .f32) (harg11 : arg11.IsWhole)
    (arg12 : Memref sig .tc .vmem S2048x256 .bf16) (harg12 : arg12.IsWhole)
    (arg13 : Memref sig .tc .vmem S2048x256 .bf16) (harg13 : arg13.IsWhole)
    {x0 x4 : Vec Ideal S1x1024x128 .bf16} {x1 x2 : Vec Ideal S1x8192x128 .bf16} {x3 : Vec Ideal S1x1024x128 .f32} {y8 y9 : Vec Ideal S1x128x8192 .f32}

local notation "W1 " f:max => f c i arg2 harg2 arg3 harg3 arg5 harg5 arg6 harg6 arg10 x0 x1 x3 x4
local notation "W2 " f:max => f c i arg2 harg2 arg4 harg4 arg5 harg5 arg6 harg6 arg11 x0 x2 x3 x4
local notation "W3 " f:max => f c i arg2 harg2 arg3 harg3 arg4 harg4 arg5 harg5 arg6 harg6 arg10 arg11 x0 x1 x2 x3 x4
local notation "W4 " f:max => f c i arg2 harg2 arg3 harg3 arg4 harg4 arg5 harg5 arg6 harg6 arg10 arg11 arg13 x0 x1 x2 x3 x4
local notation "W5 " f:max => f c i arg2 harg2 arg3 harg3 arg5 harg5 arg6 harg6 arg10 arg12 x0 x1 x3 x4
local notation "W6 " f:max => f c i arg2 harg2 arg5 harg5 arg6 harg6 x0 x3 x4
local notation "W7 " f:max => f c i arg2 harg2 arg3 harg3 arg4 harg4 arg5 harg5 arg6 harg6 arg7 harg7 arg8 harg8 arg9 harg9 arg10 harg10 arg11 harg11 arg12 harg12 arg13 harg13 x0 x1 x2 x3 x4 y8 y9

variable (hT : T = 1024 * (i 1).val) (hQ : At3 x0 fun r l => Q (T + r) l) (hK : At3 x1 K) (hV : At3 x2 V)
  (hO : At3 x3 fun r l => O (T + r) l) (hG : At3 x4 fun r l => G (T + r) l)
  (ht0 : ∀ r < 1024, ∑ l : Fin 128, lo G (T + r) l * O (T + r) l = TOT (z0 Q K) (D0 V G) (T + r))
  (ht1 : ∀ r < 1024, ∑ l : Fin 128, hi G (T + r) l * O (T + r) l = TOT (z1 Q K) (D1 V G) (T + r))

local notation "ψ " f:max => f c i arg2 harg2 arg3 harg3 arg4 harg4 arg5 harg5 arg6 harg6 arg7 harg7 arg8 harg8 arg9 harg9 arg10 harg10 arg11 harg11 arg12 harg12 arg13 harg13 hT hQ hK hV hO hG ht0 ht1
include c i arg2 harg2 arg3 harg3 arg4 harg4 arg5 harg5 arg6 harg6 arg7 harg7 arg8 harg8 arg9 harg9 arg10 harg10 arg11 harg11 arg12 harg12 arg13 harg13 hT hQ hK hV hO hG ht0 ht1

theorem s0_0 : At3 (W1 run.sl.v754) fun r c => 8 * z0 Q K (T + r) (T + c) := by
  unfold run.sl.v754 run.sl.HS0_8; rw [cov_skip _ _ _ _ _ 0 ?_, cov_hit]
  · exact (sc_1024 (ψ lo_q) (rd3 harg3 hK (k := 256) (inb := k0_off1_inb i 0) T (by rw [hT]; exact off1 i 0))).of fun _ _ _ _ => zz_eq _ _ _ _
  · decide
theorem g0_0 : At3 (W2 run.sl.v785) fun r c => D0 V G (T + r) (T + c) := by
  unfold run.sl.v785 run.sl.HS1_8; rw [cov_skip _ _ _ _ _ 0 ?_, cov_hit]
  · exact sc_1024 (ψ lo_g) (rd3 harg4 hV (k := 256) (inb := k0_off1_inb i 0) T (by rw [hT]; exact off1 i 0))
  · decide
theorem t0_0 : At2 (half2 arg12 (arg12.view.writes (Elt Ideal) arg12.view.junk (W1 run.sl.HS2_8)) 0 inb_S2048x256_S1024x256_0_0) (fun r c => W (z0 Q K) (T + r) (T + c))
      ∧ At2 (half2 arg13 (arg13.view.writes (Elt Ideal) arg13.view.junk (W3 run.sl.HS3_8)) 0 inb_S2048x256_S1024x256_0_0) (fun r c => DZ (z0 Q K) (D0 V G) (T + r) (T + c))
      ∧ AtC (W1 run.sl.r_63) (fun r => R (z0 Q K) (T + r) T) ∧ AtC (W3 run.sl.r_64) fun r => ES (z0 Q K) (D0 V G) (T + r) T := by
  have hB := ψ top
  have h := diag0_0 (B := T) (T := T) (by omega) tri tri2 (ψ tot0) (ψ t1_0).2.2.1 (ψ t1_0).2.2.2 rfl (ψ s0_0) (ψ g0_0) msk_1024
  refine ⟨?_, ?_, h.2.2.1, h.2.2.2⟩
  · unfold half2 run.sl.HS2_8; rw [miss _ _ _ _ _ _ 0 ?_, hit]
    · exact h.1
    · decide
  · unfold half2 run.sl.HS3_8; rw [miss _ _ _ _ _ _ 0 ?_, hit]
    · exact h.2.1
    · decide

theorem s0_1 : At3 (W1 run.sl.v814) fun r c => 8 * z1 Q K (T + r) (T + c) := by
  unfold run.sl.v814 run.sl.HS0_8; rw [cov_hit]
  exact (sc_1024 (ψ hi_q) (rd3 harg3 hK (k := 256) (inb := k0_off1_inb i 0) T (by rw [hT]; exact off1 i 0))).of fun _ _ _ _ => zz_eq _ _ _ _
theorem g0_1 : At3 (W2 run.sl.v845) fun r c => D1 V G (T + r) (T + c) := by
  unfold run.sl.v845 run.sl.HS1_8; rw [cov_hit]
  exact sc_1024 (ψ hi_g) (rd3 harg4 hV (k := 256) (inb := k0_off1_inb i 0) T (by rw [hT]; exact off1 i 0))
theorem t0_1 : At2 (half2 arg12 (arg12.view.writes (Elt Ideal) arg12.view.junk (W1 run.sl.HS2_8)) 1024 inb_S2048x256_S1024x256_1024_0) (fun r c => W (z1 Q K) (T + r) (T + c))
      ∧ At2 (half2 arg13 (arg13.view.writes (Elt Ideal) arg13.view.junk (W3 run.sl.HS3_8)) 1024 inb_S2048x256_S1024x256_1024_0) (fun r c => DZ (z1 Q K) (D1 V G) (T + r) (T + c))
      ∧ AtC (W1 run.sl.r_68) (fun r => R (z1 Q K) (T + r) T) ∧ AtC (W3 run.sl.r_69) fun r => ES (z1 Q K) (D1 V G) (T + r) T := by
  have hB := ψ top
  have h := diag0_1 (B := T) (T := T) (by omega) tri tri2 (ψ tot1) (ψ t1_1).2.2.1 (ψ t1_1).2.2.2 rfl (ψ s0_1) (ψ g0_1) msk_1024
  refine ⟨?_, ?_, h.2.2.1, h.2.2.2⟩
  · unfold half2 run.sl.HS2_8; rw [hit]
    exact h.1
  · unfold half2 run.sl.HS3_8; rw [hit]
    exact h.2.1

end Body

end Cert.KernelIdeal.Gen

end

end
-- ==== Proof.Base.lean ====
module

public import proofs.«01_k».proof.Proof.Last

@[expose] public section

set_option maxRecDepth 16384
set_option maxHeartbeats 4000000

/-! What the body leaves at a tile of queries: the tile's query gradient, and what it adds to the gradients of keys and values. -/

noncomputable section

namespace Cert.KernelIdeal.Gen

open Idealize.ShloMosaic Idealize.ShloMosaic.TcCoe Idealize.ShloMosaic.Tactic Cert.Attn

section Body

variable {Q K V G O : ℕ → ℕ → ℝ} {T : ℕ} {P8 P9 : ℕ → ℕ → ℝ} (c : Dev nD) (i : grid0.Coords)
    (arg2 : Memref sig .tc .vmem S1x1024x128 .bf16) (harg2 : arg2.IsWhole)
    (arg3 : Memref sig .tc .vmem S1x8192x128 .bf16) (harg3 : arg3.IsWhole)
    (arg4 : Memref sig .tc .vmem S1x8192x128 .bf16) (harg4 : arg4.IsWhole)
    (arg5 : Memref sig .tc .vmem S1x1024x128 .f32) (harg5 : arg5.IsWhole)
    (arg6 : Memref sig .tc .vmem S1x1024x128 .bf16) (harg6 : arg6.IsWhole)
    (arg7 : Memref sig .tc .vmem S1x1024x128 .bf16) (harg7 : arg7.IsWhole)
    (arg8 : Memref sig .tc .vmem S1x128x8192 .f32) (harg8 : arg8.IsWhole)
    (arg9 : Memref sig .tc .vmem S1x128x8192 .f32) (harg9 : arg9.IsWhole)
    (arg10 : Memref sig .tc .vmem S2x1024x256 .f32) (harg10 : arg10.IsWhole)
    (arg11 : Memref sig .tc .vmem S2x1024x256 .f32) (harg11 : arg11.IsWhole)
    (arg12 : Memref sig .tc .vmem S2048x256 .bf16) (harg12 : arg12.IsWhole)
    (arg13 : Memref sig .tc .vmem S2048x256 .bf16) (harg13 : arg13.IsWhole)
    {x0 x4 : Vec Ideal S1x1024x128 .bf16} {x1 x2 : Vec Ideal S1x8192x128 .bf16} {x3 : Vec Ideal S1x1024x128 .f32} {y8 y9 : Vec Ideal S1x128x8192 .f32}

local notation "W1 " f:max => f c i arg2 harg2 arg3 harg3 arg5 harg5 arg6 harg6 arg10 x0 x1 x3 x4
local notation "W2 " f:max => f c i arg2 harg2 arg4 harg4 arg5 harg5 arg6 harg6 arg11 x0 x2 x3 x4
local notation "W3 " f:max => f c i arg2 harg2 arg3 harg3 arg4 harg4 arg5 harg5 arg6 harg6 arg10 arg11 x0 x1 x2 x3 x4
local notation "W4 " f:max => f c i arg2 harg2 arg3 harg3 arg4 harg4 arg5 harg5 arg6 harg6 arg10 arg11 arg13 x0 x1 x2 x3 x4
local notation "W5 " f:max => f c i arg2 harg2 arg3 harg3 arg5 harg5 arg6 harg6 arg10 arg12 x0 x1 x3 x4
local notation "W6 " f:max => f c i arg2 harg2 arg5 harg5 arg6 harg6 x0 x3 x4
local notation "W7 " f:max => f c i arg2 harg2 arg3 harg3 arg4 harg4 arg5 harg5 arg6 harg6 arg7 harg7 arg8 harg8 arg9 harg9 arg10 harg10 arg11 harg11 arg12 harg12 arg13 harg13 x0 x1 x2 x3 x4 y8 y9

variable (hT : T = 1024 * (i 1).val) (hQ : At3 x0 fun r l => Q (T + r) l) (hK : At3 x1 K) (hV : At3 x2 V)
  (hO : At3 x3 fun r l => O (T + r) l) (hG : At3 x4 fun r l => G (T + r) l)
  (ht0 : ∀ r < 1024, ∑ l : Fin 128, lo G (T + r) l * O (T + r) l = TOT (z0 Q K) (D0 V G) (T + r))
  (ht1 : ∀ r < 1024, ∑ l : Fin 128, hi G (T + r) l * O (T + r) l = TOT (z1 Q K) (D1 V G) (T + r))

local notation "ψ " f:max => f c i arg2 harg2 arg3 harg3 arg4 harg4 arg5 harg5 arg6 harg6 arg7 harg7 arg8 harg8 arg9 harg9 arg10 harg10 arg11 harg11 arg12 harg12 arg13 harg13 hT hQ hK hV hO hG ht0 ht1
include c i arg2 harg2 arg3 harg3 arg4 harg4 arg5 harg5 arg6 harg6 arg7 harg7 arg8 harg8 arg9 harg9 arg10 harg10 arg11 harg11 arg12 harg12 arg13 harg13 hT hQ hK hV hO hG ht0 ht1

local notation "W8 " f:max => f c i arg2 harg2 arg3 harg3 arg5 harg5 arg6 harg6 x0 x1 x3 x4
local notation "W9 " f:max => f c i arg2 harg2 arg4 harg4 arg5 harg5 arg6 harg6 x0 x2 x3 x4

theorem d24 : At2 (W4 run.sl.r_24) fun r l => qa Q K V G (T + 768) (T + r) l :=
  (dq_256 (stk (rd3 harg3 hK (k := 256) (inb := k0_off2_inb i 2) (T + 768) (by rw [hT]; exact off2 i 2))) (ψ t3_0).2.1 (ψ t3_1).2.1 zero_acc).of fun r hr l _ =>
    (congrArg (· + _) (qt_top (fun _ h => DZ_past h) (fun _ h => DZ_past h) hr).symm).trans
      (qt_diag (f := lo K) (g := hi K) 768 (by have := ψ top; omega) (fun _ h => DZ_past h) fun _ h => DZ_past h)
theorem d44 : At2 (W4 run.sl.r_44) fun r l => qa Q K V G (T + 512) (T + r) l :=
  (dq_512 (stk (rd3 harg3 hK (k := 256) (inb := k0_off2_inb i 1) (T + 512) (by rw [hT]; exact off2 i 1))) (ψ t2_0).2.1 (ψ t2_1).2.1 (ψ d24)).of fun r hr l _ =>
    qt_diag (f := lo K) (g := hi K) 512 (by have := ψ top; omega) (fun _ h => DZ_past h) fun _ h => DZ_past h
theorem d58 : At2 (W4 run.sl.r_58) fun r l => qa Q K V G (T + 256) (T + r) l :=
  (dq_768 (stk (rd3 harg3 hK (k := 256) (inb := k0_off2_inb i 0) (T + 256) (by rw [hT]; exact off2 i 0))) (ψ t1_0).2.1 (ψ t1_1).2.1 (ψ d44)).of fun r hr l _ =>
    qt_diag (f := lo K) (g := hi K) 256 (by have := ψ top; omega) (fun _ h => DZ_past h) fun _ h => DZ_past h

theorem diag_k8 (h : Ac (harg8.unread y8) P8) :
    Ac (arg8.view.writes (Elt Ideal) (harg8.unread y8) [⟨Rect.unit (s := S1x128x8192) (k0_off3 i 0#32) S1x128x256.size (k0_off3_inb i 0), k0_pay178 (k0_pay58 (arg2.view.readAt (Elt Ideal) (Rect.unit (s := S1x1024x128) ![0, 0, 0] S1x1024x128.size inb_S1x1024x128_S1x1024x128_0_0_0).toLoadRect (harg2.unread x0))) (W4 run.sl.v718) (W4 run.sl.v719) (run.sl.v729 i arg8 harg8 y8)⟩, ⟨Rect.unit (s := S1x128x8192) (k0_off3 i 1#32) S1x128x256.size (k0_off3_inb i 1), k0_pay148 (run.sl.r_40 c arg2 harg2 x0) (run.sl.r_42 i arg8 harg8 y8) (W4 run.sl.r_43)⟩, ⟨Rect.unit (s := S1x128x8192) (k0_off3 i 2#32) S1x128x256.size (k0_off3_inb i 2), k0_pay111 (k0_pay58 (arg2.view.readAt (Elt Ideal) (Rect.unit (s := S1x1024x128) ![0, 0, 0] S1x1024x128.size inb_S1x1024x128_S1x1024x128_0_0_0).toLoadRect (harg2.unread x0))) (W4 run.sl.v286) (W4 run.sl.v287) (arg8.view.readAt (Elt Ideal) (Rect.unit (s := S1x128x8192) (k0_off3 i 2#32) S1x128x256.size (k0_off3_inb i 2)).toLoadRect (harg8.unread y8))⟩]) fun l s => P8 l s + if T + 256 ≤ s then ka Q K V G T l s else 0 := by
  have a4 : Ac (arg8.view.writes (Elt Ideal) (harg8.unread y8) []) fun l s => P8 l s + if T + 768 + 256 ≤ s then ka Q K V G T l s else 0 := fun l s => by
    refine (h l s).trans (congrArg _ (Eq.symm ?_))
    dsimp only
    split
    · exact (congrArg (_ + ·) (kt_top (fun _ _ h => DZ_past h) (fun _ _ h => DZ_past h) _ _ (by omega))).trans (add_zero _)
    · rw [add_zero]
  have a3 := Ac.add (o := T + 768) (inb := k0_off3_inb i 2) a4 (by rw [hT]; exact off3 i 2) ((key_256 (ψ two_q) (ψ t3_0).2.1 (ψ t3_1).2.1 (h.rd (inb := k0_off3_inb i 2) (T + 768) (by rw [hT]; exact off3 i 2))).of fun l _ c _ =>
    congrArg (_ + ·) (kt_diag 768 256 rfl (fun _ _ h => DZ_past h) (fun _ _ h => DZ_past h) l c))
  have a2 := Ac.add (o := T + 512) (inb := k0_off3_inb i 1) a3 (by rw [hT]; exact off3 i 1) ((key_512 (ψ two_q) (ψ t2_0).2.1 (ψ t2_1).2.1 (h.rd (inb := k0_off3_inb i 1) (T + 512) (by rw [hT]; exact off3 i 1))).of fun l _ c _ =>
    congrArg (_ + ·) (kt_diag 512 512 rfl (fun _ _ h => DZ_past h) (fun _ _ h => DZ_past h) l c))
  have a1 := Ac.add (o := T + 256) (inb := k0_off3_inb i 0) a2 (by rw [hT]; exact off3 i 0) ((key_768 (ψ two_q) (ψ t1_0).2.1 (ψ t1_1).2.1 (h.rd (inb := k0_off3_inb i 0) (T + 256) (by rw [hT]; exact off3 i 0))).of fun l _ c _ =>
    congrArg (_ + ·) (kt_diag 256 768 rfl (fun _ _ h => DZ_past h) (fun _ _ h => DZ_past h) l c))
  exact a1

theorem diag_k9 (h : Ac (harg9.unread y9) P9) :
    Ac (arg9.view.writes (Elt Ideal) (harg9.unread y9) [⟨Rect.unit (s := S1x128x8192) (k0_off3 i 0#32) S1x128x256.size (k0_off3_inb i 0), k0_pay179 (W6 run.sl.r_1) (W5 run.sl.v720) (W5 run.sl.v721) (run.sl.v739 i arg9 harg9 y9)⟩, ⟨Rect.unit (s := S1x128x8192) (k0_off3 i 1#32) S1x128x256.size (k0_off3_inb i 1), k0_pay149 (W5 run.sl.v506) (W5 run.sl.v507) (W6 run.sl.r_41) (run.sl.v525 i arg9 harg9 y9)⟩, ⟨Rect.unit (s := S1x128x8192) (k0_off3 i 2#32) S1x128x256.size (k0_off3_inb i 2), k0_pay112 (W6 run.sl.r_1) (W5 run.sl.v288) (W5 run.sl.v289) (arg9.view.readAt (Elt Ideal) (Rect.unit (s := S1x128x8192) (k0_off3 i 2#32) S1x128x256.size (k0_off3_inb i 2)).toLoadRect (harg9.unread y9))⟩]) fun l s => P9 l s + if T + 256 ≤ s then va Q K G T l s else 0 := by
  have a4 : Ac (arg9.view.writes (Elt Ideal) (harg9.unread y9) []) fun l s => P9 l s + if T + 768 + 256 ≤ s then va Q K G T l s else 0 := fun l s => by
    refine (h l s).trans (congrArg _ (Eq.symm ?_))
    dsimp only
    split
    · exact (congrArg (_ + ·) (kt_top (fun _ _ h => W_past h) (fun _ _ h => W_past h) _ _ (by omega))).trans (add_zero _)
    · rw [add_zero]
  have a3 := Ac.add (o := T + 768) (inb := k0_off3_inb i 2) a4 (by rw [hT]; exact off3 i 2) ((key_256 (ψ two_g) (ψ t3_0).1 (ψ t3_1).1 (h.rd (inb := k0_off3_inb i 2) (T + 768) (by rw [hT]; exact off3 i 2))).of fun l _ c _ =>
    congrArg (_ + ·) (kt_diag 768 256 rfl (fun _ _ h => W_past h) (fun _ _ h => W_past h) l c))
  have a2 := Ac.add (o := T + 512) (inb := k0_off3_inb i 1) a3 (by rw [hT]; exact off3 i 1) ((key_512 (ψ two_g) (ψ t2_0).1 (ψ t2_1).1 (h.rd (inb := k0_off3_inb i 1) (T + 512) (by rw [hT]; exact off3 i 1))).of fun l _ c _ =>
    congrArg (_ + ·) (kt_diag 512 512 rfl (fun _ _ h => W_past h) (fun _ _ h => W_past h) l c))
  have a1 := Ac.add (o := T + 256) (inb := k0_off3_inb i 0) a2 (by rw [hT]; exact off3 i 0) ((key_768 (ψ two_g) (ψ t1_0).1 (ψ t1_1).1 (h.rd (inb := k0_off3_inb i 0) (T + 256) (by rw [hT]; exact off3 i 0))).of fun l _ c _ =>
    congrArg (_ + ·) (kt_diag 256 768 rfl (fun _ _ h => W_past h) (fun _ _ h => W_past h) l c))
  exact a1

theorem base (h8 : Ac (harg8.unread y8) P8) (h9 : Ac (harg9.unread y9) P9) :
    Inv Q K V G T P8 P9 T (W1 run.sl.r_63, W1 run.sl.r_68, W3 run.sl.r_64, W3 run.sl.r_69, W4 run.sl.r_58)
      (arg8.view.writes (Elt Ideal) (harg8.unread y8) [⟨Rect.unit (s := S1x128x8192) (k0_off3 i 0#32) S1x128x256.size (k0_off3_inb i 0), k0_pay178 (k0_pay58 (arg2.view.readAt (Elt Ideal) (Rect.unit (s := S1x1024x128) ![0, 0, 0] S1x1024x128.size inb_S1x1024x128_S1x1024x128_0_0_0).toLoadRect (harg2.unread x0))) (W4 run.sl.v718) (W4 run.sl.v719) (run.sl.v729 i arg8 harg8 y8)⟩, ⟨Rect.unit (s := S1x128x8192) (k0_off3 i 1#32) S1x128x256.size (k0_off3_inb i 1), k0_pay148 (run.sl.r_40 c arg2 harg2 x0) (run.sl.r_42 i arg8 harg8 y8) (W4 run.sl.r_43)⟩, ⟨Rect.unit (s := S1x128x8192) (k0_off3 i 2#32) S1x128x256.size (k0_off3_inb i 2), k0_pay111 (k0_pay58 (arg2.view.readAt (Elt Ideal) (Rect.unit (s := S1x1024x128) ![0, 0, 0] S1x1024x128.size inb_S1x1024x128_S1x1024x128_0_0_0).toLoadRect (harg2.unread x0))) (W4 run.sl.v286) (W4 run.sl.v287) (arg8.view.readAt (Elt Ideal) (Rect.unit (s := S1x128x8192) (k0_off3 i 2#32) S1x128x256.size (k0_off3_inb i 2)).toLoadRect (harg8.unread y8))⟩])
      (arg9.view.writes (Elt Ideal) (harg9.unread y9) [⟨Rect.unit (s := S1x128x8192) (k0_off3 i 0#32) S1x128x256.size (k0_off3_inb i 0), k0_pay179 (W6 run.sl.r_1) (W5 run.sl.v720) (W5 run.sl.v721) (run.sl.v739 i arg9 harg9 y9)⟩, ⟨Rect.unit (s := S1x128x8192) (k0_off3 i 1#32) S1x128x256.size (k0_off3_inb i 1), k0_pay149 (W5 run.sl.v506) (W5 run.sl.v507) (W6 run.sl.r_41) (run.sl.v525 i arg9 harg9 y9)⟩, ⟨Rect.unit (s := S1x128x8192) (k0_off3 i 2#32) S1x128x256.size (k0_off3_inb i 2), k0_pay112 (W6 run.sl.r_1) (W5 run.sl.v288) (W5 run.sl.v289) (arg9.view.readAt (Elt Ideal) (Rect.unit (s := S1x128x8192) (k0_off3 i 2#32) S1x128x256.size (k0_off3_inb i 2)).toLoadRect (harg9.unread y9))⟩])
      (arg10.view.writes (Elt Ideal) arg10.view.junk (W8 run.sl.HS0_10)) (arg11.view.writes (Elt Ideal) arg11.view.junk (W9 run.sl.HS1_10))
      (arg12.view.writes (Elt Ideal) arg12.view.junk (W1 run.sl.HS2_8)) (arg13.view.writes (Elt Ideal) arg13.view.junk (W3 run.sl.HS3_8)) where
  r0 := (ψ t0_0).2.2.1
  r1 := (ψ t0_1).2.2.1
  e0 := (ψ t0_0).2.2.2
  e1 := (ψ t0_1).2.2.2
  dq := ψ d58
  k8 := (ψ diag_k8) h8
  k9 := (ψ diag_k9) h9
  s0 := by
    unfold half3 run.sl.HS0_10; rw [miss _ _ _ _ _ _ 0 ?_, hit]
    · exact (sc_1024 (ψ lo_q) (rd3 harg3 hK (k := 256) (inb := k0_off4_inb i) (T - 256) (by rw [hT]; exact off4 i))).of fun _ _ _ _ => zz_eq _ _ _ _
    · decide
  s1 := by
    unfold half3 run.sl.HS0_10; rw [hit]
    exact (sc_1024 (ψ hi_q) (rd3 harg3 hK (k := 256) (inb := k0_off4_inb i) (T - 256) (by rw [hT]; exact off4 i))).of fun _ _ _ _ => zz_eq _ _ _ _
  g0 := by
    unfold half3 run.sl.HS1_10; rw [miss _ _ _ _ _ _ 0 ?_, hit]
    · exact sc_1024 (ψ lo_g) (rd3 harg4 hV (k := 256) (inb := k0_off4_inb i) (T - 256) (by rw [hT]; exact off4 i))
    · decide
  g1 := by
    unfold half3 run.sl.HS1_10; rw [hit]
    exact sc_1024 (ψ hi_g) (rd3 harg4 hV (k := 256) (inb := k0_off4_inb i) (T - 256) (by rw [hT]; exact off4 i))
  w0 := (ψ t0_0).1
  w1 := (ψ t0_1).1
  y0 := (ψ t0_0).2.1
  y1 := (ψ t0_1).2.1

local notation "RUN" => run c i arg2 harg2 arg3 harg3 arg4 harg4 arg5 harg5 arg6 harg6 arg7 harg7 arg8 harg8 arg9 harg9 arg10 harg10 arg11 harg11 arg12 harg12 arg13 harg13 x0 x1 x2 x3 x4 y8 y9

theorem done (h8 : Ac (harg8.unread y8) P8) (h9 : Ac (harg9.unread y9) P9) :
    At3 (k0_pay2 (W7 run.sl.r_71) (run.sl.r_72 arg3 harg3 x1) (W7 run.sl.v924) (W7 run.sl.v925)) (fun r l => qa Q K V G 0 (T + r) l * (1 / 8))
      ∧ Ac (arg8.view.writes (Elt Ideal) (harg8.unread y8) (RUN).2.1) (fun l s => P8 l s + if 0 ≤ s then ka Q K V G T l s else 0)
      ∧ Ac (arg9.view.writes (Elt Ideal) (harg9.unread y9) (RUN).2.2.1) (fun l s => P9 l s + if 0 ≤ s then va Q K G T l s else 0) := by
  have I := inv_st c i arg2 harg2 arg3 harg3 arg4 harg4 arg5 harg5 arg6 harg6 arg7 harg7 arg8 harg8 arg9 harg9 arg10 harg10 arg11 harg11 arg12 harg12 arg13 harg13 (BitVec.ofNat 32 (i 1).val) (W4 run.sl.r_58) (W1 run.sl.r_63) (W3 run.sl.r_64) (W1 run.sl.r_68) (W3 run.sl.r_69) (run.sl.v876 i) (run.sl.r_70 c i arg3 harg3 x1)
    hT (ψ lo_q) (ψ hi_q) (ψ two_q) (ψ lo_g) (ψ hi_g) (ψ two_g) (ψ tot0) (ψ tot1) tri tri2 hK hV ((ψ base) h8 h9) (k0_t1_loop i).trips le_rfl
  rw [show T - 256 * (k0_t1_loop i).trips = 0 by rw [hT, trips_eq]; omega] at I
  obtain ⟨_, _, _, _, dq, k8, k9, _, _, _, _, w0, w1, y0, y1⟩ := I
  unfold half2 at w0 w1 y0 y1
  rw [← View.writes_append] at k8 k9 w0 w1 y0 y1
  have hs := stk (rd3 harg3 hK (k := 256) (inb := inb_S1x8192x128_S1x256x128_0_0_0) 0 rfl)
  refine ⟨?_, ?_, ?_⟩
  · exact (dq_last hs y0 y1 dq).of fun r _ l _ => congrArg (· * (1 / 8 : ℝ)) (qt_step _ _ _ _ 0 _ _ (by omega))
  · exact Ac.add (inb := inb_S1x128x8192_S1x128x256_0_0_0) k8 rfl ((key_1024 (ψ two_q) y0 y1 (k8.rd (inb := inb_S1x128x8192_S1x128x256_0_0_0) 0 rfl)).of fun l _ c hc => by
      rw [if_neg (by omega), add_zero]; rfl)
  · exact Ac.add (inb := inb_S1x128x8192_S1x128x256_0_0_0) k9 rfl ((key_1024 (ψ two_g) w0 w1 (k9.rd (inb := inb_S1x128x8192_S1x128x256_0_0_0) 0 rfl)).of fun l _ c hc => by
      rw [if_neg (by omega), add_zero]; rfl)

end Body

end Cert.KernelIdeal.Gen

end

end
-- ==== Proof.Points.lean ====
module

public import proofs.«01_k».proof.Proof.Heads
public import proofs.«01_k».proof.Proof.Base

@[expose] public section

set_option maxRecDepth 16384
set_option maxHeartbeats 400000

/-! What a grid point leaves: a block of the queries' gradient, and the keys' and values' gradients from the rows so far. -/

noncomputable section

namespace Cert.KernelIdeal.Gen

open Idealize.ShloMosaic Idealize.ShloMosaic.TcCoe Idealize.ShloMosaic.Tactic Cert.Attn
open Cert.ReferenceIdeal.Read (Is)

variable (m : (ℓ : Loc nD τ sig) → Buf (Elt Ideal) ℓ) (c : Dev nD) (t : Fin cfg0.N) {X Y : ℕ → ℕ → ℝ}
  (hX : Is (arg0 m c) X) (hY : Is (arg1 m c) Y)
include hX hY

/-- An accumulator's contents are these real numbers. -/
def Rows (y : Vec Ideal S1x128x8192 .f32) (p : ℕ → ℕ → ℝ) : Prop := ∀ (l : Fin 128) (s : Fin 8192), y (ix3 0 l s) = ((p l s : ℝ) : EReal)

omit hX hY in
theorem Rows.ac {M : Memref sig .tc .vmem S1x128x8192 .f32} (hM : M.IsWhole) {y : Vec Ideal S1x128x8192 .f32} {p : ℕ → ℕ → ℝ} (h : Rows y p) :
    Ac (hM.unread y) p := fun l s => by rw [hM.read_unread]; exact h l s

theorem point {y8 y9 : Vec Ideal S1x128x8192 .f32} {P8 P9 : ℕ → ℕ → ℝ} (h8 : Rows y8 P8) (h9 : Rows y9 P9) :
    At3 (dqOut m c t y8 y9) (fun r l => gq X Y ((128 * (t.val / 8) + l) / 64) (1024 * (t.val % 8) + r) (128 * (t.val / 8) + l))
      ∧ Rows (dkOut m c t y8 y9) (fun l s => P8 l s + ka (Qp X (t.val / 8)) (Kp X (t.val / 8)) (Vp X (t.val / 8)) (Qp Y (t.val / 8)) (1024 * (t.val % 8)) l s)
      ∧ Rows (dvOut m c t y8 y9) (fun l s => P9 l s + va (Qp X (t.val / 8)) (Kp X (t.val / 8)) (Qp Y (t.val / 8)) (1024 * (t.val % 8)) l s) := by
  have D := done c (grid0.coords t) (ms0 t) (hs0 t) (ms1 t) (hs1 t) (ms2 t) (hs2 t) (ms3 t) (hs3 t) (ms4 t) (hs4 t) (ms5 t) (hs5 t) (ms6 t) (hs6 t) (ms7 t) (hs7 t) scr0 (Memref.isWhole_whole _) scr1 (Memref.isWhole_whole _) scr2 (Memref.isWhole_whole _) scr3 (Memref.isWhole_whole _)
    (T := 1024 * (t.val % 8)) (congrArg (1024 * ·) (idx t).2.2.2.2.2.2.2.2.symm) (blk0 m c t hX) (blk1 m c t hX) (blk2 m c t hX) (O := Op X (t.val / 8)) (blk3 m c t hX) (blk4 m c t hY)
    (fun r _ => tot0_eq X Y (t.val / 8) _) (fun r _ => tot1_eq X Y (t.val / 8) _) (h8.ac (hs6 t)) (h9.ac (hs7 t))
  obtain ⟨dq, k8, k9⟩ := D
  refine ⟨?_, fun l s => ?_, fun l s => ?_⟩
  · intro r l
    refine (View.read_writes_cons_unit_of_mem _ _ inb_S1x1024x128_S1x1024x128_0_0_0 _ [] (ix3 0 r l) (ix3 0 r l) rfl (by intro a; fin_cases a <;> simp [ix3])).trans ((dq r l).trans ?_)
    exact congrArg _ (qa_eq X Y (t.val / 8) l.isLt _)
  · exact (k8 l s).trans (by dsimp only; rw [if_pos (Nat.zero_le _)])
  · exact (k9 l s).trans (by dsimp only; rw [if_pos (Nat.zero_le _)])

omit hX hY in
theorem rows0 : Rows (k0_pay49 (F := Ideal)) (fun _ _ => 0) ∧ Rows (k0_pay50 (F := Ideal)) (fun _ _ => 0) := by
  constructor <;> exact fun l s => Cert.ReferenceIdeal.Read.zero_word

/-- The two accumulators hold the gradients from the first `N` rows of a pair's queries. -/
def Upto (X Y : ℕ → ℕ → ℝ) (p N : ℕ) (y : Vec Ideal S1x128x8192 .f32 × Vec Ideal S1x128x8192 .f32) : Prop :=
  Rows y.1 (fun l s => gkN X Y ((128 * p + l) / 64) N s (128 * p + l)) ∧ Rows y.2 (fun l s => gvN X Y ((128 * p + l) / 64) N s (128 * p + l))

omit hX hY in
theorem upto0 (p : ℕ) : Upto X Y p 0 (k0_pay49 (F := Ideal), k0_pay50 (F := Ideal)) := by
  constructor <;> intro l s <;> simp only [gkN, gvN, Finset.range_zero, Finset.sum_empty]
  · exact rows0.1 l s
  · exact rows0.2 l s

theorem next {y8 y9 : Vec Ideal S1x128x8192 .f32} (h : Upto X Y (t.val / 8) (1024 * (t.val % 8)) (y8, y9)) :
    Upto X Y (t.val / 8) (1024 * (t.val % 8) + 1024) (dkOut m c t y8 y9, dvOut m c t y8 y9) := by
  obtain ⟨_, k8, k9⟩ := point m c t hX hY h.1 h.2
  exact ⟨fun l s => (k8 l s).trans (congrArg _ (ka_eq X Y (t.val / 8) l.isLt _ _)), fun l s => (k9 l s).trans (congrArg _ (va_eq X Y (t.val / 8) l.isLt _ _))⟩

theorem step (h : ¬ t.val % 8 = 0 → Upto X Y ((t.val - 1) / 8) (1024 * ((t.val - 1) % 8) + 1024) (accs m c (t.val - 1) (Nat.lt_of_le_of_lt (Nat.sub_le _ _) t.isLt))) :
    Upto X Y (t.val / 8) (1024 * (t.val % 8)) (kIn m c t, vIn m c t) := by
  unfold kIn vIn
  by_cases h0 : t.val % 8 = 0
  · rw [h0, start_first t h0, start_first t h0, dite_eq_ite, dite_eq_ite, ite_self, ite_self]
    exact upto0 _
  · rw [dif_neg (fun e => h0 (by rw [e])), dif_neg (fun e => h0 (by rw [e])), start_later t h0, start_later t h0,
      show t.val / 8 = (t.val - 1) / 8 by omega, show 1024 * (t.val % 8) = 1024 * ((t.val - 1) % 8) + 1024 by omega]
    exact h h0

/-- The accumulators after a point. -/
theorem accs_at (n : ℕ) (hn : n < cfg0.N) : Upto X Y (n / 8) (1024 * (n % 8) + 1024) (accs m c n hn) := by
  induction n with
  | zero =>
    rw [accs_eq m c ⟨0, hn⟩]
    exact next m c ⟨0, hn⟩ hX hY (step m c ⟨0, hn⟩ hX hY fun h => absurd rfl h)
  | succ n ih =>
    rw [accs_eq m c ⟨n + 1, hn⟩]
    exact next m c ⟨n + 1, hn⟩ hX hY (step m c ⟨n + 1, hn⟩ hX hY fun _ => ih _)

end Cert.KernelIdeal.Gen

end

end
-- ==== Proof.Final.lean ====
module

public import proofs.«01_k».proof.Proof.Points

@[expose] public section

set_option maxRecDepth 16384
set_option maxHeartbeats 400000

/-! The three arrays after the region. -/

noncomputable section

namespace Cert.KernelIdeal.Gen

open Idealize.ShloMosaic Idealize.ShloMosaic.TcCoe Idealize.ShloMosaic.Tactic Cert.Attn
open Cert.ReferenceIdeal.Read (Is)

variable (m : (ℓ : Loc nD τ sig) → Buf (Elt Ideal) ℓ) (c : Dev nD) {X Y : ℕ → ℕ → ℝ}
  (hX : Is (arg0 m c) X) (hY : Is (arg1 m c) Y)
include hX hY

/-- The gradients as arrays, a pair of heads at a time. -/
def GQ (X Y : ℕ → ℕ → ℝ) : FVec Ideal S8x8192x128 .bf16 := fun i => ((gq X Y ((128 * (i 0).val + (i 2).val) / 64) (i 1).val (128 * (i 0).val + (i 2).val) : ℝ) : EReal)
def GK (X Y : ℕ → ℕ → ℝ) : FVec Ideal S8x128x8192 .f32 := fun i => ((gk X Y ((128 * (i 0).val + (i 1).val) / 64) (i 2).val (128 * (i 0).val + (i 1).val) : ℝ) : EReal)
def GV (X Y : ℕ → ℕ → ℝ) : FVec Ideal S8x128x8192 .f32 := fun i => ((gv X Y ((128 * (i 0).val + (i 1).val) / 64) (i 2).val (128 * (i 0).val + (i 1).val) : ℝ) : EReal)

theorem final_q : (dats m 0 c).arrAt 5 (cfgs 0).N = GQ X Y := by
  refine (dats m 0 c).arrAt_eq_of_covers 5 _ (by decide +kernel) fun t _ y => ?_
  blk_simp
  rw [after5]
  idx_vars y
  have P := (point m c t (y8 := kIn m c t) (y9 := vIn m c t) hX hY (step m c t hX hY fun _ => accs_at m c hX hY _ _).1 (step m c t hX hY fun _ => accs_at m c hX hY _ _).2).1
  obtain rfl : y0 = 0 := Subsingleton.elim _ _
  refine (P y1 y2).trans ?_
  have e1 : ((win0_5.blk t).view.emb (ix3 0 y1 y2) 1).val = 1024 * (t.val % 8) + y1.val := by blk_simp [idx t]; omega
  have e0 : 128 * ((win0_5.blk t).view.emb (ix3 0 y1 y2) 0).val + ((win0_5.blk t).view.emb (ix3 0 y1 y2) 2).val = 128 * (t.val / 8) + y2.val := by blk_simp [idx t]; simp
  show _ = ((gq X Y ((128 * ((win0_5.blk t).view.emb (ix3 0 y1 y2) 0).val + ((win0_5.blk t).view.emb (ix3 0 y1 y2) 2).val) / 64) ((win0_5.blk t).view.emb (ix3 0 y1 y2) 1).val (128 * ((win0_5.blk t).view.emb (ix3 0 y1 y2) 0).val + ((win0_5.blk t).view.emb (ix3 0 y1 y2) 2).val) : ℝ) : EReal)
  rw [e0, e1]
theorem final_k : (dats m 0 c).arrAt 6 (cfgs 0).N = GK X Y := by
  refine (dats m 0 c).arrAt_eq_of_covers 6 _ (by decide +kernel) fun t hf y => ?_
  blk_simp
  rw [after6]
  have h7 := (flush0_6 t).1 hf
  idx_vars y
  obtain rfl : y0 = 0 := Subsingleton.elim _ _
  have P := (accs_at m c hX hY t.val t.isLt).1 y1 y2
  dsimp only at P
  rw [show 1024 * (t.val % 8) + 1024 = 8192 by omega, gkN_all] at P
  refine P.trans ?_
  have e1 : ((win0_6.blk t).view.emb (ix3 0 y1 y2) 2).val = y2.val := by blk_simp [idx t]
  have e0 : 128 * ((win0_6.blk t).view.emb (ix3 0 y1 y2) 0).val + ((win0_6.blk t).view.emb (ix3 0 y1 y2) 1).val = 128 * (t.val / 8) + y1.val := by blk_simp [idx t]; simp
  show _ = ((gk X Y ((128 * ((win0_6.blk t).view.emb (ix3 0 y1 y2) 0).val + ((win0_6.blk t).view.emb (ix3 0 y1 y2) 1).val) / 64) ((win0_6.blk t).view.emb (ix3 0 y1 y2) 2).val (128 * ((win0_6.blk t).view.emb (ix3 0 y1 y2) 0).val + ((win0_6.blk t).view.emb (ix3 0 y1 y2) 1).val) : ℝ) : EReal)
  rw [e0, e1]
theorem final_v : (dats m 0 c).arrAt 7 (cfgs 0).N = GV X Y := by
  refine (dats m 0 c).arrAt_eq_of_covers 7 _ (by decide +kernel) fun t hf y => ?_
  blk_simp
  rw [after7]
  have h7 := (flush0_7 t).1 hf
  idx_vars y
  obtain rfl : y0 = 0 := Subsingleton.elim _ _
  have P := (accs_at m c hX hY t.val t.isLt).2 y1 y2
  dsimp only at P
  rw [show 1024 * (t.val % 8) + 1024 = 8192 by omega, gvN_all] at P
  refine P.trans ?_
  have e1 : ((win0_7.blk t).view.emb (ix3 0 y1 y2) 2).val = y2.val := by blk_simp [idx t]
  have e0 : 128 * ((win0_7.blk t).view.emb (ix3 0 y1 y2) 0).val + ((win0_7.blk t).view.emb (ix3 0 y1 y2) 1).val = 128 * (t.val / 8) + y1.val := by blk_simp [idx t]; simp
  show _ = ((gv X Y ((128 * ((win0_7.blk t).view.emb (ix3 0 y1 y2) 0).val + ((win0_7.blk t).view.emb (ix3 0 y1 y2) 1).val) / 64) ((win0_7.blk t).view.emb (ix3 0 y1 y2) 2).val (128 * ((win0_7.blk t).view.emb (ix3 0 y1 y2) 0).val + ((win0_7.blk t).view.emb (ix3 0 y1 y2) 1).val) : ℝ) : EReal)
  rw [e0, e1]

end Cert.KernelIdeal.Gen

end

end
-- ==== Proof.Tail.lean ====
module

public import proofs.«01_k».proof.Proof.Body

@[expose] public section

set_option maxRecDepth 16384
set_option maxHeartbeats 400000

/-! The two results the host lines after the region make of the accumulated gradients. -/

noncomputable section

namespace Cert.KernelIdeal.Gen

open Idealize.ShloMosaic Idealize.ShloMosaic.TcCoe Idealize.SL Idealize.SL.RA Idealize.SL.Sem Idealize.ShloMosaic.Tactic

variable {F : FTy → Type} [FloatOps F] [Named F]

/-- Rows of lanes back to rows of keys. -/
abbrev turn (x : FVec F S8x128x8192 .f32) : FVec F S8x8192x128 .bf16 :=
  truncf .bf16 (transpose S8x8192x128 [0, 2, 1] x transposes_S8x128x8192_S8x8192x128_0_2_1) bitsLt_bf16_f32

theorem after_v40 (U : Valuation τ sig (Elt F)) :
    StableHlo.after (List.flatten [hostOps1]) U (Proc.devRef .tc main_v40) = turn (F := F) (U (Proc.devRef .tc main_v38_1)) := by
  sl_kernel_rfl
theorem after_v42 (U : Valuation τ sig (Elt F)) :
    StableHlo.after (List.flatten [hostOps1]) U (Proc.devRef .tc main_v42) = turn (F := F) (U (Proc.devRef .tc main_v38_2)) := by
  sl_kernel_rfl

variable (m : (ℓ : Loc nD τ sig) → Buf (Elt F) ℓ) (c : Dev nD)

theorem tail_k : Pipeline.afterTail₀ cfgs (dats m) 0 (V0 m) [hostOps1] c main_v40 = turn (F := F) ((dats m 0 c).arrAt 6 (cfgs 0).N) :=
  (after_v40 _).trans (congrArg turn (Pipeline.Dat.withArrays_arrAt (dats m 0 c) launch₀0.sharedIn (V0 m c) (A_eq m c) 6))
theorem tail_v : Pipeline.afterTail₀ cfgs (dats m) 0 (V0 m) [hostOps1] c main_v42 = turn (F := F) ((dats m 0 c).arrAt 7 (cfgs 0).N) :=
  (after_v42 _).trans (congrArg turn (Pipeline.Dat.withArrays_arrAt (dats m 0 c) launch₀0.sharedIn (V0 m c) (A_eq m c) 7))

end Cert.KernelIdeal.Gen

end

end
-- ==== Proof.Pair.lean ====
module

public import proofs.«01_k».proof.Defs
public import proofs.«01_k».proof.Proof.Reals
public import proofs.«01_k».proof.Proof.Final
public import proofs.«01_k».proof.Proof.Tail
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import Idealize.ShloMosaic.Lib.Claim
public import Idealize.ShloMosaic.Lib.Quiescent

@[expose] public section

set_option maxRecDepth 16384
set_option maxHeartbeats 400000

/-! The three gradients of the pair, claimed. -/

noncomputable section

namespace Cert.KernelIdeal.Gen

open Idealize.ShloMosaic Idealize.ShloMosaic.TcCoe Idealize.SL Idealize.SL.Sem Idealize.ShloMosaic.Tactic Cert.Attn Cert.Reals
open Cert.ReferenceIdeal.Read (Is)

/-- A matrix of real numbers, read anywhere. -/
def nums {a b : ℕ} (x : (⟨2, ![a, b]⟩ : Idealize.ShloMosaic.Shape).Idx → EReal) (r s : ℕ) : ℝ :=
  if h : r < a ∧ s < b then (x (ix2 ⟨r, h.1⟩ ⟨s, h.2⟩)).toReal else 0

theorem is_nums {a b : ℕ} {x : (⟨2, ![a, b]⟩ : Idealize.ShloMosaic.Shape).Idx → EReal} (h : ∀ i, IsR (x i)) : Is x (nums x) := fun i => by
  have h0 : (i 0).val < a := (i 0).isLt
  have h1 : (i 1).val < b := (i 1).isLt
  rw [nums, dif_pos ⟨h0, h1⟩]
  refine Eq.trans (congrArg x (funext fun k => ?_)) (h _).coe_toReal.symm
  match k with
  | 0 => rfl
  | 1 => rfl

variable (m : (ℓ : Loc nD τ sig) → Buf (Elt Ideal) ℓ)

theorem of_pre (c : Dev nD) (h : Cert.Pre_KernelIdeal_finite m) :
    Is (arg0 m c) (nums (arg0 m c)) ∧ Is (arg1 m c) (nums (arg1 m c)) := by
  have e := congrFun (h c) (Shape.Idx.first (by decide))
  dsimp only [Cert.Pre_finite.fn] at e
  obtain ⟨e0, e1⟩ := IntOp.andi_eq_one.1 e
  exact ⟨is_nums fun i => isR_of_between (Host.reduce_andi_all _ _ _ _ _ e0 i), is_nums fun i => isR_of_between (Host.reduce_andi_all _ _ _ _ _ e1 i)⟩

theorem turn_at (x : FVec Ideal S8x128x8192 .f32) (i : S8x8192x128.Idx) : turn x i = x (ix3 (i 0) (i 2) (i 1)) := by
  idx_vars i
  pointwise

section Reference

variable {x0 : FVec Ideal S8192x3072 .f32} {x1 : FVec Ideal S8192x1024 .f32} {X Y : ℕ → ℕ → ℝ} (hX : Is x0 X) (hY : Is x1 Y)
include hX hY

theorem ref_q : Cert.ReferenceIdeal.Read.val_main_v62 (F := Ideal) x0 x1 = GQ X Y := funext fun i => Cert.ReferenceIdeal.Read.res_q hX hY i
theorem ref_k : Cert.ReferenceIdeal.Read.val_main_v66 (F := Ideal) x0 x1 = turn (F := Ideal) (GK X Y) :=
  funext fun i => (Cert.ReferenceIdeal.Read.res_k hX hY i).trans (turn_at (GK X Y) i).symm
theorem ref_v : Cert.ReferenceIdeal.Read.val_main_v70 (F := Ideal) x0 x1 = turn (F := Ideal) (GV X Y) :=
  funext fun i => (Cert.ReferenceIdeal.Read.res_v hX hY i).trans (turn_at (GV X Y) i).symm

end Reference

theorem is_of_eq {a b : ℕ} {x y : (⟨2, ![a, b]⟩ : Idealize.ShloMosaic.Shape).Idx → EReal} {f : ℕ → ℕ → ℝ} (e : x = y) (h : Is y f) : Is x f := e ▸ h

theorem left_k (c : Dev nD) {X Y : ℕ → ℕ → ℝ} (hX : Is (arg0 m c) X) (hY : Is (arg1 m c) Y) :
    turn (F := Ideal) (GK X Y) = Pipeline.afterTail₀ cfgs (dats m) 0 (V0 m) [hostOps1] c main_v40 :=
  ((tail_k m c).trans (congrArg (turn (F := Ideal)) (final_k m c hX hY))).symm
theorem left_v (c : Dev nD) {X Y : ℕ → ℕ → ℝ} (hX : Is (arg0 m c) X) (hY : Is (arg1 m c) Y) :
    turn (F := Ideal) (GV X Y) = Pipeline.afterTail₀ cfgs (dats m) 0 (V0 m) [hostOps1] c main_v42 :=
  ((tail_v m c).trans (congrArg (turn (F := Ideal)) (final_v m c hX hY))).symm

theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Gen.run_main m g
    · exact W_main_arg0 m (dats m) c
    · exact W_main_arg1 m (dats m) c
  · have hfin := fun c => of_pre m c hpre
    run_from Cert.ReferenceIdeal.Value.run m' g'
    · exact (Cert.ReferenceIdeal.Read.val_main_v62_eq _).trans ((ref_q (is_of_eq (hagree c).1 (hfin c).1) (is_of_eq (hagree c).2 (hfin c).2)).trans (final_q m c (hfin c).1 (hfin c).2).symm)
    · exact (Cert.ReferenceIdeal.Read.val_main_v66_eq _).trans ((ref_k (is_of_eq (hagree c).1 (hfin c).1) (is_of_eq (hagree c).2 (hfin c).2)).trans (left_k m c (hfin c).1 (hfin c).2))
    · exact (Cert.ReferenceIdeal.Read.val_main_v70_eq _).trans ((ref_v (is_of_eq (hagree c).1 (hfin c).1) (is_of_eq (hagree c).2 (hfin c).2)).trans (left_v m c (hfin c).1 (hfin c).2))

end Cert.KernelIdeal.Gen

end

end
-- ==== Proof.Dact.lean ====
module

public import proofs.«01_k».proof.Defs
public import proofs.«01_k».proof.Proof.Gen.Kernel2Ideal.Frame
public import proofs.«01_k».proof.Proof.Gen.Reference2Ideal.Read
public import proofs.«01_k».proof.Proof.Gen.Reference2Ideal.Run
public import proofs.«01_k».proof.Proof.Gen.Pre_finite_but_wg
public import proofs.«01_k».proof.Proof.Reals
public import Idealize.ShloMosaic.Lib.Pipeline.ValueKit

@[expose] public section

set_option maxRecDepth 16384

noncomputable section

namespace Cert.Dact

open Idealize.ShloMosaic Idealize.ShloMosaic.TcCoe Idealize.SL.Sem Idealize.ShloMosaic.ValueIdx
open Idealize.ShloMosaic.Pipeline (Dat)
open Cert.Kernel2Ideal Cert.Kernel2Ideal.Gen Cert.Reals

variable (m : (ℓ : Loc nD τ sig) → Buf (Elt Ideal) ℓ)

/-- Where every window's block sits at each grid point. -/
theorem idx : ∀ t : Fin cfg0.N, win0_0.index t = ![t.val % 16, 0] ∧ win0_1.index t = ![0, t.val / 16]
    ∧ win0_2.index t = ![t.val % 16, t.val / 16] ∧ win0_3.index t = ![t.val % 16, t.val / 16]
    ∧ win0_4.index t = ![t.val % 16, t.val / 16] ∧ win0_5.index t = ![t.val % 16, t.val / 16] ∧ t.val / 16 < 2 :=
  (by decide +kernel : ∀ t : Fin grid0.N, _)

open Cert.Reference2Ideal.Read in
/-- The gate's block, computed on the host, is the reference's gate product. -/
theorem gate_blk (c : Dev nD) (t : Fin cfg0.N) (y : S512x1408.Idx) :
    iblk m c 2 t y = val_main_v0 (F := Ideal) (m ((c : Thread nD τ).loc main_arg0)) (m ((c : Thread nD τ).loc main_arg1))
      (((cfg0.win 5).blk t).view.emb y) := by
  blk_simp [iblk]
  entry_read
  pointwise [val_main_v0]
  blk_point [idx t]

open Cert.Reference2Ideal.Read in
/-- The up projection's block is the reference's. -/
theorem up_blk (c : Dev nD) (t : Fin cfg0.N) (y : S512x1408.Idx) :
    iblk m c 3 t y = val_main_v1 (F := Ideal) (m ((c : Thread nD τ).loc main_arg0)) (m ((c : Thread nD τ).loc main_arg2))
      (((cfg0.win 5).blk t).view.emb y) := by
  blk_simp [iblk]
  entry_read
  pointwise [val_main_v1]
  blk_point [idx t]

open Cert.Reference2Ideal.Read in
/-- The activation's gradient: the body's product of its two blocks. -/
theorem dact_blk (c : Dev nD) (t : Fin cfg0.N) (y : S512x1408.Idx) :
    k0_pay1 (F := Ideal) (iblk m c 0 t) (iblk m c 1 t) y
      = val_main_v5 (F := Ideal) (m ((c : Thread nD τ).loc main_arg3)) (m ((c : Thread nD τ).loc main_arg4)) (((cfg0.win 5).blk t).view.emb y) := by
  pointwise [k0_pay1, val_main_v5]
  blk_point [iblk, idx t]

open Cert.Reference2Ideal.Read in
/-- The gradient of the up projection: what the body stores at an index of its block is the reference's entry there. -/
theorem point5 (c : Dev nD) (t : Fin cfg0.N) (y) :
    k0_pay6 (F := Ideal) (iblk m c 0 t) (iblk m c 1 t) (iblk m c 2 t) y
      = val_main_v10 (F := Ideal) (m ((c : Thread nD τ).loc main_arg0)) (m ((c : Thread nD τ).loc main_arg1))
        (m ((c : Thread nD τ).loc main_arg3)) (m ((c : Thread nD τ).loc main_arg4)) (((cfg0.win 5).blk t).view.emb y) := by
  pointwise [k0_pay6, k0_pay2, k0_pay3, k0_pay4, val_main_v10, val_main_v6, val_main_v2_0, val_main_v2_2,
    val_main_call0_v0, val_main_call0_v1, val_main_call0_v2, val_main_call0_v3, val_main_call0_v4, val_main_call0_cst, val_main_call0_cst_0]
  rw [show k0_pay1 (F := Ideal) (iblk m c 0 t) (iblk m c 1 t) y = _ from dact_blk m c t y,
    show iblk m c 2 t y = _ from gate_blk m c t y, zero_sub]
  exact mul_comm _ _

open Cert.Reference2Ideal.Read in
/-- The gradient of the gate. -/
theorem point4 (c : Dev nD) (h0 : ∀ i, IsR (m ((c : Thread nD τ).loc main_arg0) i)) (h2 : ∀ i, IsR (m ((c : Thread nD τ).loc main_arg2) i))
    (h3 : ∀ i, IsR (m ((c : Thread nD τ).loc main_arg3) i)) (h4 : ∀ i, IsR (m ((c : Thread nD τ).loc main_arg4) i)) (t : Fin cfg0.N) (y) :
    k0_pay5 (F := Ideal) (iblk m c 0 t) (iblk m c 1 t) (iblk m c 2 t) (iblk m c 3 t) y
      = val_main_v9 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  pointwise [k0_pay5, k0_pay2, k0_pay3, k0_pay4, val_main_v9, val_main_v8, val_main_v7, val_main_call1_v0, val_main_call1_v1, val_main_call1_v2,
    val_main_v2_1, val_main_v2_2, val_main_call0_v6, val_main_call0_v7, val_main_call0_cst_1,
    val_main_call0_v0, val_main_call0_v1, val_main_call0_v2, val_main_call0_v3, val_main_call0_v4, val_main_call0_cst, val_main_call0_cst_0]
  rw [show k0_pay1 (F := Ideal) (iblk m c 0 t) (iblk m c 1 t) y = _ from dact_blk m c t y,
    show iblk m c 2 t y = _ from gate_blk m c t y, show iblk m c 3 t y = _ from up_blk m c t y, zero_sub]
  refine silu_grad _ ?_ ?_
  · rw [val_main_v5_apply]; exact IsR.sum_univ fun k => (h4 _).mul (h3 _)
  · rw [val_main_v1_apply]; exact IsR.sum_univ fun k => (h0 _).mul (h2 _)

open Cert.Reference2Ideal.Read in
/-- The gate's gradient after the run. -/
theorem final4 (c : Dev nD) (h0 : ∀ i, IsR (m ((c : Thread nD τ).loc main_arg0) i)) (h2 : ∀ i, IsR (m ((c : Thread nD τ).loc main_arg2) i))
    (h3 : ∀ i, IsR (m ((c : Thread nD τ).loc main_arg3) i)) (h4 : ∀ i, IsR (m ((c : Thread nD τ).loc main_arg4) i)) :
    (dats m 0 c).arrAt 4 (cfgs 0).N
      = val_main_v9 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 4 _ (by decide +kernel) fun t _ y => ?_
  blk_simp
  rw [after0_4]; frame_out
  exact point4 m c h0 h2 h3 h4 t y

open Cert.Reference2Ideal.Read in
/-- The up projection's gradient after the run. -/
theorem final5 (c : Dev nD) : (dats m 0 c).arrAt 5 (cfgs 0).N
      = val_main_v10 (F := Ideal) (m ((c : Thread nD τ).loc main_arg0)) (m ((c : Thread nD τ).loc main_arg1))
        (m ((c : Thread nD τ).loc main_arg3)) (m ((c : Thread nD τ).loc main_arg4)) := by
  refine (dats m 0 c).arrAt_eq_of_covers 5 _ (by decide +kernel) fun t _ y => ?_
  blk_simp
  rw [after0_5]; frame_out
  exact point5 m c t y

/-- What the precondition says of the arguments it bounds. -/
theorem of_pre (c : Dev nD) (h : Cert.Pre_Kernel2Ideal_finite_but_wg m) :
    (∀ i, IsR (m ((c : Thread nD τ).loc main_arg0) i)) ∧ (∀ i, IsR (m ((c : Thread nD τ).loc main_arg2) i))
    ∧ (∀ i, IsR (m ((c : Thread nD τ).loc main_arg3) i)) ∧ (∀ i, IsR (m ((c : Thread nD τ).loc main_arg4) i)) := by
  have e := congrFun (h c) (Shape.Idx.first (by decide))
  dsimp only [Cert.Pre_finite_but_wg.fn] at e
  obtain ⟨e, e4⟩ := IntOp.andi_eq_one.1 e
  obtain ⟨e, e3⟩ := IntOp.andi_eq_one.1 e
  obtain ⟨e0, e2⟩ := IntOp.andi_eq_one.1 e
  refine ⟨fun i => ?_, fun i => ?_, fun i => ?_, fun i => ?_⟩
  · exact isR_of_between (Host.reduce_andi_all _ _ _ _ _ e0 i)
  · exact isR_of_between (Host.reduce_andi_all _ _ _ _ _ e2 i)
  · exact isR_of_between (Host.reduce_andi_all _ _ _ _ _ e3 i)
  · exact isR_of_between (Host.reduce_andi_all _ _ _ _ _ e4 i)

end Cert.Dact

end
-- ==== Proof.FwdPay.lean ====
module

public import proofs.«01_k».proof.Proof.Gen.Kernel3Ideal.Skeleton
public import proofs.«01_k».proof.Proof.Step
public import Idealize.ShloMosaic.Lib.Pipeline.ValueKit

@[expose] public section

set_option maxRecDepth 16384
set_option maxHeartbeats 400000

/-! The forward body's blocks of keys: the weights a block gets, the sum it carries on, its scores, and what it adds to the
output, each from the entries of the values the body computes. -/

noncomputable section

namespace Cert.Kernel3Ideal.Gen

open Idealize.ShloMosaic Idealize.ShloMosaic.TcCoe Idealize.ShloMosaic.Tactic Cert.Attn

theorem nm_scale : Named.named (F := Ideal) (φ := .f32) κ "scale_log2e" 0x3E38AA3B#32 = ((8⁻¹ * (Real.log 2)⁻¹ : ℝ) : EReal) :=
  IdealRules.named_const.ideal_named_scalar _ _ _ _ rfl
theorem nm_ln2 : Named.named (F := Ideal) (φ := .f32) κ "inv_ln2" 0x3FB8AA3B#32 = (((Real.log 2)⁻¹ : ℝ) : EReal) :=
  IdealRules.named_const.ideal_named_scalar _ _ _ _ rfl

theorem tri : Tri (k0_pay31 (F := Ideal)) := by
  intro k c
  pointwise [k0_pay31]
  exact num_sgt (by omega) (by omega)

/-- Scores in units of the base-2 logarithm. -/
abbrev zs (x : EReal) : EReal := x * (Named.named (F := Ideal) (φ := .f32) κ "scale_log2e" 0x3E38AA3B#32 : EReal)
/-- The base-2 log weights' first part, as the body computes it. -/
abbrev lbs (x : EReal) : EReal :=
  min (zs x) 0 - Ideal.log (1 + (FloatOps.exp2 (F := Ideal) (φ := .f32) (0 - FloatOps.absf (F := Ideal) (φ := .f32) (zs x)) : EReal))
    * (Named.named (F := Ideal) (φ := .f32) κ "inv_ln2" 0x3FB8AA3B#32 : EReal)

theorem lbs_eq (x : ℝ) : lbs ((8 * x : ℝ) : EReal) = ((lg x / Real.log 2 : ℝ) : EReal) := by
  simp only [lbs, zs, nm_scale, nm_ln2, exp2_eq, absf_eq, z2_eq, lse_eq, lb_eq]

section Step

variable {z : ℕ → ℕ → ℝ} {T B n : ℕ} (hB : B + 256 ≤ 8192) {v : (⟨2, ![256, 256]⟩ : Shape).Idx → EReal} (hv : Tri v)
  {a : (⟨2, ![2048, 1]⟩ : Shape).Idx → EReal} (ha : AtC a fun r => R z (T + r) (B + 256))
  {x : (⟨3, ![1, n, 256]⟩ : Shape).Idx → EReal} {lb l2 w : (⟨2, ![n, 256]⟩ : Shape).Idx → EReal} {b : (⟨2, ![2048, 1]⟩ : Shape).Idx → EReal}
  (elb : ∀ r c, lb (ix2 r c) = lbs (x (ix3 0 r c)))
include hB hv ha elb

/-- A block on the diagonal, `o` rows into the tile. -/
theorem diag (o : ℕ) (ho : o + n = 2048) (hk : B = T + o) (hx : At3 x fun r c => 8 * z (B + r) (B + c))
    {mk : (⟨2, ![n, 256]⟩ : Shape).Idx → BitVec 1} (hm : Msk mk)
    (el2 : ∀ r c, l2 (ix2 r c) = Scalar.select (mk (ix2 r c)) (lb (ix2 r c) - zs (x (ix3 0 r c))) 0)
    (ew : ∀ r c, w (ix2 r c) = Scalar.select (mk (ix2 r c)) (FloatOps.exp2 (F := Ideal) (φ := .f32) (lb (ix2 r c) + (a (ix2 ⟨o + r, by omega⟩ 0) + ∑ k, l2 (ix2 r k) * v (ix2 k c))) : EReal) 0)
    (eb : ∀ r, b (ix2 r 0) = a (ix2 r 0) + if h : r.val < o then 0 else ∑ k, l2 (ix2 ⟨r - o, by omega⟩ k)) :
    At2 w (fun r c => W z (B + r) (B + c)) ∧ AtC b fun r => R z (T + r) B := by
  have off : ∀ r : ℕ, T + (o + r) = B + r := fun r => by omega
  have h1 : At2 lb fun r c => lg (z (B + r) (B + c)) / Real.log 2 := fun r c => by rw [elb, hx, lbs_eq]
  have h2 : At2 l2 fun r c => L z (B + r) (B + c) / Real.log 2 := fun r c => by
    rw [el2, h1 r c, hx r c]
    simp only [zs, nm_scale, z2_eq, l2_eq, hm _ _, l2_mask]
  refine ⟨fun r c => ?_, fun r => ?_⟩
  · rw [ew]
    simp only [h1 _ _, h2 _ _, ha _, hv _ _, hm _ _, exp2_eq, off]
    exact w_mask z B hB r c
  · rw [eb]
    simp only [ha _, h2 _ _]
    exact R_step z hk hB r

/-- A block below the diagonal. -/
theorem low (hn : n = 2048) (hk : B + 256 ≤ T) (hx : At3 x fun r c => 8 * z (T + r) (B + c))
    (el2 : ∀ r c, l2 (ix2 r c) = lb (ix2 r c) - zs (x (ix3 0 r c)))
    (ew : ∀ r c, w (ix2 r c) = (FloatOps.exp2 (F := Ideal) (φ := .f32) (lb (ix2 r c) + (a (ix2 ⟨r, by omega⟩ 0) + ∑ k, l2 (ix2 r k) * v (ix2 k c))) : EReal))
    (eb : ∀ r, b (ix2 r 0) = a (ix2 r 0) + ∑ k, l2 (ix2 ⟨r, by omega⟩ k)) :
    At2 w (fun r c => W z (T + r) (B + c)) ∧ AtC b fun r => R z (T + r) B := by
  have h1 : At2 lb fun r c => lg (z (T + r) (B + c)) / Real.log 2 := fun r c => by rw [elb, hx, lbs_eq]
  have h2 : At2 l2 fun r c => L z (T + r) (B + c) / Real.log 2 := fun r c => by
    rw [el2, h1 r c, hx r c]
    simp only [zs, nm_scale, z2_eq, l2_eq]
    rw [L_of_lt z _ _ (by omega)]
  refine ⟨fun r c => ?_, fun r => ?_⟩
  · rw [ew]
    simp only [h1 _ _, h2 _ _, ha _, hv _ _, exp2_eq]
    exact w_core z _ B hB c (by omega)
  · rw [eb]
    simp only [ha _, h2 _ _]
    exact R_add z _ B hB

end Step

section Gather

variable {q k f g p V : ℕ → ℕ → ℝ} {n : ℕ}

/-- Scores of the rows from `o` on. -/
theorem sc_of {v : (⟨2, ![2048, 128]⟩ : Shape).Idx → EReal} {w : (⟨3, ![1, 256, 128]⟩ : Shape).Idx → EReal} (h : At2 v q) (h' : At3 w k)
    {x : (⟨3, ![1, n, 256]⟩ : Shape).Idx → EReal} (o : ℕ) (ho : o + n = 2048)
    (e : ∀ r c, x (ix3 0 r c) = ∑ l, v (ix2 ⟨o + r, by omega⟩ l) * w (ix3 0 c l)) : At3 x fun r c => sc q k (o + r) c := fun r c => by
  rw [e]
  simp only [h _ _, h' _ _, ← EReal.coe_mul, coe_sum, sc]

/-- The weights of both heads side by side. -/
def Side (w : (⟨2, ![n, 512]⟩ : Shape).Idx → EReal) (f g : ℕ → ℕ → ℝ) : Prop :=
  ∀ (r : Fin n) (c : Fin 256), (∀ h, w (ix2 r ⟨c.val, h⟩) = ((f r c : ℝ) : EReal)) ∧ ∀ h, w (ix2 r ⟨256 + c.val, h⟩) = ((g r c : ℝ) : EReal)

theorem sel_lo2 (l : Fin 128) (a b : ℝ) :
    Scalar.select (k0_pay26 (ix2 0 l)) ((a : EReal) * (b : EReal)) 0 = ((a * (if l.val < 64 then b else 0) : ℝ) : EReal) := by
  pointwise [k0_pay26]
  rw [← EReal.coe_mul, sel_lo, mul_ite, mul_zero]
theorem sel_hi2 (l : Fin 128) (a b : ℝ) :
    Scalar.select (k0_pay27 (ix2 0 l)) ((a : EReal) * (b : EReal)) 0 = ((a * (if 64 ≤ l.val then b else 0) : ℝ) : EReal) := by
  pointwise [k0_pay27]
  rw [← EReal.coe_mul, sel_hi, mul_ite, mul_zero]

variable {acc y : (⟨2, ![2048, 128]⟩ : Shape).Idx → EReal} {u : (⟨3, ![1, 256, 128]⟩ : Shape).Idx → EReal} {w : (⟨2, ![n, 512]⟩ : Shape).Idx → EReal}
  (hw : Side w f g) (hu : At3 u V)
include hw hu

/-- What a block of values adds to a row, in the body's words. -/
abbrev gat (w : (⟨2, ![n, 512]⟩ : Shape).Idx → EReal) (u : (⟨3, ![1, 256, 128]⟩ : Shape).Idx → EReal) (r : Fin n) (l : Fin 128) : EReal :=
  ∑ x : Fin 256, Scalar.select (k0_pay26 (ix2 0 l)) (w (ix2 r ⟨x, by omega⟩) * u (ix3 0 x l)) 0
    + ∑ x : Fin 256, Scalar.select (k0_pay27 (ix2 0 l)) (w (ix2 r ⟨256 + x, by omega⟩) * u (ix3 0 x l)) 0

theorem gat_eq (r : Fin n) (l : Fin 128) : gat w u r l = ((∑ j : Fin 256, (f r j * lo V j l + g r j * hi V j l) : ℝ) : EReal) := by
  simp only [gat, (hw _ _).1 _, (hw _ _).2 _, hu _ _, sel_lo2, sel_hi2, coe_sum, ← EReal.coe_add, ← Finset.sum_add_distrib]
  rfl

theorem app_of (hp : At2 acc p) (o : ℕ) (ho : o + n = 2048)
    (e : ∀ r l, y (ix2 r l) = acc (ix2 r l) + if h : r.val < o then 0 else gat w u ⟨r - o, by omega⟩ l) :
    At2 y fun r l => p r l + if r < o then 0 else ∑ j : Fin 256, (f (r - o) j * lo V j l + g (r - o) j * hi V j l) := fun r l => by
  rw [e, hp r l, EReal.coe_add]
  by_cases hr : r.val < o
  · rw [dif_pos hr, if_pos hr]; rfl
  · rw [dif_neg hr, if_neg hr, gat_eq hw hu]

end Gather

section Masks

theorem msk {n : ℕ} {mk : (⟨2, ![n, 256]⟩ : Shape).Idx → BitVec 1} (hn : n ≤ 2048) (e : ∀ r c, mk (ix2 r c) = IntOp.cmpi .slt (BitVec.ofNat 32 c.val) (BitVec.ofNat 32 r.val)) : Msk mk := fun r c a b => by
  rw [e]; exact sel_slt (by omega) (by omega) a b

end Masks

theorem zero_col : AtC (k0_pay32 (F := Ideal)) fun _ => 0 := fun r => by
  pointwise [k0_pay32]
  rfl
theorem zero_acc : At2 (k0_pay49 (F := Ideal)) fun _ _ => 0 := fun r c => by
  pointwise [k0_pay49]
  rfl

variable {q : ℕ → ℕ → ℝ}

theorem q_lo {x : Vec Ideal S1x2048x128 .bf16} (h : At3 x q) : At2 (k0_pay29 x) (lo q) := fun r l => by
  pointwise [k0_pay29, k0_pay28, k0_pay26]
  simp only [h _ _, sel_lo, lo]
theorem q_hi {x : Vec Ideal S1x2048x128 .bf16} (h : At3 x q) : At2 (k0_pay30 x) (hi q) := fun r l => by
  pointwise [k0_pay30, k0_pay28, k0_pay27]
  simp only [h _ _, sel_hi, hi]

end Cert.Kernel3Ideal.Gen

end

end
-- ==== Proof.FwdDiag.lean ====
module

public import proofs.«01_k».proof.Proof.FwdPay

@[expose] public section

set_option maxRecDepth 16384
set_option maxHeartbeats 400000

/-! The eight blocks on the diagonal and the block below it, for each of the two heads. -/

noncomputable section

namespace Cert.Kernel3Ideal.Gen

open Idealize.ShloMosaic Idealize.ShloMosaic.TcCoe Idealize.ShloMosaic.Tactic Cert.Attn

variable {z : ℕ → ℕ → ℝ} {T B : ℕ} (hB : B + 256 ≤ 8192) {v : FVec Ideal S256x256 .bf16} (hv : Tri v)
  {a : FVec Ideal S2048x1 .f32} (ha : AtC a fun r => R z (T + r) (B + 256))

/-- The row and column numbers of a block of scores. -/
abbrev rr : IVec S2048x256 32 := iota .tc S2048x256 32 [0] iota_S2048x256_d0_w32
abbrev cc : IVec S2048x256 32 := iota .tc S2048x256 32 [1] iota_S2048x256_d1_w32

theorem msk7 : Msk (k0_pay37 rr cc) := msk (by norm_num) fun r c => by pointwise [k0_pay37]
theorem msk6 : Msk (k0_pay56 rr cc) := msk (by norm_num) fun r c => by pointwise [k0_pay56]
theorem msk5 : Msk (k0_pay71 rr cc) := msk (by norm_num) fun r c => by pointwise [k0_pay71]
theorem msk4 : Msk (k0_pay87 rr cc) := msk (by norm_num) fun r c => by pointwise [k0_pay87]
theorem msk3 : Msk (k0_pay104 rr cc) := msk (by norm_num) fun r c => by pointwise [k0_pay104]
theorem msk2 : Msk (k0_pay125 rr cc) := msk (by norm_num) fun r c => by pointwise [k0_pay125]
theorem msk1 : Msk (k0_pay144 rr cc) := msk (by norm_num) fun r c => by pointwise [k0_pay144]
theorem msk0 : Msk (k0_pay162 rr cc) := msk (by norm_num) fun r c => by pointwise [k0_pay162]

include hB hv ha

theorem d7_0 (hk : B = T + 1792) {x : Vec Ideal S1x256x256 .f32} (hx : At3 x fun r c => 8 * z (B + r) (B + c)) :
    At2 (k0_pay41 v rr cc a x) (fun r c => W z (B + r) (B + c)) ∧ AtC (k0_pay43 a (k0_pay42 rr cc x)) fun r => R z (T + r) B :=
  diag hB hv ha (lb := k0_pay39 x) (l2 := k0_pay40 rr cc x) (fun r c => by pointwise [k0_pay39, k0_pay38]) 1792 rfl hk hx msk7
    (fun r c => by pointwise [k0_pay40, k0_pay38]) (fun r c => by pointwise [k0_pay41]) fun r => by pointwise [k0_pay43, k0_pay42]
theorem d7_1 (hk : B = T + 1792) {x : Vec Ideal S1x256x256 .f32} (hx : At3 x fun r c => 8 * z (B + r) (B + c)) {mk} (hm : Msk mk) :
    At2 (k0_pay47 v a mk x) (fun r c => W z (B + r) (B + c)) ∧ AtC (k0_pay48 a mk x) fun r => R z (T + r) B :=
  diag hB hv ha (lb := k0_pay45 x) (l2 := k0_pay46 mk x) (fun r c => by pointwise [k0_pay45, k0_pay44]) 1792 rfl hk hx hm
    (fun r c => by pointwise [k0_pay46, k0_pay44]) (fun r c => by pointwise [k0_pay47]) fun r => by pointwise [k0_pay48]

theorem d6_0 (hk : B = T + 1536) {x : Vec Ideal S1x512x256 .f32} (hx : At3 x fun r c => 8 * z (B + r) (B + c)) :
    At2 (k0_pay60 v rr cc a x) (fun r c => W z (B + r) (B + c)) ∧ AtC (k0_pay61 rr cc a x) fun r => R z (T + r) B :=
  diag hB hv ha (lb := k0_pay58 x) (l2 := k0_pay59 rr cc x) (fun r c => by pointwise [k0_pay58, k0_pay57]) 1536 rfl hk hx msk6
    (fun r c => by pointwise [k0_pay59, k0_pay57]) (fun r c => by pointwise [k0_pay60]) fun r => by pointwise [k0_pay61]
theorem d6_1 (hk : B = T + 1536) {x : Vec Ideal S1x512x256 .f32} (hx : At3 x fun r c => 8 * z (B + r) (B + c)) {mk} (hm : Msk mk) :
    At2 (k0_pay65 v a mk x) (fun r c => W z (B + r) (B + c)) ∧ AtC (k0_pay66 a mk x) fun r => R z (T + r) B :=
  diag hB hv ha (lb := k0_pay63 x) (l2 := k0_pay64 mk x) (fun r c => by pointwise [k0_pay63, k0_pay62]) 1536 rfl hk hx hm
    (fun r c => by pointwise [k0_pay64, k0_pay62]) (fun r c => by pointwise [k0_pay65]) fun r => by pointwise [k0_pay66]

theorem d5_0 (hk : B = T + 1280) {x : Vec Ideal S1x768x256 .f32} (hx : At3 x fun r c => 8 * z (B + r) (B + c)) {mk} (hm : Msk mk) :
    At2 (k0_pay75 v a mk x) (fun r c => W z (B + r) (B + c)) ∧ AtC (k0_pay76 a mk x) fun r => R z (T + r) B :=
  diag hB hv ha (lb := k0_pay73 x) (l2 := k0_pay74 mk x) (fun r c => by pointwise [k0_pay73, k0_pay72]) 1280 rfl hk hx hm
    (fun r c => by pointwise [k0_pay74, k0_pay72]) (fun r c => by pointwise [k0_pay75]) fun r => by pointwise [k0_pay76]
theorem d5_1 (hk : B = T + 1280) {x : Vec Ideal S1x768x256 .f32} (hx : At3 x fun r c => 8 * z (B + r) (B + c)) {mk} (hm : Msk mk) {o : Ideal .f32} (h0 : o = (0 : EReal)) :
    At2 (k0_pay80 v a mk (k0_pay77 x) o) (fun r c => W z (B + r) (B + c)) ∧ AtC (k0_pay81 a mk (k0_pay77 x) o) fun r => R z (T + r) B := by
  subst h0
  exact diag hB hv ha (lb := k0_pay78 (k0_pay77 x) (0 : EReal)) (l2 := k0_pay79 mk (k0_pay77 x) (0 : EReal)) (fun r c => by pointwise [k0_pay78, k0_pay77]) 1280 rfl hk hx hm
    (fun r c => by pointwise [k0_pay79, k0_pay77]) (fun r c => by pointwise [k0_pay80]) fun r => by pointwise [k0_pay81]

theorem d4_0 (hk : B = T + 1024) {x : Vec Ideal S1x1024x256 .f32} (hx : At3 x fun r c => 8 * z (B + r) (B + c)) {mk} (hm : Msk mk) :
    At2 (k0_pay91 v a mk (k0_pay88 x)) (fun r c => W z (B + r) (B + c)) ∧ AtC (k0_pay92 a mk (k0_pay88 x)) fun r => R z (T + r) B :=
  diag hB hv ha (lb := k0_pay89 (k0_pay88 x)) (l2 := k0_pay90 mk (k0_pay88 x)) (fun r c => by pointwise [k0_pay89, k0_pay88]) 1024 rfl hk hx hm
    (fun r c => by pointwise [k0_pay90, k0_pay88]) (fun r c => by pointwise [k0_pay91]) fun r => by pointwise [k0_pay92]
theorem d4_1 (hk : B = T + 1024) {x : Vec Ideal S1x1024x256 .f32} (hx : At3 x fun r c => 8 * z (B + r) (B + c)) {mk} (hm : Msk mk) :
    At2 (k0_pay98 v a mk (k0_pay93 x) (k0_pay94 x) (k0_pay95 x)) (fun r c => W z (B + r) (B + c)) ∧ AtC (k0_pay99 a mk (k0_pay93 x) (k0_pay94 x) (k0_pay95 x)) fun r => R z (T + r) B :=
  diag hB hv ha (lb := k0_pay96 (k0_pay94 x) (k0_pay95 x)) (l2 := k0_pay97 mk (k0_pay93 x) (k0_pay94 x) (k0_pay95 x)) (fun r c => by pointwise [k0_pay96, k0_pay95, k0_pay94, k0_pay93]) 1024 rfl hk hx hm
    (fun r c => by pointwise [k0_pay97, k0_pay93]) (fun r c => by pointwise [k0_pay98]) fun r => by pointwise [k0_pay99]

theorem d3_0 (hk : B = T + 768) {x : Vec Ideal S1x1280x256 .f32} (hx : At3 x fun r c => 8 * z (B + r) (B + c)) {mk} (hm : Msk mk) :
    At2 (k0_pay111 v a mk (k0_pay105 x) (k0_pay106 x) (k0_pay107 x) k0_pay108) (fun r c => W z (B + r) (B + c))
      ∧ AtC (k0_pay112 a mk (k0_pay105 x) (k0_pay106 x) (k0_pay107 x) k0_pay108) fun r => R z (T + r) B :=
  diag hB hv ha (lb := k0_pay109 (k0_pay106 x) (k0_pay107 x) k0_pay108) (l2 := k0_pay110 mk (k0_pay105 x) (k0_pay106 x) (k0_pay107 x) k0_pay108)
    (fun r c => by pointwise [k0_pay109, k0_pay108, k0_pay107, k0_pay106, k0_pay105]) 768 rfl hk hx hm
    (fun r c => by pointwise [k0_pay110, k0_pay105]) (fun r c => by pointwise [k0_pay111]) fun r => by pointwise [k0_pay112]
theorem d3_1 (hk : B = T + 768) {x : Vec Ideal S1x1280x256 .f32} (hx : At3 x fun r c => 8 * z (B + r) (B + c)) {mk} (hm : Msk mk) :
    At2 (k0_pay118 v a mk (k0_pay113 x) (k0_pay114 x) (k0_pay115 x) (Named.named κ "inv_ln2" 0x3FB8AA3B#32)) (fun r c => W z (B + r) (B + c))
      ∧ AtC (k0_pay119 a mk (k0_pay113 x) (k0_pay114 x) (k0_pay115 x) (Named.named κ "inv_ln2" 0x3FB8AA3B#32)) fun r => R z (T + r) B :=
  diag hB hv ha (lb := k0_pay116 (k0_pay114 x) (k0_pay115 x) (Named.named κ "inv_ln2" 0x3FB8AA3B#32)) (l2 := k0_pay117 mk (k0_pay113 x) (k0_pay114 x) (k0_pay115 x) (Named.named κ "inv_ln2" 0x3FB8AA3B#32))
    (fun r c => by pointwise [k0_pay116, k0_pay115, k0_pay114, k0_pay113]) 768 rfl hk hx hm
    (fun r c => by pointwise [k0_pay117, k0_pay113]) (fun r c => by pointwise [k0_pay118]) fun r => by pointwise [k0_pay119]

theorem d2_0 (hk : B = T + 512) {x : Vec Ideal S1x1536x256 .f32} (hx : At3 x fun r c => 8 * z (B + r) (B + c)) {mk} (hm : Msk mk) :
    At2 (k0_pay131 v a mk (k0_pay126 x) (k0_pay127 x) (k0_pay128 x)) (fun r c => W z (B + r) (B + c))
      ∧ AtC (k0_pay132 a mk (k0_pay126 x) (k0_pay127 x) (k0_pay128 x)) fun r => R z (T + r) B :=
  diag hB hv ha (lb := k0_pay129 (k0_pay127 x) (k0_pay128 x)) (l2 := k0_pay130 mk (k0_pay126 x) (k0_pay127 x) (k0_pay128 x))
    (fun r c => by pointwise [k0_pay129, k0_pay128, k0_pay127, k0_pay126]) 512 rfl hk hx hm
    (fun r c => by pointwise [k0_pay130, k0_pay126]) (fun r c => by pointwise [k0_pay131]) fun r => by pointwise [k0_pay132]
theorem d2_1 (hk : B = T + 512) {x : Vec Ideal S1x1536x256 .f32} (hx : At3 x fun r c => 8 * z (B + r) (B + c)) {mk} (hm : Msk mk) :
    At2 (k0_pay138 v a mk (k0_pay134 x) (k0_pay135 x) k0_pay136) (fun r c => W z (B + r) (B + c)) ∧ AtC (k0_pay139 a mk (k0_pay135 x) k0_pay136) fun r => R z (T + r) B :=
  diag hB hv ha (lb := k0_pay134 x) (l2 := k0_pay137 mk (k0_pay135 x) k0_pay136) (fun r c => by pointwise [k0_pay134, k0_pay133]) 512 rfl hk hx hm
    (fun r c => by pointwise [k0_pay137, k0_pay136, k0_pay135, k0_pay133]) (fun r c => by pointwise [k0_pay138]) fun r => by pointwise [k0_pay139]

theorem d1_0 (hk : B = T + 256) {x : Vec Ideal S1x1792x256 .f32} (hx : At3 x fun r c => 8 * z (B + r) (B + c)) {mk} (hm : Msk mk) {o : Ideal .f32} (h0 : o = (0 : EReal)) :
    At2 (k0_pay149 v a mk (k0_pay146 x) (k0_pay147 x) o) (fun r c => W z (B + r) (B + c)) ∧ AtC (k0_pay150 a mk (k0_pay147 x) o) fun r => R z (T + r) B := by
  subst h0
  exact diag hB hv ha (lb := k0_pay146 x) (l2 := k0_pay148 mk (k0_pay147 x) (0 : EReal)) (fun r c => by pointwise [k0_pay146, k0_pay145]) 256 rfl hk hx hm
    (fun r c => by pointwise [k0_pay148, k0_pay147, k0_pay145]) (fun r c => by pointwise [k0_pay149]) fun r => by pointwise [k0_pay150]
theorem d1_1 (hk : B = T + 256) {x : Vec Ideal S1x1792x256 .f32} (hx : At3 x fun r c => 8 * z (B + r) (B + c)) {mk} (hm : Msk mk) :
    At2 (k0_pay156 mk (k0_pay152 x) (k0_pay154 v mk x) (k0_pay155 a)) (fun r c => W z (B + r) (B + c)) ∧ AtC (k0_pay157 a (k0_pay153 mk x)) fun r => R z (T + r) B :=
  diag hB hv ha (lb := k0_pay152 x) (l2 := k0_pay153 mk x) (fun r c => by pointwise [k0_pay152, k0_pay151]) 256 rfl hk hx hm
    (fun r c => by pointwise [k0_pay153, k0_pay151]) (fun r c => by pointwise [k0_pay156, k0_pay155, k0_pay154]) fun r => by pointwise [k0_pay157]

theorem d0_0 (hk : B = T + 0) {x : Vec Ideal S1x2048x256 .f32} (hx : At3 x fun r c => 8 * z (B + r) (B + c)) {mk} (hm : Msk mk) (hmk : mk = k0_pay162 rr cc) :
    At2 (k0_pay167 mk (k0_pay166 v rr cc a x)) (fun r c => W z (B + r) (B + c)) ∧ AtC (k0_pay168 a (k0_pay165 rr cc x)) fun r => R z (T + r) B := by
  subst hmk
  exact diag hB hv ha (lb := k0_pay164 x) (l2 := k0_pay165 rr cc x) (fun r c => by pointwise [k0_pay164, k0_pay163]) 0 rfl hk hx hm
    (fun r c => by pointwise [k0_pay165, k0_pay163]) (fun r c => by simp only [Nat.zero_add]; pointwise [k0_pay167, k0_pay166])
    fun r => by rw [dif_neg (Nat.not_lt_zero _)]; pointwise [k0_pay168]
theorem d0_1 (hk : B = T + 0) {x : Vec Ideal S1x2048x256 .f32} (hx : At3 x fun r c => 8 * z (B + r) (B + c)) {mk} (hm : Msk mk) :
    At2 (k0_pay172 v a mk x) (fun r c => W z (B + r) (B + c)) ∧ AtC (k0_pay173 a (k0_pay171 mk x)) fun r => R z (T + r) B :=
  diag hB hv ha (lb := k0_pay170 x) (l2 := k0_pay171 mk x) (fun r c => by pointwise [k0_pay170, k0_pay169]) 0 rfl hk hx hm
    (fun r c => by pointwise [k0_pay171, k0_pay169]) (fun r c => by simp only [Nat.zero_add]; pointwise [k0_pay172])
    fun r => by rw [dif_neg (Nat.not_lt_zero _)]; pointwise [k0_pay173]

theorem low_0 (hk : B + 256 ≤ T) {x : Vec Ideal S1x2048x256 .f32} (hx : At3 x fun r c => 8 * z (T + r) (B + c)) {o : FVec Ideal S2048x256 .f32} (h0 : o = constant S2048x256 FTy.f32 0#32) :
    At2 (k0_pay7 v a (k0_pay4 x) (k0_pay6 x) o) (fun r c => W z (T + r) (B + c)) ∧ AtC (k0_pay8 a (k0_pay5 x)) fun r => R z (T + r) B := by
  subst h0
  exact low hB hv ha (lb := k0_pay4 x) (l2 := k0_pay5 x) (fun r c => by pointwise [k0_pay4, k0_pay3]) rfl hk hx
    (fun r c => by pointwise [k0_pay5, k0_pay3]) (fun r c => by pointwise [k0_pay7, k0_pay6]) fun r => by pointwise [k0_pay8]
theorem low_1 (hk : B + 256 ≤ T) {x : Vec Ideal S1x2048x256 .f32} (hx : At3 x fun r c => 8 * z (T + r) (B + c)) :
    At2 (k0_pay12 v a x) (fun r c => W z (T + r) (B + c)) ∧ AtC (k0_pay13 a x) fun r => R z (T + r) B :=
  low hB hv ha (lb := k0_pay10 x) (l2 := k0_pay11 x) (fun r c => by pointwise [k0_pay10, k0_pay9]) rfl hk hx
    (fun r c => by pointwise [k0_pay11, k0_pay9]) (fun r c => by pointwise [k0_pay12]) fun r => by pointwise [k0_pay13]

end Cert.Kernel3Ideal.Gen

end

end
-- ==== Proof.FwdStep.lean ====
module

public import proofs.«01_k».proof.Proof.FwdDiag
public import proofs.«01_k».proof.Proof.Gen.Kernel3Ideal.Loops
public import Idealize.ShloMosaic.Lib.WritesUnit

@[expose] public section

set_option maxRecDepth 16384
set_option maxHeartbeats 400000

/-! Where the forward body reads and writes, what a block of values adds to the output, and that a step of the key loop carries
the sums and the weights on. -/

noncomputable section

namespace Cert.Kernel3Ideal.Gen

open Idealize.ShloMosaic Idealize.ShloMosaic.TcCoe Idealize.ShloMosaic.Tactic Cert.Attn

theorem off1 (i : grid0.Coords) (r : Fin 8) : k0_off1 i (BitVec.ofNat 32 r.val) = ![0, 2048 * (i 1).val + 256 * r.val, 0] := k0_off1_eq i r
theorem off2 (i : grid0.Coords) (r : Fin 7) : k0_off2 i (BitVec.ofNat 32 r.val) = ![0, 2048 * (i 1).val + 256 * (r.val + 1), 0] := k0_off2_eq i r
theorem off3 (i : grid0.Coords) : k0_off3 i = ![0, 2048 * (i 1).val - 256, 0] := by
  unfold k0_off3; generalize i 1 = n; revert n; decide +kernel
theorem trips_eq (i : grid0.Coords) : (k0_t1_loop i).trips = 8 * (i 1).val := by
  unfold k0_t1_loop; generalize i 1 = n; revert n; decide +kernel
theorem trips2_eq (i : grid0.Coords) : (k0_t2_loop i).trips = 0 := Nat.le_zero.1 ((k0_t2_abs i).2.1)
theorem off4 (i : grid0.Coords) (k : Fin (k0_t1_loop i).trips) : k0_off4 i k = ![0, 2048 * (i 1).val - 256 * k.val, 0] := by
  have hk : k.val < 8 * (i 1).val := trips_eq i ▸ k.isLt
  have hi : (i 1).val < 4 := (i 1).isLt
  unfold k0_off4; generalize k.val = m at *
  have key : ∀ n : Fin 4, ∀ m : Fin 32, m.val < 8 * n.val → (Scalar.indexCast (Scalar.muli (Scalar.addi (Scalar.subi (Scalar.subi (Scalar.muli 8#32 (BitVec.ofNat 32 n.val)) 1#32) (Scf.iv 0#32 1#32 m.val)) 1#32) 256#32)).toNat = 2048 * n.val - 256 * m.val := by decide +kernel
  exact congrArg (fun x => ![0, x, 0]) (key ⟨(i 1).val, hi⟩ ⟨m, by omega⟩ hk)
theorem off5 (i : grid0.Coords) (k : Fin (k0_t1_loop i).trips) : k0_off5 i k = ![0, 2048 * (i 1).val - 256 * k.val - 512, 0] := by
  have hk : k.val < 8 * (i 1).val := trips_eq i ▸ k.isLt
  have hi : (i 1).val < 4 := (i 1).isLt
  unfold k0_off5; generalize k.val = m at *
  have key : ∀ n : Fin 4, ∀ m : Fin 32, m.val < 8 * n.val → (Scalar.indexCast (Scalar.muli (Scalar.maxsi (Scalar.subi (Scalar.subi (Scalar.subi (Scalar.muli 8#32 (BitVec.ofNat 32 n.val)) 1#32) (Scf.iv 0#32 1#32 m.val)) 1#32) 0#32) 256#32)).toNat = 2048 * n.val - 256 * m.val - 512 := by decide +kernel
  exact congrArg (fun x => ![0, x, 0]) (key ⟨(i 1).val, hi⟩ ⟨m, by omega⟩ hk)

section Reads

variable {s : Shape} {e : EltTy} (m : Memref sig .tc .vmem s e) (f : BufTy.Contents (Elt Ideal) m.view.ty)
  (L : List (View.Piece (Elt Ideal) s e)) {off size : Fin s.rank → ℕ} (inb : ∀ a, off a + size a ≤ s.size a)

/-- A rectangle just written reads back what was written; one beside it, what was there before. -/
theorem hit (w : (Rect.unit off size inb).shape.Idx → Elt Ideal e) :
    m.view.readAt (Elt Ideal) (Rect.unit off size inb).toLoadRect (m.view.writes (Elt Ideal) f (⟨Rect.unit off size inb, w⟩ :: L)) = w :=
  funext fun x => View.read_writes_cons_unit_of_mem _ f inb w L _ x rfl fun a => by
    show off a + 1 * (x a).val = _
    rw [Nat.one_mul]
theorem miss {off' size' : Fin s.rank → ℕ} (inb' : ∀ a, off' a + size' a ≤ s.size a) (w : (Rect.unit off' size' inb').shape.Idx → Elt Ideal e)
    (a : Fin s.rank) (h : off a + size a ≤ off' a ∨ off' a + size' a ≤ off a) :
    m.view.readAt (Elt Ideal) (Rect.unit off size inb).toLoadRect (m.view.writes (Elt Ideal) f (⟨Rect.unit off' size' inb', w⟩ :: L))
      = m.view.readAt (Elt Ideal) (Rect.unit off size inb).toLoadRect (m.view.writes (Elt Ideal) f L) :=
  funext fun x => View.read_writes_cons_unit_of_not_mem _ f inb' w L _ rfl a (by
    have hx : (x a).val < size a := (x a).isLt
    have hy : ((Rect.unit off size inb).toLoadRect.idx x a).val = off a + 1 * (x a).val := rfl
    omega)

end Reads

/-- A block of rows read out of a whole buffer, and a whole buffer read whole. -/
theorem rd3 {m n k : ℕ} {M : Memref sig .tc .vmem ⟨3, ![1, m, n]⟩ .bf16} (hM : M.IsWhole) {x : Vec Ideal ⟨3, ![1, m, n]⟩ .bf16} {q : ℕ → ℕ → ℝ} (h : At3 x q)
    {off : Fin 3 → ℕ} {inb : ∀ a, off a + (![1, k, n] : Fin 3 → ℕ) a ≤ (⟨3, ![1, m, n]⟩ : Shape).size a} (o : ℕ) (ho : off = ![0, o, 0]) :
    At3 (M.view.readAt (Elt Ideal) (Rect.unit (s := ⟨3, ![1, m, n]⟩) off ![1, k, n] inb).toLoadRect (hM.unread x)) fun r c => q (o + r) c := fun r c => by
  subst ho
  have b : o + k ≤ m := inb 1
  rw [View.readAt_apply, hM.read_unread]
  exact (congrArg x (funext fun a => Fin.ext (by
    show (![0, o, 0] : Fin 3 → ℕ) a + 1 * (ix3 (0 : Fin 1) r c a).val = (ix3 (0 : Fin 1) (⟨o + r, by omega⟩ : Fin m) c a).val
    fin_cases a <;> simp [ix3]))).trans (h ⟨o + r, _⟩ c)
theorem whole_rd {m n : ℕ} {M : Memref sig .tc .vmem ⟨3, ![1, m, n]⟩ .bf16} (hM : M.IsWhole) {x : Vec Ideal ⟨3, ![1, m, n]⟩ .bf16} {q : ℕ → ℕ → ℝ} (h : At3 x q)
    (inb : ∀ a, (![0, 0, 0] : Fin 3 → ℕ) a + (![1, m, n] : Fin 3 → ℕ) a ≤ (⟨3, ![1, m, n]⟩ : Shape).size a) :
    At3 (M.view.readAt (Elt Ideal) (Rect.unit (s := ⟨3, ![1, m, n]⟩) ![0, 0, 0] ![1, m, n] inb).toLoadRect (hM.unread x)) q :=
  (rd3 hM h (inb := inb) 0 rfl).of fun r _ c _ => by rw [Nat.zero_add]

/-- The weights of both heads, each just written, read side by side. -/
theorem side (m : Memref sig .tc .vmem S2048x512 .bf16) (f : BufTy.Contents (Elt Ideal) m.view.ty) (L : List (View.Piece (Elt Ideal) S2048x512 .bf16)) {n : ℕ} (o : ℕ)
    {inb : ∀ a, (![o, 0] : Fin 2 → ℕ) a + (![n, 512] : Fin 2 → ℕ) a ≤ S2048x512.size a}
    {inb0 : ∀ a, (![o, 0] : Fin 2 → ℕ) a + (![n, 256] : Fin 2 → ℕ) a ≤ S2048x512.size a}
    {inb1 : ∀ a, (![o, 256] : Fin 2 → ℕ) a + (![n, 256] : Fin 2 → ℕ) a ≤ S2048x512.size a}
    {x y : (⟨2, ![n, 256]⟩ : Shape).Idx → EReal} {p q : ℕ → ℕ → ℝ} (hx : At2 x p) (hy : At2 y q) :
    Side (n := n) (m.view.readAt (Elt Ideal) (Rect.unit (s := S2048x512) ![o, 0] ![n, 512] inb).toLoadRect
      (m.view.writes (Elt Ideal) f (⟨Rect.unit (s := S2048x512) ![o, 256] ![n, 256] inb1, y⟩ :: ⟨Rect.unit (s := S2048x512) ![o, 0] ![n, 256] inb0, x⟩ :: L))) p q := fun r c => by
  refine ⟨fun h => ?_, fun h => ?_⟩
  · exact (View.read_writes_cons_unit_of_not_mem _ f inb1 y _ _ rfl 1 (Or.inl (by
      show 0 + 1 * c.val < 256
      omega))).trans ((View.read_writes_cons_unit_of_mem _ f inb0 x L _ (ix2 r c) rfl (by
      intro a
      fin_cases a
      · show o + 1 * r.val = o + r.val
        omega
      · show 0 + 1 * c.val = 0 + c.val
        omega)).trans (hx r c))
  · exact (View.read_writes_cons_unit_of_mem _ f inb1 y _ _ (ix2 r c) rfl (by
      intro a
      fin_cases a
      · show o + 1 * r.val = o + r.val
        omega
      · show 0 + 1 * (256 + c.val) = 256 + c.val
        omega)).trans (hy r c)

section Add

variable {f g p V : ℕ → ℕ → ℝ} {acc : FVec Ideal S2048x128 .f32} {u : Vec Ideal S1x256x128 .bf16} (hu : At3 u V) (hp : At2 acc p)
include hu hp

theorem ap7 {w : Vec Ideal S256x512 .bf16} (hw : Side (n := 256) w f g) :
    At2 (k0_pay55 acc (k0_pay53 k0_pay26 k0_pay27 u w) k0_pay54) fun r l => p r l + if r < 1792 then 0 else ∑ j : Fin 256, (f (r - 1792) j * lo V j l + g (r - 1792) j * hi V j l) :=
  app_of hw hu hp 1792 rfl fun r l => by pointwise [k0_pay55, k0_pay54, k0_pay53]
theorem ap6 {w : Vec Ideal S512x512 .bf16} (hw : Side (n := 512) w f g) :
    At2 (k0_pay70 k0_pay26 k0_pay27 acc u w) fun r l => p r l + if r < 1536 then 0 else ∑ j : Fin 256, (f (r - 1536) j * lo V j l + g (r - 1536) j * hi V j l) :=
  app_of hw hu hp 1536 rfl fun r l => by pointwise [k0_pay70]
theorem ap5 {w : Vec Ideal S768x512 .bf16} (hw : Side (n := 768) w f g) :
    At2 (k0_pay86 k0_pay26 k0_pay27 acc u w) fun r l => p r l + if r < 1280 then 0 else ∑ j : Fin 256, (f (r - 1280) j * lo V j l + g (r - 1280) j * hi V j l) :=
  app_of hw hu hp 1280 rfl fun r l => by pointwise [k0_pay86]
theorem ap4 {w : Vec Ideal S1024x512 .bf16} (hw : Side (n := 1024) w f g) :
    At2 (k0_pay103 k0_pay26 k0_pay27 acc u w) fun r l => p r l + if r < 1024 then 0 else ∑ j : Fin 256, (f (r - 1024) j * lo V j l + g (r - 1024) j * hi V j l) :=
  app_of hw hu hp 1024 rfl fun r l => by pointwise [k0_pay103]
theorem ap3 {w : Vec Ideal S1280x512 .bf16} (hw : Side (n := 1280) w f g) :
    At2 (k0_pay124 k0_pay26 k0_pay27 acc u w) fun r l => p r l + if r < 768 then 0 else ∑ j : Fin 256, (f (r - 768) j * lo V j l + g (r - 768) j * hi V j l) :=
  app_of hw hu hp 768 rfl fun r l => by pointwise [k0_pay124]
theorem ap2 {w : Vec Ideal S1536x512 .bf16} (hw : Side (n := 1536) w f g) :
    At2 (k0_pay143 k0_pay26 k0_pay27 acc u w) fun r l => p r l + if r < 512 then 0 else ∑ j : Fin 256, (f (r - 512) j * lo V j l + g (r - 512) j * hi V j l) :=
  app_of hw hu hp 512 rfl fun r l => by pointwise [k0_pay143]
theorem ap1 {w : Vec Ideal S1792x512 .bf16} (hw : Side (n := 1792) w f g) :
    At2 (k0_pay161 k0_pay26 k0_pay27 acc u w) fun r l => p r l + if r < 256 then 0 else ∑ j : Fin 256, (f (r - 256) j * lo V j l + g (r - 256) j * hi V j l) :=
  app_of hw hu hp 256 rfl fun r l => by pointwise [k0_pay161]
theorem ap0 {w : Vec Ideal S2048x512 .bf16} (hw : Side (n := 2048) w f g) :
    At2 (k0_pay2 k0_pay26 k0_pay27 acc u w) fun r l => p r l + ∑ j : Fin 256, (f r j * lo V j l + g r j * hi V j l) := fun r l => by
  rw [EReal.coe_add, ← hp r l, ← gat_eq hw hu r l]
  pointwise [k0_pay2]
theorem apz {w : Vec Ideal S2048x512 .bf16} (hw : Side (n := 2048) w f g) :
    At3 (k0_pay1 k0_pay27 acc (k0_pay183 u) (k0_pay184 k0_pay26 u) w) fun r l => p r l + ∑ j : Fin 256, (f r j * lo V j l + g r j * hi V j l) := fun r l => by
  rw [EReal.coe_add, ← hp r l, ← gat_eq hw hu r l]
  pointwise [k0_pay1, k0_pay183, k0_pay184]

end Add

variable (Q K V : ℕ → ℕ → ℝ) (T : ℕ)

abbrev z0 : ℕ → ℕ → ℝ := zz (lo Q) K
abbrev z1 : ℕ → ℕ → ℝ := zz (hi Q) K
/-- What the keys from one on add to a row of the output. -/
abbrev oa : ℕ → ℕ → ℕ → ℝ := qt (lo V) (hi V) (W (z0 Q K)) (W (z1 Q K))

abbrev half3 (m : Memref sig .tc .vmem S2x2048x256 .f32) (f : BufTy.Contents (Elt Ideal) m.view.ty) (h : ℕ) (inb : ∀ a, (![h, 0, 0] : Fin 3 → ℕ) a + S1x2048x256.size a ≤ S2x2048x256.size a) : Vec Ideal S1x2048x256 .f32 :=
  m.view.readAt (Elt Ideal) (Rect.unit (s := S2x2048x256) ![h, 0, 0] S1x2048x256.size inb).toLoadRect f
abbrev full (m : Memref sig .tc .vmem S2048x512 .bf16) (f : BufTy.Contents (Elt Ideal) m.view.ty) : Vec Ideal S2048x512 .bf16 :=
  m.view.readAt (Elt Ideal) (Rect.unit (s := S2048x512) ![0, 0] S2048x512.size inb_S2048x512_S2048x512_0_0).toLoadRect f

variable {arg6 : Memref sig .tc .vmem S2x2048x256 .f32} {arg7 : Memref sig .tc .vmem S2048x512 .bf16}

/-- The weights of the keys from `B` on are there and the values from `B + 256` on are gathered; the scores of the block before wait. -/
structure Inv (B : ℕ) (acc : FVec Ideal S2048x1 .f32 × FVec Ideal S2048x1 .f32 × FVec Ideal S2048x128 .f32) (f6 : BufTy.Contents (Elt Ideal) arg6.view.ty) (f7 : BufTy.Contents (Elt Ideal) arg7.view.ty) : Prop where
  r0 : AtC acc.1 fun r => R (z0 Q K) (T + r) B
  r1 : AtC acc.2.1 fun r => R (z1 Q K) (T + r) B
  o : At2 acc.2.2 fun r l => oa Q K V (B + 256) (T + r) l
  s0 : At3 (half3 arg6 f6 0 inb_S2x2048x256_S1x2048x256_0_0_0) fun r c => 8 * z0 Q K (T + r) (B - 256 + c)
  s1 : At3 (half3 arg6 f6 1 inb_S2x2048x256_S1x2048x256_1_0_0) fun r c => 8 * z1 Q K (T + r) (B - 256 + c)
  w : Side (n := 2048) (full arg7 f7) (fun r c => W (z0 Q K) (T + r) (B + c)) fun r c => W (z1 Q K) (T + r) (B + c)

/-- Scores of a whole tile of rows against a block of keys. -/
theorem sct {q k : ℕ → ℕ → ℝ} {v : FVec Ideal S2048x128 .bf16} {u : Vec Ideal S1x256x128 .bf16} {B : ℕ} (h : At2 v fun r l => q (T + r) l) (h' : At3 u fun r l => k (B + r) l) {x : Vec Ideal S1x2048x256 .f32}
    (e : ∀ r c, x (ix3 0 r c) = ∑ l, v (ix2 r l) * u (ix3 0 c l)) : At3 x fun r c => 8 * zz q k (T + r) (B + c) :=
  (sc_of h h' 0 rfl fun r c => by simp only [Nat.zero_add]; exact e r c).of fun r _ c _ => by rw [Nat.zero_add]; exact zz_eq q k _ _

variable {Q K V T} (c : Dev nD) (i : grid0.Coords)
    (arg2 : Memref sig .tc .vmem S1x2048x128 .bf16) (harg2 : arg2.IsWhole)
    (arg3 : Memref sig .tc .vmem S1x8192x128 .bf16) (harg3 : arg3.IsWhole)
    (arg4 : Memref sig .tc .vmem S1x8192x128 .bf16) (harg4 : arg4.IsWhole)
    (arg5 : Memref sig .tc .vmem S1x2048x128 .f32) (harg5 : arg5.IsWhole)
    (harg6 : arg6.IsWhole) (harg7 : arg7.IsWhole) (arg1 : BitVec 32) {v10 v14 : FVec Ideal S2048x128 .bf16} {v20 : FVec Ideal S256x256 .bf16}
    (v807 : FVec Ideal S2048x1 .f32) (v844 : FVec Ideal S2048x128 .f32) (v879 : FVec Ideal S2048x1 .f32) (v898 : FVec Ideal S2048x256 .f32)
    {x1 x2 : Vec Ideal S1x8192x128 .bf16}
    (hT : T = 2048 * (i 1).val) (h10 : At2 v10 fun r l => lo Q (T + r) l) (h14 : At2 v14 fun r l => hi Q (T + r) l) (h20 : Tri v20)
    (hK : At3 x1 K) (hV : At3 x2 V)
  {acc : FVec Ideal S2048x1 .f32 × FVec Ideal S2048x1 .f32 × FVec Ideal S2048x128 .f32} {f6 : BufTy.Contents (Elt Ideal) arg6.view.ty} {f7 : BufTy.Contents (Elt Ideal) arg7.view.ty}

local notation "TR" => tripR_k0_t1 (F := Ideal) Variants.none c none i arg2 harg2 arg3 harg3 arg4 harg4 arg5 harg5 arg6 harg6 arg7 harg7 arg1 k0_pay26 k0_pay27 v10 v14 v20 v807 v844 v879 v898 (harg3.unread x1) (harg4.unread x2)
local notation "TL" => tripL_k0_t1 (F := Ideal) Variants.none c none i arg2 harg2 arg3 harg3 arg4 harg4 arg5 harg5 arg6 harg6 arg7 harg7 arg1 k0_pay26 k0_pay27 v10 v14 v20 v807 v844 v879 v898 (harg3.unread x1) (harg4.unread x2)
local notation "ST" => st_k0_t1 (F := Ideal) Variants.none c none i arg2 harg2 arg3 harg3 arg4 harg4 arg5 harg5 arg6 harg6 arg7 harg7 arg1 k0_pay26 k0_pay27 v10 v14 v20 v807 v844 v879 v898 (harg3.unread x1) (harg4.unread x2)

include hT h10 h14 h20 hK hV in
theorem inv_trip (k : Fin (k0_t1_loop i).trips) (B : ℕ) (hB : B = 2048 * (i 1).val - 256 * k.val) (h : Inv Q K V T B acc f6 f7) :
    Inv Q K V T (B - 256) (TR k acc f6 f7) (arg6.view.writes (Elt Ideal) f6 (TL k acc f6 f7).1) (arg7.view.writes (Elt Ideal) f7 (TL k acc f6 f7).2) := by
  have hk : k.val < 8 * (i 1).val := trips_eq i ▸ k.isLt
  have hi : (i 1).val < 4 := (i 1).isLt
  obtain ⟨B', rfl⟩ : ∃ B', B = B' + 256 := ⟨B - 256, by omega⟩
  obtain ⟨r0, r1, o, s0, s1, w⟩ := h
  rw [Nat.add_sub_cancel] at *
  have b0 := low_0 (B := B') (by omega) h20 r0 (by omega) s0 (o := trip_k0_t1.sl.cst_463) rfl
  have b1 := low_1 (B := B') (by omega) h20 r1 (by omega) s1
  have hv := rd3 harg4 hV (k := 256) (inb := k0_off4_inb i k) (B' + 256) (by rw [off4, hB])
  have hx := rd3 harg3 hK (k := 256) (inb := k0_off5_inb i k) (B' - 256) (by rw [off5, ← hB]; congr 2)
  unfold tripR_k0_t1 tripL_k0_t1 trip_k0_t1
  dsimp only
  constructor
  · exact b0.2
  · exact b1.2
  · exact (ap0 hv o w).of fun r _ l _ => qt_step _ _ _ _ (B' + 256) _ _ (by omega)
  · unfold half3; rw [miss _ _ _ _ _ _ 0 ?_, hit]
    · exact sct T h10 hx fun r c => by pointwise [k0_pay178, k0_pay177]
    · decide
  · unfold half3; rw [hit]
    exact sct T h14 hx fun r c => by pointwise [k0_pay179, k0_pay177]
  · exact side arg7 f7 [] 0 b0.1 b1.1

include hT h10 h14 h20 hK hV in
/-- The key loop carries the invariant down by a block of keys a step. -/
theorem inv_st (h : Inv Q K V T T acc f6 f7) (k : ℕ) (hk : k ≤ (k0_t1_loop i).trips) :
    Inv Q K V T (T - 256 * k) (ST f6 f7 acc k).1 (arg6.view.writes (Elt Ideal) f6 (ST f6 f7 acc k).2.1) (arg7.view.writes (Elt Ideal) f7 (ST f6 f7 acc k).2.2) := by
  induction k with
  | zero => exact h
  | succ k ih =>
    have e := inv_trip c i arg2 harg2 arg3 harg3 arg4 harg4 arg5 harg5 harg6 harg7 arg1 v807 v844 v879 v898 hT h10 h14 h20 hK hV ⟨k, hk⟩ (T - 256 * k) (by rw [hT]) (ih (by omega))
    rw [show k + 1 = (⟨k, hk⟩ : Fin (k0_t1_loop i).trips).val + 1 from rfl, st_k0_t1_succ]
    rw [View.writes_append, View.writes_append, show T - 256 * ((⟨k, hk⟩ : Fin (k0_t1_loop i).trips).val + 1) = T - 256 * k - 256 by show T - 256 * (k + 1) = _; omega]
    exact e

end Cert.Kernel3Ideal.Gen

end

end
-- ==== Proof.FwdBody.lean ====
module

public import proofs.«01_k».proof.Proof.FwdStep
public import proofs.«01_k».proof.Proof.Chain
public import proofs.«01_k».proof.Proof.Gen.Kernel3Ideal.Frame

@[expose] public section

set_option maxRecDepth 16384
set_option maxHeartbeats 400000

/-! The forward body at a tile of queries: the blocks of keys on the diagonal, from the last down to the first. -/

noncomputable section

namespace Cert.Kernel3Ideal.Gen

open Idealize.ShloMosaic Idealize.ShloMosaic.TcCoe Idealize.ShloMosaic.Tactic Cert.Attn

section Cover

variable {s : Shape} {e : EltTy} (m : Memref sig .tc .vmem s e)
  (L : List (View.Piece (Elt Ideal) s e)) {off size : Fin s.rank → ℕ} (inb : ∀ a, off a + size a ≤ s.size a)

theorem cov_hit (w : (Rect.unit off size inb).shape.Idx → Elt Ideal e) :
    m.view.readCov (⟨Rect.unit off size inb, w⟩ :: L) (Rect.unit off size inb).toLoadRect = w := hit m _ L inb w
theorem cov_skip {off' size' : Fin s.rank → ℕ} (inb' : ∀ a, off' a + size' a ≤ s.size a) (w : (Rect.unit off' size' inb').shape.Idx → Elt Ideal e)
    (a : Fin s.rank) (h : off a + size a ≤ off' a ∨ off' a + size' a ≤ off a) :
    m.view.readCov (⟨Rect.unit off' size' inb', w⟩ :: L) (Rect.unit off size inb).toLoadRect = m.view.readCov L (Rect.unit off size inb).toLoadRect :=
  miss m _ L inb inb' w a h

end Cover

/-- Scores of the rows from `o` on against the block of keys they start at. -/
theorem scd {q k : ℕ → ℕ → ℝ} {T n : ℕ} {v : FVec Ideal S2048x128 .bf16} {u : Vec Ideal S1x256x128 .bf16} (o : ℕ) (ho : o + n = 2048)
    (h : At2 v fun r l => q (T + r) l) (h' : At3 u fun r l => k (T + o + r) l) {x : (⟨3, ![1, n, 256]⟩ : Shape).Idx → EReal}
    (e : ∀ r c, x (ix3 0 r c) = ∑ l, v (ix2 ⟨o + r, by omega⟩ l) * u (ix3 0 c l)) : At3 x fun r c => 8 * zz q k (T + o + r) (T + o + c) :=
  (sc_of h h' o ho e).of fun r _ c _ => by rw [Nat.add_assoc T o r]; exact zz_eq q k _ _

theorem qt_top2 {f g w u : ℕ → ℕ → ℝ} {T r l : ℕ} (hw : ∀ j, r ≤ j → w (T + r) (T + j) = 0) (hu : ∀ j, r ≤ j → u (T + r) (T + j) = 0) (h : r < 2048) :
    qt f g w u (T + 2048) (T + r) l = 0 :=
  Finset.sum_eq_zero fun x hx => by
    have hx := (Finset.mem_Ico.1 hx).1
    obtain ⟨j, rfl⟩ : ∃ j, x = T + j := ⟨x - T, by omega⟩
    rw [hw j (by omega), hu j (by omega), zero_mul, zero_mul, add_zero]

section Body

variable {Q K V : ℕ → ℕ → ℝ} {T : ℕ} (c : Dev nD) (i : grid0.Coords)
    (arg2 : Memref sig .tc .vmem S1x2048x128 .bf16) (harg2 : arg2.IsWhole)
    (arg3 : Memref sig .tc .vmem S1x8192x128 .bf16) (harg3 : arg3.IsWhole)
    (arg4 : Memref sig .tc .vmem S1x8192x128 .bf16) (harg4 : arg4.IsWhole)
    (arg6 : Memref sig .tc .vmem S2x2048x256 .f32) (arg7 : Memref sig .tc .vmem S2048x512 .bf16)
    {x0 : Vec Ideal S1x2048x128 .bf16} {x1 x2 : Vec Ideal S1x8192x128 .bf16}
    (hT : T = 2048 * (i 1).val) (hQ : At3 x0 fun r l => Q (T + r) l) (hK : At3 x1 K) (hV : At3 x2 V)

local notation "A " f:max => f c i arg2 harg2 arg3 harg3 arg6 x0 x1
local notation "C " f:max => f c i arg2 harg2 arg3 harg3 arg4 harg4 arg6 arg7 x0 x1 x2
local notation "ψ " f:max => f c i arg2 harg2 arg3 harg3 arg4 harg4 arg6 arg7 hT hQ hK hV
include c i arg2 harg2 arg3 harg3 arg4 harg4 arg6 arg7 hT hQ hK hV

open kernelRun0_A.sl

theorem top : T + 2048 ≤ 8192 := by
  have h : (i 1).val < 4 := (i 1).isLt
  rw [hT]; omega
theorem lo_q : At2 (r c arg2 harg2 x0) fun r l => lo Q (T + r) l := q_lo (whole_rd harg2 hQ inb_S1x2048x128_S1x2048x128_0_0_0)
theorem hi_q : At2 (r_1 c arg2 harg2 x0) fun r l => hi Q (T + r) l := q_hi (whole_rd harg2 hQ inb_S1x2048x128_S1x2048x128_0_0_0)
/-- A block of keys, and one of values. -/
theorem kb (n : Fin 8) {o : ℕ} (ho : o = 256 * n.val) :
    At3 (arg3.view.readAt (Elt Ideal) (Rect.unit (s := S1x8192x128) (k0_off1 i (BitVec.ofNat 32 n.val)) S1x256x128.size (k0_off1_inb i n)).toLoadRect (harg3.unread x1)) fun r l => K (T + o + r) l :=
  rd3 harg3 hK (k := 256) (inb := k0_off1_inb i n) (T + o) ((off1 i n).trans (by rw [hT, ho]))
theorem vb (n : Fin 7) {o : ℕ} (ho : o = 256 * (n.val + 1)) :
    At3 (arg4.view.readAt (Elt Ideal) (Rect.unit (s := S1x8192x128) (k0_off2 i (BitVec.ofNat 32 n.val)) S1x256x128.size (k0_off2_inb i n)).toLoadRect (harg4.unread x2)) fun r l => V (T + o + r) l :=
  rd3 harg4 hV (k := 256) (inb := k0_off2_inb i n) (T + o) ((off2 i n).trans (by rw [hT, ho]))

theorem s7_0 : At3 (A v43) fun r c => 8 * z0 Q K (T + 1792 + r) (T + 1792 + c) := by
  unfold v43 HS0_2; rw [cov_skip _ _ _ _ _ 0 ?_, cov_hit]
  · exact scd 1792 rfl (q_lo (whole_rd harg2 hQ inb_S1x2048x128_S1x2048x128_0_0_0)) ((ψ kb) 7 rfl) fun r c => by pointwise [k0_pay34, k0_pay33]
  · decide
theorem s7_1 : At3 (A v80) fun r c => 8 * z1 Q K (T + 1792 + r) (T + 1792 + c) := by
  unfold v80 HS0_2; rw [cov_hit]
  exact scd 1792 rfl (q_hi (whole_rd harg2 hQ inb_S1x2048x128_S1x2048x128_0_0_0)) ((ψ kb) 7 rfl) fun r c => by pointwise [r_2, k0_pay36, k0_pay35, k0_pay33]
theorem t7_0 : At2 (k0_pay41 k0_pay31 v21 v22 k0_pay32 (A v43)) (fun r c => W (z0 Q K) (T + 1792 + r) (T + 1792 + c)) ∧ AtC (A r_4) fun r => R (z0 Q K) (T + r) (T + 1792) :=
  have := ψ top
  d7_0 (T := T) (B := T + 1792) (by omega) tri (zero_col.of fun r _ => (R_of_le _ _ _ (by omega)).symm) rfl (ψ s7_0)
theorem t7_1 : At2 (k0_pay47 k0_pay31 k0_pay32 (k0_pay37 v21 v22) (A v80)) (fun r c => W (z1 Q K) (T + 1792 + r) (T + 1792 + c)) ∧ AtC (A r_5) fun r => R (z1 Q K) (T + r) (T + 1792) :=
  have := ψ top
  d7_1 (T := T) (B := T + 1792) (by omega) tri (zero_col.of fun r _ => (R_of_le _ _ _ (by omega)).symm) rfl (ψ s7_1) msk7
theorem a7 : At2 (C r_7) fun r l => oa Q K V (T + 1792) (T + r) l :=
  (ap7 ((ψ vb) 6 rfl) zero_acc (side (n := 256) arg7 _ [] 1792 (ψ t7_0).1 (ψ t7_1).1)).of fun r hr l _ =>
    (congrArg (· + _) (qt_top2 (fun _ h => W_past h) (fun _ h => W_past h) hr).symm).trans
      (qt_diag (f := lo V) (g := hi V) 1792 (by have := ψ top; omega) (fun _ h => W_past h) fun _ h => W_past h)

theorem s6_0 : At3 (A v159) fun r c => 8 * z0 Q K (T + 1536 + r) (T + 1536 + c) := by
  unfold v159 HS0_4; rw [cov_skip _ _ _ _ _ 0 ?_, cov_hit]
  · exact scd 1536 rfl (ψ lo_q) ((ψ kb) 6 rfl) fun r c => by pointwise [k0_pay51, k0_pay50]
  · decide
theorem s6_1 : At3 (A v196) fun r c => 8 * z1 Q K (T + 1536 + r) (T + 1536 + c) := by
  unfold v196 HS0_4; rw [cov_hit]
  exact scd 1536 rfl (ψ hi_q) ((ψ kb) 6 rfl) fun r c => by pointwise [k0_pay52, k0_pay50]
theorem t6_0 : At2 (k0_pay60 k0_pay31 v21 v22 (A r_4) (A v159)) (fun r c => W (z0 Q K) (T + 1536 + r) (T + 1536 + c)) ∧ AtC (A r_8) fun r => R (z0 Q K) (T + r) (T + 1536) :=
  have := ψ top
  d6_0 (T := T) (B := T + 1536) (by omega) tri (ψ t7_0).2 rfl (ψ s6_0)
theorem t6_1 : At2 (k0_pay65 k0_pay31 (A r_5) (k0_pay56 v21 v22) (A v196)) (fun r c => W (z1 Q K) (T + 1536 + r) (T + 1536 + c)) ∧ AtC (A r_9) fun r => R (z1 Q K) (T + r) (T + 1536) :=
  have := ψ top
  d6_1 (T := T) (B := T + 1536) (by omega) tri (ψ t7_1).2 rfl (ψ s6_1) msk6
theorem a6 : At2 (C r_10) fun r l => oa Q K V (T + 1536) (T + r) l :=
  (ap6 ((ψ vb) 5 rfl) (ψ a7) (side (n := 512) arg7 _ (A HS1_2) 1536 (ψ t6_0).1 (ψ t6_1).1)).of fun r hr l _ =>
    qt_diag (f := lo V) (g := hi V) 1536 (by have := ψ top; omega) (fun _ h => W_past h) fun _ h => W_past h

theorem s5_0 : At3 (A v274) fun r c => 8 * z0 Q K (T + 1280 + r) (T + 1280 + c) := by
  unfold v274 HS0_6; rw [cov_skip _ _ _ _ _ 0 ?_, cov_hit]
  · exact scd 1280 rfl (ψ lo_q) ((ψ kb) 5 rfl) fun r c => by pointwise [k0_pay68, k0_pay67]
  · decide
theorem s5_1 : At3 (A v311) fun r c => 8 * z1 Q K (T + 1280 + r) (T + 1280 + c) := by
  unfold v311 HS0_6; rw [cov_hit]
  exact scd 1280 rfl (ψ hi_q) ((ψ kb) 5 rfl) fun r c => by pointwise [k0_pay69, k0_pay67]
theorem t5_0 : At2 (k0_pay75 k0_pay31 (A r_8) (k0_pay71 v21 v22) (A v274)) (fun r c => W (z0 Q K) (T + 1280 + r) (T + 1280 + c)) ∧ AtC (A r_11) fun r => R (z0 Q K) (T + r) (T + 1280) :=
  have := ψ top
  d5_0 (T := T) (B := T + 1280) (by omega) tri (ψ t6_0).2 rfl (ψ s5_0) msk5
theorem t5_1 : At2 (k0_pay80 k0_pay31 (A r_9) (k0_pay71 v21 v22) (A r_12) cst_137) (fun r c => W (z1 Q K) (T + 1280 + r) (T + 1280 + c)) ∧ AtC (A r_13) fun r => R (z1 Q K) (T + r) (T + 1280) :=
  have := ψ top
  d5_1 (T := T) (B := T + 1280) (by omega) tri (ψ t6_1).2 rfl (ψ s5_1) msk5 (o := cst_137) (by unfold cst_137; exact Ideal.ofBits_zero_f32)
theorem a5 : At2 (C r_16) fun r l => oa Q K V (T + 1280) (T + r) l :=
  (ap5 ((ψ vb) 4 rfl) (ψ a6) (side (n := 768) arg7 _ (A HS1_4) 1280 (ψ t5_0).1 (ψ t5_1).1)).of fun r hr l _ =>
    qt_diag (f := lo V) (g := hi V) 1280 (by have := ψ top; omega) (fun _ h => W_past h) fun _ h => W_past h

theorem s4_0 : At3 (A v389) fun r c => 8 * z0 Q K (T + 1024 + r) (T + 1024 + c) := by
  unfold v389 HS0_8; rw [cov_skip _ _ _ _ _ 0 ?_, cov_hit]
  · exact scd 1024 rfl (ψ lo_q) ((ψ kb) 4 rfl) fun r c => by pointwise [r_15, k0_pay84, k0_pay83, k0_pay82]
  · decide
theorem s4_1 : At3 (A v426) fun r c => 8 * z1 Q K (T + 1024 + r) (T + 1024 + c) := by
  unfold v426 HS0_8; rw [cov_hit]
  exact scd 1024 rfl (ψ hi_q) ((ψ kb) 4 rfl) fun r c => by pointwise [k0_pay85, r_14, k0_pay82]
theorem t4_0 : At2 (k0_pay91 k0_pay31 (A r_11) (k0_pay87 v21 v22) (A r_17)) (fun r c => W (z0 Q K) (T + 1024 + r) (T + 1024 + c)) ∧ AtC (A r_18) fun r => R (z0 Q K) (T + r) (T + 1024) :=
  have := ψ top
  d4_0 (T := T) (B := T + 1024) (by omega) tri (ψ t5_0).2 rfl (ψ s4_0) msk4
theorem t4_1 : At2 (k0_pay98 k0_pay31 (A r_13) (k0_pay87 v21 v22) (A r_19) (A r_20) (A r_21)) (fun r c => W (z1 Q K) (T + 1024 + r) (T + 1024 + c)) ∧ AtC (A r_22) fun r => R (z1 Q K) (T + r) (T + 1024) :=
  have := ψ top
  d4_1 (T := T) (B := T + 1024) (by omega) tri (ψ t5_1).2 rfl (ψ s4_1) msk4
theorem a4 : At2 (C r_24) fun r l => oa Q K V (T + 1024) (T + r) l :=
  (ap4 ((ψ vb) 3 rfl) (ψ a5) (side (n := 1024) arg7 _ (A HS1_6) 1024 (ψ t4_0).1 (ψ t4_1).1)).of fun r hr l _ =>
    qt_diag (f := lo V) (g := hi V) 1024 (by have := ψ top; omega) (fun _ h => W_past h) fun _ h => W_past h

theorem s3_0 : At3 (A v504) fun r c => 8 * z0 Q K (T + 768 + r) (T + 768 + c) := by
  unfold v504 HS0_10; rw [cov_skip _ _ _ _ _ 0 ?_, cov_hit]
  · exact scd 768 rfl (ψ lo_q) ((ψ kb) 3 rfl) fun r c => by pointwise [k0_pay101, k0_pay100]
  · decide
theorem s3_1 : At3 (A v541) fun r c => 8 * z1 Q K (T + 768 + r) (T + 768 + c) := by
  unfold v541 HS0_10; rw [cov_hit]
  exact scd 768 rfl (ψ hi_q) ((ψ kb) 3 rfl) fun r c => by pointwise [k0_pay102, r_23, k0_pay100]
theorem t3_0 : At2 (k0_pay111 k0_pay31 (A r_18) (k0_pay104 v21 v22) (A r_25) (A r_26) (A r_27) k0_pay108) (fun r c => W (z0 Q K) (T + 768 + r) (T + 768 + c)) ∧ AtC (A r_28) fun r => R (z0 Q K) (T + r) (T + 768) :=
  have := ψ top
  d3_0 (T := T) (B := T + 768) (by omega) tri (ψ t4_0).2 rfl (ψ s3_0) msk3
theorem t3_1 : At2 (k0_pay118 k0_pay31 (A r_22) (k0_pay104 v21 v22) (A r_29) (A r_30) (A r_31) cst_246) (fun r c => W (z1 Q K) (T + 768 + r) (T + 768 + c)) ∧ AtC (A r_32) fun r => R (z1 Q K) (T + r) (T + 768) :=
  have := ψ top
  d3_1 (T := T) (B := T + 768) (by omega) tri (ψ t4_1).2 rfl (ψ s3_1) msk3
theorem a3 : At2 (C r_34) fun r l => oa Q K V (T + 768) (T + r) l :=
  (ap3 ((ψ vb) 2 rfl) (ψ a4) (side (n := 1280) arg7 _ (A HS1_8) 768 (ψ t3_0).1 (ψ t3_1).1)).of fun r hr l _ =>
    qt_diag (f := lo V) (g := hi V) 768 (by have := ψ top; omega) (fun _ h => W_past h) fun _ h => W_past h

theorem s2_0 : At3 (A v619) fun r c => 8 * z0 Q K (T + 512 + r) (T + 512 + c) := by
  unfold v619 HS0_12; rw [cov_skip _ _ _ _ _ 0 ?_, cov_hit]
  · exact scd 512 rfl (ψ lo_q) ((ψ kb) 2 rfl) fun r c => by pointwise [k0_pay121, k0_pay120]
  · decide
theorem s2_1 : At3 (A v656) fun r c => 8 * z1 Q K (T + 512 + r) (T + 512 + c) := by
  unfold v656 HS0_12; rw [cov_hit]
  exact scd 512 rfl (ψ hi_q) ((ψ kb) 2 rfl) fun r c => by pointwise [k0_pay123, r_33, k0_pay122, k0_pay120]
theorem t2_0 : At2 (k0_pay131 k0_pay31 (A r_28) (k0_pay125 v21 v22) (A r_35) (A r_36) (A r_37)) (fun r c => W (z0 Q K) (T + 512 + r) (T + 512 + c)) ∧ AtC (A r_38) fun r => R (z0 Q K) (T + r) (T + 512) :=
  have := ψ top
  d2_0 (T := T) (B := T + 512) (by omega) tri (ψ t3_0).2 rfl (ψ s2_0) msk2
theorem t2_1 : At2 (k0_pay138 k0_pay31 (A r_32) (k0_pay125 v21 v22) (A r_39) (A r_40) k0_pay136) (fun r c => W (z1 Q K) (T + 512 + r) (T + 512 + c)) ∧ AtC (A r_41) fun r => R (z1 Q K) (T + r) (T + 512) :=
  have := ψ top
  d2_1 (T := T) (B := T + 512) (by omega) tri (ψ t3_1).2 rfl (ψ s2_1) msk2
theorem a2 : At2 (C r_42) fun r l => oa Q K V (T + 512) (T + r) l :=
  (ap2 ((ψ vb) 1 rfl) (ψ a3) (side (n := 1536) arg7 _ (A HS1_10) 512 (ψ t2_0).1 (ψ t2_1).1)).of fun r hr l _ =>
    qt_diag (f := lo V) (g := hi V) 512 (by have := ψ top; omega) (fun _ h => W_past h) fun _ h => W_past h

theorem s1_0 : At3 (A v734) fun r c => 8 * z0 Q K (T + 256 + r) (T + 256 + c) := by
  unfold v734 HS0_14; rw [cov_skip _ _ _ _ _ 0 ?_, cov_hit]
  · exact scd 256 rfl (ψ lo_q) ((ψ kb) 1 rfl) fun r c => by pointwise [k0_pay141, k0_pay140]
  · decide
theorem s1_1 : At3 (A v771) fun r c => 8 * z1 Q K (T + 256 + r) (T + 256 + c) := by
  unfold v771 HS0_14; rw [cov_hit]
  exact scd 256 rfl (ψ hi_q) ((ψ kb) 1 rfl) fun r c => by pointwise [k0_pay142, k0_pay140]
theorem t1_0 : At2 (k0_pay149 k0_pay31 (A r_38) (k0_pay144 v21 v22) (A r_43) (A r_44) cst_137) (fun r c => W (z0 Q K) (T + 256 + r) (T + 256 + c)) ∧ AtC (A r_45) fun r => R (z0 Q K) (T + r) (T + 256) :=
  have := ψ top
  d1_0 (T := T) (B := T + 256) (by omega) tri (ψ t2_0).2 rfl (ψ s1_0) msk1 (o := cst_137) (by unfold cst_137; exact Ideal.ofBits_zero_f32)
theorem t1_1 : At2 (k0_pay156 (k0_pay144 v21 v22) (A r_46) (A r_48) (A r_49)) (fun r c => W (z1 Q K) (T + 256 + r) (T + 256 + c)) ∧ AtC (A r_50) fun r => R (z1 Q K) (T + r) (T + 256) :=
  have := ψ top
  d1_1 (T := T) (B := T + 256) (by omega) tri (ψ t2_1).2 rfl (ψ s1_1) msk1
theorem a1 : At2 (C r_51) fun r l => oa Q K V (T + 256) (T + r) l :=
  (ap1 ((ψ vb) 0 rfl) (ψ a2) (side (n := 1792) arg7 _ (A HS1_12) 256 (ψ t1_0).1 (ψ t1_1).1)).of fun r hr l _ =>
    qt_diag (f := lo V) (g := hi V) 256 (by have := ψ top; omega) (fun _ h => W_past h) fun _ h => W_past h

theorem s0_0 : At3 (A v846) fun r c => 8 * z0 Q K (T + r) (T + c) := by
  unfold v846 HS0_16; rw [cov_skip _ _ _ _ _ 0 ?_, cov_hit]
  · exact sct T (B := T) (ψ lo_q) ((ψ kb) 0 (o := 0) rfl) fun r c => by pointwise [k0_pay159, k0_pay158]
  · decide
theorem s0_1 : At3 (A v880) fun r c => 8 * z1 Q K (T + r) (T + c) := by
  unfold v880 HS0_16; rw [cov_hit]
  exact sct T (B := T) (ψ hi_q) ((ψ kb) 0 (o := 0) rfl) fun r c => by pointwise [k0_pay160, k0_pay158]
theorem t0_0 : At2 (k0_pay167 (k0_pay162 v21 v22) (A r_53)) (fun r c => W (z0 Q K) (T + r) (T + c)) ∧ AtC (A r_54) fun r => R (z0 Q K) (T + r) T :=
  have := ψ top
  d0_0 (T := T) (B := T) (by omega) tri (ψ t1_0).2 rfl (ψ s0_0) msk0 rfl
theorem t0_1 : At2 (k0_pay172 k0_pay31 (A r_50) (k0_pay162 v21 v22) (A v880)) (fun r c => W (z1 Q K) (T + r) (T + c)) ∧ AtC (k0_pay173 (A r_50) (A r_55)) fun r => R (z1 Q K) (T + r) T :=
  have := ψ top
  d0_1 (T := T) (B := T) (by omega) tri (ψ t1_1).2 rfl (ψ s0_1) msk0

theorem base : Inv Q K V T T (A r_54, k0_pay173 (A r_50) (A r_55), C r_51)
    (arg6.view.writes (Elt Ideal) arg6.view.junk (HS0_18 c i arg2 harg2 arg3 harg3 x0 x1)) (arg7.view.writes (Elt Ideal) arg7.view.junk (A HS1_16)) where
  r0 := (ψ t0_0).2
  r1 := (ψ t0_1).2
  o := ψ a1
  s0 := by
    unfold half3 HS0_18; rw [miss _ _ _ _ _ _ 0 ?_, hit]
    · exact sct T (ψ lo_q) (rd3 harg3 hK (k := 256) (inb := k0_off3_inb i) (T - 256) (by rw [hT]; exact off3 i)) fun r c => by pointwise [k0_pay175, k0_pay174]
    · decide
  s1 := by
    unfold half3 HS0_18; rw [hit]
    exact sct T (ψ hi_q) (rd3 harg3 hK (k := 256) (inb := k0_off3_inb i) (T - 256) (by rw [hT]; exact off3 i)) fun r c => by pointwise [k0_pay176, k0_pay174]
  w := side (n := 2048) arg7 _ (A HS1_14) 0 (ψ t0_0).1 (ψ t0_1).1

variable (arg5 : Memref sig .tc .vmem S1x2048x128 .f32) (harg5 : arg5.IsWhole) (harg6 : arg6.IsWhole) (harg7 : arg7.IsWhole)
local notation "D " f:max => f c i arg2 harg2 arg3 harg3 arg4 harg4 arg5 harg5 arg6 harg6 arg7 harg7 x0 x1 x2

/-- A tile of the output. -/
theorem done :
    At3 (k0_pay1 k0_pay27 (D r_56) (r_57 arg4 harg4 x2) (r_58 arg4 harg4 x2) (D v951)) fun r l => oa Q K V 0 (T + r) l := by
  have I := inv_st c i arg2 harg2 arg3 harg3 arg4 harg4 arg5 harg5 harg6 harg7 (BitVec.ofNat 32 (i 1).val) (A r_50) (C r_51) (A r_54) (A r_55)
    hT (ψ lo_q) (ψ hi_q) tri hK hV (ψ base) (k0_t1_loop i).trips le_rfl
  rw [show T - 256 * (k0_t1_loop i).trips = 0 by rw [hT, trips_eq]; omega] at I
  obtain ⟨_, _, o, _, _, w⟩ := I
  unfold full at w
  rw [← View.writes_append] at w
  have e2 : Scf.trips (k0_t2_loop i).lb (k0_t2_loop i).ub (k0_t2_loop i).st = 0 := trips2_eq i
  have hv := rd3 harg4 hV (k := 256) (inb := inb_S1x8192x128_S1x256x128_0_0_0) 0 rfl
  unfold r_56 v951
  rw [e2]
  exact (apz hv o w).of fun r _ l _ => qt_step _ _ _ _ 0 _ _ (by omega)

end Body

end Cert.Kernel3Ideal.Gen

end

end
-- ==== Proof.FwdPair.lean ====
module

public import proofs.«01_k».proof.Defs
public import proofs.«01_k».proof.Proof.FwdBody
public import proofs.«01_k».proof.Proof.Pair
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_qkv

@[expose] public section

set_option maxRecDepth 16384
set_option maxHeartbeats 400000

/-! The forward pair: the tiles the grid leaves are the output of attention. -/

noncomputable section

namespace Cert.Kernel3Ideal.Gen

open Idealize.ShloMosaic Idealize.ShloMosaic.TcCoe Idealize.SL Idealize.SL.Sem Idealize.ShloMosaic.Tactic Cert.Attn Cert.Reals
open Cert.ReferenceIdeal.Read (Is)
open Cert.KernelIdeal.Gen (Qp Kp Vp Op oh split24 split8 split24_at split8_at nums is_nums is_of_eq)

theorem idx : ∀ t : Fin cfg0.N, win0_0.index t = ![t.val / 4, t.val % 4, 0] ∧ win0_1.index t = ![8 + t.val / 4, 0, 0]
    ∧ win0_2.index t = ![16 + t.val / 4, 0, 0] ∧ win0_3.index t = ![t.val / 4, t.val % 4, 0] ∧ (grid0.coords t 1).val = t.val % 4 :=
  (by decide +kernel : ∀ t : Fin grid0.N, _)

section Lines

variable {F : FTy → Type} [FloatOps F] (m : (ℓ : Loc nD τ sig) → Buf (Elt F) ℓ) (c : Dev nD)

abbrev qkv : (⟨S8192x3072, .f32⟩ : BufTy).Contents (Elt F) := m ((c : Thread nD τ).loc main_arg0)

theorem V_v2 : V m c main_v2 = (truncf .bf16 (split24 (F := F) (qkv m c)) bitsLt_bf16_f32 : FVec F S24x8192x128 .bf16) := by
  sl_kernel_rfl
/-- The reference's result is attention's output, a pair of heads at a time. -/
theorem ref_lines (x : (⟨S8192x3072, .f32⟩ : BufTy).Contents (Elt F)) :
    Cert.Reference3Ideal.Read.val_main_v31 (F := F) x = split8 (F := F) (Cert.ReferenceIdeal.Read.val_main_v29 (F := F) x) := by
  sl_kernel_rfl

end Lines

/-- A pair of heads' weighted values, lane by lane. -/
theorem oa_eq (X : ℕ → ℕ → ℝ) (p : ℕ) {l : ℕ} (hl : l < 128) (t : ℕ) :
    oa (Qp X p) (Kp X p) (Vp X p) 0 t l = oh X ((128 * p + l) / 64) t (128 * p + l) := by
  unfold oa qt oh
  rw [show z0 (Qp X p) (Kp X p) = _ from Cert.KernelIdeal.Gen.z0_eq X p, show z1 (Qp X p) (Kp X p) = _ from Cert.KernelIdeal.Gen.z1_eq X p,
    ← Finset.range_eq_Ico, Finset.sum_range]
  refine Finset.sum_congr rfl fun r _ => ?_
  rw [← Nat.add_assoc]
  by_cases h : l < 64
  · rw [show (128 * p + l) / 64 = 2 * p by omega]
    simp only [lo, hi, if_pos h, if_neg (show ¬ 64 ≤ l by omega)]; ring
  · rw [show (128 * p + l) / 64 = 2 * p + 1 by omega]
    simp only [lo, hi, if_neg h, if_pos (show 64 ≤ l by omega)]; ring

/-- Attention's output as an array, a pair of heads at a time. -/
def OUT (X : ℕ → ℕ → ℝ) : FVec Ideal S8x8192x128 .f32 := fun i => ((oh X ((128 * (i 0).val + (i 2).val) / 64) (i 1).val (128 * (i 0).val + (i 2).val) : ℝ) : EReal)

theorem ref_out {x : FVec Ideal S8192x3072 .f32} {X : ℕ → ℕ → ℝ} (hX : Is x X) : Cert.Reference3Ideal.Read.val_main_v31 (F := Ideal) x = OUT X := funext fun i =>
  (congrFun (ref_lines (F := Ideal) x) i).trans ((split8_at _ _).trans ((Cert.ReferenceIdeal.Read.out_at hX _).trans (by
    show ((oh X (((i 0).val * 128 + (i 2).val) / 64) (i 1).val ((i 0).val * 128 + (i 2).val) : ℝ) : EReal) = _
    rw [Nat.mul_comm (i 0).val]; rfl)))

open kernelRun0_A.sl in
/-- The one store of the body's run. -/
theorem pieces {F : FTy → Type} [FloatOps F] [Named F] (c : Dev nD) (i : grid0.Coords)
    (arg2 : Memref sig .tc .vmem S1x2048x128 .bf16) (harg2 : arg2.IsWhole)
    (arg3 : Memref sig .tc .vmem S1x8192x128 .bf16) (harg3 : arg3.IsWhole)
    (arg4 : Memref sig .tc .vmem S1x8192x128 .bf16) (harg4 : arg4.IsWhole)
    (arg5 : Memref sig .tc .vmem S1x2048x128 .f32) (harg5 : arg5.IsWhole)
    (arg6 : Memref sig .tc .vmem S2x2048x256 .f32) (harg6 : arg6.IsWhole) (arg7 : Memref sig .tc .vmem S2048x512 .bf16) (harg7 : arg7.IsWhole)
    (x0 : Vec F S1x2048x128 .bf16) (x1 x2 : Vec F S1x8192x128 .bf16) :
    (kernelRun0_A c i arg2 harg2 arg3 harg3 arg4 harg4 arg5 harg5 arg6 harg6 arg7 harg7 x0 x1 x2).1 =
      [⟨Rect.unit (s := S1x2048x128) ![0, 0, 0] S1x2048x128.size inb_S1x2048x128_S1x2048x128_0_0_0,
        k0_pay1 k0_pay27 (r_56 c i arg2 harg2 arg3 harg3 arg4 harg4 arg5 harg5 arg6 harg6 arg7 harg7 x0 x1 x2) (r_57 arg4 harg4 x2) (r_58 arg4 harg4 x2)
          (v951 c i arg2 harg2 arg3 harg3 arg4 harg4 arg5 harg5 arg6 harg6 arg7 harg7 x0 x1 x2)⟩] := by
  sl_kernel_rfl

section Grid

variable (m : (ℓ : Loc nD τ sig) → Buf (Elt Ideal) ℓ) (c : Dev nD) (t : Fin cfg0.N) {X : ℕ → ℕ → ℝ} (hX : Is (qkv m c) X)
include hX

theorem blk0 : At3 (iblk m c 0 t : FVec Ideal S1x2048x128 .bf16) fun r l => Qp X (t.val / 4) (2048 * (t.val % 4) + r) l := fun r l => by
  blk_simp [iblk]
  refine (congrFun (V_v2 m c) _).trans ((split24_at _ _).trans (hX.at _ ?_ ?_))
  · show ((win0_0.blk t).view.emb (ix3 0 r l) 1).val = _
    blk_simp [idx t]; omega
  · show ((win0_0.blk t).view.emb (ix3 0 r l) 0).val * 128 + ((win0_0.blk t).view.emb (ix3 0 r l) 2).val = _
    blk_simp [idx t]; omega
theorem blk1 : At3 (iblk m c 1 t : FVec Ideal S1x8192x128 .bf16) (Kp X (t.val / 4)) := fun r l => by
  blk_simp [iblk]
  refine (congrFun (V_v2 m c) _).trans ((split24_at _ _).trans (hX.at _ ?_ ?_))
  · show ((win0_1.blk t).view.emb (ix3 0 r l) 1).val = _
    blk_simp [idx t]
  · show ((win0_1.blk t).view.emb (ix3 0 r l) 0).val * 128 + ((win0_1.blk t).view.emb (ix3 0 r l) 2).val = _
    blk_simp [idx t]; omega
theorem blk2 : At3 (iblk m c 2 t : FVec Ideal S1x8192x128 .bf16) (Vp X (t.val / 4)) := fun r l => by
  blk_simp [iblk]
  refine (congrFun (V_v2 m c) _).trans ((split24_at _ _).trans (hX.at _ ?_ ?_))
  · show ((win0_2.blk t).view.emb (ix3 0 r l) 1).val = _
    blk_simp [idx t]
  · show ((win0_2.blk t).view.emb (ix3 0 r l) 0).val * 128 + ((win0_2.blk t).view.emb (ix3 0 r l) 2).val = _
    blk_simp [idx t]; omega

/-- What a point leaves: its tile of the output. -/
theorem point : At3 (outsAt0 m c t) fun r l => oh X ((128 * (t.val / 4) + l) / 64) (2048 * (t.val % 4) + r) (128 * (t.val / 4) + l) := fun r l => by
  have D := done c (grid0.coords t) (ms0_0 t) (hs0_0 t) (ms0_1 t) (hs0_1 t) (ms0_2 t) (hs0_2 t) scM0_0 scM0_1
    (T := 2048 * (t.val % 4)) (congrArg (2048 * ·) (idx t).2.2.2.2.symm) (blk0 m c t hX) (blk1 m c t hX) (blk2 m c t hX)
    (ms0_3 t) (hs0_3 t) (Memref.isWhole_whole _) (Memref.isWhole_whole _)
  unfold outsAt0 out0_A_3
  rw [pieces]
  refine (View.read_writes_cons_unit_of_mem _ _ inb_S1x2048x128_S1x2048x128_0_0_0 _ [] (ix3 0 r l) (ix3 0 r l) rfl (by intro a; fin_cases a <;> simp [ix3])).trans ((D r l).trans ?_)
  exact congrArg _ (oa_eq X (t.val / 4) l.isLt _)

theorem final_out : (dats m 0 c).arrAt 3 (cfgs 0).N = OUT X := by
  refine (dats m 0 c).arrAt_eq_of_covers 3 _ (by decide +kernel) fun t _ y => ?_
  blk_simp
  rw [after0_3]
  idx_vars y
  have P := point m c t hX
  obtain rfl : y0 = 0 := Subsingleton.elim _ _
  refine (P y1 y2).trans ?_
  have e1 : ((win0_3.blk t).view.emb (ix3 0 y1 y2) 1).val = 2048 * (t.val % 4) + y1.val := by blk_simp [idx t]; omega
  have e0 : 128 * ((win0_3.blk t).view.emb (ix3 0 y1 y2) 0).val + ((win0_3.blk t).view.emb (ix3 0 y1 y2) 2).val = 128 * (t.val / 4) + y2.val := by blk_simp [idx t]; simp
  show _ = ((oh X ((128 * ((win0_3.blk t).view.emb (ix3 0 y1 y2) 0).val + ((win0_3.blk t).view.emb (ix3 0 y1 y2) 2).val) / 64) ((win0_3.blk t).view.emb (ix3 0 y1 y2) 1).val (128 * ((win0_3.blk t).view.emb (ix3 0 y1 y2) 0).val + ((win0_3.blk t).view.emb (ix3 0 y1 y2) 2).val) : ℝ) : EReal)
  rw [e0, e1]

end Grid

theorem of_pre (m : (ℓ : Loc nD τ sig) → Buf (Elt Ideal) ℓ) (c : Dev nD) (h : Cert.Pre_Kernel3Ideal_finite_qkv m) : Is (qkv m c) (nums (qkv m c)) := by
  have e := congrFun (h c) (Shape.Idx.first (by decide))
  dsimp only [Cert.Pre_finite_qkv.fn] at e
  exact is_nums fun i => isR_of_between (Host.reduce_andi_all _ _ _ _ _ e i)

theorem value : Cert.algebraic_Kernel3Ideal_Reference3Ideal_pre_finite_qkv (hKernel3Ideal := Cert.Kernel3Ideal.Gen.facts)
    (hReference3Ideal := Cert.Reference3Ideal.Gen.facts) (hPre_finite_qkv := Cert.Pre_finite_qkv.Gen.facts) := by
  pair_intro
  · run_from Cert.Kernel3Ideal.Gen.run_main m g
  · have hfin := fun c => of_pre m c hpre
    run_from Cert.Reference3Ideal.Value.run m' g'
    · exact (Cert.Reference3Ideal.Read.val_main_v31_eq _ _).trans ((ref_out (is_of_eq (hagree c) (hfin c))).trans (final_out m c (hfin c)).symm)

end Cert.Kernel3Ideal.Gen

end

end
-- ==== Proof.Norm.lean ====
module

public import proofs.«01_k».proof.Proof.Reals

@[expose] public section

/-! The gradient of a root-mean-square norm in its two spellings: the kernel's, from the normalised row, and the
reference's, from the derivative of the reciprocal square root. -/

noncomputable section

namespace Cert.Reals

open Idealize.ShloMosaic

theorem word_1024 : Ideal.ofBits .f32 0x44800000#32 = ((1024 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
/-- The norm's small addend is a positive real number. -/
theorem word_eps : ∃ e : ℝ, 0 < e ∧ Ideal.ofBits .f32 0x358637BD#32 = (e : EReal) := by
  refine ⟨_, ?_, by simp [Ideal.ofBits, Ideal.ieee, -EReal.coe_mul]; rfl⟩
  positivity

/-- A sum of real entries is the sum of their real numbers. -/
theorem sum_coe {n : ℕ} (f : Fin n → ℝ) : ∑ k, ((f k : ℝ) : EReal) = ((∑ k, f k : ℝ) : EReal) := by
  induction (Finset.univ : Finset (Fin n)) using Finset.induction_on with
  | empty => simp
  | insert a s ha ih => rw [Finset.sum_insert ha, Finset.sum_insert ha, ih]; norm_cast

/-- The mean square of a row, with the small addend. -/
def msq (x : Fin 1024 → EReal) : EReal :=
  Ideal.div (∑ k, x k * x k) (Ideal.ofBits .f32 0x44800000#32) + Ideal.ofBits .f32 0x358637BD#32

theorem msq_pos {x : Fin 1024 → EReal} (hx : ∀ k, IsR (x k)) : ∃ v : ℝ, 0 < v ∧ msq x = (v : EReal) := by
  choose X hX using hx
  obtain ⟨e, he, ee⟩ := word_eps
  refine ⟨(∑ k, X k * X k) * (1 / 1024) + e, ?_, ?_⟩
  · have : 0 ≤ ∑ k, X k * X k := Finset.sum_nonneg fun k _ => mul_self_nonneg _
    positivity
  · simp only [msq, hX, word_1024, ee]
    rw [Ideal.div_coe (by norm_num)]
    simp only [← EReal.coe_mul, sum_coe]
    norm_cast

theorem rsqrt_pos {v : ℝ} (h : 0 < v) : Ideal.rsqrt (v : EReal) = (((Real.sqrt v)⁻¹ : ℝ) : EReal) := by
  rw [Ideal.rsqrt_coe, if_neg h.not_gt, if_neg h.ne']

/-- The two spellings of the gradient of a row's entry `j`: `r` is the gradient of the normalised row, `d` what is added to it. -/
theorem norm_grad {x g r : Fin 1024 → EReal} (hx : ∀ k, IsR (x k)) (hg : ∀ k, IsR (g k)) (hr : ∀ k, IsR (r k)) (d : EReal) (j : Fin 1024) :
    d + Ideal.rsqrt (msq x) * (r j * g j - x j * Ideal.rsqrt (msq x)
        * Ideal.div (∑ k, r k * g k * (x k * Ideal.rsqrt (msq x))) (Ideal.ofBits .f32 0x44800000#32))
      = d + r j * g j * Ideal.rsqrt (msq x)
        + x j * Ideal.div ((∑ k, x k * (r k * g k)) * (Ideal.ofBits .f32 0xBF000000#32 * Ideal.div (Ideal.rsqrt (msq x)) (msq x)))
            (Ideal.ofBits .f32 0x44800000#32)
        + Ideal.div ((∑ k, x k * (r k * g k)) * (Ideal.ofBits .f32 0xBF000000#32 * Ideal.div (Ideal.rsqrt (msq x)) (msq x)))
            (Ideal.ofBits .f32 0x44800000#32) * x j := by
  obtain ⟨v, hv, ev⟩ := msq_pos hx
  choose X hX using hx
  choose G hG using hg
  choose R hR using hr
  rw [ev, rsqrt_pos hv, word_1024, word_neg_half, Ideal.div_coe hv.ne', Ideal.div_coe (by norm_num), Ideal.div_coe (by norm_num)]
  simp only [hX, hG, hR, ← EReal.coe_mul, sum_coe, ← EReal.coe_sub]
  rw [add_assoc, add_assoc]
  simp only [← EReal.coe_add]
  congr 2
  have h2 : (Real.sqrt v)⁻¹ * (Real.sqrt v)⁻¹ = 1 / v := by
    rw [← mul_inv, Real.mul_self_sqrt hv.le, one_div]
  have e1 : ∑ k, R k * G k * (X k * (Real.sqrt v)⁻¹) = (∑ k, X k * (R k * G k)) * (Real.sqrt v)⁻¹ := by
    rw [Finset.sum_mul]; exact Finset.sum_congr rfl fun k _ => by ring
  rw [e1, ← h2]; ring

/-- A row's share of the gain's gradient: the gradient `d` of the normed row at `j`, times the row normed without its gain. -/
noncomputable def gain_share (x : Fin 1024 → EReal) (d : EReal) (j : Fin 1024) : EReal := d * (x j * Ideal.rsqrt (msq x))

/-- A contraction over two halves, one after the other. -/
theorem two_halves (f g : Fin 2048 → EReal) :
    (∑ k : Fin 1024, f (Fin.castAdd 1024 k) * g (Fin.castAdd 1024 k)) + ∑ k : Fin 1024, f (Fin.natAdd 1024 k) * g (Fin.natAdd 1024 k)
      = ∑ k, f k * g k :=
  (Fin.sum_univ_add (a := 1024) (b := 1024) fun k => f k * g k).symm

end Cert.Reals

end
-- ==== Proof.MmF.lean ====
module

public import proofs.«01_k».proof.Defs
public import proofs.«01_k».proof.Proof.Gen.Kernel4Ideal.Frame
public import proofs.«01_k».proof.Proof.Gen.Reference4Ideal.Read
public import proofs.«01_k».proof.Proof.Gen.Reference4Ideal.Run
public import proofs.«01_k».proof.Proof.Gen.Pre_finite_f
public import proofs.«01_k».proof.Proof.Norm
public import Idealize.ShloMosaic.Lib.Pipeline.ValueKit

@[expose] public section

set_option maxRecDepth 16384

noncomputable section

namespace Cert.MmF

open Idealize.ShloMosaic Idealize.ShloMosaic.TcCoe Idealize.SL.Sem
open Idealize.ShloMosaic.Pipeline (Dat)
open Cert.Kernel4Ideal Cert.Kernel4Ideal.Gen Cert.Reals Cert.Reference4Ideal.Read

variable (m : (ℓ : Loc nD τ sig) → Buf (Elt Ideal) ℓ)

/-- Where every window's block sits at each grid point. -/
theorem idx : ∀ t : Fin cfg0.N, win0_0.index t = ![t.val, 0] ∧ win0_1.index t = ![0, 0]
    ∧ win0_2.index t = ![t.val, 0] ∧ win0_3.index t = ![0, 0]
    ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

/-- The row of the whole array that row `a` of a point's block is. -/
def row (t : Fin cfg0.N) (a : Fin 256) : Fin 8192 :=
  ⟨t.val * 256 + a.val, by have h : t.val < 32 := t.isLt; have := a.isLt; omega⟩

section Blocks
variable (c : Dev nD) (t : Fin cfg0.N)

theorem blk0 (y : S256x2816.Idx) : iblk m c 0 t y = m ((c : Thread nD τ).loc main_arg5) (ix2 (row t (y 0)) (y 1)) := by
  blk_simp [iblk]
  entry_read
  pointwise
  blk_point [idx t, row]
theorem blk1 (y : S2816x1024.Idx) : iblk m c 1 t y = m ((c : Thread nD τ).loc main_arg2) (ix2 (y 1) (y 0)) := by
  blk_simp [iblk]
  entry_read
  pointwise
  blk_point [idx t, row]
theorem blk2 (y : S256x2816.Idx) : iblk m c 2 t y = m ((c : Thread nD τ).loc main_arg6) (ix2 (row t (y 0)) (y 1)) := by
  blk_simp [iblk]
  entry_read
  pointwise
  blk_point [idx t, row]
theorem blk3 (y : S2816x1024.Idx) : iblk m c 3 t y = m ((c : Thread nD τ).loc main_arg3) (ix2 (y 1) (y 0)) := by
  blk_simp [iblk]
  entry_read
  pointwise
  blk_point [idx t, row]
theorem blk4 (y : S256x1024.Idx) : iblk m c 4 t y = m ((c : Thread nD τ).loc main_arg0) (ix2 (row t (y 0)) (y 1)) := by
  blk_simp [iblk]
  entry_read
  blk_point [idx t, row]
theorem blk5 (y : S1x1024.Idx) : iblk m c 5 t y = m ((c : Thread nD τ).loc main_arg1) (ix1 (y 1)) := by
  blk_simp [iblk]
  entry_read
  pointwise
  blk_point [idx t, row]
theorem blk6 (y : S256x1024.Idx) : iblk m c 6 t y = m ((c : Thread nD τ).loc main_arg4) (ix2 (row t (y 0)) (y 1)) := by
  blk_simp [iblk]
  entry_read
  blk_point [idx t, row]
theorem emb7 (y : S256x1024.Idx) : ((cfg0.win 7).blk t).view.emb y = ix2 (row t (y 0)) (y 1) := by
  blk_point [idx t, row]
theorem emb8 (y : S256x1024.Idx) : ((cfg0.win 8).blk t).view.emb y = ix2 (row t (y 0)) (y 1) := by
  blk_point [idx t, row]
theorem emb9 (y : S1x1024.Idx) : ((cfg0.win 9).blk t).view.emb y = y := by
  blk_point [idx t, row]

end Blocks

section Reference
variable (c : Dev nD)

/-- What is read of the arguments: all are real numbers but the incoming gradient of the norm's input. -/
def Fine : Prop := (∀ i, IsR (m ((c : Thread nD τ).loc main_arg0) i)) ∧ (∀ i, IsR (m ((c : Thread nD τ).loc main_arg1) i))
  ∧ (∀ i, IsR (m ((c : Thread nD τ).loc main_arg2) i)) ∧ (∀ i, IsR (m ((c : Thread nD τ).loc main_arg3) i))
  ∧ (∀ i, IsR (m ((c : Thread nD τ).loc main_arg5) i)) ∧ ∀ i, IsR (m ((c : Thread nD τ).loc main_arg6) i)

theorem of_pre (h : Cert.Pre_Kernel4Ideal_finite_f m) : Fine m c := by
  have e := congrFun (h c) (Shape.Idx.first (by decide))
  dsimp only [Cert.Pre_finite_f.fn] at e
  obtain ⟨e, e6⟩ := IntOp.andi_eq_one.1 e
  obtain ⟨e, e5⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i => ?_, fun i => ?_, fun i => ?_, fun i => ?_, fun i => ?_, fun i => ?_⟩ <;> apply isR_of_between
  exacts [Host.reduce_andi_all _ _ _ _ _ e0 i, Host.reduce_andi_all _ _ _ _ _ e1 i, Host.reduce_andi_all _ _ _ _ _ e2 i,
    Host.reduce_andi_all _ _ _ _ _ e3 i, Host.reduce_andi_all _ _ _ _ _ e5 i, Host.reduce_andi_all _ _ _ _ _ e6 i]

/-- The reference's gradient of the normed rows: the up projection's first. -/
abbrev gh := val_main_v20 (F := Ideal) (m ((c : Thread nD τ).loc main_arg2)) (m ((c : Thread nD τ).loc main_arg3))
  (m ((c : Thread nD τ).loc main_arg5)) (m ((c : Thread nD τ).loc main_arg6))
/-- The reference's results. -/
abbrev gx := val_main_v41 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))
abbrev gx16 := val_main_v42 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))
abbrev gg := val_main_v43 (F := Ideal) (m ((c : Thread nD τ).loc main_arg0)) (m ((c : Thread nD τ).loc main_arg2))
  (m ((c : Thread nD τ).loc main_arg3)) (m ((c : Thread nD τ).loc main_arg5)) (m ((c : Thread nD τ).loc main_arg6))

theorem gh_real (h : Fine m c) (r : Fin 8192) (k : Fin 1024) : IsR (gh m c (ix2 r k)) := by
  pointwise [gh, val_main_v20, val_main_v19, val_main_v18]
  exact (IsR.sum_univ fun k => (h.2.2.2.2.2 _).mul (h.2.2.2.1 _)).add (IsR.sum_univ fun k => (h.2.2.2.2.1 _).mul (h.2.2.1 _))

/-- Row `r`'s share of the gain's gradient. -/
def gain_term (r : Fin 8192) (j : Fin 1024) : EReal :=
  gain_share (fun k => m ((c : Thread nD τ).loc main_arg0) (ix2 r k)) (gh m c (ix2 r j)) j

/-- The reference's gradient of the gain is the sum of the rows' shares. -/
theorem ref9 (y : S1x1024.Idx) : gg m c y = ∑ r : Fin 8192, gain_term m c r (y 1) := by
  pointwise [gg, val_main_v43, val_main_v26, val_main_v23, val_main_v22, val_main_v21, val_main_v12, val_main_v11, val_main_v7,
    val_main_v6, val_main_v5, val_main_v4, val_main_v3, val_main_v2, val_main_v1, val_main_v0, val_main_cst, val_main_cst_0,
    val_main_cst_1, val_main_cst_3, val_main_cst_4]
  simp only [Finset.univ_unique, Finset.sum_singleton]
  exact Finset.sum_congr rfl fun r _ => mul_comm _ _

end Reference

section Point
variable (c : Dev nD) (t : Fin cfg0.N)

/-- The gradient of the normed rows a point computes. -/
abbrev dh := k0_pay3 (F := Ideal) (k0_pay1 (F := Ideal)) (iblk m c 0 t) (iblk m c 1 t) (iblk m c 2 t) (iblk m c 3 t)

/-- … the reference's two products, in the other order. -/
theorem dh_blk (y : S256x1024.Idx) : dh m c t y = gh m c (ix2 (row t (y 0)) (y 1)) := by
  pointwise [dh, k0_pay3, k0_pay1, gh, val_main_v20, val_main_v19, val_main_v18]
  simp only [blk0, blk1, blk2, blk3]
  exact add_comm _ _

/-- The gradient of the norm's input a point computes. -/
theorem point7 (h : Fine m c) (y : S256x1024.Idx) :
    k0_pay7 (F := Ideal) (dh m c t) (iblk m c 4 t) (iblk m c 5 t) (iblk m c 6 t) y = gx m c (ix2 (row t (y 0)) (y 1)) := by
  pointwise [k0_pay7, k0_pay5, k0_pay4, gx, val_main_v41, val_main_v40, val_main_v39, val_main_v38, val_main_v37, val_main_v36,
    val_main_v35, val_main_v34, val_main_v33, val_main_v32, val_main_v31, val_main_v30, val_main_v29, val_main_v28, val_main_v27,
    val_main_v25, val_main_v24, val_main_v13, val_main_v10, val_main_v9, val_main_v8, val_main_v7, val_main_v6, val_main_v5,
    val_main_v4, val_main_v3, val_main_v2, val_main_v1, val_main_v0, val_main_cst, val_main_cst_0, val_main_cst_1, val_main_cst_2,
    val_main_cst_5, val_main_cst_6, val_main_cst_7]
  simp only [blk4, blk5, blk6, dh_blk, Finset.univ_unique, Finset.sum_singleton]
  exact norm_grad (x := fun k => m ((c : Thread nD τ).loc main_arg0) (ix2 (row t (y 0)) k))
    (g := fun k => m ((c : Thread nD τ).loc main_arg1) (ix1 k)) (r := fun k => gh m c (ix2 (row t (y 0)) k))
    (fun k => h.1 _) (fun k => h.2.1 _) (fun k => gh_real m c h _ k) _ (y 1)

/-- What a point adds to the gain's gradient: its rows' share. -/
theorem point9 (acc : FVec Ideal S1x1024 .f32) (y : S1x1024.Idx) :
    k0_pay6 (F := Ideal) (dh m c t) (iblk m c 4 t) acc y = acc y + ∑ a : Fin 256, gain_term m c (row t a) (y 1) := by
  pointwise [k0_pay6, k0_pay5, k0_pay4]
  simp only [blk4, dh_blk]
  rfl

end Point

section Final
variable (c : Dev nD)

/-- The gradient of the norm's input after the run. -/
theorem final7 (hf : Fine m c) : (dats m 0 c).arrAt 7 (cfgs 0).N = gx m c := by
  refine (dats m 0 c).arrAt_eq_of_covers 7 _ (by decide +kernel) fun t _ y => ?_
  refine Eq.trans ?_ ((point7 m c t hf y).trans (congrArg _ (emb7 t y).symm))
  blk_simp
  rw [after0_7]
  by_cases h : t.val % 32 = 0
  · rw [outsAt0_A m c t h]; frame_out
  · rw [outsAt0_B m c t h]; frame_out

/-- … and its rounded copy. -/
theorem final8 (hf : Fine m c) : (dats m 0 c).arrAt 8 (cfgs 0).N = gx16 m c := by
  refine (dats m 0 c).arrAt_eq_of_covers 8 _ (by decide +kernel) fun t _ y => ?_
  refine Eq.trans ?_ ((point7 m c t hf y).trans (congrArg _ (emb8 t y).symm))
  blk_simp
  rw [after0_8]
  by_cases h : t.val % 32 = 0
  · rw [outsAt0_A m c t h]; frame_out; rfl
  · rw [outsAt0_B m c t h]; frame_out; rfl

/-- The gradient of the gain after the run: the points' shares are the rows'. -/
theorem final9 : (dats m 0 c).arrAt 9 (cfgs 0).N = gg m c := by
  refine (dats m 0 c).arrAt_eq_of_covers 9 _ (by decide +kernel) fun t hf y => ?_
  have ht : t.val + 1 = 32 := (by decide +kernel : ∀ t : Fin grid0.N, win0_9.flush t = true → t.val + 1 = 32) t hf
  rw [emb9, ref9]
  blk_simp
  rw [after0_9, Pipeline.eq_sum_fin_of_reset_step_apply_last (fun n h => (outsAt0 m c n h).2.2) 32 (fun _ => 0)
    (fun t y => ∑ a : Fin 256, gain_term m c (row t a) (y 1))
    (fun t h j => by rw [outsAt0_A m c t h]; frame_out; rw [point9]; exact congrArg (· + _) (by pointwise [k0_pay2]))
    (fun t h j => by rw [outsAt0_B m c t h]; frame_out; rw [point9])
    (le_of_eq rfl) t ht y, zero_add]
  exact Fin.sum_mul_add_fin 32 256 fun r => gain_term m c r (y 1)

end Final

end Cert.MmF

end
-- ==== Proof.MmA.lean ====
module

public import proofs.«01_k».proof.Defs
public import proofs.«01_k».proof.Proof.Gen.Kernel5Ideal.Frame
public import proofs.«01_k».proof.Proof.Gen.Reference5Ideal.Read
public import proofs.«01_k».proof.Proof.Gen.Reference5Ideal.Run
public import proofs.«01_k».proof.Proof.Gen.Pre_finite_a
public import proofs.«01_k».proof.Proof.Norm
public import Idealize.ShloMosaic.Lib.Pipeline.ValueKit

@[expose] public section

set_option maxRecDepth 16384

noncomputable section

namespace Cert.MmA

open Idealize.ShloMosaic Idealize.ShloMosaic.TcCoe Idealize.SL.Sem
open Idealize.ShloMosaic.Pipeline (Dat)
open Cert.Kernel5Ideal Cert.Kernel5Ideal.Gen Cert.Reals Cert.Reference5Ideal.Read

variable (m : (ℓ : Loc nD τ sig) → Buf (Elt Ideal) ℓ)

/-- Where every window's block sits at each grid point. -/
theorem idx : ∀ t : Fin cfg0.N, win0_0.index t = ![t.val, 0] ∧ win0_1.index t = ![0, 0]
    ∧ win0_2.index t = ![t.val, 0] ∧ win0_3.index t = ![0, 0]
    ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

/-- The row of the whole array that row `a` of a point's block is. -/
def row (t : Fin cfg0.N) (a : Fin 512) : Fin 8192 :=
  ⟨t.val * 512 + a.val, by have h : t.val < 16 := t.isLt; have := a.isLt; omega⟩

section Blocks
variable (c : Dev nD) (t : Fin cfg0.N)

theorem blk0 (y : S512x1024.Idx) : iblk m c 0 t y
    = m ((c : Thread nD τ).loc main_arg4) (ix2 (row t (y 0)) ⟨(y 1).val, by have : (y 1).val < 1024 := (y 1).isLt; omega⟩) := by
  blk_simp [iblk]
  entry_read
  pointwise
  blk_point [idx t, row]
theorem blk1 (y : S1024x1024.Idx) : iblk m c 1 t y
    = m ((c : Thread nD τ).loc main_arg2) (ix2 (y 1) ⟨(y 0).val, by have : (y 0).val < 1024 := (y 0).isLt; omega⟩) := by
  blk_simp [iblk]
  entry_read
  pointwise
  blk_point [idx t, row]
theorem blk2 (y : S512x1024.Idx) : iblk m c 2 t y
    = m ((c : Thread nD τ).loc main_arg4) (ix2 (row t (y 0)) ⟨1024 + (y 1).val, by have : (y 1).val < 1024 := (y 1).isLt; omega⟩) := by
  blk_simp [iblk]
  entry_read
  pointwise
  blk_point [idx t, row]
theorem blk3 (y : S1024x1024.Idx) : iblk m c 3 t y
    = m ((c : Thread nD τ).loc main_arg2) (ix2 (y 1) ⟨1024 + (y 0).val, by have : (y 0).val < 1024 := (y 0).isLt; omega⟩) := by
  blk_simp [iblk]
  entry_read
  pointwise
  blk_point [idx t, row]
theorem blk4 (y : S512x1024.Idx) : iblk m c 4 t y = m ((c : Thread nD τ).loc main_arg0) (ix2 (row t (y 0)) (y 1)) := by
  blk_simp [iblk]
  entry_read
  blk_point [idx t, row]
theorem blk5 (y : S1x1024.Idx) : iblk m c 5 t y = m ((c : Thread nD τ).loc main_arg1) (ix1 (y 1)) := by
  blk_simp [iblk]
  entry_read
  pointwise
  blk_point [idx t, row]
theorem blk6 (y : S512x1024.Idx) : iblk m c 6 t y = m ((c : Thread nD τ).loc main_arg3) (ix2 (row t (y 0)) (y 1)) := by
  blk_simp [iblk]
  entry_read
  blk_point [idx t, row]
theorem emb7 (y : S512x1024.Idx) : ((cfg0.win 7).blk t).view.emb y = ix2 (row t (y 0)) (y 1) := by
  blk_point [idx t, row]
theorem emb8 (y : S512x1024.Idx) : ((cfg0.win 8).blk t).view.emb y = ix2 (row t (y 0)) (y 1) := by
  blk_point [idx t, row]
theorem emb9 (y : S1x1024.Idx) : ((cfg0.win 9).blk t).view.emb y = y := by
  blk_point [idx t, row]

end Blocks

section Reference
variable (c : Dev nD)

/-- What is read of the arguments: all are real numbers but the incoming gradient of the norm's input. -/
def Fine : Prop := (∀ i, IsR (m ((c : Thread nD τ).loc main_arg0) i)) ∧ (∀ i, IsR (m ((c : Thread nD τ).loc main_arg1) i))
  ∧ (∀ i, IsR (m ((c : Thread nD τ).loc main_arg2) i)) ∧ ∀ i, IsR (m ((c : Thread nD τ).loc main_arg4) i)

theorem of_pre (h : Cert.Pre_Kernel5Ideal_finite_a m) : Fine m c := by
  have e := congrFun (h c) (Shape.Idx.first (by decide))
  dsimp only [Cert.Pre_finite_a.fn] at e
  obtain ⟨e, e4⟩ := IntOp.andi_eq_one.1 e
  obtain ⟨e, e2⟩ := IntOp.andi_eq_one.1 e
  obtain ⟨e0, e1⟩ := IntOp.andi_eq_one.1 e
  exact ⟨fun i => isR_of_between (Host.reduce_andi_all _ _ _ _ _ e0 i), fun i => isR_of_between (Host.reduce_andi_all _ _ _ _ _ e1 i),
    fun i => isR_of_between (Host.reduce_andi_all _ _ _ _ _ e2 i), fun i => isR_of_between (Host.reduce_andi_all _ _ _ _ _ e4 i)⟩

/-- The reference's gradient of the normed rows. -/
abbrev gh := val_main_v17 (F := Ideal) (m ((c : Thread nD τ).loc main_arg2)) (m ((c : Thread nD τ).loc main_arg4))
/-- The reference's results. -/
abbrev gx := val_main_v38 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
abbrev gx16 := val_main_v39 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
abbrev gg := val_main_v40 (F := Ideal) (m ((c : Thread nD τ).loc main_arg0)) (m ((c : Thread nD τ).loc main_arg2))
  (m ((c : Thread nD τ).loc main_arg4))

theorem gh_real (h : Fine m c) (r : Fin 8192) (k : Fin 1024) : IsR (gh m c (ix2 r k)) := by
  pointwise [gh, val_main_v17]
  exact IsR.sum_univ fun k => (h.2.2.2 _).mul (h.2.2.1 _)

/-- Row `r`'s share of the gain's gradient. -/
def gain_term (r : Fin 8192) (j : Fin 1024) : EReal :=
  gain_share (fun k => m ((c : Thread nD τ).loc main_arg0) (ix2 r k)) (gh m c (ix2 r j)) j

/-- The reference's gradient of the gain is the sum of the rows' shares. -/
theorem ref9 (y : S1x1024.Idx) : gg m c y = ∑ r : Fin 8192, gain_term m c r (y 1) := by
  pointwise [gg, val_main_v40, val_main_v23, val_main_v20, val_main_v19, val_main_v18, val_main_v12, val_main_v11, val_main_v7,
    val_main_v6, val_main_v5, val_main_v4, val_main_v3, val_main_v2, val_main_v1, val_main_v0, val_main_cst, val_main_cst_0,
    val_main_cst_1, val_main_cst_3, val_main_cst_4]
  simp only [Finset.univ_unique, Finset.sum_singleton]
  exact Finset.sum_congr rfl fun r _ => mul_comm _ _

end Reference

section Point
variable (c : Dev nD) (t : Fin cfg0.N)

/-- The gradient of the normed rows a point computes. -/
abbrev dh := k0_pay3 (F := Ideal) (k0_pay1 (F := Ideal)) (iblk m c 0 t) (iblk m c 1 t) (iblk m c 2 t) (iblk m c 3 t)

/-- … the two halves of the reference's product. -/
theorem dh_blk (y : S512x1024.Idx) : dh m c t y = gh m c (ix2 (row t (y 0)) (y 1)) := by
  pointwise [dh, k0_pay3, k0_pay1, gh, val_main_v17]
  simp only [blk0, blk1, blk2, blk3]
  exact two_halves (fun k => m ((c : Thread nD τ).loc main_arg4) (ix2 (row t (y 0)) k))
    fun k => m ((c : Thread nD τ).loc main_arg2) (ix2 (y 1) k)

/-- The gradient of the norm's input a point computes. -/
theorem point7 (h : Fine m c) (y : S512x1024.Idx) :
    k0_pay7 (F := Ideal) (dh m c t) (iblk m c 4 t) (iblk m c 5 t) (iblk m c 6 t) y = gx m c (ix2 (row t (y 0)) (y 1)) := by
  pointwise [k0_pay7, k0_pay5, k0_pay4, gx, val_main_v38, val_main_v36, val_main_v37, val_main_v35, val_main_v34, val_main_v33,
    val_main_v32, val_main_v31, val_main_v30, val_main_v29, val_main_v28, val_main_v27, val_main_v26, val_main_v25, val_main_v24,
    val_main_v22, val_main_v21, val_main_v13, val_main_v10, val_main_v9, val_main_v8, val_main_v7, val_main_v6, val_main_v5,
    val_main_v4, val_main_v3, val_main_v2, val_main_v1, val_main_v0, val_main_cst, val_main_cst_0, val_main_cst_1, val_main_cst_2,
    val_main_cst_5, val_main_cst_6, val_main_cst_7]
  simp only [blk4, blk5, blk6, dh_blk, Finset.univ_unique, Finset.sum_singleton]
  exact norm_grad (x := fun k => m ((c : Thread nD τ).loc main_arg0) (ix2 (row t (y 0)) k))
    (g := fun k => m ((c : Thread nD τ).loc main_arg1) (ix1 k)) (r := fun k => gh m c (ix2 (row t (y 0)) k))
    (fun k => h.1 _) (fun k => h.2.1 _) (fun k => gh_real m c h _ k) _ (y 1)

/-- What a point adds to the gain's gradient: its rows' share. -/
theorem point9 (acc : FVec Ideal S1x1024 .f32) (y : S1x1024.Idx) :
    k0_pay6 (F := Ideal) (dh m c t) (iblk m c 4 t) acc y = acc y + ∑ a : Fin 512, gain_term m c (row t a) (y 1) := by
  pointwise [k0_pay6, k0_pay5, k0_pay4]
  simp only [blk4, dh_blk]
  rfl

end Point

section Final
variable (c : Dev nD)

/-- The gradient of the norm's input after the run. -/
theorem final7 (hf : Fine m c) : (dats m 0 c).arrAt 7 (cfgs 0).N = gx m c := by
  refine (dats m 0 c).arrAt_eq_of_covers 7 _ (by decide +kernel) fun t _ y => ?_
  refine Eq.trans ?_ ((point7 m c t hf y).trans (congrArg _ (emb7 t y).symm))
  blk_simp
  rw [after0_7]
  by_cases h : t.val % 16 = 0
  · rw [outsAt0_A m c t h]; frame_out
  · rw [outsAt0_B m c t h]; frame_out

/-- … and its rounded copy. -/
theorem final8 (hf : Fine m c) : (dats m 0 c).arrAt 8 (cfgs 0).N = gx16 m c := by
  refine (dats m 0 c).arrAt_eq_of_covers 8 _ (by decide +kernel) fun t _ y => ?_
  refine Eq.trans ?_ ((point7 m c t hf y).trans (congrArg _ (emb8 t y).symm))
  blk_simp
  rw [after0_8]
  by_cases h : t.val % 16 = 0
  · rw [outsAt0_A m c t h]; frame_out; rfl
  · rw [outsAt0_B m c t h]; frame_out; rfl

/-- The gradient of the gain after the run: the points' shares are the rows'. -/
theorem final9 : (dats m 0 c).arrAt 9 (cfgs 0).N = gg m c := by
  refine (dats m 0 c).arrAt_eq_of_covers 9 _ (by decide +kernel) fun t hf y => ?_
  have ht : t.val + 1 = 16 := (by decide +kernel : ∀ t : Fin grid0.N, win0_9.flush t = true → t.val + 1 = 16) t hf
  rw [emb9, ref9]
  blk_simp
  rw [after0_9, Pipeline.eq_sum_fin_of_reset_step_apply_last (fun n h => (outsAt0 m c n h).2.2) 16 (fun _ => 0)
    (fun t y => ∑ a : Fin 512, gain_term m c (row t a) (y 1))
    (fun t h j => by rw [outsAt0_A m c t h]; frame_out; rw [point9]; exact congrArg (· + _) (by pointwise [k0_pay2]))
    (fun t h j => by rw [outsAt0_B m c t h]; frame_out; rw [point9])
    (le_of_eq rfl) t ht y, zero_add]
  exact Fin.sum_mul_add_fin 16 512 fun r => gain_term m c r (y 1)

end Final

end Cert.MmA

end
-- ==== Proof.MmB.lean ====
module

public import proofs.«01_k».proof.Defs
public import proofs.«01_k».proof.Proof.Gen.Kernel6Ideal.Frame
public import proofs.«01_k».proof.Proof.Gen.Reference6Ideal.Read
public import proofs.«01_k».proof.Proof.Gen.Reference6Ideal.Run
public import proofs.«01_k».proof.Proof.Gen.Pre_finite_b
public import proofs.«01_k».proof.Proof.Norm
public import Idealize.ShloMosaic.Lib.Pipeline.ValueKit

@[expose] public section

set_option maxRecDepth 16384

noncomputable section

namespace Cert.MmB

open Idealize.ShloMosaic Idealize.ShloMosaic.TcCoe Idealize.SL.Sem
open Idealize.ShloMosaic.Pipeline (Dat)
open Cert.Kernel6Ideal Cert.Kernel6Ideal.Gen Cert.Reals Cert.Reference6Ideal.Read

variable (m : (ℓ : Loc nD τ sig) → Buf (Elt Ideal) ℓ)

/-- Where every window's block sits at each grid point. -/
theorem idx : ∀ t : Fin cfg0.N, win0_0.index t = ![0, t.val, 0] ∧ win0_1.index t = ![0, 0]
    ∧ win0_2.index t = ![0, t.val, 0] ∧ win0_3.index t = ![0, 0] ∧ win0_4.index t = ![0, t.val, 0] ∧ win0_5.index t = ![0, 0]
    ∧ win0_6.index t = ![t.val, 0] ∧ win0_7.index t = ![0, 0] ∧ win0_8.index t = ![t.val, 0]
    ∧ win0_9.index t = ![t.val, 0] ∧ win0_10.index t = ![t.val, 0] ∧ win0_11.index t = ![0, 0] :=
  (by decide +kernel : ∀ t : Fin grid0.N, _)

/-- The row of the whole array that row `a` of a point's block is. -/
def row (t : Fin cfg0.N) (a : Fin 512) : Fin 8192 :=
  ⟨t.val * 512 + a.val, by have h : t.val < 16 := t.isLt; have := a.isLt; omega⟩

section Blocks
variable (c : Dev nD) (t : Fin cfg0.N)

/-- Column `n` of a gradient from its lane block and lane. -/
def col (n : Fin 3) (b : Fin 8) (l : Fin 128) : Fin 3072 := ⟨n.val * 1024 + (b.val * 128 + l.val), by have := n.isLt; have := b.isLt; have := l.isLt; omega⟩

theorem blk0 (y : S8x512x128.Idx) : iblk m c 0 t y = m ((c : Thread nD τ).loc main_arg4) (ix2 (row t (y 1)) (col 0 (y 0) (y 2))) := by
  blk_simp [iblk]
  entry_read
  pointwise
  blk_point [idx t, row, col]
theorem blk1 (y : S1024x1024.Idx) : iblk m c 1 t y
    = m ((c : Thread nD τ).loc main_arg2) (ix2 (y 1) ⟨(y 0).val, by have : (y 0).val < 1024 := (y 0).isLt; omega⟩) := by
  blk_simp [iblk]
  entry_read
  pointwise
  blk_point [idx t, row]
theorem blk2 (y : S8x512x128.Idx) : iblk m c 2 t y = m ((c : Thread nD τ).loc main_arg4) (ix2 (row t (y 1)) (col 1 (y 0) (y 2))) := by
  blk_simp [iblk]
  entry_read
  pointwise
  blk_point [idx t, row, col]
theorem blk3 (y : S1024x1024.Idx) : iblk m c 3 t y
    = m ((c : Thread nD τ).loc main_arg2) (ix2 (y 1) ⟨1024 + (y 0).val, by have : (y 0).val < 1024 := (y 0).isLt; omega⟩) := by
  blk_simp [iblk]
  entry_read
  pointwise
  blk_point [idx t, row]
theorem blk4 (y : S8x512x128.Idx) : iblk m c 4 t y = m ((c : Thread nD τ).loc main_arg4) (ix2 (row t (y 1)) (col 2 (y 0) (y 2))) := by
  blk_simp [iblk]
  entry_read
  pointwise
  blk_point [idx t, row, col]
theorem blk5 (y : S1024x1024.Idx) : iblk m c 5 t y
    = m ((c : Thread nD τ).loc main_arg2) (ix2 (y 1) ⟨2048 + (y 0).val, by have : (y 0).val < 1024 := (y 0).isLt; omega⟩) := by
  blk_simp [iblk]
  entry_read
  pointwise
  blk_point [idx t, row]
theorem blk6 (y : S512x1024.Idx) : iblk m c 6 t y = m ((c : Thread nD τ).loc main_arg0) (ix2 (row t (y 0)) (y 1)) := by
  blk_simp [iblk]
  entry_read
  blk_point [idx t, row]
theorem blk7 (y : S1x1024.Idx) : iblk m c 7 t y = m ((c : Thread nD τ).loc main_arg1) (ix1 (y 1)) := by
  blk_simp [iblk]
  entry_read
  pointwise
  blk_point [idx t, row]
theorem blk8 (y : S512x1024.Idx) : iblk m c 8 t y = m ((c : Thread nD τ).loc main_arg3) (ix2 (row t (y 0)) (y 1)) := by
  blk_simp [iblk]
  entry_read
  blk_point [idx t, row]
theorem emb9 (y : S512x1024.Idx) : ((cfg0.win 9).blk t).view.emb y = ix2 (row t (y 0)) (y 1) := by
  blk_point [idx t, row]
theorem emb10 (y : S512x1024.Idx) : ((cfg0.win 10).blk t).view.emb y = ix2 (row t (y 0)) (y 1) := by
  blk_point [idx t, row]
theorem emb11 (y : S1x1024.Idx) : ((cfg0.win 11).blk t).view.emb y = y := by
  blk_point [idx t, row]

end Blocks

section Lanes

/-- Lane block `q` of a block of a gradient. -/
abbrev part (b : Vec Ideal S8x512x128 .bf16) (q : Fin 8) : Vec Ideal S1x512x128 .bf16 :=
  View.ld (Val := Elt Ideal) (e' := .bf16) b (Rect.unit (s := S8x512x128) ![q.val, 0, 0] S1x512x128.size fun a => by
    have := q.isLt
    match a with
    | 0 => show q.val + 1 ≤ 8; omega
    | 1 => exact le_rfl
    | 2 => exact le_rfl)

theorem part_apply (b : Vec Ideal S8x512x128 .bf16) (q : Fin 8) (y : S512x128.Idx) :
    shapeCast S512x128 (part b q) shapeCasts_S1x512x128_S512x128 y = b (ix3 q (y 0) (y 1)) := by
  pointwise [part]

/-- Eight lane blocks side by side. -/
theorem cat8 (p : Fin 8 → FVec Ideal S512x128 .bf16) (h) (a : Fin 512) (q : Fin 8) (l : Fin 128) (j : S512x1024.Idx)
    (h0 : (j 0).val = a.val) (h1 : (j 1).val = q.val * 128 + l.val) :
    concatenate S512x1024 1 [⟨S512x128, p 0⟩, ⟨S512x128, p 1⟩, ⟨S512x128, p 2⟩, ⟨S512x128, p 3⟩, ⟨S512x128, p 4⟩, ⟨S512x128, p 5⟩,
      ⟨S512x128, p 6⟩, ⟨S512x128, p 7⟩] h j = p q (ix2 a l) := by
  have off : ∀ b : Fin 2, b.cast rfl ≠ (1 : Fin 2) → ((ix2 a l : S512x128.Idx) b).val = (j b).val := fun b hb => by
    match b with
    | 0 => exact h0.symm
    | 1 => exact absurd rfl hb
  refine concatenate_apply_piece (t := S512x1024) 1 _ h j q.val (by show q.val < 8; exact q.isLt) S512x128 (p q) ?_ rfl (q.val * 128) ?_ (ix2 a l) off h1.symm
  · match q with | 0 => rfl | 1 => rfl | 2 => rfl | 3 => rfl | 4 => rfl | 5 => rfl | 6 => rfl | 7 => rfl
  · match q with | 0 => rfl | 1 => rfl | 2 => rfl | 3 => rfl | 4 => rfl | 5 => rfl | 6 => rfl | 7 => rfl

theorem cat_part (b : Vec Ideal S8x512x128 .bf16) (h) (a : Fin 512) (k : Fin 1024) :
    concatenate S512x1024 1 [⟨S512x128, shapeCast S512x128 (part b 0) shapeCasts_S1x512x128_S512x128⟩,
      ⟨S512x128, shapeCast S512x128 (part b 1) shapeCasts_S1x512x128_S512x128⟩, ⟨S512x128, shapeCast S512x128 (part b 2) shapeCasts_S1x512x128_S512x128⟩,
      ⟨S512x128, shapeCast S512x128 (part b 3) shapeCasts_S1x512x128_S512x128⟩, ⟨S512x128, shapeCast S512x128 (part b 4) shapeCasts_S1x512x128_S512x128⟩,
      ⟨S512x128, shapeCast S512x128 (part b 5) shapeCasts_S1x512x128_S512x128⟩, ⟨S512x128, shapeCast S512x128 (part b 6) shapeCasts_S1x512x128_S512x128⟩,
      ⟨S512x128, shapeCast S512x128 (part b 7) shapeCasts_S1x512x128_S512x128⟩] h (ix2 a k : S512x1024.Idx)
      = b (ix3 ⟨k.val / 128, by have := k.isLt; omega⟩ a ⟨k.val % 128, by omega⟩) :=
  (cat8 (fun q => shapeCast S512x128 (part b q) shapeCasts_S1x512x128_S512x128) h a ⟨k.val / 128, by have := k.isLt; omega⟩ ⟨k.val % 128, by omega⟩ _
    rfl (by show k.val = k.val / 128 * 128 + k.val % 128; omega)).trans (part_apply b _ _)

/-- What one of the kernel's three products adds. -/
abbrev third (b : FVec Ideal S8x512x128 .bf16) (W : FVec Ideal S1024x1024 .bf16) (y : S512x1024.Idx) : EReal :=
  ∑ k : Fin 1024, b (ix3 ⟨k.val / 128, by have := k.isLt; omega⟩ (y 0) ⟨k.val % 128, by omega⟩) * W (ix2 k (y 1))

theorem pay1_eq (A : FVec Ideal S512x1024 .f32) (b : FVec Ideal S8x512x128 .bf16) (W : FVec Ideal S1024x1024 .bf16) (y : S512x1024.Idx) :
    k0_pay1 (F := Ideal) A (part b 0) (part b 1) (part b 2) (part b 3) (part b 4) (part b 5) (part b 6) (part b 7) W y = A y + third b W y := by
  dsimp only [k0_pay1]
  generalize hL : concatenate S512x1024 1 _ _ = L
  have e : ∀ k, L (ix2 (y 0) k) = b _ := fun k => hL ▸ cat_part b _ (y 0) k
  pointwise
  simp only [e]

/-- … and two of them. -/
theorem pay16_eq (A : FVec Ideal S512x1024 .f32) (b : FVec Ideal S8x512x128 .bf16) (W : FVec Ideal S1024x1024 .bf16)
    (b' : FVec Ideal S8x512x128 .bf16) (W' : FVec Ideal S1024x1024 .bf16) (y : S512x1024.Idx) :
    k0_pay16 (F := Ideal) A (k0_pay9 (part b 0)) (k0_pay10 (part b 1)) (k0_pay11 (part b 2)) (k0_pay12 (part b 3)) (k0_pay13 (part b 4))
      (k0_pay14 (part b 5)) (k0_pay15 (part b 6)) (part b 7) W (part b' 0) (part b' 1) (part b' 2) (part b' 3) (part b' 4) (part b' 5) (part b' 6)
      (part b' 7) W' y = A y + third b W y + third b' W' y := by
  refine (congrFun (?_ : _ = k0_pay1 (F := Ideal) (k0_pay1 (F := Ideal) A (part b 0) (part b 1) (part b 2) (part b 3) (part b 4) (part b 5) (part b 6)
    (part b 7) W) (part b' 0) (part b' 1) (part b' 2) (part b' 3) (part b' 4) (part b' 5) (part b' 6) (part b' 7) W') y).trans ?_
  · dsimp only [k0_pay16, k0_pay9, k0_pay10, k0_pay11, k0_pay12, k0_pay13, k0_pay14, k0_pay15, k0_pay1]
    simp only [shapeCast_self]
  · rw [pay1_eq, pay1_eq]

/-- The columns of a gradient, read lane block by lane block. -/
theorem three_thirds (f g : Fin 3072 → EReal) :
    (∑ k : Fin 1024, f (col 0 ⟨k.val / 128, by have := k.isLt; omega⟩ ⟨k.val % 128, by omega⟩) * g ⟨k.val, by have := k.isLt; omega⟩)
      + (∑ k : Fin 1024, f (col 1 ⟨k.val / 128, by have := k.isLt; omega⟩ ⟨k.val % 128, by omega⟩) * g ⟨1024 + k.val, by have := k.isLt; omega⟩)
      + (∑ k : Fin 1024, f (col 2 ⟨k.val / 128, by have := k.isLt; omega⟩ ⟨k.val % 128, by omega⟩) * g ⟨2048 + k.val, by have := k.isLt; omega⟩)
      = ∑ k, f k * g k := by
  have e : ∀ (n : Fin 3) (k : Fin 1024) (h : n.val * 1024 + k.val < 3072),
      col n ⟨k.val / 128, by have := k.isLt; omega⟩ ⟨k.val % 128, by omega⟩ = ⟨n.val * 1024 + k.val, h⟩ := fun n k h =>
    Fin.ext (by show n.val * 1024 + (k.val / 128 * 128 + k.val % 128) = n.val * 1024 + k.val; omega)
  rw [← Fin.sum_mul_add_fin 3 1024 fun k => f k * g k, Fin.sum_univ_three]
  refine congrArg₂ _ (congrArg₂ _ (Finset.sum_congr rfl fun k _ => ?_) (Finset.sum_congr rfl fun k _ => ?_)) (Finset.sum_congr rfl fun k _ => ?_)
  · rw [e 0 k (by have := k.isLt; show 0 * 1024 + _ < _; omega)]
    exact congrArg₂ _ rfl (congrArg g (Fin.ext (by show k.val = 0 * 1024 + k.val; omega)))
  · rw [e 1 k (by have := k.isLt; show 1 * 1024 + _ < _; omega)]
    exact congrArg₂ _ rfl (congrArg g (Fin.ext (by show 1024 + k.val = 1 * 1024 + k.val; omega)))
  · rw [e 2 k (by have := k.isLt; show 2 * 1024 + _ < _; omega)]
    exact congrArg₂ _ rfl (congrArg g (Fin.ext (by show 2048 + k.val = 2 * 1024 + k.val; omega)))

end Lanes

section Reference
variable (c : Dev nD)

/-- What is read of the arguments: all are real numbers but the incoming gradient of the norm's input. -/
def Fine : Prop := (∀ i, IsR (m ((c : Thread nD τ).loc main_arg0) i)) ∧ (∀ i, IsR (m ((c : Thread nD τ).loc main_arg1) i))
  ∧ (∀ i, IsR (m ((c : Thread nD τ).loc main_arg2) i)) ∧ ∀ i, IsR (m ((c : Thread nD τ).loc main_arg4) i)

theorem of_pre (h : Cert.Pre_Kernel6Ideal_finite_b m) : Fine m c := by
  have e := congrFun (h c) (Shape.Idx.first (by decide))
  dsimp only [Cert.Pre_finite_b.fn] at e
  obtain ⟨e, e4⟩ := IntOp.andi_eq_one.1 e
  obtain ⟨e, e2⟩ := IntOp.andi_eq_one.1 e
  obtain ⟨e0, e1⟩ := IntOp.andi_eq_one.1 e
  exact ⟨fun i => isR_of_between (Host.reduce_andi_all _ _ _ _ _ e0 i), fun i => isR_of_between (Host.reduce_andi_all _ _ _ _ _ e1 i),
    fun i => isR_of_between (Host.reduce_andi_all _ _ _ _ _ e2 i), fun i => isR_of_between (Host.reduce_andi_all _ _ _ _ _ e4 i)⟩

/-- The reference's gradient of the normed rows. -/
abbrev gh := val_main_v17 (F := Ideal) (m ((c : Thread nD τ).loc main_arg2)) (m ((c : Thread nD τ).loc main_arg4))
/-- The reference's results. -/
abbrev gx := val_main_v38 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
abbrev gx16 := val_main_v39 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
abbrev gg := val_main_v40 (F := Ideal) (m ((c : Thread nD τ).loc main_arg0)) (m ((c : Thread nD τ).loc main_arg2))
  (m ((c : Thread nD τ).loc main_arg4))

theorem gh_real (h : Fine m c) (r : Fin 8192) (k : Fin 1024) : IsR (gh m c (ix2 r k)) := by
  pointwise [gh, val_main_v17]
  exact IsR.sum_univ fun k => (h.2.2.2 _).mul (h.2.2.1 _)

/-- Row `r`'s share of the gain's gradient. -/
def gain_term (r : Fin 8192) (j : Fin 1024) : EReal :=
  gain_share (fun k => m ((c : Thread nD τ).loc main_arg0) (ix2 r k)) (gh m c (ix2 r j)) j

/-- The reference's gradient of the gain is the sum of the rows' shares. -/
theorem ref11 (y : S1x1024.Idx) : gg m c y = ∑ r : Fin 8192, gain_term m c r (y 1) := by
  pointwise [gg, val_main_v40, val_main_v23, val_main_v20, val_main_v19, val_main_v18, val_main_v12, val_main_v11, val_main_v7,
    val_main_v6, val_main_v5, val_main_v4, val_main_v3, val_main_v2, val_main_v1, val_main_v0, val_main_cst, val_main_cst_0,
    val_main_cst_1, val_main_cst_3, val_main_cst_4]
  simp only [Finset.univ_unique, Finset.sum_singleton]
  exact Finset.sum_congr rfl fun r _ => mul_comm _ _

end Reference

section Point
variable (c : Dev nD) (t : Fin cfg0.N)

/-- The gradient of the normed rows a point computes: three products, of three lane-blocked pieces of the gradient. -/
abbrev dh := k0_pay1 (F := Ideal) (k0_pay16 (F := Ideal) (k0_pay7 (F := Ideal)) (k0_pay9 (part (iblk m c 0 t) 0)) (k0_pay10 (part (iblk m c 0 t) 1))
  (k0_pay11 (part (iblk m c 0 t) 2)) (k0_pay12 (part (iblk m c 0 t) 3)) (k0_pay13 (part (iblk m c 0 t) 4)) (k0_pay14 (part (iblk m c 0 t) 5))
  (k0_pay15 (part (iblk m c 0 t) 6)) (part (iblk m c 0 t) 7) (iblk m c 1 t) (part (iblk m c 2 t) 0) (part (iblk m c 2 t) 1) (part (iblk m c 2 t) 2)
  (part (iblk m c 2 t) 3) (part (iblk m c 2 t) 4) (part (iblk m c 2 t) 5) (part (iblk m c 2 t) 6) (part (iblk m c 2 t) 7) (iblk m c 3 t))
  (part (iblk m c 4 t) 0) (part (iblk m c 4 t) 1) (part (iblk m c 4 t) 2) (part (iblk m c 4 t) 3) (part (iblk m c 4 t) 4) (part (iblk m c 4 t) 5)
  (part (iblk m c 4 t) 6) (part (iblk m c 4 t) 7) (iblk m c 5 t)

/-- … the three thirds of the reference's product. -/
theorem dh_blk (y : S512x1024.Idx) : dh m c t y = gh m c (ix2 (row t (y 0)) (y 1)) := by
  delta dh
  rw [pay1_eq, pay16_eq]
  simp only [third, blk0, blk1, blk2, blk3, blk4, blk5]
  pointwise [k0_pay7, gh, val_main_v17]
  exact three_thirds (fun k => m ((c : Thread nD τ).loc main_arg4) (ix2 (row t (y 0)) k))
    fun k => m ((c : Thread nD τ).loc main_arg2) (ix2 (y 1) k)

/-- The gradient of the norm's input a point computes. -/
theorem point9 (h : Fine m c) (y : S512x1024.Idx) :
    k0_pay5 (F := Ideal) (dh m c t) (iblk m c 6 t) (iblk m c 7 t) (iblk m c 8 t) y = gx m c (ix2 (row t (y 0)) (y 1)) := by
  pointwise [k0_pay5, k0_pay3, k0_pay2, gx, val_main_v38, val_main_v36, val_main_v37, val_main_v35, val_main_v34, val_main_v33,
    val_main_v32, val_main_v31, val_main_v30, val_main_v29, val_main_v28, val_main_v27, val_main_v26, val_main_v25, val_main_v24,
    val_main_v22, val_main_v21, val_main_v13, val_main_v10, val_main_v9, val_main_v8, val_main_v7, val_main_v6, val_main_v5,
    val_main_v4, val_main_v3, val_main_v2, val_main_v1, val_main_v0, val_main_cst, val_main_cst_0, val_main_cst_1, val_main_cst_2,
    val_main_cst_5, val_main_cst_6, val_main_cst_7]
  simp only [blk6, blk7, blk8, dh_blk, Finset.univ_unique, Finset.sum_singleton]
  exact norm_grad (x := fun k => m ((c : Thread nD τ).loc main_arg0) (ix2 (row t (y 0)) k))
    (g := fun k => m ((c : Thread nD τ).loc main_arg1) (ix1 k)) (r := fun k => gh m c (ix2 (row t (y 0)) k))
    (fun k => h.1 _) (fun k => h.2.1 _) (fun k => gh_real m c h _ k) _ (y 1)

/-- What a point adds to the gain's gradient: its rows' share. -/
theorem point11 (acc : FVec Ideal S1x1024 .f32) (y : S1x1024.Idx) :
    k0_pay4 (F := Ideal) (dh m c t) (iblk m c 6 t) acc y = acc y + ∑ a : Fin 512, gain_term m c (row t a) (y 1) := by
  pointwise [k0_pay4, k0_pay3, k0_pay2]
  simp only [blk6, dh_blk]
  rfl

end Point

section Final
variable (c : Dev nD)

/-- The gradient of the norm's input after the run. -/
theorem final9 (hf : Fine m c) : (dats m 0 c).arrAt 9 (cfgs 0).N = gx m c := by
  refine (dats m 0 c).arrAt_eq_of_covers 9 _ (by decide +kernel) fun t _ y => ?_
  refine Eq.trans ?_ ((point9 m c t hf y).trans (congrArg _ (emb9 t y).symm))
  blk_simp
  rw [after0_9]
  by_cases h : t.val % 16 = 0
  · rw [outsAt0_A m c t h]; frame_out; rfl
  · rw [outsAt0_B m c t h]; frame_out; rfl

/-- … and its rounded copy. -/
theorem final10 (hf : Fine m c) : (dats m 0 c).arrAt 10 (cfgs 0).N = gx16 m c := by
  refine (dats m 0 c).arrAt_eq_of_covers 10 _ (by decide +kernel) fun t _ y => ?_
  refine Eq.trans ?_ ((point9 m c t hf y).trans (congrArg _ (emb10 t y).symm))
  blk_simp
  rw [after0_10]
  by_cases h : t.val % 16 = 0
  · rw [outsAt0_A m c t h]; frame_out; rfl
  · rw [outsAt0_B m c t h]; frame_out; rfl

/-- The gradient of the gain after the run: the points' shares are the rows'. -/
theorem final11 : (dats m 0 c).arrAt 11 (cfgs 0).N = gg m c := by
  refine (dats m 0 c).arrAt_eq_of_covers 11 _ (by decide +kernel) fun t hf y => ?_
  have ht : t.val + 1 = 16 := (by decide +kernel : ∀ t : Fin grid0.N, win0_11.flush t = true → t.val + 1 = 16) t hf
  rw [emb11, ref11]
  blk_simp
  rw [after0_11, Pipeline.eq_sum_fin_of_reset_step_apply_last (fun n h => (outsAt0 m c n h).2.2) 16 (fun _ => 0)
    (fun t y => ∑ a : Fin 512, gain_term m c (row t a) (y 1))
    (fun t h j => by rw [outsAt0_A m c t h]; frame_out; exact (point11 m c t _ j).trans (congrArg (· + _) (by pointwise [k0_pay8])))
    (fun t h j => by rw [outsAt0_B m c t h]; frame_out; exact point11 m c t _ j)
    (le_of_eq rfl) t ht y, zero_add]
  exact Fin.sum_mul_add_fin 16 512 fun r => gain_term m c r (y 1)

end Final

end Cert.MmB

end
-- ==== Proof.LossHead.lean ====
module

public import proofs.«01_k».proof.Defs
public import proofs.«01_k».proof.Proof.Gen.Kernel7Ideal.Frame
public import proofs.«01_k».proof.Proof.Gen.Reference7Ideal.Read
public import proofs.«01_k».proof.Proof.Gen.Reference7Ideal.Run
public import proofs.«01_k».proof.Proof.Gen.Pre_finite_loss
public import proofs.«01_k».proof.Proof.Norm
public import Idealize.ShloMosaic.Lib.Pipeline.ValueKit

@[expose] public section

set_option maxRecDepth 16384

noncomputable section

namespace Cert.LossHead

open Idealize.ShloMosaic Idealize.ShloMosaic.TcCoe Idealize.SL.Sem
open Idealize.ShloMosaic.Pipeline (Dat)
open Cert.Kernel7Ideal Cert.Kernel7Ideal.Gen Cert.Reals Cert.Reference7Ideal.Read

variable (m : (ℓ : Loc nD τ sig) → Buf (Elt Ideal) ℓ)

/-- Where every window's block sits at each grid point. -/
theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0]
    ∧ win0_6.index t = ![t.val, 0] ∧ win0_7.index t = ![0, 0] ∧ win0_8.index t = ![0, 0] :=
  (by decide +kernel : ∀ t : Fin grid0.N, _)

/-- The row of the whole array that row `a` of a point's block is. -/
def row (t : Fin cfg0.N) (a : Fin 512) : Fin 8192 :=
  ⟨t.val * 512 + a.val, by have h : t.val < 16 := t.isLt; have := a.isLt; omega⟩

section Blocks
variable (c : Dev nD) (t : Fin cfg0.N)

theorem blk0 (y : S512x2816.Idx) : iblk m c 0 t y = m ((c : Thread nD τ).loc main_arg1) (ix2 (row t (y 0)) (y 1)) := by
  blk_simp [iblk]
  entry_read
  pointwise
  blk_point [idx t, row]
theorem blk1 (y : S2816x1024.Idx) : iblk m c 1 t y = m ((c : Thread nD τ).loc main_arg2) (ix2 (y 0) (y 1)) := by
  blk_simp [iblk]
  entry_read
  pointwise
  blk_point [idx t, row]
theorem blk2 (y : S512x1024.Idx) : iblk m c 2 t y = m ((c : Thread nD τ).loc main_arg0) (ix2 (row t (y 0)) (y 1)) := by
  blk_simp [iblk]
  entry_read
  blk_point [idx t, row]
theorem blk3 (y : S1x1024.Idx) : iblk m c 3 t y = m ((c : Thread nD τ).loc main_arg3) (ix1 (y 1)) := by
  blk_simp [iblk]
  entry_read
  pointwise
  blk_point [idx t, row]
theorem blk4 (y : S512x1024.Idx) : iblk m c 4 t y = m ((c : Thread nD τ).loc main_arg4) (ix2 (row t (y 0)) (y 1)) := by
  blk_simp [iblk]
  entry_read
  blk_point [idx t, row]
theorem emb5 (y : S512x1024.Idx) : ((cfg0.win 5).blk t).view.emb y = ix2 (row t (y 0)) (y 1) := by
  blk_point [idx t, row]
theorem emb6 (y : S512x1024.Idx) : ((cfg0.win 6).blk t).view.emb y = ix2 (row t (y 0)) (y 1) := by
  blk_point [idx t, row]
theorem emb7 (y : S1x1024.Idx) : ((cfg0.win 7).blk t).view.emb y = y := by
  blk_point [idx t, row]
theorem emb8 (y : S1x128.Idx) : ((cfg0.win 8).blk t).view.emb y = y := by
  blk_point [idx t, row]

end Blocks

section Words

theorem word_half : Ideal.ofBits .f32 0x3F000000#32 = ((1 / 2 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_mean : Ideal.ofBits .f32 0x3A800000#32 = ((1 / 1024 : ℝ) : EReal) := by
  simp [Ideal.ofBits, Ideal.ieee, -EReal.coe_mul]; norm_num

/-- The factor the reference's derivative of a squared error carries is the kernel's one factor. -/
theorem mean_scale (e : EReal) : Ideal.div (Ideal.ofBits .f32 0x3F000000#32) (Ideal.ofBits .f32 0x44800000#32)
    * (Ideal.ofBits .f32 0x40000000#32 * e) = e * Ideal.ofBits .f32 0x3A800000#32 := by
  rw [word_half, word_1024, word_two, word_mean, Ideal.div_coe (by norm_num), ← mul_assoc, mul_comm e]
  simp only [← EReal.coe_mul]
  congr 2
  norm_num

/-- Half the sum of the rows' losses, point by point. -/
theorem half_sum {L : Fin 8192 → EReal} (hL : ∀ r, IsR (L r)) :
    ∑ s : Fin 16, Ideal.ofBits .f32 0x3F000000#32 * ∑ a : Fin 512, L ⟨s.val * 512 + a.val, by have := s.isLt; have := a.isLt; omega⟩
      = Ideal.ofBits .f32 0x3F000000#32 * ∑ r, L r := by
  rw [← Fin.sum_mul_add_fin 16 512 L]
  choose R hR using hL
  simp only [hR, word_half, sum_coe, ← EReal.coe_mul]
  rw [Finset.mul_sum]

end Words

/-- A normed row's entry less its target. -/
noncomputable def err_of (x : Fin 1024 → EReal) (g d : EReal) (j : Fin 1024) : EReal := x j * Ideal.rsqrt (msq x) * g - d

theorem err_of_real {x : Fin 1024 → EReal} {g d : EReal} (hx : ∀ k, IsR (x k)) (hg : IsR g) (hd : IsR d) (j : Fin 1024) : IsR (err_of x g d j) := by
  obtain ⟨v, hv, ev⟩ := msq_pos hx
  rw [err_of, ev, rsqrt_pos hv]
  exact (((hx j).mul ⟨_, rfl⟩).mul hg).sub hd

section Reference
variable (c : Dev nD)

/-- What is read of the arguments: all are real numbers. -/
def Fine : Prop := (∀ i, IsR (m ((c : Thread nD τ).loc main_arg0) i)) ∧ (∀ i, IsR (m ((c : Thread nD τ).loc main_arg1) i))
  ∧ (∀ i, IsR (m ((c : Thread nD τ).loc main_arg2) i)) ∧ (∀ i, IsR (m ((c : Thread nD τ).loc main_arg3) i))
  ∧ ∀ i, IsR (m ((c : Thread nD τ).loc main_arg4) i)

theorem of_pre (h : Cert.Pre_Kernel7Ideal_finite_loss m) : Fine m c := by
  have e := congrFun (h c) (Shape.Idx.first (by decide))
  dsimp only [Cert.Pre_finite_loss.fn] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => isR_of_between (Host.reduce_andi_all _ _ _ _ _ e0 i), fun i => isR_of_between (Host.reduce_andi_all _ _ _ _ _ e1 i),
    fun i => isR_of_between (Host.reduce_andi_all _ _ _ _ _ e2 i), fun i => isR_of_between (Host.reduce_andi_all _ _ _ _ _ e3 i),
    fun i => isR_of_between (Host.reduce_andi_all _ _ _ _ _ e4 i)⟩

/-- The reference's last activations, and its gradient of the normed rows. -/
abbrev xw := val_main_v1 (F := Ideal) (m ((c : Thread nD τ).loc main_arg0)) (m ((c : Thread nD τ).loc main_arg1))
  (m ((c : Thread nD τ).loc main_arg2))
abbrev dy := val_main_v32 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
/-- The reference's results. -/
abbrev gx := val_main_v52 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
abbrev gx16 := val_main_v53 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
abbrev gg := val_main_v54 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
abbrev ls := val_main_v55 (F := Ideal) (m ((c : Thread nD τ).loc main_arg0)) (m ((c : Thread nD τ).loc main_arg1))
  (m ((c : Thread nD τ).loc main_arg2)) (m ((c : Thread nD τ).loc main_arg3)) (m ((c : Thread nD τ).loc main_arg4))

theorem xw_real (h : Fine m c) (r : Fin 8192) (k : Fin 1024) : IsR (xw m c (ix2 r k)) := by
  pointwise [xw, val_main_v1, val_main_v0]
  exact (h.1 _).add (IsR.sum_univ fun k => (h.2.1 _).mul (h.2.2.1 _))

/-- The difference of a predicted entry and its target. -/
def err (r : Fin 8192) (k : Fin 1024) : EReal :=
  err_of (fun k => xw m c (ix2 r k)) (m ((c : Thread nD τ).loc main_arg3) (ix1 k)) (m ((c : Thread nD τ).loc main_arg4) (ix2 r k)) k

/-- A row's mean squared error. -/
def row_loss (r : Fin 8192) : EReal := Ideal.div (∑ k, err m c r k * err m c r k) (Ideal.ofBits .f32 0x44800000#32)

theorem err_real (h : Fine m c) (r : Fin 8192) (k : Fin 1024) : IsR (err m c r k) :=
  err_of_real (fun k => xw_real m c h r k) (h.2.2.2.1 _) (h.2.2.2.2 _) k

theorem row_loss_real (h : Fine m c) (r : Fin 8192) : IsR (row_loss m c r) := by
  obtain ⟨v, hv⟩ := IsR.sum_univ fun k => (err_real m c h r k).mul (err_real m c h r k)
  exact ⟨v * (1 / 1024), by rw [row_loss, hv, word_1024, Ideal.div_coe (by norm_num), ← EReal.coe_mul]⟩

theorem dy_eq (r : Fin 8192) (k : Fin 1024) : dy m c (ix2 r k) = err m c r k * Ideal.ofBits .f32 0x3A800000#32 := by
  pointwise [dy, val_main_v32, val_main_v31, val_main_v30, val_main_v29, val_main_v28, val_main_v27, val_main_v21, val_main_v20, val_main_v18,
    val_main_v17, val_main_v16, val_main_v15, val_main_v14, val_main_v13, val_main_v9, val_main_v8, val_main_v7, val_main_v6, val_main_v5,
    val_main_v4, val_main_v3, val_main_v2, val_main_cst, val_main_cst_0, val_main_cst_1, val_main_cst_3, val_main_cst_8, val_main_cst_9,
    val_main_cst_10]
  exact mean_scale _

theorem dy_real (h : Fine m c) (r : Fin 8192) (k : Fin 1024) : IsR (dy m c (ix2 r k)) := by
  rw [dy_eq, word_mean]
  exact (err_real m c h r k).mul ⟨_, rfl⟩

/-- Row `r`'s share of the gain's gradient. -/
def gain_term (r : Fin 8192) (j : Fin 1024) : EReal := gain_share (fun k => xw m c (ix2 r k)) (dy m c (ix2 r j)) j

/-- The reference's gradient of the gain is the sum of the rows' shares. -/
theorem ref7 (y : S1x1024.Idx) : gg m c y = ∑ r : Fin 8192, gain_term m c r (y 1) := by
  pointwise [gg, val_main_v54, val_main_v38, val_main_v35, val_main_v34, val_main_v33, val_main_v14, val_main_v13, val_main_v9, val_main_v8,
    val_main_v7, val_main_v6, val_main_v5, val_main_v4, val_main_v3, val_main_v2, val_main_cst, val_main_cst_0, val_main_cst_1,
    val_main_cst_11, val_main_cst_12]
  simp only [Finset.univ_unique, Finset.sum_singleton]
  exact Finset.sum_congr rfl fun r _ => mul_comm _ _

/-- The reference's loss is half the sum of the rows'. -/
theorem ref8 (y : S1x128.Idx) : ls m c y = Ideal.ofBits .f32 0x3F000000#32 * ∑ r : Fin 8192, row_loss m c r := by
  pointwise [ls, val_main_v55, val_main_v26, val_main_v25, val_main_v24, val_main_v23, val_main_v22, val_main_v19, val_main_v18,
    val_main_v17, val_main_v16, val_main_v15, val_main_v14, val_main_v13, val_main_v9, val_main_v8, val_main_v7, val_main_v6, val_main_v5,
    val_main_v4, val_main_v3, val_main_v2, val_main_cst, val_main_cst_0, val_main_cst_1, val_main_cst_4, val_main_cst_5, val_main_cst_6,
    val_main_cst_7]
  rfl

end Reference

section Point
variable (c : Dev nD) (t : Fin cfg0.N)

/-- The last down-projection's product a point computes. -/
abbrev prod := k0_pay4 (F := Ideal) (k0_pay1 (F := Ideal)) (iblk m c 0 t) (iblk m c 1 t)

theorem xw_blk (y : S512x1024.Idx) : k0_pay8 (F := Ideal) (prod m c t) (iblk m c 2 t) y = xw m c (ix2 (row t (y 0)) (y 1)) := by
  pointwise [k0_pay8, prod, k0_pay4, k0_pay1, xw, val_main_v1, val_main_v0]
  simp only [blk0, blk1, blk2]
  exact add_comm _ _

theorem err_blk (y : S512x1024.Idx) : k0_pay12 (F := Ideal) (prod m c t) (iblk m c 2 t) (iblk m c 3 t) (iblk m c 4 t) y
    = err m c (row t (y 0)) (y 1) := by
  pointwise [k0_pay12, k0_pay11, k0_pay10, k0_pay9]
  simp only [xw_blk, blk3, blk4]
  rfl

/-- The gradient of the normed rows a point computes. -/
abbrev dyk := k0_pay14 (F := Ideal) (prod m c t) (iblk m c 2 t) (iblk m c 3 t) (iblk m c 4 t)

theorem dy_blk (y : S512x1024.Idx) : dyk m c t y = dy m c (ix2 (row t (y 0)) (y 1)) := by
  pointwise [dyk, k0_pay14]
  rw [err_blk]
  exact (dy_eq m c _ _).symm

/-- The gradient of the last activations a point computes. -/
theorem point5 (h : Fine m c) (y : S512x1024.Idx) :
    k0_pay6 (F := Ideal) (k0_pay10 (F := Ideal) (prod m c t) (iblk m c 2 t)) (k0_pay11 (F := Ideal) (prod m c t) (iblk m c 2 t))
      (k0_pay15 (F := Ideal) (prod m c t) (iblk m c 2 t) (iblk m c 3 t) (iblk m c 4 t)) y = gx m c (ix2 (row t (y 0)) (y 1)) := by
  pointwise [k0_pay6, k0_pay15, k0_pay11, k0_pay10, k0_pay9, gx, val_main_v52, val_main_v51, val_main_v50, val_main_v49, val_main_v48,
    val_main_v47, val_main_v46, val_main_v45, val_main_v44, val_main_v43, val_main_v42, val_main_v41, val_main_v40, val_main_v39,
    val_main_v37, val_main_v36, val_main_v15, val_main_v12, val_main_v11, val_main_v10, val_main_v9, val_main_v8, val_main_v7, val_main_v6,
    val_main_v5, val_main_v4, val_main_v3, val_main_v2, val_main_cst, val_main_cst_0, val_main_cst_1, val_main_cst_2, val_main_cst_13,
    val_main_cst_14, val_main_cst_15]
  simp only [xw_blk, blk3, dy_blk, Finset.univ_unique, Finset.sum_singleton]
  have e := norm_grad (x := fun k => xw m c (ix2 (row t (y 0)) k))
    (g := fun k => m ((c : Thread nD τ).loc main_arg3) (ix1 k)) (r := fun k => dy m c (ix2 (row t (y 0)) k))
    (fun k => xw_real m c h _ k) (fun k => h.2.2.2.1 _) (fun k => dy_real m c h _ k) 0 (y 1)
  simp only [zero_add] at e
  exact e

/-- What a point adds to the gain's gradient: its rows' share. -/
theorem point7 (acc : FVec Ideal S1x1024 .f32) (y : S1x1024.Idx) :
    k0_pay5 (F := Ideal) (k0_pay11 (F := Ideal) (prod m c t) (iblk m c 2 t)) (dyk m c t) acc y
      = acc y + ∑ a : Fin 512, gain_term m c (row t a) (y 1) := by
  pointwise [k0_pay5, k0_pay11, k0_pay10]
  simp only [xw_blk, dy_blk]
  rfl

/-- What a point adds to the loss: half the sum of its rows'. -/
theorem point8 (acc : FVec Ideal S1x128 .f32) (y : S1x128.Idx) :
    k0_pay13 (F := Ideal) (prod m c t) (iblk m c 2 t) (iblk m c 3 t) (iblk m c 4 t) acc y
      = acc y + Ideal.ofBits .f32 0x3F000000#32 * ∑ a : Fin 512, row_loss m c (row t a) := by
  pointwise [k0_pay13]
  simp only [err_blk]
  rfl

end Point

section Final
variable (c : Dev nD)

/-- The gradient of the last activations after the run. -/
theorem final5 (hf : Fine m c) : (dats m 0 c).arrAt 5 (cfgs 0).N = gx m c := by
  refine (dats m 0 c).arrAt_eq_of_covers 5 _ (by decide +kernel) fun t _ y => ?_
  refine Eq.trans ?_ ((point5 m c t hf y).trans (congrArg _ (emb5 t y).symm))
  blk_simp
  rw [after0_5]
  by_cases h : t.val % 16 = 0
  · rw [outsAt0_A m c t h]; frame_out
  · rw [outsAt0_B m c t h]; frame_out

/-- … and its rounded copy. -/
theorem final6 (hf : Fine m c) : (dats m 0 c).arrAt 6 (cfgs 0).N = gx16 m c := by
  refine (dats m 0 c).arrAt_eq_of_covers 6 _ (by decide +kernel) fun t _ y => ?_
  refine Eq.trans ?_ ((point5 m c t hf y).trans (congrArg _ (emb6 t y).symm))
  blk_simp
  rw [after0_6]
  by_cases h : t.val % 16 = 0
  · rw [outsAt0_A m c t h]; frame_out; rfl
  · rw [outsAt0_B m c t h]; frame_out; rfl

/-- The gradient of the gain after the run: the points' shares are the rows'. -/
theorem final7 : (dats m 0 c).arrAt 7 (cfgs 0).N = gg m c := by
  refine (dats m 0 c).arrAt_eq_of_covers 7 _ (by decide +kernel) fun t hf y => ?_
  have ht : t.val + 1 = 16 := (by decide +kernel : ∀ t : Fin grid0.N, win0_7.flush t = true → t.val + 1 = 16) t hf
  rw [emb7, ref7]
  blk_simp
  rw [after0_7, Pipeline.eq_sum_fin_of_reset_step_apply_last (fun n h => (outsAt0 m c n h).2.2.1) 16 (fun _ => 0)
    (fun t y => ∑ a : Fin 512, gain_term m c (row t a) (y 1))
    (fun t h j => by rw [outsAt0_A m c t h]; frame_out; rw [point7]; exact congrArg (· + _) (by pointwise [k0_pay2]))
    (fun t h j => by rw [outsAt0_B m c t h]; frame_out; rw [point7])
    (le_of_eq rfl) t ht y, zero_add]
  exact Fin.sum_mul_add_fin 16 512 fun r => gain_term m c r (y 1)

/-- The loss after the run: half the sum of the rows', added up point by point. -/
theorem final8 (hf : Fine m c) : (dats m 0 c).arrAt 8 (cfgs 0).N = ls m c := by
  refine (dats m 0 c).arrAt_eq_of_covers 8 _ (by decide +kernel) fun t hx y => ?_
  have ht : t.val + 1 = 16 := (by decide +kernel : ∀ t : Fin grid0.N, win0_8.flush t = true → t.val + 1 = 16) t hx
  rw [emb8, ref8]
  blk_simp
  rw [after0_8, Pipeline.eq_sum_fin_of_reset_step_apply_last (fun n h => (outsAt0 m c n h).2.2.2) 16 (fun _ => 0)
    (fun t _ => Ideal.ofBits .f32 0x3F000000#32 * ∑ a : Fin 512, row_loss m c (row t a))
    (fun t h j => by rw [outsAt0_A m c t h]; frame_out; rw [point8]; exact congrArg (· + _) (by pointwise [k0_pay3]))
    (fun t h j => by rw [outsAt0_B m c t h]; frame_out; rw [point8])
    (le_of_eq rfl) t ht y, zero_add]
  exact half_sum (row_loss_real m c hf)

end Final

end Cert.LossHead

end
-- ==== Proof.FfnUp.lean ====
module

public import proofs.«01_k».proof.Defs
public import proofs.«01_k».proof.Proof.Gen.Kernel8Ideal.Frame
public import proofs.«01_k».proof.Proof.Gen.Reference8Ideal.Read
public import proofs.«01_k».proof.Proof.Gen.Reference8Ideal.Run
public import proofs.«01_k».proof.Proof.Norm
public import Idealize.ShloMosaic.Lib.Pipeline.ValueKit

@[expose] public section

set_option maxRecDepth 16384

noncomputable section

namespace Cert.FfnUp

open Idealize.ShloMosaic Idealize.ShloMosaic.TcCoe Idealize.SL.Sem
open Idealize.ShloMosaic.Pipeline (Dat)
open Cert.Kernel8Ideal Cert.Kernel8Ideal.Gen Cert.Reals Cert.Reference8Ideal.Read

variable (m : (ℓ : Loc nD τ sig) → Buf (Elt Ideal) ℓ) (c : Dev nD)

/-- Where every window's block sits at each grid point. -/
theorem idx : ∀ t : Fin cfg0.N, win0_0.index t = ![t.val % 16, 0] ∧ win0_1.index t = ![0, t.val / 16]
    ∧ win0_2.index t = ![0, t.val / 16] ∧ win0_3.index t = ![t.val % 16, t.val / 16]
    ∧ win0_4.index t = ![t.val % 16, t.val / 16] ∧ win0_5.index t = ![t.val % 16, t.val / 16] ∧ t.val / 16 < 2 :=
  (by decide +kernel : ∀ t : Fin grid0.N, _)

/-- The gate projection: what the body stores at an index of its block is the reference's entry there. -/
theorem point3 (t : Fin cfg0.N) (y) : k0_pay2 (F := Ideal) (iblk m c 0 t) (iblk m c 1 t) y
    = val_main_v0 (F := Ideal) (m ((c : Thread nD τ).loc main_arg0)) (m ((c : Thread nD τ).loc main_arg1)) (((cfg0.win 3).blk t).view.emb y) := by
  pointwise [k0_pay2, k0_pay1, val_main_v0]
  blk_point [iblk, idx t]

/-- The up projection. -/
theorem point4 (t : Fin cfg0.N) (y) : k0_pay3 (F := Ideal) (iblk m c 0 t) (iblk m c 2 t) y
    = val_main_v1 (F := Ideal) (m ((c : Thread nD τ).loc main_arg0)) (m ((c : Thread nD τ).loc main_arg2)) (((cfg0.win 3).blk t).view.emb y) := by
  pointwise [k0_pay3, k0_pay1, val_main_v1]
  blk_point [iblk, idx t]

/-- The entry of the whole array that entry `y` of a point's block is. -/
def at_ (t : Fin cfg0.N) (y : S512x1408.Idx) : S8192x2816.Idx :=
  ix2 ⟨t.val % 16 * 512 + (y 0).val, by have : (y 0).val < 512 := (y 0).isLt; omega⟩
    ⟨t.val / 16 * 1408 + (y 1).val, by have : (y 1).val < 1408 := (y 1).isLt; have : t.val < 32 := t.isLt; omega⟩
theorem emb3 (t : Fin cfg0.N) (y : S512x1408.Idx) : ((cfg0.win 3).blk t).view.emb y = at_ t y := by
  blk_point [idx t, at_]
theorem emb4 (t : Fin cfg0.N) (y : S512x1408.Idx) : ((cfg0.win 4).blk t).view.emb y = ((cfg0.win 3).blk t).view.emb y := by
  rw [emb3]
  blk_point [idx t, at_]
theorem emb5 (t : Fin cfg0.N) (y : S512x1408.Idx) : ((cfg0.win 5).blk t).view.emb y = ((cfg0.win 3).blk t).view.emb y := by
  rw [emb3]
  blk_point [idx t, at_]

/-- The activation: the gate's logistic function is written out in the kernel. -/
theorem point5 (t : Fin cfg0.N) (y) : k0_pay4 (F := Ideal) (iblk m c 0 t) (iblk m c 1 t) (iblk m c 2 t) y
    = val_main_v4 (F := Ideal) (m ((c : Thread nD τ).loc main_arg0)) (m ((c : Thread nD τ).loc main_arg1)) (m ((c : Thread nD τ).loc main_arg2)) (((cfg0.win 3).blk t).view.emb y) := by
  pointwise [k0_pay4, val_main_v4, val_main_v3, val_main_v2, val_main_call0_v5, val_main_call0_v4, val_main_call0_v3, val_main_call0_v2, val_main_call0_v1,
    val_main_call0_v0, val_main_call0_cst, val_main_call0_cst_0]
  rw [show k0_pay2 (F := Ideal) (iblk m c 0 t) (iblk m c 1 t) y = _ from point3 m c t y,
    show k0_pay3 (F := Ideal) (iblk m c 0 t) (iblk m c 2 t) y = _ from point4 m c t y, zero_sub]

/-- The three results after the run. -/
theorem final3 : (dats m 0 c).arrAt 3 (cfgs 0).N = val_main_v0 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y
theorem final4 : (dats m 0 c).arrAt 4 (cfgs 0).N = val_main_v1 (F := Ideal) (m ((c : Thread nD τ).loc main_arg0)) (m ((c : Thread nD τ).loc main_arg2)) := by
  refine (dats m 0 c).arrAt_eq_of_covers 4 _ (by decide +kernel) fun t _ y => ?_
  refine Eq.trans ?_ ((point4 m c t y).trans (congrArg _ (emb4 t y).symm))
  blk_simp
  rw [after0_4]; frame_out
theorem final5 : (dats m 0 c).arrAt 5 (cfgs 0).N = val_main_v4 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  refine Eq.trans ?_ ((point5 m c t y).trans (congrArg _ (emb5 t y).symm))
  blk_simp
  rw [after0_5]; frame_out

end Cert.FfnUp

end
-- ==== Proof.NormProject.lean ====
module

public import proofs.«01_k».proof.Defs
public import proofs.«01_k».proof.Proof.Gen.Kernel9Ideal.Frame
public import proofs.«01_k».proof.Proof.Gen.Reference9Ideal.Read
public import proofs.«01_k».proof.Proof.Gen.Reference9Ideal.Run
public import proofs.«01_k».proof.Proof.Norm
public import Idealize.ShloMosaic.Lib.Pipeline.ValueKit

@[expose] public section

set_option maxRecDepth 16384

noncomputable section

namespace Cert.NormProject

open Idealize.ShloMosaic Idealize.ShloMosaic.TcCoe Idealize.SL.Sem
open Idealize.ShloMosaic.Pipeline (Dat)
open Cert.Kernel9Ideal Cert.Kernel9Ideal.Gen Cert.Reals Cert.Reference9Ideal.Read

variable (m : (ℓ : Loc nD τ sig) → Buf (Elt Ideal) ℓ) (c : Dev nD)

/-- Where every window's block sits at each grid point. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

/-- The row of the whole array that row `a` of a point's block is. -/
def row (t : Fin cfg0.N) (a : Fin 512) : Fin 8192 :=
  ⟨t.val * 512 + a.val, by have h : t.val < 16 := t.isLt; have := a.isLt; omega⟩

theorem blk0 (t : Fin cfg0.N) (y : S512x1024.Idx) : iblk m c 0 t y = m ((c : Thread nD τ).loc main_arg0) (ix2 (row t (y 0)) (y 1)) := by
  blk_simp [iblk]
  entry_read
  blk_point [idx t, row]
theorem blk1 (t : Fin cfg0.N) (y : S1x1024.Idx) : iblk m c 1 t y = m ((c : Thread nD τ).loc main_arg1) (ix1 (y 1)) := by
  blk_simp [iblk]
  entry_read
  pointwise
  blk_point [idx t, row]
theorem blk2 (t : Fin cfg0.N) (y : S1024x1024.Idx) : iblk m c 2 t y = m ((c : Thread nD τ).loc main_arg2) (ix2 (y 0) ⟨(y 1).val, by have : (y 1).val < 1024 := (y 1).isLt; omega⟩) := by
  blk_simp [iblk]
  entry_read
  pointwise
  blk_point [idx t, row]
theorem blk3 (t : Fin cfg0.N) (y : S1024x1024.Idx) : iblk m c 3 t y = m ((c : Thread nD τ).loc main_arg2) (ix2 (y 0) ⟨1024 + (y 1).val, by have : (y 1).val < 1024 := (y 1).isLt; omega⟩) := by
  blk_simp [iblk]
  entry_read
  pointwise
  blk_point [idx t, row]
theorem emb4 (t : Fin cfg0.N) (y : S512x1024.Idx) : ((cfg0.win 4).blk t).view.emb y = ix2 (row t (y 0)) (y 1) := by
  blk_point [idx t, row]
theorem emb5 (t : Fin cfg0.N) (y : S512x1024.Idx) : ((cfg0.win 5).blk t).view.emb y = ix2 (row t (y 0)) (y 1) := by
  blk_point [idx t, row]
theorem emb6 (t : Fin cfg0.N) (y : S512x1024.Idx) : ((cfg0.win 6).blk t).view.emb y = ix2 (row t (y 0)) (y 1) := by
  blk_point [idx t, row]

/-- The normed row, before its rounding. -/
abbrev nx := val_main_v12 (F := Ideal) (m ((c : Thread nD τ).loc main_arg0)) (m ((c : Thread nD τ).loc main_arg1))

/-- The normed rows: what the body stores at an index of its block is the reference's entry there. -/
theorem point4 (t : Fin cfg0.N) (a : Fin 512) (j : Fin 1024) :
    k0_pay1 (F := Ideal) (iblk m c 0 t) (iblk m c 1 t) (ix2 a j) = nx m c (ix2 (row t a) j) := by
  pointwise [k0_pay1, nx, val_main_v12, val_main_v11, val_main_v10, val_main_v9, val_main_v8, val_main_v7, val_main_v6, val_main_v5, val_main_v4,
    val_main_v3, val_main_v2, val_main_v1, val_main_v0, val_main_cst, val_main_cst_0, val_main_cst_1]
  simp only [blk0 m c t, blk1 m c t]
  rfl

/-- The two halves of the projection. -/
theorem point5 (t : Fin cfg0.N) (a : Fin 512) (j : Fin 1024) : k0_pay2 (F := Ideal) (iblk m c 0 t) (iblk m c 1 t) (iblk m c 2 t) (ix2 a j)
    = val_main_v15 (F := Ideal) (m ((c : Thread nD τ).loc main_arg0)) (m ((c : Thread nD τ).loc main_arg1)) (m ((c : Thread nD τ).loc main_arg2)) (ix2 (row t a) j) := by
  pointwise [k0_pay2, val_main_v15, val_main_v13]
  refine Finset.sum_congr rfl fun k _ => ?_
  exact congrArg₂ (· * ·) (point4 m c t a k) (blk2 m c t _)
theorem point6 (t : Fin cfg0.N) (a : Fin 512) (j : Fin 1024) : k0_pay3 (F := Ideal) (iblk m c 0 t) (iblk m c 1 t) (iblk m c 3 t) (ix2 a j)
    = val_main_v16 (F := Ideal) (m ((c : Thread nD τ).loc main_arg0)) (m ((c : Thread nD τ).loc main_arg1)) (m ((c : Thread nD τ).loc main_arg2)) (ix2 (row t a) j) := by
  pointwise [k0_pay3, val_main_v16, val_main_v13]
  refine Finset.sum_congr rfl fun k _ => ?_
  exact congrArg₂ (· * ·) (point4 m c t a k) (blk3 m c t _)

/-- The three results after the run. -/
theorem final4 : (dats m 0 c).arrAt 4 (cfgs 0).N = val_main_v14 (F := Ideal) (m ((c : Thread nD τ).loc main_arg0)) (m ((c : Thread nD τ).loc main_arg1)) := by
  refine (dats m 0 c).arrAt_eq_of_covers 4 _ (by decide +kernel) fun t _ y => ?_
  refine Eq.trans ?_ ((point4 m c t (y 0) (y 1)).trans (congrArg _ (emb4 t y).symm))
  blk_simp
  rw [after0_4]; frame_out
  exact congrArg _ (funext fun | 0 => rfl | 1 => rfl)
theorem final5 : (dats m 0 c).arrAt 5 (cfgs 0).N = val_main_v15 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  refine Eq.trans ?_ ((point5 m c t (y 0) (y 1)).trans (congrArg _ (emb5 t y).symm))
  blk_simp
  rw [after0_5]; frame_out
  exact congrArg _ (funext fun | 0 => rfl | 1 => rfl)
theorem final6 : (dats m 0 c).arrAt 6 (cfgs 0).N = val_main_v16 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  refine Eq.trans ?_ ((point6 m c t (y 0) (y 1)).trans (congrArg _ (emb6 t y).symm))
  blk_simp
  rw [after0_6]; frame_out
  exact congrArg _ (funext fun | 0 => rfl | 1 => rfl)

end Cert.NormProject

end
-- ==== Proof.NormDown.lean ====
module

public import proofs.«01_k».proof.Defs
public import proofs.«01_k».proof.Proof.Gen.Kernel10Ideal.Frame
public import proofs.«01_k».proof.Proof.Gen.Reference10Ideal.Read
public import proofs.«01_k».proof.Proof.Gen.Reference10Ideal.Run
public import proofs.«01_k».proof.Proof.Norm
public import Idealize.ShloMosaic.Lib.Pipeline.ValueKit

@[expose] public section

set_option maxRecDepth 16384

noncomputable section

namespace Cert.NormDown

open Idealize.ShloMosaic Idealize.ShloMosaic.TcCoe Idealize.SL.Sem
open Idealize.ShloMosaic.Pipeline (Dat)
open Cert.Kernel10Ideal Cert.Kernel10Ideal.Gen Cert.Reals Cert.Reference10Ideal.Read

variable (m : (ℓ : Loc nD τ sig) → Buf (Elt Ideal) ℓ) (c : Dev nD)

/-- Where every window's block sits at each grid point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- The row of the whole array that row `a` of a point's block is. -/
def row (t : Fin cfg0.N) (a : Fin 512) : Fin 8192 :=
  ⟨t.val * 512 + a.val, by have h : t.val < 16 := t.isLt; have := a.isLt; omega⟩

theorem blk0 (t : Fin cfg0.N) (y : S512x2816.Idx) : iblk m c 0 t y = m ((c : Thread nD τ).loc main_arg1) (ix2 (row t (y 0)) (y 1)) := by
  blk_simp [iblk]
  entry_read
  pointwise
  blk_point [idx t, row]
theorem blk1 (t : Fin cfg0.N) (y : S2816x1024.Idx) : iblk m c 1 t y = m ((c : Thread nD τ).loc main_arg2) (ix2 (y 0) (y 1)) := by
  blk_simp [iblk]
  entry_read
  pointwise
  blk_point [idx t, row]
theorem blk2 (t : Fin cfg0.N) (y : S512x1024.Idx) : iblk m c 2 t y = m ((c : Thread nD τ).loc main_arg0) (ix2 (row t (y 0)) (y 1)) := by
  blk_simp [iblk]
  entry_read
  blk_point [idx t, row]
theorem blk3 (t : Fin cfg0.N) (y : S1x1024.Idx) : iblk m c 3 t y = m ((c : Thread nD τ).loc main_arg3) (ix1 (y 1)) := by
  blk_simp [iblk]
  entry_read
  pointwise
  blk_point [idx t, row]
theorem emb4 (t : Fin cfg0.N) (y : S512x1024.Idx) : ((cfg0.win 4).blk t).view.emb y = ix2 (row t (y 0)) (y 1) := by
  blk_point [idx t, row]
theorem emb5 (t : Fin cfg0.N) (y : S512x1024.Idx) : ((cfg0.win 5).blk t).view.emb y = ix2 (row t (y 0)) (y 1) := by
  blk_point [idx t, row]

/-- The body's product, added to nothing. -/
abbrev prod (t : Fin cfg0.N) := k0_pay2 (F := Ideal) (k0_pay1 (F := Ideal)) (iblk m c 0 t) (iblk m c 1 t)
/-- The reference's sum. -/
abbrev xw := val_main_v1 (F := Ideal) (m ((c : Thread nD τ).loc main_arg0)) (m ((c : Thread nD τ).loc main_arg1)) (m ((c : Thread nD τ).loc main_arg2))
/-- The reference's normed rows. -/
abbrev nx := val_main_v15 (F := Ideal) (m ((c : Thread nD τ).loc main_arg0)) (m ((c : Thread nD τ).loc main_arg1)) (m ((c : Thread nD τ).loc main_arg2)) (m ((c : Thread nD τ).loc main_arg3))

/-- The sum: what the body stores at an index of its block is the reference's entry there. -/
theorem point4 (t : Fin cfg0.N) (a : Fin 512) (j : Fin 1024) :
    k0_pay3 (F := Ideal) (prod m c t) (iblk m c 2 t) (ix2 a j) = xw m c (ix2 (row t a) j) := by
  pointwise [k0_pay3, prod, k0_pay2, k0_pay1, xw, val_main_v1, val_main_v0]
  rw [add_comm]
  exact congrArg₂ (· + ·) (blk2 m c t _) (Finset.sum_congr rfl fun k _ => congrArg₂ (· * ·) (blk0 m c t _) (blk1 m c t _))

/-- The normed rows. -/
theorem point5 (t : Fin cfg0.N) (a : Fin 512) (j : Fin 1024) :
    k0_pay4 (F := Ideal) (prod m c t) (iblk m c 2 t) (iblk m c 3 t) (ix2 a j) = nx m c (ix2 (row t a) j) := by
  pointwise [k0_pay4, nx, val_main_v15, val_main_v14, val_main_v13, val_main_v12, val_main_v11, val_main_v10, val_main_v9, val_main_v8, val_main_v7,
    val_main_v6, val_main_v5, val_main_v4, val_main_v3, val_main_v2, val_main_cst, val_main_cst_0, val_main_cst_1]
  simp only [point4 m c t, blk3 m c t]
  rfl

/-- What the two results' blocks hold after a point. -/
theorem outs (t : Fin cfg0.N) : outsAt0 m c t = (k0_pay3 (F := Ideal) (prod m c t) (iblk m c 2 t), k0_pay4 (F := Ideal) (prod m c t) (iblk m c 2 t) (iblk m c 3 t)) := by
  unfold outsAt0
  refine Prod.ext ?_ ?_
  · frame_out
  · frame_out

/-- The two results after the run. -/
theorem final4 : (dats m 0 c).arrAt 4 (cfgs 0).N = xw m c := by
  refine (dats m 0 c).arrAt_eq_of_covers 4 _ (by decide +kernel) fun t _ y => ?_
  refine Eq.trans ?_ ((point4 m c t (y 0) (y 1)).trans (congrArg _ (emb4 t y).symm))
  blk_simp
  rw [after0_4, outs]; frame_out
  exact congrArg _ (funext fun | 0 => rfl | 1 => rfl)
theorem final5 : (dats m 0 c).arrAt 5 (cfgs 0).N = nx m c := by
  refine (dats m 0 c).arrAt_eq_of_covers 5 _ (by decide +kernel) fun t _ y => ?_
  refine Eq.trans ?_ ((point5 m c t (y 0) (y 1)).trans (congrArg _ (emb5 t y).symm))
  blk_simp
  rw [after0_5, outs]; frame_out
  exact congrArg _ (funext fun | 0 => rfl | 1 => rfl)

end Cert.NormDown

end
-- ==== Proof.NormOut.lean ====
module

public import proofs.«01_k».proof.Defs
public import proofs.«01_k».proof.Proof.Gen.Kernel11Ideal.Frame
public import proofs.«01_k».proof.Proof.Gen.Reference11Ideal.Read
public import proofs.«01_k».proof.Proof.Gen.Reference11Ideal.Run
public import proofs.«01_k».proof.Proof.MmB
public import Idealize.ShloMosaic.Lib.Pipeline.ValueKit

@[expose] public section

set_option maxRecDepth 16384

noncomputable section

namespace Cert.NormOut

open Idealize.ShloMosaic Idealize.ShloMosaic.TcCoe Idealize.SL.Sem
open Idealize.ShloMosaic.Pipeline (Dat)
open Cert.Kernel11Ideal Cert.Kernel11Ideal.Gen Cert.Reals Cert.Reference11Ideal.Read

variable (m : (ℓ : Loc nD τ sig) → Buf (Elt Ideal) ℓ) (c : Dev nD)

/-- Where every window's block sits at each grid point. -/
theorem idx : ∀ t : Fin cfg0.N, win0_0.index t = ![0, t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- The row of the whole array that row `a` of a point's block is. -/
def row (t : Fin cfg0.N) (a : Fin 512) : Fin 8192 :=
  ⟨t.val * 512 + a.val, by have h : t.val < 16 := t.isLt; have := a.isLt; omega⟩

/-- A column from its lane block and lane. -/
def col (b : Fin 8) (l : Fin 128) : Fin 1024 := ⟨b.val * 128 + l.val, by have := b.isLt; have := l.isLt; omega⟩

theorem blk0 (t : Fin cfg0.N) (y : S8x512x128.Idx) : iblk m c 0 t y = m ((c : Thread nD τ).loc main_arg1) (ix2 (row t (y 1)) (col (y 0) (y 2))) := by
  blk_simp [iblk]
  entry_read
  pointwise
  blk_point [idx t, row, col]
theorem blk1 (t : Fin cfg0.N) (y : S1024x1024.Idx) : iblk m c 1 t y = m ((c : Thread nD τ).loc main_arg2) (ix2 (y 0) (y 1)) := by
  blk_simp [iblk]
  entry_read
  pointwise
  blk_point [idx t, row]
theorem blk2 (t : Fin cfg0.N) (y : S512x1024.Idx) : iblk m c 2 t y = m ((c : Thread nD τ).loc main_arg0) (ix2 (row t (y 0)) (y 1)) := by
  blk_simp [iblk]
  entry_read
  blk_point [idx t, row]
theorem blk3 (t : Fin cfg0.N) (y : S1x1024.Idx) : iblk m c 3 t y = m ((c : Thread nD τ).loc main_arg3) (ix1 (y 1)) := by
  blk_simp [iblk]
  entry_read
  pointwise
  blk_point [idx t, row]
theorem emb4 (t : Fin cfg0.N) (y : S512x1024.Idx) : ((cfg0.win 4).blk t).view.emb y = ix2 (row t (y 0)) (y 1) := by
  blk_point [idx t, row]
theorem emb5 (t : Fin cfg0.N) (y : S512x1024.Idx) : ((cfg0.win 5).blk t).view.emb y = ix2 (row t (y 0)) (y 1) := by
  blk_point [idx t, row]

/-- Lane block `q` of a block of the left operand. -/
abbrev part (b : Vec Ideal S8x512x128 .bf16) (q : Fin 8) : Vec Ideal S1x512x128 .bf16 :=
  View.ld (Val := Elt Ideal) (e' := .bf16) b (Rect.unit (s := S8x512x128) ![q.val, 0, 0] S1x512x128.size fun a => by
    have := q.isLt
    match a with
    | 0 => show q.val + 1 ≤ 8; omega
    | 1 => exact le_rfl
    | 2 => exact le_rfl)

/-- A product whose left operand is eight lane blocks side by side. -/
theorem lanes_eq (A : FVec Ideal S512x1024 .f32) (b : FVec Ideal S8x512x128 .bf16) (W : FVec Ideal S1024x1024 .bf16) (y : S512x1024.Idx) :
    k0_pay5 (F := Ideal) A (part b 0) (part b 1) (part b 2) (part b 3) (part b 4) (part b 5) (part b 6) (part b 7) W y
      = A y + ∑ k : Fin 1024, b (ix3 ⟨k.val / 128, by have := k.isLt; omega⟩ (y 0) ⟨k.val % 128, by omega⟩) * W (ix2 k (y 1)) := by
  dsimp only [k0_pay5]
  generalize hL : concatenate S512x1024 1 _ _ = L
  have e : ∀ k : Fin 1024, L (ix2 (y 0) k) = b (ix3 ⟨k.val / 128, by have := k.isLt; omega⟩ (y 0) ⟨k.val % 128, by omega⟩) := fun k => by
    subst hL
    refine (Cert.MmB.cat8 (fun q => shapeCast S512x128 (part b q) shapeCasts_S1x512x128_S512x128) _ (y 0) ⟨k.val / 128, by have := k.isLt; omega⟩
      ⟨k.val % 128, by omega⟩ (ix2 (y 0) k) rfl (by show k.val = k.val / 128 * 128 + k.val % 128; omega)).trans ?_
    pointwise [part]
  pointwise
  simp only [e]

/-- The body's product of its eight lane blocks side by side, added to nothing. -/
abbrev prod (t : Fin cfg0.N) : FVec Ideal S512x1024 .f32 := k0_pay1 (k0_pay5 (F := Ideal) (k0_pay4 (F := Ideal)) (part (iblk m c 0 t) 0) (part (iblk m c 0 t) 1)
  (part (iblk m c 0 t) 2) (part (iblk m c 0 t) 3) (part (iblk m c 0 t) 4) (part (iblk m c 0 t) 5) (part (iblk m c 0 t) 6) (part (iblk m c 0 t) 7)
  (iblk m c 1 t))
/-- The reference's sum. -/
abbrev xw := val_main_v1 (F := Ideal) (m ((c : Thread nD τ).loc main_arg0)) (m ((c : Thread nD τ).loc main_arg1)) (m ((c : Thread nD τ).loc main_arg2))
/-- The reference's normed rows. -/
abbrev nx := val_main_v15 (F := Ideal) (m ((c : Thread nD τ).loc main_arg0)) (m ((c : Thread nD τ).loc main_arg1)) (m ((c : Thread nD τ).loc main_arg2)) (m ((c : Thread nD τ).loc main_arg3))

/-- The product is the reference's. -/
theorem prod_eq (t : Fin cfg0.N) (a : Fin 512) (j : Fin 1024) : prod m c t (ix2 a j)
    = val_main_v0 (F := Ideal) (m ((c : Thread nD τ).loc main_arg1)) (m ((c : Thread nD τ).loc main_arg2)) (ix2 (row t a) j) := by
  delta prod
  rw [show ∀ v, k0_pay1 (F := Ideal) v = v from fun v => shapeCast_self _ _]
  refine (lanes_eq (k0_pay4 (F := Ideal)) (iblk m c 0 t) (iblk m c 1 t) (ix2 a j)).trans ?_
  rw [show k0_pay4 (F := Ideal) (ix2 a j) = 0 by pointwise [k0_pay4], zero_add]
  pointwise [val_main_v0]
  refine Finset.sum_congr rfl fun k _ => congrArg₂ (· * ·) ((blk0 m c t _).trans ?_) (blk1 m c t _)
  exact congrArg _ (congrArg (ix2 (row t a)) (Fin.ext (by show k.val / 128 * 128 + k.val % 128 = k.val; omega)))

/-- The sum: what the body stores at an index of its block is the reference's entry there. -/
theorem point4 (t : Fin cfg0.N) (a : Fin 512) (j : Fin 1024) :
    k0_pay2 (F := Ideal) (prod m c t) (iblk m c 2 t) (ix2 a j) = xw m c (ix2 (row t a) j) := by
  refine (congrArg₂ (· + ·) (prod_eq m c t a j) (blk2 m c t _)).trans (add_comm _ _)

/-- The normed rows. -/
theorem point5 (t : Fin cfg0.N) (a : Fin 512) (j : Fin 1024) :
    k0_pay3 (F := Ideal) (prod m c t) (iblk m c 2 t) (iblk m c 3 t) (ix2 a j) = nx m c (ix2 (row t a) j) := by
  generalize hp : prod m c t = p
  have e : ∀ j, k0_pay2 (F := Ideal) p (iblk m c 2 t) (ix2 a j) = xw m c (ix2 (row t a) j) := fun j => hp ▸ point4 m c t a j
  pointwise [k0_pay3, nx, val_main_v15, val_main_v14, val_main_v13, val_main_v12, val_main_v11, val_main_v10, val_main_v9, val_main_v8, val_main_v7,
    val_main_v6, val_main_v5, val_main_v4, val_main_v3, val_main_v2, val_main_cst, val_main_cst_0, val_main_cst_1]
  simp only [e, blk3 m c t]
  rfl

/-- The two results after the run. -/
theorem final4 : (dats m 0 c).arrAt 4 (cfgs 0).N = xw m c := by
  refine (dats m 0 c).arrAt_eq_of_covers 4 _ (by decide +kernel) fun t _ y => ?_
  refine Eq.trans ?_ ((point4 m c t (y 0) (y 1)).trans (congrArg _ (emb4 t y).symm))
  blk_simp
  rw [after0_4]; unfold outsAt0; frame_out
  exact congrArg (k0_pay2 (F := Ideal) (prod m c t) (iblk m c 2 t)) (funext fun | 0 => rfl | 1 => rfl)
theorem final5 : (dats m 0 c).arrAt 5 (cfgs 0).N = nx m c := by
  refine (dats m 0 c).arrAt_eq_of_covers 5 _ (by decide +kernel) fun t _ y => ?_
  refine Eq.trans ?_ ((point5 m c t (y 0) (y 1)).trans (congrArg _ (emb5 t y).symm))
  blk_simp
  rw [after0_5]; unfold outsAt0; frame_out
  exact congrArg (k0_pay3 (F := Ideal) (prod m c t) (iblk m c 2 t) (iblk m c 3 t)) (funext fun | 0 => rfl | 1 => rfl)

end Cert.NormOut

end
-- ==== Proof.WeightGrad.lean ====
module

public import proofs.«01_k».proof.Defs
public import proofs.«01_k».proof.Proof.Gen.Kernel12Ideal.Frame
public import proofs.«01_k».proof.Proof.Gen.Reference12Ideal.Read
public import proofs.«01_k».proof.Proof.Gen.Reference12Ideal.Run
public import proofs.«01_k».proof.Proof.Reals
public import Idealize.ShloMosaic.Lib.Pipeline.ValueKit

@[expose] public section

set_option maxRecDepth 16384

noncomputable section

namespace Cert.WeightGrad

open Idealize.ShloMosaic Idealize.ShloMosaic.TcCoe Idealize.SL.Sem
open Idealize.ShloMosaic.Pipeline (Dat)
open Cert.Kernel12Ideal Cert.Kernel12Ideal.Gen Cert.Reals Cert.Reference12Ideal.Read

variable (m : (ℓ : Loc nD τ sig) → Buf (Elt Ideal) ℓ) (c : Dev nD)

/-- Where every window's block sits at each grid point: eight blocks of rows for each half of the columns. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The row of the operands that row `a` of block `s` is. -/
def row (s : Fin 8) (a : Fin 1024) : Fin 8192 := ⟨s.val * 1024 + a.val, by have := s.isLt; have := a.isLt; omega⟩

/-- The block of rows a grid point reads. -/
def blockOf (t : Fin cfg0.N) : Fin 8 := ⟨t.val % 8, by omega⟩

/-- The column of the right operand that column `j` of a point's block is. -/
def col (t : Fin cfg0.N) (j : Fin 1408) : Fin 2816 := ⟨t.val / 8 * 1408 + j.val, by have h : t.val < 16 := t.isLt; have := j.isLt; omega⟩

/-- Where an entry of a point's block lies in the result. -/
abbrev at_ (t : Fin cfg0.N) (y : S1024x1408.Idx) : S1024x2816.Idx := ix2 (y 0) (col t (y 1))

theorem blk0 (t : Fin cfg0.N) (y : S1024x1024.Idx) : iblk m c 0 t y = m ((c : Thread nD τ).loc main_arg0) (ix2 (row (blockOf t) (y 0)) (y 1)) := by
  blk_simp [iblk]
  entry_read
  pointwise
  blk_point [idx t, row, blockOf]
theorem blk1 (t : Fin cfg0.N) (y : S1024x1408.Idx) : iblk m c 1 t y = m ((c : Thread nD τ).loc main_arg1) (ix2 (row (blockOf t) (y 0)) (col t (y 1))) := by
  blk_simp [iblk]
  entry_read
  pointwise
  blk_point [idx t, row, blockOf, col]
theorem emb2 (t : Fin cfg0.N) (y : S1024x1408.Idx) : ((cfg0.win 2).blk t).view.emb y = at_ t y := by
  blk_point [idx t, at_, col]

/-- One row's share of an entry of the product. -/
def share (i : Fin 1024) (j : Fin 2816) (r : Fin 8192) : Ideal .f32 :=
  let h : FVec Ideal S8192x1024 .f32 := m ((c : Thread nD τ).loc main_arg0)
  let g : FVec Ideal S8192x2816 .f32 := m ((c : Thread nD τ).loc main_arg1)
  h (ix2 r i) * g (ix2 r j)

/-- What a point adds: its rows' shares. -/
theorem step (t : Fin cfg0.N) (acc : Vec Ideal S1024x1408 .f32) (y : S1024x1408.Idx) :
    k0_pay2 (F := Ideal) acc (iblk m c 0 t) (iblk m c 1 t) y = acc y + ∑ a : Fin 1024, share m c (y 0) (col t (y 1)) (row (blockOf t) a) := by
  pointwise [k0_pay2, share]
  simp only [blk0, blk1]
  rfl

/-- The reference's gradient of the weight. -/
abbrev gw := val_main_v3 (F := Ideal) (m ((c : Thread nD τ).loc main_arg0)) (m ((c : Thread nD τ).loc main_arg1))

/-- An entry of the reference is every row's share. -/
theorem ref (t : Fin cfg0.N) (y : S1024x1408.Idx) : gw m c (at_ t y) = ∑ r : Fin 8192, share m c (y 0) (col t (y 1)) r := by
  pointwise [gw, val_main_v3, val_main_v2]
  exact Finset.sum_congr rfl fun k _ => mul_comm _ _

/-- At the last block of rows the running sum is what is stored. -/
theorem stored (t : Fin cfg0.N) (h : t.val % 8 = 7) : (outsAt0 m c t.val t.isLt).1 = (outsAt0 m c t.val t.isLt).2 := by
  rw [outsAt0_C m c t (by omega) h]
  frame_out

/-- The shares of the eight points that work on one half of the columns are every row's. -/
theorem gather (t : Fin cfg0.N) (ht : t.val % 8 = 8 - 1) (y : S1024x1408.Idx) :
    ∑ s : Fin 8, ∑ a : Fin 1024, share m c (y 0) (col ⟨8 * (t.val / 8) + s.val, Pipeline.run_point_lt_of_flush t ht s⟩ (y 1))
        (row (blockOf ⟨8 * (t.val / 8) + s.val, Pipeline.run_point_lt_of_flush t ht s⟩) a)
      = ∑ r : Fin 8192, share m c (y 0) (col t (y 1)) r := by
  refine Eq.trans ?_ (Fin.sum_mul_add_fin 8 1024 fun r => share m c (y 0) (col t (y 1)) r)
  refine Finset.sum_congr rfl fun s _ => Finset.sum_congr rfl fun a _ => ?_
  have hs := s.isLt
  have hb : blockOf ⟨8 * (t.val / 8) + s.val, Pipeline.run_point_lt_of_flush t ht s⟩ = s := Fin.ext (by show (8 * (t.val / 8) + s.val) % 8 = s.val; omega)
  have hc : ∀ j, col ⟨8 * (t.val / 8) + s.val, Pipeline.run_point_lt_of_flush t ht s⟩ j = col t j := fun j =>
    Fin.ext (by show (8 * (t.val / 8) + s.val) / 8 * 1408 + j.val = t.val / 8 * 1408 + j.val; omega)
  exact congrArg₂ (share m c (y 0)) (hc (y 1)) (congrArg (row · a) hb)

/-- The gradient of the weight after the run. -/
theorem final2 : (dats m 0 c).arrAt 2 (cfgs 0).N = gw m c := by
  refine (dats m 0 c).arrAt_eq_of_covers 2 _ (by decide +kernel) fun t hf y => ?_
  have ht : t.val % 8 = 8 - 1 := (by decide +kernel : ∀ t : Fin grid0.N, win0_2.flush t = true → t.val % 8 = 8 - 1) t hf
  rw [emb2, ref]
  blk_simp
  rw [after0_2, stored m c t ht, Pipeline.eq_sum_fin_of_reset_step_apply_of_flush (fun n h => (outsAt0 m c n h).2) 8 (fun _ => 0)
    (fun t y => ∑ a : Fin 1024, share m c (y 0) (col t (y 1)) (row (blockOf t) a))
    (fun t h j => by rw [outsAt0_A m c t h (by omega)]; frame_out; rw [step]; exact congrArg (· + _) (by pointwise [k0_pay1]))
    (fun t h j => by
      by_cases h1 : t.val % 8 = 7
      · rw [outsAt0_C m c t h h1]; frame_out; rw [step]; exact congrArg (· + _) (congrFun (Memref.IsWhole.read_unread _ _) j)
      · rw [outsAt0_B m c t h h1]; frame_out; rw [step]; exact congrArg (· + _) (congrFun (Memref.IsWhole.read_unread _ _) j))
    t ht y, zero_add]
  exact gather m c t ht y

end Cert.WeightGrad

end
-- ==== Proof.Adamw.lean ====
module

public import proofs.«01_k».proof.Defs
public import proofs.«01_k».proof.Proof.Gen.Kernel13Ideal.Frame
public import proofs.«01_k».proof.Proof.Gen.Reference13Ideal.Read
public import proofs.«01_k».proof.Proof.Gen.Reference13Ideal.Run
public import proofs.«01_k».proof.Proof.Reals
public import Idealize.ShloMosaic.Lib.Pipeline.ValueKit

@[expose] public section

set_option maxRecDepth 16384

noncomputable section

namespace Cert.Adamw

open Idealize.ShloMosaic Idealize.ShloMosaic.TcCoe Idealize.SL.Sem
open Idealize.ShloMosaic.Pipeline (Dat)
open Cert.Kernel13Ideal Cert.Kernel13Ideal.Gen Cert.Reals Cert.Reference13Ideal.Read

variable (m : (ℓ : Loc nD τ sig) → Buf (Elt Ideal) ℓ) (c : Dev nD)

/-- Where every window's block sits at each grid point: a half of one layer's rows. -/
theorem idx : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0] :=
  (by decide +kernel : ∀ t : Fin grid0.N, _)

/-- The layer a grid point works on. -/
def layer (t : Fin cfg0.N) : Fin 2 := ⟨t.val / 2, by have h : t.val < 4 := t.isLt; omega⟩

/-- The row of the layer that row `a` of a point's block is. -/
def row (t : Fin cfg0.N) (a : Fin 512) : Fin 1024 := ⟨t.val % 2 * 512 + a.val, by have := a.isLt; omega⟩

/-- Where an entry of a point's block lies in the whole array. -/
abbrev at_ (t : Fin cfg0.N) (y : S1x512x704.Idx) : S2x1024x704.Idx := ix3 (layer t) (row t (y 1)) (y 2)

theorem blk0 (t : Fin cfg0.N) (y : S1x512x704.Idx) : iblk m c 0 t y = m ((c : Thread nD τ).loc main_arg0) (at_ t y) := by
  blk_simp [iblk]
  entry_read
  blk_point [idx t, at_, row, layer]
theorem blk1 (t : Fin cfg0.N) (y : S1x512x704.Idx) : iblk m c 1 t y = m ((c : Thread nD τ).loc main_arg1) (at_ t y) := by
  blk_simp [iblk]
  entry_read
  blk_point [idx t, at_, row, layer]
theorem blk2 (t : Fin cfg0.N) (y : S1x512x704.Idx) : iblk m c 2 t y = m ((c : Thread nD τ).loc main_arg2) (at_ t y) := by
  blk_simp [iblk]
  entry_read
  blk_point [idx t, at_, row, layer]
theorem blk3 (t : Fin cfg0.N) (y : S1x512x704.Idx) : iblk m c 3 t y = m ((c : Thread nD τ).loc main_arg3) (at_ t y) := by
  blk_simp [iblk]
  entry_read
  blk_point [idx t, at_, row, layer]
theorem emb4 (t : Fin cfg0.N) (y : S1x512x704.Idx) : ((cfg0.win 4).blk t).view.emb y = at_ t y := by
  blk_point [idx t, at_, row, layer]
theorem emb5 (t : Fin cfg0.N) (y : S1x512x704.Idx) : ((cfg0.win 5).blk t).view.emb y = at_ t y := by
  blk_point [idx t, at_, row, layer]
theorem emb6 (t : Fin cfg0.N) (y : S1x512x704.Idx) : ((cfg0.win 6).blk t).view.emb y = at_ t y := by
  blk_point [idx t, at_, row, layer]

/-- The reference's first moment. -/
abbrev mom := val_main_v4 (F := Ideal) (m ((c : Thread nD τ).loc main_arg1)) (m ((c : Thread nD τ).loc main_arg2))
/-- The reference's second moment. -/
abbrev sqm := val_main_v10 (F := Ideal) (m ((c : Thread nD τ).loc main_arg1)) (m ((c : Thread nD τ).loc main_arg3))
/-- The reference's change of the weight. -/
abbrev step := val_main_v23 (F := Ideal) (m ((c : Thread nD τ).loc main_arg0)) (m ((c : Thread nD τ).loc main_arg1)) (m ((c : Thread nD τ).loc main_arg2))
  (m ((c : Thread nD τ).loc main_arg3))

/-- The first moment: what the body stores at an index of its block is the reference's entry there. -/
theorem point5 (t : Fin cfg0.N) (y : S1x512x704.Idx) : k0_pay1 (F := Ideal) (iblk m c 1 t) (iblk m c 2 t) y = mom m c (at_ t y) := by
  pointwise [k0_pay1, mom, val_main_v4, val_main_v3, val_main_v2, val_main_v1, val_main_v0, val_main_cst, val_main_cst_0]
  rw [blk1, blk2]

/-- The second moment. -/
theorem point6 (t : Fin cfg0.N) (y : S1x512x704.Idx) : k0_pay2 (F := Ideal) (iblk m c 1 t) (iblk m c 3 t) y = sqm m c (at_ t y) := by
  pointwise [k0_pay2, sqm, val_main_v10, val_main_v9, val_main_v8, val_main_v7, val_main_v6, val_main_v5, val_main_cst_1, val_main_cst_2]
  rw [blk1, blk3]

/-- The change of the weight: both moments corrected for their start, their quotient, and the weight's decay. -/
theorem point4 (t : Fin cfg0.N) (y : S1x512x704.Idx) :
    k0_pay3 (F := Ideal) (iblk m c 1 t) (iblk m c 2 t) (iblk m c 3 t) (iblk m c 0 t) y = step m c (at_ t y) := by
  have h5 := point5 m c t y
  have h6 := point6 m c t y
  pointwise [k0_pay3, step, val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]
  rw [h5, h6, blk0]

/-- The three results after the run. -/
theorem final4 : (dats m 0 c).arrAt 4 (cfgs 0).N = step m c := by
  refine (dats m 0 c).arrAt_eq_of_covers 4 _ (by decide +kernel) fun t _ y => ?_
  refine Eq.trans ?_ ((point4 m c t y).trans (congrArg _ (emb4 t y).symm))
  blk_simp
  rw [after0_4]; unfold out0_4; frame_out
theorem final5 : (dats m 0 c).arrAt 5 (cfgs 0).N = mom m c := by
  refine (dats m 0 c).arrAt_eq_of_covers 5 _ (by decide +kernel) fun t _ y => ?_
  refine Eq.trans ?_ ((point5 m c t y).trans (congrArg _ (emb5 t y).symm))
  blk_simp
  rw [after0_5]; unfold out0_5; frame_out
theorem final6 : (dats m 0 c).arrAt 6 (cfgs 0).N = sqm m c := by
  refine (dats m 0 c).arrAt_eq_of_covers 6 _ (by decide +kernel) fun t _ y => ?_
  refine Eq.trans ?_ ((point6 m c t y).trans (congrArg _ (emb6 t y).symm))
  blk_simp
  rw [after0_6]; unfold out0_6; frame_out

end Cert.Adamw

end
-- ==== Proof.Sibling.lean ====
module

public import proofs.«01_k».proof.Defs
public import proofs.«01_k».proof.Proof.Gen.Kernel14.Frame
public import proofs.«01_k».proof.Proof.Gen.Kernel14Ideal.Frame
public import proofs.«01_k».proof.Proof.Gen.Reference14Ideal.Read
public import proofs.«01_k».proof.Proof.Gen.Reference14Ideal.Run
public import proofs.«01_k».proof.Proof.Reals
public import Idealize.ShloMosaic.Lib.Pipeline.ValueKit

@[expose] public section

set_option maxRecDepth 16384

noncomputable section

namespace Cert.Sibling

open Idealize.ShloMosaic Idealize.ShloMosaic.TcCoe Idealize.SL.Sem

section
open Cert.Kernel14 Cert.Kernel14.Gen

/-- The prefetched word is the constant 0. -/
theorem word_printed {F : FTy → Type} [FloatOps F] (m : (ℓ : Loc nD τ sig) → Buf (Elt F) ℓ) : tbl m = fun | ⟨0, _⟩ => fun _ => 0#32 | ⟨_ + 1, h⟩ => absurd h (Nat.not_lt.2 (Nat.le_add_left _ _)) := by
  funext j x
  match j with
  | ⟨0, _⟩ => rfl

/-- So the first window's block moves over the grid as the second's does. -/
theorem same_printed {F : FTy → Type} [FloatOps F] (m : (ℓ : Loc nD τ sig) → Buf (Elt F) ℓ) (i : grid0.Coords) :
    cc0_transform_0 inb_S1_S1_0 numel1_S1 (tbl m) i = cc0_transform_1 i := by
  rw [word_printed m]
  show ![(BitVec.ofNat 32 (i 0).val).toNat, (Scalar.addi (Scalar.muli 0#32 2#32) (BitVec.ofNat 32 (i 1).val)).toNat, (0#32 : BitVec 32).toNat] = _
  simp [Scalar.addi, Scalar.muli, IntOp.addi, IntOp.muli, cc0_transform_1]

/-- And every block lies inside its array. -/
theorem ok_printed {F : FTy → Type} [FloatOps F] (m : (ℓ : Loc nD τ sig) → Buf (Elt F) ℓ) : Ok m := by
  unfold Ok ok0
  intro i
  refine ⟨fun a => ?_, .inl rfl⟩
  rw [same_printed m i]
  exact (by decide +kernel : ∀ (i : grid0.Coords) a, (cc0_transform_1 i a + 1) * S1x784x1024.size a ≤ S4x3136x1024.size a) i a

end

open Idealize.ShloMosaic.Pipeline (Dat)
open Cert.Kernel14Ideal Cert.Kernel14Ideal.Gen Cert.Reals Cert.Reference14Ideal.Read

/-- The same for the program over the reals. -/
theorem word {F : FTy → Type} [FloatOps F] (m : (ℓ : Loc nD τ sig) → Buf (Elt F) ℓ) : tbl m = fun | ⟨0, _⟩ => fun _ => 0#32 | ⟨_ + 1, h⟩ => absurd h (Nat.not_lt.2 (Nat.le_add_left _ _)) := by
  funext j x
  match j with
  | ⟨0, _⟩ => rfl

/-- So the first window's block moves over the grid as the second's does. -/
theorem same {F : FTy → Type} [FloatOps F] (m : (ℓ : Loc nD τ sig) → Buf (Elt F) ℓ) (i : grid0.Coords) :
    cc0_transform_0 inb_S1_S1_0 numel1_S1 (tbl m) i = cc0_transform_1 i := by
  rw [word m]
  show ![(BitVec.ofNat 32 (i 0).val).toNat, (Scalar.addi (Scalar.muli 0#32 2#32) (BitVec.ofNat 32 (i 1).val)).toNat, (0#32 : BitVec 32).toNat] = _
  simp [Scalar.addi, Scalar.muli, IntOp.addi, IntOp.muli, cc0_transform_1]

theorem ok {F : FTy → Type} [FloatOps F] (m : (ℓ : Loc nD τ sig) → Buf (Elt F) ℓ) : Ok m := by
  unfold Ok ok0
  intro i
  refine ⟨fun a => ?_, .inl rfl⟩
  rw [same m i]
  exact (by decide +kernel : ∀ (i : grid0.Coords) a, (cc0_transform_1 i a + 1) * S1x784x1024.size a ≤ S4x3136x1024.size a) i a

variable (m : (ℓ : Loc nD τ sig) → Buf (Elt Ideal) ℓ) (c : Dev nD)

/-- The sheet of the batch a grid point works on. -/
def sheet (t : Fin grid0.N) : Fin 4 := ⟨t.val / 2, by have h : t.val < 8 := t.isLt; omega⟩

/-- The row that row `a` of a point's block is. -/
def row (t : Fin grid0.N) (a : Fin 784) : Fin 1568 := ⟨t.val % 2 * 784 + a.val, by have := a.isLt; omega⟩

/-- Where an entry of a point's block lies in the half's array. -/
abbrev at_ (t : Fin grid0.N) (y : S1x784x1024.Idx) : S4x1568x1024.Idx := ix3 (sheet t) (row t (y 1)) (y 2)

/-- And in the array of both halves. -/
abbrev atw (t : Fin grid0.N) (y : S1x784x1024.Idx) : S4x3136x1024.Idx := ix3 (sheet t) ⟨(row t (y 1)).val, by have := (row t (y 1)).isLt; omega⟩ (y 2)

theorem idx1 : ∀ t : Fin grid0.N, ((cfgM m (ok m)).win 1).index t = ![t.val / 2, t.val % 2, 0] :=
  (by decide +kernel : ∀ t : Fin grid0.N, cc0_transform_1 (grid0.coords t) = ![t.val / 2, t.val % 2, 0])
theorem idx2 : ∀ t : Fin grid0.N, ((cfgM m (ok m)).win 2).index t = ![t.val / 2, t.val % 2, 0] :=
  (by decide +kernel : ∀ t : Fin grid0.N, cc0_transform_2 (grid0.coords t) = ![t.val / 2, t.val % 2, 0])
theorem idx0 : ∀ t : Fin grid0.N, ((cfgM m (ok m)).win 0).index t = ![t.val / 2, t.val % 2, 0] := by
  intro t
  show cc0_transform_0 inb_S1_S1_0 numel1_S1 (tbl m) (grid0.coords t) = _
  rw [same m]
  exact idx1 m t

theorem emb0 (t : Fin (cfgM m (ok m)).N) (y : S1x784x1024.Idx) : (((cfgM m (ok m)).win 0).blk t).view.emb y = atw t y := by
  blk_point [idx0 m t, atw, row, sheet]
theorem emb1 (t : Fin (cfgM m (ok m)).N) (y : S1x784x1024.Idx) : (((cfgM m (ok m)).win 1).blk t).view.emb y = at_ t y := by
  blk_point [idx1 m t, at_, row, sheet]
theorem emb2 (t : Fin (cfgM m (ok m)).N) (y : S1x784x1024.Idx) : (((cfgM m (ok m)).win 2).blk t).view.emb y = at_ t y := by
  blk_point [idx2 m t, at_, row, sheet]

theorem blk0 (t : Fin (cfgM m (ok m)).N) (y : S1x784x1024.Idx) : iblk m (ok m) c 0 t y = m ((c : Thread nD τ).loc main_arg0) (atw t y) := by
  blk_simp [iblk]
  exact (congrFun (V_main_arg0 m c) _).trans (congrArg _ (emb0 m t y))
theorem blk1 (t : Fin (cfgM m (ok m)).N) (y : S1x784x1024.Idx) : iblk m (ok m) c 1 t y = m ((c : Thread nD τ).loc main_arg1) (at_ t y) := by
  blk_simp [iblk]
  exact (congrFun (V_main_arg1 m c) _).trans (congrArg _ (emb1 m t y))

/-- The reference's sum. -/
abbrev sum := val_main_v2 (F := Ideal) (m ((c : Thread nD τ).loc main_arg0)) (m ((c : Thread nD τ).loc main_arg1))

/-- What the body stores at an index of its block is the reference's entry there. -/
theorem point (t : Fin (cfgM m (ok m)).N) (y : S1x784x1024.Idx) :
    k0_pay1 (F := Ideal) (iblk m (ok m) c 0 t) (iblk m (ok m) c 1 t) y = sum m c (at_ t y) := by
  have h : val_main_v0 (F := Ideal) (m ((c : Thread nD τ).loc main_arg0)) (at_ t y) = m ((c : Thread nD τ).loc main_arg0) (atw t y) := by
    refine congrArg (m ((c : Thread nD τ).loc main_arg0)) ?_
    funext a
    fin_cases a <;> refine Fin.ext ?_ <;> simp <;> rfl
  pointwise [k0_pay1, sum, val_main_v2, val_main_v1]
  rw [blk0, blk1, h]

/-- The result's blocks fill its array. -/
theorem covers : ((cfgM m (ok m)).win 2).Covers :=
  (by decide +kernel : ((cfg0 (F := Ideal) ⟨_, ok (F := Ideal) fun _ _ => default⟩).win 2).Covers)

/-- The result after the run. -/
theorem final : (dats m (ok m) 0 c).arrAt 2 (cfgM m (ok m)).N = sum m c := by
  refine (dats m (ok m) 0 c).arrAt_eq_of_covers 2 _ (covers m) fun t _ y => ?_
  refine Eq.trans ?_ ((point m c t y).trans (congrArg _ (emb2 m t y).symm))
  blk_simp
  rw [after0_2]; unfold outsAt0 out0_A_2; frame_out
  exact congrFun (congrArg₂ (k0_pay1 (F := Ideal)) ((hs0_0 m (ok m) t).read_unread _) ((hs0_1 m (ok m) t).read_unread _)) y

/-- The run: the result holds the sums, the arguments are as they were. -/
theorem run (g : Dev nD → PrngReg) : θ_run defs (onTc (τ := τ) (main (F := Ideal))) ⟨m, fun _ => 0, g⟩ (fun r => ∀ c : Dev nD,
      r.2.mem ((c.tc : Thread nD τ).loc main_v1) = sum m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).1 2).trans (final m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩)
    (run_main m g (ok m))

end Cert.Sibling

end
-- ==== Proof.Slots.lean ====
module

public import proofs.«01_k».proof.Defs
public import proofs.«01_k».proof.Proof.Gen.Kernel15.Frame
public import proofs.«01_k».proof.Proof.Gen.Kernel15Ideal.Frame
public import proofs.«01_k».proof.Proof.Gen.Reference15Ideal.Read
public import proofs.«01_k».proof.Proof.Gen.Reference15Ideal.Run
public import proofs.«01_k».proof.Proof.Reals
public import Idealize.ShloMosaic.Lib.Pipeline.ValueKit

@[expose] public section

set_option maxRecDepth 16384

noncomputable section

namespace Cert.Slots

open Idealize.ShloMosaic Idealize.ShloMosaic.TcCoe Idealize.SL.Sem

section
open Cert.Kernel15 Cert.Kernel15.Gen

variable {F : FTy → Type} [FloatOps F] (m : (ℓ : Loc nD τ sig) → Buf (Elt F) ℓ)

/-- The two prefetched words are the constant 0. -/
theorem word_printed : tbl m = fun | ⟨0, _⟩ => fun _ => 0#32 | ⟨1, _⟩ => fun _ => 0#32 | ⟨_ + 2, h⟩ => absurd h (Nat.not_lt.2 (Nat.le_add_left _ _)) := by
  funext j x
  match j with
  | ⟨0, _⟩ => rfl
  | ⟨1, _⟩ => rfl

/-- So the second window's block moves over the grid as the first's does, -/
theorem moves1_printed (i : grid0.Coords) : cc0_transform_1 inb_S1_S1_0 numel1_S1 (tbl m) i = cc0_transform_0 i := by
  rw [word_printed m]; rfl

/-- the result's block is the grid point's, -/
theorem moves2_printed (i : grid0.Coords) : cc0_transform_2 inb_S1_S1_0 numel1_S1 (tbl m) i = ![(BitVec.ofNat 32 (i 0).val).toNat, 0] := by
  rw [word_printed m]
  show ![(Scalar.addi (Scalar.muli 0#32 2#32) (BitVec.ofNat 32 (i 0).val)).toNat, (0#32 : BitVec 32).toNat] = _
  simp [Scalar.addi, Scalar.muli, IntOp.addi, IntOp.muli]

/-- and every block lies inside its array. -/
theorem ok_printed : Ok m := by
  unfold Ok ok0
  refine ⟨fun i => ?_, fun i => ?_⟩
  · rw [moves1_printed m i]
    exact (by decide +kernel : ∀ i : grid0.Coords, ∃ h : (∀ a, (cc0_transform_0 i a + 1) * S1x784x1024.size a ≤ S4x1568x1024.size a),
      EltTy.bits .bf16 = 32 ∨ (Rect.block (s := S4x1568x1024) S1x784x1024.size (cc0_transform_0 i) h).WholeWords (EltTy.packing .bf16)) i
  · refine ⟨fun a => ?_, .inl rfl⟩
    rw [moves2_printed m i]
    exact (by decide +kernel : ∀ (i : grid0.Coords) a, ((![(BitVec.ofNat 32 (i 0).val).toNat, 0] : Fin 2 → ℕ) a + 1) * S784x1024.size a ≤ S3136x1024.size a) i a

end

open Idealize.ShloMosaic.Pipeline (Dat)
open Cert.Kernel15Ideal Cert.Kernel15Ideal.Gen Cert.Reals Cert.Reference15Ideal.Read

section
variable {F : FTy → Type} [FloatOps F] (m : (ℓ : Loc nD τ sig) → Buf (Elt F) ℓ)

/-- The same for the program over the reals. -/
theorem word : tbl m = fun | ⟨0, _⟩ => fun _ => 0#32 | ⟨1, _⟩ => fun _ => 0#32 | ⟨_ + 2, h⟩ => absurd h (Nat.not_lt.2 (Nat.le_add_left _ _)) := by
  funext j x
  match j with
  | ⟨0, _⟩ => rfl
  | ⟨1, _⟩ => rfl

theorem moves1 (i : grid0.Coords) : cc0_transform_1 inb_S1_S1_0 numel1_S1 (tbl m) i = cc0_transform_0 i := by
  rw [word m]; rfl

theorem moves2 (i : grid0.Coords) : cc0_transform_2 inb_S1_S1_0 numel1_S1 (tbl m) i = ![(BitVec.ofNat 32 (i 0).val).toNat, 0] := by
  rw [word m]
  show ![(Scalar.addi (Scalar.muli 0#32 2#32) (BitVec.ofNat 32 (i 0).val)).toNat, (0#32 : BitVec 32).toNat] = _
  simp [Scalar.addi, Scalar.muli, IntOp.addi, IntOp.muli]

theorem ok : Ok m := by
  unfold Ok ok0
  refine ⟨fun i => ?_, fun i => ?_⟩
  · rw [moves1 m i]
    exact (by decide +kernel : ∀ i : grid0.Coords, ∃ h : (∀ a, (cc0_transform_0 i a + 1) * S1x784x1024.size a ≤ S4x1568x1024.size a),
      EltTy.bits .bf16 = 32 ∨ (Rect.block (s := S4x1568x1024) S1x784x1024.size (cc0_transform_0 i) h).WholeWords (EltTy.packing .bf16)) i
  · refine ⟨fun a => ?_, .inl rfl⟩
    rw [moves2 m i]
    exact (by decide +kernel : ∀ (i : grid0.Coords) a, ((![(BitVec.ofNat 32 (i 0).val).toNat, 0] : Fin 2 → ℕ) a + 1) * S784x1024.size a ≤ S3136x1024.size a) i a

/-- What the lines after the region leave in the result. -/
abbrev cut (x : FVec F S3136x1024 .f32) : FVec F S1568x1024 .f32 := extractStridedSlice S1568x1024 ![0, 0] x slices_S3136x1024_S1568x1024_0_0
theorem after_v5 (W : Valuation τ sig (Elt F)) : StableHlo.after (List.flatten [hostOps1]) W (Proc.devRef .tc main_v5) = cut (F := F) (W (Proc.devRef .tc main_v4)) := rfl

end

variable (m : (ℓ : Loc nD τ sig) → Buf (Elt Ideal) ℓ) (c : Dev nD)

/-- The row that row `a` of a point's block is. -/
def row (t : Fin grid0.N) (a : Fin 784) : Fin 1568 := ⟨t.val * 784 + a.val, by have h : t.val < 2 := t.isLt; have := a.isLt; omega⟩

/-- Where an entry of a point's block of slots lies in the arguments. -/
abbrev slot (t : Fin grid0.N) (s : Fin 4) (y : S784x1024.Idx) : S4x1568x1024.Idx := ix3 s (row t (y 0)) (y 1)

/-- Where an entry of a point's block lies in the result before the cut. -/
abbrev at_ (t : Fin grid0.N) (y : S784x1024.Idx) : S3136x1024.Idx := ix2 ⟨(row t (y 0)).val, by have := (row t (y 0)).isLt; omega⟩ (y 1)

theorem idx0 : ∀ t : Fin grid0.N, ((cfgM m (ok m)).win 0).index t = ![0, t.val, 0] :=
  (by decide +kernel : ∀ t : Fin grid0.N, cc0_transform_0 (grid0.coords t) = ![0, t.val, 0])
theorem idx1 : ∀ t : Fin grid0.N, ((cfgM m (ok m)).win 1).index t = ![0, t.val, 0] := by
  intro t
  show cc0_transform_1 inb_S1_S1_0 numel1_S1 (tbl m) (grid0.coords t) = _
  rw [moves1 m]
  exact idx0 m t
theorem idx2 : ∀ t : Fin grid0.N, ((cfgM m (ok m)).win 2).index t = ![t.val, 0] := by
  intro t
  show cc0_transform_2 inb_S1_S1_0 numel1_S1 (tbl m) (grid0.coords t) = _
  rw [moves2 m]
  exact (by decide +kernel : ∀ t : Fin grid0.N, (![(BitVec.ofNat 32 (grid0.coords t 0).val).toNat, 0] : Fin 2 → ℕ) = ![t.val, 0]) t

theorem emb0 (t : Fin (cfgM m (ok m)).N) (s : Fin 4) (y : S784x1024.Idx) : (((cfgM m (ok m)).win 0).blk t).view.emb (ix3 s (y 0) (y 1)) = slot t s y := by
  blk_point [idx0 m t, slot, row]
theorem emb1 (t : Fin (cfgM m (ok m)).N) (y : S784x1024.Idx) : (((cfgM m (ok m)).win 1).blk t).view.emb (ix3 0 (y 0) (y 1)) = slot t 0 y := by
  blk_point [idx1 m t, slot, row]
theorem emb2 (t : Fin (cfgM m (ok m)).N) (y : S784x1024.Idx) : (((cfgM m (ok m)).win 2).blk t).view.emb y = at_ t y := by
  blk_point [idx2 m t, at_, row]

theorem V_v0 : V m c main_v0 = (truncf .bf16 (m ((c : Thread nD τ).loc main_arg0) : FVec Ideal S4x1568x1024 .f32) bitsLt_bf16_f32 : FVec Ideal S4x1568x1024 .bf16) := rfl
theorem V_v1 : V m c main_v1 = (truncf .bf16 (m ((c : Thread nD τ).loc main_arg1) : FVec Ideal S4x1568x1024 .f32) bitsLt_bf16_f32 : FVec Ideal S4x1568x1024 .bf16) := rfl

theorem blk0 (t : Fin (cfgM m (ok m)).N) (s : Fin 4) (y : S784x1024.Idx) : iblk m (ok m) c 0 t (ix3 s (y 0) (y 1)) = m ((c : Thread nD τ).loc main_arg0) (slot t s y) := by
  blk_simp [iblk]
  exact (congrFun (V_v0 m c) _).trans (congrArg (m ((c : Thread nD τ).loc main_arg0)) (emb0 m t s y))
theorem blk1 (t : Fin (cfgM m (ok m)).N) (y : S784x1024.Idx) : iblk m (ok m) c 1 t (ix3 0 (y 0) (y 1)) = m ((c : Thread nD τ).loc main_arg1) (slot t 0 y) := by
  blk_simp [iblk]
  exact (congrFun (V_v1 m c) _).trans (congrArg (m ((c : Thread nD τ).loc main_arg1)) (emb1 m t y))

/-- The reference's sum. -/
abbrev sum := val_main_v10 (F := Ideal) (m ((c : Thread nD τ).loc main_arg0)) (m ((c : Thread nD τ).loc main_arg1))

/-- A slot of its own and the three others. -/
abbrev total (own p1 p2 p3 : Ideal .f32) : Ideal .f32 := own + p1 + p2 + p3

theorem total_congr {a b d e a' b' d' e' : Ideal .f32} (ha : a = a') (hb : b = b') (hd : d = d') (he : e = e') : total a b d e = total a' b' d' e' := by
  subst ha hb hd he; rfl

/-- What the body computes: where the word is 0, the first slot is the core's own. -/
theorem body (w : BitVec 32) (hw : w = 0#32) (a' a : Vec Ideal S1x784x1024 .bf16) (ha : a' = a) (p' p : Vec Ideal S4x784x1024 .bf16) (hp : p' = p) (y : S784x1024.Idx) :
    k0_pay1 (F := Ideal) (k0_pay2 w a' (View.ld p' (Rect.unit ![0, 0, 0] ![1, 784, 1024] inb_S4x784x1024_S1x784x1024_0_0_0)))
      (k0_pay3 w a' (View.ld p' (Rect.unit ![1, 0, 0] ![1, 784, 1024] inb_S4x784x1024_S1x784x1024_1_0_0)))
      (k0_pay4 w a' (View.ld p' (Rect.unit ![2, 0, 0] ![1, 784, 1024] inb_S4x784x1024_S1x784x1024_2_0_0)))
      (Scalar.cmpi CmpIPredicate.eq w 3#32) (k0_pay5 a') (View.ld p' (Rect.unit ![3, 0, 0] ![1, 784, 1024] inb_S4x784x1024_S1x784x1024_3_0_0)) y
    = total (a (ix3 0 (y 0) (y 1))) (p (ix3 1 (y 0) (y 1))) (p (ix3 2 (y 0) (y 1))) (p (ix3 3 (y 0) (y 1))) := by
  subst hw ha hp
  have h0 : (Scalar.cmpi CmpIPredicate.eq (0#32) 0#32 : BitVec 1) = 1#1 := by decide
  have h1 : (Scalar.cmpi CmpIPredicate.eq (0#32) 1#32 : BitVec 1) = 0#1 := by decide
  have h2 : (Scalar.cmpi CmpIPredicate.eq (0#32) 2#32 : BitVec 1) = 0#1 := by decide
  have h3 : (Scalar.cmpi CmpIPredicate.eq (0#32) 3#32 : BitVec 1) = 0#1 := by decide
  pointwise [k0_pay1, k0_pay2, k0_pay3, k0_pay4, k0_pay5, h0, h1, h2, h3, total]

/-- What a point writes. -/
theorem point (t : Fin (cfgM m (ok m)).N) (y : S784x1024.Idx) :
    (outsAt0 m (ok m) c t) y = total (iblk m (ok m) c 1 t (ix3 0 (y 0) (y 1))) (iblk m (ok m) c 0 t (ix3 1 (y 0) (y 1))) (iblk m (ok m) c 0 t (ix3 2 (y 0) (y 1)))
      (iblk m (ok m) c 0 t (ix3 3 (y 0) (y 1))) := by
  unfold outsAt0 out0_A_2; frame_out
  exact body _ (congrFun (congrFun (word m) 1) _) _ _ ((hs0_1 m (ok m) t).read_unread _) _ _ ((hs0_0 m (ok m) t).read_unread _) y

theorem ref (t : Fin grid0.N) (y : S784x1024.Idx) : sum m c (ix2 (row t (y 0)) (y 1)) =
   total (m ((c : Thread nD τ).loc main_arg1) (slot t 0 y)) (m ((c : Thread nD τ).loc main_arg0) (slot t 1 y))
     (m ((c : Thread nD τ).loc main_arg0) (slot t 2 y)) (m ((c : Thread nD τ).loc main_arg0) (slot t 3 y)) := by
  have h0 : t.val < 2 := t.isLt
  have h1 : (y 0).val < 784 := (y 0).isLt
  have h2 : (y 1).val < 1024 := (y 1).isLt
  pointwise [sum, val_main_v10, val_main_v7, val_main_v4]
  simp only [val_main_v1_apply, val_main_v0_apply, val_main_v3_apply, val_main_v2_apply, val_main_v6_apply, val_main_v5_apply, val_main_v9_apply, val_main_v8_apply]
  show total _ _ _ _ = total _ _ _ _
  refine congr (congr (congr (congrArg total ?_) ?_) ?_) ?_
  · refine congrArg (m ((c : Thread nD τ).loc main_arg1)) ?_
    funext a
    fin_cases a <;> refine Fin.ext ?_ <;> simp [idx_main_v0, idx_main_v1, row, slot]
    all_goals omega
  all_goals
    refine congrArg (m ((c : Thread nD τ).loc main_arg0)) ?_
    funext a
    fin_cases a <;> refine Fin.ext ?_ <;> simp [idx_main_v2, idx_main_v3, idx_main_v5, idx_main_v6, idx_main_v8, idx_main_v9, row, slot]
    all_goals omega

theorem flush2 (t : Fin (cfgM m (ok m)).N) : ((cfgM m (ok m)).win 2).flush t = true := by
  show Pipeline.Window.flushOf grid0 true (cc0_transform_2 inb_S1_S1_0 numel1_S1 (tbl m)) t = true
  rw [show cc0_transform_2 inb_S1_S1_0 numel1_S1 (tbl m) = fun i : grid0.Coords => (![(BitVec.ofNat 32 (i 0).val).toNat, 0] : Fin 2 → ℕ) from funext (moves2 m)]
  exact (by decide +kernel : ∀ t : Fin grid0.N, Pipeline.Window.flushOf grid0 true (fun i : grid0.Coords => (![(BitVec.ofNat 32 (i 0).val).toNat, 0] : Fin 2 → ℕ)) t = true) t

/-- Two points' blocks of the result share no entry. -/
theorem disjoint2 : ∀ t t' : Fin (cfgM m (ok m)).N, ((cfgM m (ok m)).win 2).flush t = true → ((cfgM m (ok m)).win 2).flush t' = true → t ≠ t' →
    Disjoint (((cfgM m (ok m)).win 2).blk t).view.set (((cfgM m (ok m)).win 2).blk t').view.set :=
  fun t t' _ _ hne => ((cfgM m (ok m)).win 2).disjoint_blk fun h => hne (Fin.ext (by
    have h2 := (idx2 m t).symm.trans (h.trans (idx2 m t'))
    exact congrFun h2 0))

/-- What a point writes is the reference's sum. -/
theorem wrote (t : Fin (cfgM m (ok m)).N) (y : S784x1024.Idx) : (outsAt0 m (ok m) c t) y = sum m c (ix2 (row t (y 0)) (y 1)) := by
  have h1 := blk1 m c t y
  have h2 := blk0 m c t 1 y
  have h3 := blk0 m c t 2 y
  have h4 := blk0 m c t 3 y
  have hp := point m c t y
  have hr := ref m c t y
  rw [h1, h2, h3, h4] at hp
  exact hp.trans hr.symm

/-- A block of the result before the cut, read at an index. -/
theorem read2 (X : FVec Ideal S3136x1024 .f32) (t : Fin (cfgM m (ok m)).N) (y : S784x1024.Idx) : (((cfgM m (ok m)).win 2).blk t).view.read (Elt Ideal) X y = X (at_ t y) := by
  blk_simp
  exact congrArg X (emb2 m t y)

/-- What a point writes back. -/
theorem flushed2 (t : Fin (cfgM m (ok m)).N) (y : S784x1024.Idx) : (dats m (ok m) 0 c).flushed 2 t y = (outsAt0 m (ok m) c t) y :=
  congrFun (after0_2 m (ok m) c t) y

/-- The result before the cut, in a point's block. -/
theorem block (t : Fin (cfgM m (ok m)).N) (y : S784x1024.Idx) : (dats m (ok m) 0 c).arrAt 2 (cfgM m (ok m)).N (at_ t y) = sum m c (ix2 (row t (y 0)) (y 1)) := by
  have h := congrFun ((dats m (ok m) 0 c).read_blk_arrAt_eq_flushed 2 (disjoint2 m) (cfgM m (ok m)).N t t.isLt (flush2 m t)) y
  have hr := read2 m ((dats m (ok m) 0 c).arrAt 2 (cfgM m (ok m)).N) t y
  have hf := flushed2 m c t y
  have hw := wrote m c t y
  exact hr.symm.trans (h.trans (hf.trans hw))

/-- The result. -/
theorem final : cut (F := Ideal) ((dats m (ok m) 0 c).arrAt 2 (cfgM m (ok m)).N) = sum m c := by
  funext i
  have hi : (i 0).val < 1568 := (i 0).isLt
  have e := block m c ⟨(i 0).val / 784, by show _ < 2; omega⟩ (ix2 ⟨(i 0).val % 784, Nat.mod_lt _ (by decide)⟩ (i 1))
  refine Eq.trans ?_ (e.trans ?_)
  · refine congrArg ((dats m (ok m) 0 c).arrAt 2 (cfgM m (ok m)).N) ?_
    funext a
    fin_cases a <;> refine Fin.ext ?_ <;> simp [at_, row]
    omega
  · refine congrArg (sum m c) ?_
    funext a
    fin_cases a <;> refine Fin.ext ?_ <;> simp [row]
    omega

theorem tail : Pipeline.afterTail pcfgs (fun _ => adm m (ok m)) (dats m (ok m)) 0 (V0 m) [hostOps1] c main_v5 = sum m c :=
  (after_v5 _).trans ((congrArg (cut (F := Ideal)) (Pipeline.Dat.withArrays_arrAt (dats m (ok m) 0 c) (launch0 (F := Ideal)).to₀.sharedIn (V0 m c) (A_eq m (ok m) c) 2)).trans (final m c))

/-- The run: the result holds the sums, the arguments are as they were. -/
theorem run (g : Dev nD → PrngReg) : θ_run defs (onTc (τ := τ) (main (F := Ideal))) ⟨m, fun _ => 0, g⟩ (fun r => ∀ c : Dev nD,
      r.2.mem ((c.tc : Thread nD τ).loc main_v5) = sum m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).2 main_v5 (by decide : main_v5 ∈ Pipeline.restRefs sig spec0)).trans (tail m c),
      ((h c).2 main_arg0 (by decide : main_arg0 ∈ Pipeline.restRefs sig spec0)).trans (W_main_arg0 m (ok m) (dats m (ok m)) c),
      ((h c).2 main_arg1 (by decide : main_arg1 ∈ Pipeline.restRefs sig spec0)).trans (W_main_arg1 m (ok m) (dats m (ok m)) c)⟩)
    (run_main m g (ok m))

end Cert.Slots

end
-- ==== Proof.lean ====
/- The claims of `Cert.Claim`: the gradients of attention (programs without a number), of the feed-forward layers' gates (programs 2), attention itself (programs 3), and the gradients of the norm before the feed-forward layers (4), before the recurrence (5), before attention (6), the loss with its gradients (7), the forward calls that fuse a product with a gate or a norm (8 to 11), and a weight's gradient (12) and the optimiser's step on it (13), the sum over a chip's cores (14) and the sum over the chips (15). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Kernel.Loops
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Loops
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3.Loops
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Loops
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Reference5Ideal
public import proofs.«01_k».proof.Proof.Gen.Reference5Ideal.Run
public import proofs.«01_k».proof.Proof.Gen.Reference5Ideal.Read
public import proofs.«01_k».proof.Proof.Gen.Reference6Ideal
public import proofs.«01_k».proof.Proof.Gen.Reference6Ideal.Run
public import proofs.«01_k».proof.Proof.Gen.Reference6Ideal.Read
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite
public import proofs.«01_k».proof.Proof.Gen.Pre_finite_but_wg
public import proofs.«01_k».proof.Proof.Gen.Pre_finite_qkv
public import proofs.«01_k».proof.Proof.Gen.Pre_finite_f
public import proofs.«01_k».proof.Proof.Gen.Pre_finite_a
public import proofs.«01_k».proof.Proof.Gen.Pre_finite_b
public import proofs.«01_k».proof.Proof.Gen.Pre_finite_loss
public import proofs.«01_k».proof.Proof.Twin
public import proofs.«01_k».proof.Proof.Pair
public import proofs.«01_k».proof.Proof.Dact
public import proofs.«01_k».proof.Proof.FwdPair
public import proofs.«01_k».proof.Proof.MmF
public import proofs.«01_k».proof.Proof.MmA
public import proofs.«01_k».proof.Proof.MmB
public import proofs.«01_k».proof.Proof.LossHead
public import Idealize.ShloMosaic.Lib.Claim
public import Idealize.ShloMosaic.Lib.Quiescent
public import Idealize.ShloMosaic.Adequacy
public import Idealize.ShloMosaic.Init
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.FfnUp
public import proofs.«01_k».proof.Proof.NormProject
public import proofs.«01_k».proof.Proof.NormDown
public import proofs.«01_k».proof.Proof.NormOut
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.WeightGrad
public import proofs.«01_k».proof.Proof.Adamw
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal.Run
public import proofs.«01_k».proof.Proof.Gen.Reference14Ideal.Read
public import proofs.«01_k».proof.Proof.Sibling
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal.Run
public import proofs.«01_k».proof.Proof.Gen.Reference15Ideal.Read
public import proofs.«01_k».proof.Proof.Slots

@[expose] public section

noncomputable section

namespace Cert.Proof

open Idealize.ShloMosaic Idealize.SL.Sem

/-- The references end with their arguments unchanged. -/
theorem reference_frame : quiescent_ReferenceIdeal (hReferenceIdeal := Cert.ReferenceIdeal.Gen.facts) := by
  intro m g _
  hlo_run
  · simp
  · exact sem_eq_zero_of_no_sems (by decide) _
theorem reference_frame2 : quiescent_Reference2Ideal (hReference2Ideal := Cert.Reference2Ideal.Gen.facts) := by
  intro m g _
  hlo_run
  · simp
  · exact sem_eq_zero_of_no_sems (by decide) _
theorem reference_frame3 : quiescent_Reference3Ideal (hReference3Ideal := Cert.Reference3Ideal.Gen.facts) := by
  intro m g _
  hlo_run
  · simp
  · exact sem_eq_zero_of_no_sems (by decide) _
theorem reference_frame4 : quiescent_Reference4Ideal (hReference4Ideal := Cert.Reference4Ideal.Gen.facts) := by
  intro m g _
  hlo_run
  · simp
  · exact sem_eq_zero_of_no_sems (by decide) _
theorem reference_frame5 : quiescent_Reference5Ideal (hReference5Ideal := Cert.Reference5Ideal.Gen.facts) := by
  intro m g _
  hlo_run
  · simp
  · exact sem_eq_zero_of_no_sems (by decide) _
theorem reference_frame6 : quiescent_Reference6Ideal (hReference6Ideal := Cert.Reference6Ideal.Gen.facts) := by
  intro m g _
  hlo_run
  · simp
  · exact sem_eq_zero_of_no_sems (by decide) _
theorem reference_frame7 : quiescent_Reference7Ideal (hReference7Ideal := Cert.Reference7Ideal.Gen.facts) := by
  intro m g _
  hlo_run
  · simp
  · exact sem_eq_zero_of_no_sems (by decide) _
theorem reference_frame8 : quiescent_Reference8Ideal (hReference8Ideal := Cert.Reference8Ideal.Gen.facts) := by
  intro m g _
  hlo_run
  · simp
  · exact sem_eq_zero_of_no_sems (by decide) _
theorem reference_frame9 : quiescent_Reference9Ideal (hReference9Ideal := Cert.Reference9Ideal.Gen.facts) := by
  intro m g _
  hlo_run
  · simp
  · exact sem_eq_zero_of_no_sems (by decide) _
theorem reference_frame10 : quiescent_Reference10Ideal (hReference10Ideal := Cert.Reference10Ideal.Gen.facts) := by
  intro m g _
  hlo_run
  · simp
  · exact sem_eq_zero_of_no_sems (by decide) _
theorem reference_frame11 : quiescent_Reference11Ideal (hReference11Ideal := Cert.Reference11Ideal.Gen.facts) := by
  intro m g _
  hlo_run
  · simp
  · exact sem_eq_zero_of_no_sems (by decide) _
theorem reference_frame12 : quiescent_Reference12Ideal (hReference12Ideal := Cert.Reference12Ideal.Gen.facts) := by
  intro m g _
  hlo_run
  · simp
  · exact sem_eq_zero_of_no_sems (by decide) _
theorem reference_frame13 : quiescent_Reference13Ideal (hReference13Ideal := Cert.Reference13Ideal.Gen.facts) := by
  intro m g _
  hlo_run
  · simp
  · exact sem_eq_zero_of_no_sems (by decide) _
theorem reference_frame14 : quiescent_Reference14Ideal (hReference14Ideal := Cert.Reference14Ideal.Gen.facts) := by
  intro m g _
  hlo_run
  · simp
  · exact sem_eq_zero_of_no_sems (by decide) _

theorem reference_frame15 : quiescent_Reference15Ideal (hReference15Ideal := Cert.Reference15Ideal.Gen.facts) := by
  intro m g _
  hlo_run
  · simp
  · exact sem_eq_zero_of_no_sems (by decide) _

/-- The two results of the feed-forward pair. -/
theorem value2 : algebraic_Kernel2Ideal_Reference2Ideal_pre_finite_but_wg (hKernel2Ideal := Cert.Kernel2Ideal.Gen.facts)
    (hReference2Ideal := Cert.Reference2Ideal.Gen.facts) (hPre_finite_but_wg := Cert.Pre_finite_but_wg.Gen.facts) := by
  pair_intro
  · run_from Cert.Kernel2Ideal.Gen.run_main m g
  · have hfin := fun c => Cert.Dact.of_pre m c hpre
    run_from Cert.Reference2Ideal.Value.run m' g'
    · rw [Cert.Dact.final4 m c (hfin c).1 (hfin c).2.1 (hfin c).2.2.1 (hfin c).2.2.2]; exact Cert.Reference2Ideal.Read.val_main_v9_eq ..
    · rw [Cert.Dact.final5 m c]; exact Cert.Reference2Ideal.Read.val_main_v10_eq ..

/-- The gradients of the norm before the feed-forward layers. -/
theorem value4 : algebraic_Kernel4Ideal_Reference4Ideal_pre_finite_f (hKernel4Ideal := Cert.Kernel4Ideal.Gen.facts)
    (hReference4Ideal := Cert.Reference4Ideal.Gen.facts) (hPre_finite_f := Cert.Pre_finite_f.Gen.facts) := by
  pair_intro
  · run_from Cert.Kernel4Ideal.Gen.run_main m g
  · have hf := fun c => Cert.MmF.of_pre m c hpre
    run_from Cert.Reference4Ideal.Value.run m' g'
    · rw [Cert.MmF.final7 m c (hf c), Cert.Reference4Ideal.Read.val_main_v41_eq m' c]; simp only [hagree c]
    · rw [Cert.MmF.final8 m c (hf c), Cert.Reference4Ideal.Read.val_main_v42_eq m' c]; simp only [hagree c]
    · rw [Cert.MmF.final9 m c]; exact Cert.Reference4Ideal.Read.val_main_v43_eq ..

/-- The gradients of the norm before the recurrence. -/
theorem value5 : algebraic_Kernel5Ideal_Reference5Ideal_pre_finite_a (hKernel5Ideal := Cert.Kernel5Ideal.Gen.facts)
    (hReference5Ideal := Cert.Reference5Ideal.Gen.facts) (hPre_finite_a := Cert.Pre_finite_a.Gen.facts) := by
  pair_intro
  · run_from Cert.Kernel5Ideal.Gen.run_main m g
  · have hf := fun c => Cert.MmA.of_pre m c hpre
    run_from Cert.Reference5Ideal.Value.run m' g'
    · rw [Cert.MmA.final7 m c (hf c), Cert.Reference5Ideal.Read.val_main_v38_eq m' c]; simp only [hagree c]
    · rw [Cert.MmA.final8 m c (hf c), Cert.Reference5Ideal.Read.val_main_v39_eq m' c]; simp only [hagree c]
    · rw [Cert.MmA.final9 m c]; exact Cert.Reference5Ideal.Read.val_main_v40_eq ..

/-- The gradients of the norm before attention. -/
theorem value6 : algebraic_Kernel6Ideal_Reference6Ideal_pre_finite_b (hKernel6Ideal := Cert.Kernel6Ideal.Gen.facts)
    (hReference6Ideal := Cert.Reference6Ideal.Gen.facts) (hPre_finite_b := Cert.Pre_finite_b.Gen.facts) := by
  pair_intro
  · run_from Cert.Kernel6Ideal.Gen.run_main m g
  · have hf := fun c => Cert.MmB.of_pre m c hpre
    run_from Cert.Reference6Ideal.Value.run m' g'
    · rw [Cert.MmB.final9 m c (hf c), Cert.Reference6Ideal.Read.val_main_v38_eq m' c]; simp only [hagree c]
    · rw [Cert.MmB.final10 m c (hf c), Cert.Reference6Ideal.Read.val_main_v39_eq m' c]; simp only [hagree c]
    · rw [Cert.MmB.final11 m c]; exact Cert.Reference6Ideal.Read.val_main_v40_eq ..

set_option maxRecDepth 65536 in
/-- The loss and its gradients. -/
theorem value7 : algebraic_Kernel7Ideal_Reference7Ideal_pre_finite_loss (hKernel7Ideal := Cert.Kernel7Ideal.Gen.facts)
    (hReference7Ideal := Cert.Reference7Ideal.Gen.facts) (hPre_finite_loss := Cert.Pre_finite_loss.Gen.facts) := by
  pair_intro
  · run_from Cert.Kernel7Ideal.Gen.run_main m g
  · have hf := fun c => Cert.LossHead.of_pre m c hpre
    run_from Cert.Reference7Ideal.Value.run m' g'
    · rw [Cert.LossHead.final5 m c (hf c), Cert.Reference7Ideal.Read.val_main_v52_eq m' c]; simp only [hagree c]
    · rw [Cert.LossHead.final6 m c (hf c), Cert.Reference7Ideal.Read.val_main_v53_eq m' c]; simp only [hagree c]
    · rw [Cert.LossHead.final7 m c]; exact Cert.Reference7Ideal.Read.val_main_v54_eq ..
    · rw [Cert.LossHead.final8 m c (hf c)]; exact Cert.Reference7Ideal.Read.val_main_v55_eq ..

/-- The feed-forward layers' gate, up projection and activation. -/
theorem value8 : algebraic_Kernel8Ideal_Reference8Ideal (hKernel8Ideal := Cert.Kernel8Ideal.Gen.facts)
    (hReference8Ideal := Cert.Reference8Ideal.Gen.facts) := by
  pair_intro
  · run_from Cert.Kernel8Ideal.Gen.run_main m g
  · run_from Cert.Reference8Ideal.Value.run m' g'
    · rw [Cert.FfnUp.final3 m c]; rfl
    · rw [Cert.FfnUp.final4 m c]; rfl
    · rw [Cert.FfnUp.final5 m c]; exact Cert.Reference8Ideal.Read.val_main_v4_eq ..

/-- The norm before the recurrence and its two projections. -/
theorem value9 : algebraic_Kernel9Ideal_Reference9Ideal (hKernel9Ideal := Cert.Kernel9Ideal.Gen.facts)
    (hReference9Ideal := Cert.Reference9Ideal.Gen.facts) := by
  pair_intro
  · run_from Cert.Kernel9Ideal.Gen.run_main m g
  · run_from Cert.Reference9Ideal.Value.run m' g'
    · rw [Cert.NormProject.final4 m c]; exact Cert.Reference9Ideal.Read.val_main_v14_eq ..
    · rw [Cert.NormProject.final5 m c]; exact Cert.Reference9Ideal.Read.val_main_v15_eq ..
    · rw [Cert.NormProject.final6 m c]; exact Cert.Reference9Ideal.Read.val_main_v16_eq ..

/-- The feed-forward layer's output and the norm after it. -/
theorem value10 : algebraic_Kernel10Ideal_Reference10Ideal (hKernel10Ideal := Cert.Kernel10Ideal.Gen.facts)
    (hReference10Ideal := Cert.Reference10Ideal.Gen.facts) := by
  pair_intro
  · run_from Cert.Kernel10Ideal.Gen.run_main m g
  · run_from Cert.Reference10Ideal.Value.run m' g'
    · rw [Cert.NormDown.final4 m c]; exact Cert.Reference10Ideal.Read.val_main_v1_eq ..
    · rw [Cert.NormDown.final5 m c]; exact Cert.Reference10Ideal.Read.val_main_v15_eq ..

/-- The output projection of attention and the norm after it. -/
theorem value11 : algebraic_Kernel11Ideal_Reference11Ideal (hKernel11Ideal := Cert.Kernel11Ideal.Gen.facts)
    (hReference11Ideal := Cert.Reference11Ideal.Gen.facts) := by
  pair_intro
  · run_from Cert.Kernel11Ideal.Gen.run_main m g
  · run_from Cert.Reference11Ideal.Value.run m' g'
    · rw [Cert.NormOut.final4 m c]; exact Cert.Reference11Ideal.Read.val_main_v1_eq ..
    · rw [Cert.NormOut.final5 m c]; exact Cert.Reference11Ideal.Read.val_main_v15_eq ..

set_option maxRecDepth 65536 in
/-- The gradient of a weight. -/
theorem value12 : algebraic_Kernel12Ideal_Reference12Ideal (hKernel12Ideal := Cert.Kernel12Ideal.Gen.facts)
    (hReference12Ideal := Cert.Reference12Ideal.Gen.facts) := by
  pair_intro
  · run_from Cert.Kernel12Ideal.Gen.run_main m g
  · run_from Cert.Reference12Ideal.Value.run m' g'
    · rw [Cert.WeightGrad.final2 m c]; exact Cert.Reference12Ideal.Read.val_main_v3_eq ..

/-- The optimiser's step on a weight. -/
theorem value13 : algebraic_Kernel13Ideal_Reference13Ideal (hKernel13Ideal := Cert.Kernel13Ideal.Gen.facts)
    (hReference13Ideal := Cert.Reference13Ideal.Gen.facts) := by
  pair_intro
  · run_from Cert.Kernel13Ideal.Gen.run_main m g
  · run_from Cert.Reference13Ideal.Value.run m' g'
    · rw [Cert.Adamw.final4 m c]; exact Cert.Reference13Ideal.Read.val_main_v23_eq ..
    · rw [Cert.Adamw.final5 m c]; exact Cert.Reference13Ideal.Read.val_main_v4_eq ..
    · rw [Cert.Adamw.final6 m c]; exact Cert.Reference13Ideal.Read.val_main_v10_eq ..

/-- The sum over the two cores of a chip. -/
theorem value14 : algebraic_Kernel14Ideal_Reference14Ideal (hKernel14Ideal := Cert.Kernel14Ideal.Gen.facts)
    (hReference14Ideal := Cert.Reference14Ideal.Gen.facts) := by
  pair_intro
  · run_from Cert.Sibling.run m g
  · run_from Cert.Reference14Ideal.Value.run m' g'
    exact Cert.Reference14Ideal.Read.val_main_v2_eq ..

/-- The sum over the four chips' slots. -/
theorem value15 : algebraic_Kernel15Ideal_Reference15Ideal (hKernel15Ideal := Cert.Kernel15Ideal.Gen.facts)
    (hReference15Ideal := Cert.Reference15Ideal.Gen.facts) := by
  pair_intro
  · run_from Cert.Slots.run m g
  · run_from Cert.Reference15Ideal.Value.run m' g'
    exact Cert.Reference15Ideal.Read.val_main_v10_eq ..

theorem named : preserves_Kernel_KernelIdeal :=
  ⟨IdealRules.named_const.statement Cert.KernelIdeal.κ "scale_log2e" .f32 0x3E38AA3B#32 ((8⁻¹ * (Real.log 2)⁻¹ : ℝ) : EReal) rfl,
    IdealRules.named_const.statement Cert.KernelIdeal.κ "inv_ln2" .f32 0x3FB8AA3B#32 (((Real.log 2)⁻¹ : ℝ) : EReal) rfl⟩

theorem named3 : preserves_Kernel3_Kernel3Ideal :=
  ⟨IdealRules.named_const.statement Cert.Kernel3Ideal.κ "scale_log2e" .f32 0x3E38AA3B#32 ((8⁻¹ * (Real.log 2)⁻¹ : ℝ) : EReal) rfl,
    IdealRules.named_const.statement Cert.Kernel3Ideal.κ "inv_ln2" .f32 0x3FB8AA3B#32 (((Real.log 2)⁻¹ : ℝ) : EReal) rfl⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_finite.Gen.facts, Cert.Pre_finite_but_wg.Gen.facts, Cert.Pre_finite_qkv.Gen.facts, Cert.Pre_finite_f.Gen.facts, Cert.Pre_finite_a.Gen.facts, Cert.Pre_finite_b.Gen.facts, Cert.Pre_finite_loss.Gen.facts,
  Cert.KernelIdeal.Gen.kernel_frame, fun m ρ _ => Cert.KernelIdeal.Gen.frame m ρ, fun m ρ _ => Cert.KernelIdeal.Gen.frame m ρ,
  fun m ρ _ => reference_frame m ρ trivial, fun m ρ _ => reference_frame m ρ trivial,
  fun m ρ _ => Cert.Kernel2.Gen.frame m ρ, fun m ρ _ => Cert.Kernel2Ideal.Gen.frame m ρ, fun m ρ _ => Cert.Kernel2Ideal.Gen.frame m ρ,
  fun m ρ _ => reference_frame2 m ρ trivial, fun m ρ _ => reference_frame2 m ρ trivial,
  fun m ρ _ => Cert.Kernel3.Gen.frame m ρ, fun m ρ _ => Cert.Kernel3Ideal.Gen.frame m ρ, fun m ρ _ => Cert.Kernel3Ideal.Gen.frame m ρ,
  fun m ρ _ => reference_frame3 m ρ trivial, fun m ρ _ => reference_frame3 m ρ trivial,
  fun m ρ _ => Cert.Kernel4.Gen.frame m ρ, fun m ρ _ => Cert.Kernel4Ideal.Gen.frame m ρ, fun m ρ _ => Cert.Kernel4Ideal.Gen.frame m ρ,
  fun m ρ _ => reference_frame4 m ρ trivial, fun m ρ _ => reference_frame4 m ρ trivial,
  fun m ρ _ => Cert.Kernel5.Gen.frame m ρ, fun m ρ _ => Cert.Kernel5Ideal.Gen.frame m ρ, fun m ρ _ => Cert.Kernel5Ideal.Gen.frame m ρ,
  fun m ρ _ => reference_frame5 m ρ trivial, fun m ρ _ => reference_frame5 m ρ trivial,
  fun m ρ _ => Cert.Kernel6.Gen.frame m ρ, fun m ρ _ => Cert.Kernel6Ideal.Gen.frame m ρ, fun m ρ _ => Cert.Kernel6Ideal.Gen.frame m ρ,
  fun m ρ _ => reference_frame6 m ρ trivial, fun m ρ _ => reference_frame6 m ρ trivial,
  fun m ρ _ => Cert.Kernel7.Gen.frame m ρ, fun m ρ _ => Cert.Kernel7Ideal.Gen.frame m ρ, fun m ρ _ => Cert.Kernel7Ideal.Gen.frame m ρ,
  fun m ρ _ => reference_frame7 m ρ trivial, fun m ρ _ => reference_frame7 m ρ trivial,
  fun m ρ _ => Cert.Kernel8.Gen.frame m ρ, fun m ρ _ => Cert.Kernel8Ideal.Gen.frame m ρ, fun m ρ _ => reference_frame8 m ρ trivial,
  fun m ρ _ => Cert.Kernel9.Gen.frame m ρ, fun m ρ _ => Cert.Kernel9Ideal.Gen.frame m ρ, fun m ρ _ => reference_frame9 m ρ trivial,
  fun m ρ _ => Cert.Kernel10.Gen.frame m ρ, fun m ρ _ => Cert.Kernel10Ideal.Gen.frame m ρ, fun m ρ _ => reference_frame10 m ρ trivial,
  fun m ρ _ => Cert.Kernel11.Gen.frame m ρ, fun m ρ _ => Cert.Kernel11Ideal.Gen.frame m ρ, fun m ρ _ => reference_frame11 m ρ trivial,
  fun m ρ _ => Cert.Kernel12.Gen.frame m ρ, fun m ρ _ => Cert.Kernel12Ideal.Gen.frame m ρ, fun m ρ _ => reference_frame12 m ρ trivial,
  fun m ρ _ => Cert.Kernel13.Gen.frame m ρ, fun m ρ _ => Cert.Kernel13Ideal.Gen.frame m ρ, fun m ρ _ => reference_frame13 m ρ trivial,
  fun m ρ _ => Cert.Kernel14.Gen.frame m ρ (Cert.Sibling.ok_printed m), fun m ρ _ => Cert.Kernel14Ideal.Gen.frame m ρ (Cert.Sibling.ok m), fun m ρ _ => reference_frame14 m ρ trivial,
  fun m ρ _ => Cert.Kernel15.Gen.frame m ρ (Cert.Slots.ok_printed m), fun m ρ _ => Cert.Kernel15Ideal.Gen.frame m ρ (Cert.Slots.ok m), fun m ρ _ => reference_frame15 m ρ trivial,
  named, Cert.KernelIdeal.Gen.value, trivial, value2, named3, Cert.Kernel3Ideal.Gen.value, trivial, value4, trivial, value5, trivial, value6, trivial, value7, trivial, value8, trivial, value9, trivial, value10, trivial, value11, trivial, value12, trivial, value13, trivial, value14, trivial, value15⟩

end Cert.Proof

end
